-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v565) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v19_0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v19_0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v46) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v5)) (v1 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_v6) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_v15) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S8192x8192 : Shape := ⟨2, ![8192, 8192]⟩
abbrev S2x16 : Shape := ⟨2, ![2, 16]⟩
abbrev S2048 : Shape := ⟨1, ![2048]⟩
abbrev S1x2048 : Shape := ⟨2, ![1, 2048]⟩
abbrev S8192x2048 : Shape := ⟨2, ![8192, 2048]⟩
abbrev S4096x128 : Shape := ⟨2, ![4096, 128]⟩
abbrev S1x128 : Shape := ⟨2, ![1, 128]⟩
abbrev S32x128x128 : Shape := ⟨3, ![32, 128, 128]⟩
abbrev S1x1 : Shape := ⟨2, ![1, 1]⟩
abbrev S128x128 : Shape := ⟨2, ![128, 128]⟩
abbrev S128x1 : Shape := ⟨2, ![128, 1]⟩
abbrev S128x256 : Shape := ⟨2, ![128, 256]⟩
abbrev S1x128x128 : Shape := ⟨3, ![1, 128, 128]⟩
abbrev S128 : Shape := ⟨1, ![128]⟩

abbrev nBuf : Space → Nat
  | .hbm => 5
  | .vmem => 16
  | .smem => 1
  | _ => 0

abbrev bufTy : (tb : Table) → Fin (tcTables nBuf tb) → BufTy
  | .hbm, ⟨0, _⟩ => ⟨S8192x8192, .bf16⟩
  | .hbm, ⟨1, _⟩ => ⟨S2x16, .f32⟩
  | .hbm, ⟨2, _⟩ => ⟨S2048, .f32⟩
  | .hbm, ⟨3, _⟩ => ⟨S1x2048, .f32⟩
  | .hbm, ⟨4, _⟩ => ⟨S8192x2048, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S1x128, .f32⟩
  | .local _ .vmem, ⟨9, _⟩ => ⟨S1x128, .f32⟩
  | .local _ .vmem, ⟨10, _⟩ => ⟨S4096x128, .bf16⟩
  | .local _ .vmem, ⟨11, _⟩ => ⟨S4096x128, .bf16⟩
  | .local _ .vmem, ⟨12, _⟩ => ⟨S32x128x128, .f32⟩
  | .local _ .vmem, ⟨13, _⟩ => ⟨S32x128x128, .f32⟩
  | .local _ .vmem, ⟨14, _⟩ => ⟨S32x128x128, .bf16⟩
  | .local _ .vmem, ⟨15, _⟩ => ⟨S32x128x128, .bf16⟩
  | .local _ .smem, ⟨0, _⟩ => ⟨S2x16, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0 : Index := 0#32
  let arg1 : BitVec 32 := BitVec.ofNat 32 (i 1).val
  let v0 : Index := Scalar.indexCast arg1
  ![0, v0.toNat]
def k0_off2 (i : grid0.Coords) : Fin 2 → Nat :=
  let c1 : Index := 1#32
  let arg1 : BitVec 32 := BitVec.ofNat 32 (i 1).val
  let v2 : Index := Scalar.indexCast arg1
  ![1, v2.toNat]
@[reducible] def k0_t1_loop : Scf.Loop 32 :=
  let c0_i32 : BitVec 32 := 0#32
  let c32_i32 : BitVec 32 := 32#32
  let v57 : BitVec 32 := Scalar.addi c0_i32 c32_i32
  let c1_i32 : BitVec 32 := 1#32
  ⟨c0_i32, v57, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c128_i32_918 : BitVec 32 := 128#32
  let v2399 : BitVec 32 := Scalar.muli arg13 c128_i32_918
  v2399
def k0_off3 (k0_t1 : Fin k0_t1_loop.trips) : Fin 2 → Nat :=
  let c0_i32 : BitVec 32 := 0#32
  let c1_i32 : BitVec 32 := 1#32
  let arg13 : BitVec 32 := Scf.iv c0_i32 c1_i32 k0_t1
  let c128_i32_918 : BitVec 32 := 128#32
  let v2399 : BitVec 32 := Scalar.muli arg13 c128_i32_918
  let v2400 : BitVec 32 := v2399
  let v2401 : Index := Scalar.indexCast v2400
  let c0_919 : Index := 0#32
  ![v2401.toNat, 0]
def k0_mult2 (k0_t1 : Fin k0_t1_loop.trips) : BitVec 32 :=
  let c0_i32 : BitVec 32 := 0#32
  let c1_i32 : BitVec 32 := 1#32
  let arg13 : BitVec 32 := Scf.iv c0_i32 c1_i32 k0_t1
  let c128_i32_920 : BitVec 32 := 128#32
  let v2403 : BitVec 32 := Scalar.muli arg13 c128_i32_920
  v2403
def k0_off4 (k0_t1 : Fin k0_t1_loop.trips) : Fin 3 → Nat :=
  let c0_i32 : BitVec 32 := 0#32
  let c1_i32 : BitVec 32 := 1#32
  let arg13 : BitVec 32 := Scf.iv c0_i32 c1_i32 k0_t1
  let v2417 : Index := Scalar.indexCast arg13
  let c0_923 : Index := 0#32
  let c0_924 : Index := 0#32
  ![v2417.toNat, 0, 0]
@[reducible] def k0_t2_loop : Scf.Loop 32 :=
  let c0_i32_13 : BitVec 32 := 0#32
  let c32_i32_14 : BitVec 32 := 32#32
  let v59 : BitVec 32 := Scalar.addi c0_i32_13 c32_i32_14
  let c1_i32_15 : BitVec 32 := 1#32
  ⟨c0_i32_13, v59, c1_i32_15⟩
def k0_off5 (k0_t2 : Fin k0_t2_loop.trips) : Fin 3 → Nat :=
  let c0_i32_13 : BitVec 32 := 0#32
  let c1_i32_15 : BitVec 32 := 1#32
  let arg13 : BitVec 32 := Scf.iv c0_i32_13 c1_i32_15 k0_t2
  let v2401 : Index := Scalar.indexCast arg13
  let c0_919 : Index := 0#32
  let c0_920 : Index := 0#32
  ![v2401.toNat, 0, 0]
def k0_off6 (k0_t2 : Fin k0_t2_loop.trips) : Fin 3 → Nat :=
  let c31_i32_918 : BitVec 32 := 31#32
  let c0_i32_13 : BitVec 32 := 0#32
  let c1_i32_15 : BitVec 32 := 1#32
  let arg13 : BitVec 32 := Scf.iv c0_i32_13 c1_i32_15 k0_t2
  let v2399 : BitVec 32 := Scalar.subi c31_i32_918 arg13
  let v2406 : Index := Scalar.indexCast v2399
  let c0_921 : Index := 0#32
  let c0_922 : Index := 0#32
  ![v2406.toNat, 0, 0]
def k0_mult3 : BitVec 32 :=
  let c0_i32_19 : BitVec 32 := 0#32
  let c32_i32_20 : BitVec 32 := 32#32
  let v63 : BitVec 32 := Scalar.muli c0_i32_19 c32_i32_20
  let c0_i32_21 : BitVec 32 := 0#32
  let v64 : BitVec 32 := Scalar.addi v63 c0_i32_21
  let c128_i32 : BitVec 32 := 128#32
  let v65 : BitVec 32 := Scalar.muli v64 c128_i32
  v65
def k0_off7 (c0_i32_21 : BitVec 32) : Fin 2 → Nat :=
  let c0_i32_19 : BitVec 32 := 0#32
  let c32_i32_20 : BitVec 32 := 32#32
  let v63 : BitVec 32 := Scalar.muli c0_i32_19 c32_i32_20
  let v64 : BitVec 32 := Scalar.addi v63 c0_i32_21
  let c128_i32 : BitVec 32 := 128#32
  let v65 : BitVec 32 := Scalar.muli v64 c128_i32
  let v66 : BitVec 32 := v65
  let v67 : Index := Scalar.indexCast v66
  let c0_22 : Index := 0#32
  ![v67.toNat, 0]
def k0_mult4 : BitVec 32 :=
  let c0_i32_19 : BitVec 32 := 0#32
  let c32_i32_20 : BitVec 32 := 32#32
  let v63 : BitVec 32 := Scalar.muli c0_i32_19 c32_i32_20
  let c0_i32_21 : BitVec 32 := 0#32
  let v64 : BitVec 32 := Scalar.addi v63 c0_i32_21
  let c128_i32_23 : BitVec 32 := 128#32
  let v69 : BitVec 32 := Scalar.muli v64 c128_i32_23
  v69
def k0_off8 (c0_i32_21 : BitVec 32) : Fin 3 → Nat :=
  let c0_i32_19 : BitVec 32 := 0#32
  let c32_i32_20 : BitVec 32 := 32#32
  let v63 : BitVec 32 := Scalar.muli c0_i32_19 c32_i32_20
  let v64 : BitVec 32 := Scalar.addi v63 c0_i32_21
  let v74 : Index := Scalar.indexCast v64
  let c0_26 : Index := 0#32
  let c0_27 : Index := 0#32
  ![v74.toNat, 0, 0]
def k0_mult5 : BitVec 32 :=
  let c0_i32_19 : BitVec 32 := 0#32
  let c32_i32_31 : BitVec 32 := 32#32
  let v82 : BitVec 32 := Scalar.muli c0_i32_19 c32_i32_31
  let c1_i32_32 : BitVec 32 := 1#32
  let v83 : BitVec 32 := Scalar.addi v82 c1_i32_32
  let c128_i32_33 : BitVec 32 := 128#32
  let v84 : BitVec 32 := Scalar.muli v83 c128_i32_33
  v84
def k0_mult6 : BitVec 32 :=
  let c0_i32_19 : BitVec 32 := 0#32
  let c32_i32_31 : BitVec 32 := 32#32
  let v82 : BitVec 32 := Scalar.muli c0_i32_19 c32_i32_31
  let c1_i32_32 : BitVec 32 := 1#32
  let v83 : BitVec 32 := Scalar.addi v82 c1_i32_32
  let c128_i32_35 : BitVec 32 := 128#32
  let v88 : BitVec 32 := Scalar.muli v83 c128_i32_35
  v88
def k0_mult7 : BitVec 32 :=
  let c0_i32_19 : BitVec 32 := 0#32
  let c32_i32_43 : BitVec 32 := 32#32
  let v101 : BitVec 32 := Scalar.muli c0_i32_19 c32_i32_43
  let c2_i32 : BitVec 32 := 2#32
  let v102 : BitVec 32 := Scalar.addi v101 c2_i32
  let c128_i32_44 : BitVec 32 := 128#32
  let v103 : BitVec 32 := Scalar.muli v102 c128_i32_44
  v103
def k0_mult8 : BitVec 32 :=
  let c0_i32_19 : BitVec 32 := 0#32
  let c32_i32_43 : BitVec 32 := 32#32
  let v101 : BitVec 32 := Scalar.muli c0_i32_19 c32_i32_43
  let c2_i32 : BitVec 32 := 2#32
  let v102 : BitVec 32 := Scalar.addi v101 c2_i32
  let c128_i32_46 : BitVec 32 := 128#32
  let v107 : BitVec 32 := Scalar.muli v102 c128_i32_46
  v107
def k0_mult9 : BitVec 32 :=
  let c0_i32_19 : BitVec 32 := 0#32
  let c32_i32_54 : BitVec 32 := 32#32
  let v120 : BitVec 32 := Scalar.muli c0_i32_19 c32_i32_54
  let c3_i32 : BitVec 32 := 3#32
  let v121 : BitVec 32 := Scalar.addi v120 c3_i32
  let c128_i32_55 : BitVec 32 := 128#32
  let v122 : BitVec 32 := Scalar.muli v121 c128_i32_55
  v122
def k0_mult10 : BitVec 32 :=
  let c0_i32_19 : BitVec 32 := 0#32
  let c32_i32_54 : BitVec 32 := 32#32
  let v120 : BitVec 32 := Scalar.muli c0_i32_19 c32_i32_54
  let c3_i32 : BitVec 32 := 3#32
  let v121 : BitVec 32 := Scalar.addi v120 c3_i32
  let c128_i32_57 : BitVec 32 := 128#32
  let v126 : BitVec 32 := Scalar.muli v121 c128_i32_57
  v126
def k0_mult11 : BitVec 32 :=
  let c0_i32_19 : BitVec 32 := 0#32
  let c32_i32_65 : BitVec 32 := 32#32
  let v139 : BitVec 32 := Scalar.muli c0_i32_19 c32_i32_65
  let c4_i32 : BitVec 32 := 4#32
  let v140 : BitVec 32 := Scalar.addi v139 c4_i32
  let c128_i32_66 : BitVec 32 := 128#32
  let v141 : BitVec 32 := Scalar.muli v140 c128_i32_66
  v141
def k0_mult12 : BitVec 32 :=
  let c0_i32_19 : BitVec 32 := 0#32
  let c32_i32_65 : BitVec 32 := 32#32
  let v139 : BitVec 32 := Scalar.muli c0_i32_19 c32_i32_65
  let c4_i32 : BitVec 32 := 4#32
  let v140 : BitVec 32 := Scalar.addi v139 c4_i32
  let c128_i32_68 : BitVec 32 := 128#32
  let v145 : BitVec 32 := Scalar.muli v140 c128_i32_68
  v145
def k0_mult13 : BitVec 32 :=
  let c0_i32_19 : BitVec 32 := 0#32
  let c32_i32_76 : BitVec 32 := 32#32
  let v158 : BitVec 32 := Scalar.muli c0_i32_19 c32_i32_76
  let c5_i32 : BitVec 32 := 5#32
  let v159 : BitVec 32 := Scalar.addi v158 c5_i32
  let c128_i32_77 : BitVec 32 := 128#32
  let v160 : BitVec 32 := Scalar.muli v159 c128_i32_77
  v160
def k0_mult14 : BitVec 32 :=
  let c0_i32_19 : BitVec 32 := 0#32
  let c32_i32_76 : BitVec 32 := 32#32
  let v158 : BitVec 32 := Scalar.muli c0_i32_19 c32_i32_76
  let c5_i32 : BitVec 32 := 5#32
  let v159 : BitVec 32 := Scalar.addi v158 c5_i32
  let c128_i32_79 : BitVec 32 := 128#32
  let v164 : BitVec 32 := Scalar.muli v159 c128_i32_79
  v164
def k0_mult15 : BitVec 32 :=
  let c0_i32_19 : BitVec 32 := 0#32
  let c32_i32_87 : BitVec 32 := 32#32
  let v177 : BitVec 32 := Scalar.muli c0_i32_19 c32_i32_87
  let c6_i32 : BitVec 32 := 6#32
  let v178 : BitVec 32 := Scalar.addi v177 c6_i32
  let c128_i32_88 : BitVec 32 := 128#32
  let v179 : BitVec 32 := Scalar.muli v178 c128_i32_88
  v179
def k0_mult16 : BitVec 32 :=
  let c0_i32_19 : BitVec 32 := 0#32
  let c32_i32_87 : BitVec 32 := 32#32
  let v177 : BitVec 32 := Scalar.muli c0_i32_19 c32_i32_87
  let c6_i32 : BitVec 32 := 6#32
  let v178 : BitVec 32 := Scalar.addi v177 c6_i32
  let c128_i32_90 : BitVec 32 := 128#32
  let v183 : BitVec 32 := Scalar.muli v178 c128_i32_90
  v183
def k0_mult17 : BitVec 32 :=
  let c0_i32_19 : BitVec 32 := 0#32
  let c32_i32_98 : BitVec 32 := 32#32
  let v196 : BitVec 32 := Scalar.muli c0_i32_19 c32_i32_98
  let c7_i32 : BitVec 32 := 7#32
  let v197 : BitVec 32 := Scalar.addi v196 c7_i32
  let c128_i32_99 : BitVec 32 := 128#32
  let v198 : BitVec 32 := Scalar.muli v197 c128_i32_99
  v198
def k0_mult18 : BitVec 32 :=
  let c0_i32_19 : BitVec 32 := 0#32
  let c32_i32_98 : BitVec 32 := 32#32
  let v196 : BitVec 32 := Scalar.muli c0_i32_19 c32_i32_98
  let c7_i32 : BitVec 32 := 7#32
  let v197 : BitVec 32 := Scalar.addi v196 c7_i32
  let c128_i32_101 : BitVec 32 := 128#32
  let v202 : BitVec 32 := Scalar.muli v197 c128_i32_101
  v202
def k0_mult19 : BitVec 32 :=
  let c0_i32_19 : BitVec 32 := 0#32
  let c32_i32_109 : BitVec 32 := 32#32
  let v215 : BitVec 32 := Scalar.muli c0_i32_19 c32_i32_109
  let c8_i32 : BitVec 32 := 8#32
  let v216 : BitVec 32 := Scalar.addi v215 c8_i32
  let c128_i32_110 : BitVec 32 := 128#32
  let v217 : BitVec 32 := Scalar.muli v216 c128_i32_110
  v217
def k0_mult20 : BitVec 32 :=
  let c0_i32_19 : BitVec 32 := 0#32
  let c32_i32_109 : BitVec 32 := 32#32
  let v215 : BitVec 32 := Scalar.muli c0_i32_19 c32_i32_109
  let c8_i32 : BitVec 32 := 8#32
  let v216 : BitVec 32 := Scalar.addi v215 c8_i32
  let c128_i32_112 : BitVec 32 := 128#32
  let v221 : BitVec 32 := Scalar.muli v216 c128_i32_112
  v221
def k0_mult21 : BitVec 32 :=
  let c0_i32_19 : BitVec 32 := 0#32
  let c32_i32_120 : BitVec 32 := 32#32
  let v234 : BitVec 32 := Scalar.muli c0_i32_19 c32_i32_120
  let c9_i32 : BitVec 32 := 9#32
  let v235 : BitVec 32 := Scalar.addi v234 c9_i32
  let c128_i32_121 : BitVec 32 := 128#32
  let v236 : BitVec 32 := Scalar.muli v235 c128_i32_121
  v236
def k0_mult22 : BitVec 32 :=
  let c0_i32_19 : BitVec 32 := 0#32
  let c32_i32_120 : BitVec 32 := 32#32
  let v234 : BitVec 32 := Scalar.muli c0_i32_19 c32_i32_120
  let c9_i32 : BitVec 32 := 9#32
  let v235 : BitVec 32 := Scalar.addi v234 c9_i32
  let c128_i32_123 : BitVec 32 := 128#32
  let v240 : BitVec 32 := Scalar.muli v235 c128_i32_123
  v240
def k0_mult23 : BitVec 32 :=
  let c0_i32_19 : BitVec 32 := 0#32
  let c32_i32_131 : BitVec 32 := 32#32
  let v253 : BitVec 32 := Scalar.muli c0_i32_19 c32_i32_131
  let c10_i32 : BitVec 32 := 10#32
  let v254 : BitVec 32 := Scalar.addi v253 c10_i32
  let c128_i32_132 : BitVec 32 := 128#32
  let v255 : BitVec 32 := Scalar.muli v254 c128_i32_132
  v255
def k0_mult24 : BitVec 32 :=
  let c0_i32_19 : BitVec 32 := 0#32
  let c32_i32_131 : BitVec 32 := 32#32
  let v253 : BitVec 32 := Scalar.muli c0_i32_19 c32_i32_131
  let c10_i32 : BitVec 32 := 10#32
  let v254 : BitVec 32 := Scalar.addi v253 c10_i32
  let c128_i32_134 : BitVec 32 := 128#32
  let v259 : BitVec 32 := Scalar.muli v254 c128_i32_134
  v259
def k0_mult25 : BitVec 32 :=
  let c0_i32_19 : BitVec 32 := 0#32
  let c32_i32_142 : BitVec 32 := 32#32
  let v272 : BitVec 32 := Scalar.muli c0_i32_19 c32_i32_142
  let c11_i32 : BitVec 32 := 11#32
  let v273 : BitVec 32 := Scalar.addi v272 c11_i32
  let c128_i32_143 : BitVec 32 := 128#32
  let v274 : BitVec 32 := Scalar.muli v273 c128_i32_143
  v274
def k0_mult26 : BitVec 32 :=
  let c0_i32_19 : BitVec 32 := 0#32
  let c32_i32_142 : BitVec 32 := 32#32
  let v272 : BitVec 32 := Scalar.muli c0_i32_19 c32_i32_142
  let c11_i32 : BitVec 32 := 11#32
  let v273 : BitVec 32 := Scalar.addi v272 c11_i32
  let c128_i32_145 : BitVec 32 := 128#32
  let v278 : BitVec 32 := Scalar.muli v273 c128_i32_145
  v278
def k0_mult27 : BitVec 32 :=
  let c0_i32_19 : BitVec 32 := 0#32
  let c32_i32_153 : BitVec 32 := 32#32
  let v291 : BitVec 32 := Scalar.muli c0_i32_19 c32_i32_153
  let c12_i32 : BitVec 32 := 12#32
  let v292 : BitVec 32 := Scalar.addi v291 c12_i32
  let c128_i32_154 : BitVec 32 := 128#32
  let v293 : BitVec 32 := Scalar.muli v292 c128_i32_154
  v293
def k0_mult28 : BitVec 32 :=
  let c0_i32_19 : BitVec 32 := 0#32
  let c32_i32_153 : BitVec 32 := 32#32
  let v291 : BitVec 32 := Scalar.muli c0_i32_19 c32_i32_153
  let c12_i32 : BitVec 32 := 12#32
  let v292 : BitVec 32 := Scalar.addi v291 c12_i32
  let c128_i32_156 : BitVec 32 := 128#32
  let v297 : BitVec 32 := Scalar.muli v292 c128_i32_156
  v297
def k0_mult29 : BitVec 32 :=
  let c0_i32_19 : BitVec 32 := 0#32
  let c32_i32_164 : BitVec 32 := 32#32
  let v310 : BitVec 32 := Scalar.muli c0_i32_19 c32_i32_164
  let c13_i32 : BitVec 32 := 13#32
  let v311 : BitVec 32 := Scalar.addi v310 c13_i32
  let c128_i32_165 : BitVec 32 := 128#32
  let v312 : BitVec 32 := Scalar.muli v311 c128_i32_165
  v312
def k0_mult30 : BitVec 32 :=
  let c0_i32_19 : BitVec 32 := 0#32
  let c32_i32_164 : BitVec 32 := 32#32
  let v310 : BitVec 32 := Scalar.muli c0_i32_19 c32_i32_164
  let c13_i32 : BitVec 32 := 13#32
  let v311 : BitVec 32 := Scalar.addi v310 c13_i32
  let c128_i32_167 : BitVec 32 := 128#32
  let v316 : BitVec 32 := Scalar.muli v311 c128_i32_167
  v316
def k0_mult31 : BitVec 32 :=
  let c0_i32_19 : BitVec 32 := 0#32
  let c32_i32_175 : BitVec 32 := 32#32
  let v329 : BitVec 32 := Scalar.muli c0_i32_19 c32_i32_175
  let c14_i32 : BitVec 32 := 14#32
  let v330 : BitVec 32 := Scalar.addi v329 c14_i32
  let c128_i32_176 : BitVec 32 := 128#32
  let v331 : BitVec 32 := Scalar.muli v330 c128_i32_176
  v331
def k0_mult32 : BitVec 32 :=
  let c0_i32_19 : BitVec 32 := 0#32
  let c32_i32_175 : BitVec 32 := 32#32
  let v329 : BitVec 32 := Scalar.muli c0_i32_19 c32_i32_175
  let c14_i32 : BitVec 32 := 14#32
  let v330 : BitVec 32 := Scalar.addi v329 c14_i32
  let c128_i32_178 : BitVec 32 := 128#32
  let v335 : BitVec 32 := Scalar.muli v330 c128_i32_178
  v335
def k0_mult33 : BitVec 32 :=
  let c0_i32_19 : BitVec 32 := 0#32
  let c32_i32_186 : BitVec 32 := 32#32
  let v348 : BitVec 32 := Scalar.muli c0_i32_19 c32_i32_186
  let c15_i32 : BitVec 32 := 15#32
  let v349 : BitVec 32 := Scalar.addi v348 c15_i32
  let c128_i32_187 : BitVec 32 := 128#32
  let v350 : BitVec 32 := Scalar.muli v349 c128_i32_187
  v350
def k0_mult34 : BitVec 32 :=
  let c0_i32_19 : BitVec 32 := 0#32
  let c32_i32_186 : BitVec 32 := 32#32
  let v348 : BitVec 32 := Scalar.muli c0_i32_19 c32_i32_186
  let c15_i32 : BitVec 32 := 15#32
  let v349 : BitVec 32 := Scalar.addi v348 c15_i32
  let c128_i32_189 : BitVec 32 := 128#32
  let v354 : BitVec 32 := Scalar.muli v349 c128_i32_189
  v354
def k0_mult35 : BitVec 32 :=
  let c0_i32_19 : BitVec 32 := 0#32
  let c32_i32_197 : BitVec 32 := 32#32
  let v367 : BitVec 32 := Scalar.muli c0_i32_19 c32_i32_197
  let c16_i32 : BitVec 32 := 16#32
  let v368 : BitVec 32 := Scalar.addi v367 c16_i32
  let c128_i32_198 : BitVec 32 := 128#32
  let v369 : BitVec 32 := Scalar.muli v368 c128_i32_198
  v369
def k0_mult36 : BitVec 32 :=
  let c0_i32_19 : BitVec 32 := 0#32
  let c32_i32_197 : BitVec 32 := 32#32
  let v367 : BitVec 32 := Scalar.muli c0_i32_19 c32_i32_197
  let c16_i32 : BitVec 32 := 16#32
  let v368 : BitVec 32 := Scalar.addi v367 c16_i32
  let c128_i32_200 : BitVec 32 := 128#32
  let v373 : BitVec 32 := Scalar.muli v368 c128_i32_200
  v373
def k0_mult37 : BitVec 32 :=
  let c0_i32_19 : BitVec 32 := 0#32
  let c32_i32_208 : BitVec 32 := 32#32
  let v386 : BitVec 32 := Scalar.muli c0_i32_19 c32_i32_208
  let c17_i32 : BitVec 32 := 17#32
  let v387 : BitVec 32 := Scalar.addi v386 c17_i32
  let c128_i32_209 : BitVec 32 := 128#32
  let v388 : BitVec 32 := Scalar.muli v387 c128_i32_209
  v388
def k0_mult38 : BitVec 32 :=
  let c0_i32_19 : BitVec 32 := 0#32
  let c32_i32_208 : BitVec 32 := 32#32
  let v386 : BitVec 32 := Scalar.muli c0_i32_19 c32_i32_208
  let c17_i32 : BitVec 32 := 17#32
  let v387 : BitVec 32 := Scalar.addi v386 c17_i32
  let c128_i32_211 : BitVec 32 := 128#32
  let v392 : BitVec 32 := Scalar.muli v387 c128_i32_211
  v392
def k0_mult39 : BitVec 32 :=
  let c0_i32_19 : BitVec 32 := 0#32
  let c32_i32_219 : BitVec 32 := 32#32
  let v405 : BitVec 32 := Scalar.muli c0_i32_19 c32_i32_219
  let c18_i32 : BitVec 32 := 18#32
  let v406 : BitVec 32 := Scalar.addi v405 c18_i32
  let c128_i32_220 : BitVec 32 := 128#32
  let v407 : BitVec 32 := Scalar.muli v406 c128_i32_220
  v407
def k0_mult40 : BitVec 32 :=
  let c0_i32_19 : BitVec 32 := 0#32
  let c32_i32_219 : BitVec 32 := 32#32
  let v405 : BitVec 32 := Scalar.muli c0_i32_19 c32_i32_219
  let c18_i32 : BitVec 32 := 18#32
  let v406 : BitVec 32 := Scalar.addi v405 c18_i32
  let c128_i32_222 : BitVec 32 := 128#32
  let v411 : BitVec 32 := Scalar.muli v406 c128_i32_222
  v411
def k0_mult41 : BitVec 32 :=
  let c0_i32_19 : BitVec 32 := 0#32
  let c32_i32_230 : BitVec 32 := 32#32
  let v424 : BitVec 32 := Scalar.muli c0_i32_19 c32_i32_230
  let c19_i32 : BitVec 32 := 19#32
  let v425 : BitVec 32 := Scalar.addi v424 c19_i32
  let c128_i32_231 : BitVec 32 := 128#32
  let v426 : BitVec 32 := Scalar.muli v425 c128_i32_231
  v426
def k0_mult42 : BitVec 32 :=
  let c0_i32_19 : BitVec 32 := 0#32
  let c32_i32_230 : BitVec 32 := 32#32
  let v424 : BitVec 32 := Scalar.muli c0_i32_19 c32_i32_230
  let c19_i32 : BitVec 32 := 19#32
  let v425 : BitVec 32 := Scalar.addi v424 c19_i32
  let c128_i32_233 : BitVec 32 := 128#32
  let v430 : BitVec 32 := Scalar.muli v425 c128_i32_233
  v430
def k0_mult43 : BitVec 32 :=
  let c0_i32_19 : BitVec 32 := 0#32
  let c32_i32_241 : BitVec 32 := 32#32
  let v443 : BitVec 32 := Scalar.muli c0_i32_19 c32_i32_241
  let c20_i32 : BitVec 32 := 20#32
  let v444 : BitVec 32 := Scalar.addi v443 c20_i32
  let c128_i32_242 : BitVec 32 := 128#32
  let v445 : BitVec 32 := Scalar.muli v444 c128_i32_242
  v445
def k0_mult44 : BitVec 32 :=
  let c0_i32_19 : BitVec 32 := 0#32
  let c32_i32_241 : BitVec 32 := 32#32
  let v443 : BitVec 32 := Scalar.muli c0_i32_19 c32_i32_241
  let c20_i32 : BitVec 32 := 20#32
  let v444 : BitVec 32 := Scalar.addi v443 c20_i32
  let c128_i32_244 : BitVec 32 := 128#32
  let v449 : BitVec 32 := Scalar.muli v444 c128_i32_244
  v449
def k0_mult45 : BitVec 32 :=
  let c0_i32_19 : BitVec 32 := 0#32
  let c32_i32_252 : BitVec 32 := 32#32
  let v462 : BitVec 32 := Scalar.muli c0_i32_19 c32_i32_252
  let c21_i32 : BitVec 32 := 21#32
  let v463 : BitVec 32 := Scalar.addi v462 c21_i32
  let c128_i32_253 : BitVec 32 := 128#32
  let v464 : BitVec 32 := Scalar.muli v463 c128_i32_253
  v464
def k0_mult46 : BitVec 32 :=
  let c0_i32_19 : BitVec 32 := 0#32
  let c32_i32_252 : BitVec 32 := 32#32
  let v462 : BitVec 32 := Scalar.muli c0_i32_19 c32_i32_252
  let c21_i32 : BitVec 32 := 21#32
  let v463 : BitVec 32 := Scalar.addi v462 c21_i32
  let c128_i32_255 : BitVec 32 := 128#32
  let v468 : BitVec 32 := Scalar.muli v463 c128_i32_255
  v468
def k0_mult47 : BitVec 32 :=
  let c0_i32_19 : BitVec 32 := 0#32
  let c32_i32_263 : BitVec 32 := 32#32
  let v481 : BitVec 32 := Scalar.muli c0_i32_19 c32_i32_263
  let c22_i32 : BitVec 32 := 22#32
  let v482 : BitVec 32 := Scalar.addi v481 c22_i32
  let c128_i32_264 : BitVec 32 := 128#32
  let v483 : BitVec 32 := Scalar.muli v482 c128_i32_264
  v483
def k0_mult48 : BitVec 32 :=
  let c0_i32_19 : BitVec 32 := 0#32
  let c32_i32_263 : BitVec 32 := 32#32
  let v481 : BitVec 32 := Scalar.muli c0_i32_19 c32_i32_263
  let c22_i32 : BitVec 32 := 22#32
  let v482 : BitVec 32 := Scalar.addi v481 c22_i32
  let c128_i32_266 : BitVec 32 := 128#32
  let v487 : BitVec 32 := Scalar.muli v482 c128_i32_266
  v487
def k0_mult49 : BitVec 32 :=
  let c0_i32_19 : BitVec 32 := 0#32
  let c32_i32_274 : BitVec 32 := 32#32
  let v500 : BitVec 32 := Scalar.muli c0_i32_19 c32_i32_274
  let c23_i32 : BitVec 32 := 23#32
  let v501 : BitVec 32 := Scalar.addi v500 c23_i32
  let c128_i32_275 : BitVec 32 := 128#32
  let v502 : BitVec 32 := Scalar.muli v501 c128_i32_275
  v502
def k0_mult50 : BitVec 32 :=
  let c0_i32_19 : BitVec 32 := 0#32
  let c32_i32_274 : BitVec 32 := 32#32
  let v500 : BitVec 32 := Scalar.muli c0_i32_19 c32_i32_274
  let c23_i32 : BitVec 32 := 23#32
  let v501 : BitVec 32 := Scalar.addi v500 c23_i32
  let c128_i32_277 : BitVec 32 := 128#32
  let v506 : BitVec 32 := Scalar.muli v501 c128_i32_277
  v506
def k0_mult51 : BitVec 32 :=
  let c0_i32_19 : BitVec 32 := 0#32
  let c32_i32_285 : BitVec 32 := 32#32
  let v519 : BitVec 32 := Scalar.muli c0_i32_19 c32_i32_285
  let c24_i32 : BitVec 32 := 24#32
  let v520 : BitVec 32 := Scalar.addi v519 c24_i32
  let c128_i32_286 : BitVec 32 := 128#32
  let v521 : BitVec 32 := Scalar.muli v520 c128_i32_286
  v521
def k0_mult52 : BitVec 32 :=
  let c0_i32_19 : BitVec 32 := 0#32
  let c32_i32_285 : BitVec 32 := 32#32
  let v519 : BitVec 32 := Scalar.muli c0_i32_19 c32_i32_285
  let c24_i32 : BitVec 32 := 24#32
  let v520 : BitVec 32 := Scalar.addi v519 c24_i32
  let c128_i32_288 : BitVec 32 := 128#32
  let v525 : BitVec 32 := Scalar.muli v520 c128_i32_288
  v525
def k0_mult53 : BitVec 32 :=
  let c0_i32_19 : BitVec 32 := 0#32
  let c32_i32_296 : BitVec 32 := 32#32
  let v538 : BitVec 32 := Scalar.muli c0_i32_19 c32_i32_296
  let c25_i32 : BitVec 32 := 25#32
  let v539 : BitVec 32 := Scalar.addi v538 c25_i32
  let c128_i32_297 : BitVec 32 := 128#32
  let v540 : BitVec 32 := Scalar.muli v539 c128_i32_297
  v540
def k0_mult54 : BitVec 32 :=
  let c0_i32_19 : BitVec 32 := 0#32
  let c32_i32_296 : BitVec 32 := 32#32
  let v538 : BitVec 32 := Scalar.muli c0_i32_19 c32_i32_296
  let c25_i32 : BitVec 32 := 25#32
  let v539 : BitVec 32 := Scalar.addi v538 c25_i32
  let c128_i32_299 : BitVec 32 := 128#32
  let v544 : BitVec 32 := Scalar.muli v539 c128_i32_299
  v544
def k0_mult55 : BitVec 32 :=
  let c0_i32_19 : BitVec 32 := 0#32
  let c32_i32_307 : BitVec 32 := 32#32
  let v557 : BitVec 32 := Scalar.muli c0_i32_19 c32_i32_307
  let c26_i32 : BitVec 32 := 26#32
  let v558 : BitVec 32 := Scalar.addi v557 c26_i32
  let c128_i32_308 : BitVec 32 := 128#32
  let v559 : BitVec 32 := Scalar.muli v558 c128_i32_308
  v559
def k0_mult56 : BitVec 32 :=
  let c0_i32_19 : BitVec 32 := 0#32
  let c32_i32_307 : BitVec 32 := 32#32
  let v557 : BitVec 32 := Scalar.muli c0_i32_19 c32_i32_307
  let c26_i32 : BitVec 32 := 26#32
  let v558 : BitVec 32 := Scalar.addi v557 c26_i32
  let c128_i32_310 : BitVec 32 := 128#32
  let v563 : BitVec 32 := Scalar.muli v558 c128_i32_310
  v563
def k0_mult57 : BitVec 32 :=
  let c0_i32_19 : BitVec 32 := 0#32
  let c32_i32_318 : BitVec 32 := 32#32
  let v576 : BitVec 32 := Scalar.muli c0_i32_19 c32_i32_318
  let c27_i32 : BitVec 32 := 27#32
  let v577 : BitVec 32 := Scalar.addi v576 c27_i32
  let c128_i32_319 : BitVec 32 := 128#32
  let v578 : BitVec 32 := Scalar.muli v577 c128_i32_319
  v578
def k0_mult58 : BitVec 32 :=
  let c0_i32_19 : BitVec 32 := 0#32
  let c32_i32_318 : BitVec 32 := 32#32
  let v576 : BitVec 32 := Scalar.muli c0_i32_19 c32_i32_318
  let c27_i32 : BitVec 32 := 27#32
  let v577 : BitVec 32 := Scalar.addi v576 c27_i32
  let c128_i32_321 : BitVec 32 := 128#32
  let v582 : BitVec 32 := Scalar.muli v577 c128_i32_321
  v582
def k0_mult59 : BitVec 32 :=
  let c0_i32_19 : BitVec 32 := 0#32
  let c32_i32_329 : BitVec 32 := 32#32
  let v595 : BitVec 32 := Scalar.muli c0_i32_19 c32_i32_329
  let c28_i32 : BitVec 32 := 28#32
  let v596 : BitVec 32 := Scalar.addi v595 c28_i32
  let c128_i32_330 : BitVec 32 := 128#32
  let v597 : BitVec 32 := Scalar.muli v596 c128_i32_330
  v597
def k0_mult60 : BitVec 32 :=
  let c0_i32_19 : BitVec 32 := 0#32
  let c32_i32_329 : BitVec 32 := 32#32
  let v595 : BitVec 32 := Scalar.muli c0_i32_19 c32_i32_329
  let c28_i32 : BitVec 32 := 28#32
  let v596 : BitVec 32 := Scalar.addi v595 c28_i32
  let c128_i32_332 : BitVec 32 := 128#32
  let v601 : BitVec 32 := Scalar.muli v596 c128_i32_332
  v601
def k0_mult61 : BitVec 32 :=
  let c0_i32_19 : BitVec 32 := 0#32
  let c32_i32_340 : BitVec 32 := 32#32
  let v614 : BitVec 32 := Scalar.muli c0_i32_19 c32_i32_340
  let c29_i32 : BitVec 32 := 29#32
  let v615 : BitVec 32 := Scalar.addi v614 c29_i32
  let c128_i32_341 : BitVec 32 := 128#32
  let v616 : BitVec 32 := Scalar.muli v615 c128_i32_341
  v616
def k0_mult62 : BitVec 32 :=
  let c0_i32_19 : BitVec 32 := 0#32
  let c32_i32_340 : BitVec 32 := 32#32
  let v614 : BitVec 32 := Scalar.muli c0_i32_19 c32_i32_340
  let c29_i32 : BitVec 32 := 29#32
  let v615 : BitVec 32 := Scalar.addi v614 c29_i32
  let c128_i32_343 : BitVec 32 := 128#32
  let v620 : BitVec 32 := Scalar.muli v615 c128_i32_343
  v620
def k0_mult63 : BitVec 32 :=
  let c0_i32_19 : BitVec 32 := 0#32
  let c32_i32_351 : BitVec 32 := 32#32
  let v633 : BitVec 32 := Scalar.muli c0_i32_19 c32_i32_351
  let c30_i32 : BitVec 32 := 30#32
  let v634 : BitVec 32 := Scalar.addi v633 c30_i32
  let c128_i32_352 : BitVec 32 := 128#32
  let v635 : BitVec 32 := Scalar.muli v634 c128_i32_352
  v635
def k0_mult64 : BitVec 32 :=
  let c0_i32_19 : BitVec 32 := 0#32
  let c32_i32_351 : BitVec 32 := 32#32
  let v633 : BitVec 32 := Scalar.muli c0_i32_19 c32_i32_351
  let c30_i32 : BitVec 32 := 30#32
  let v634 : BitVec 32 := Scalar.addi v633 c30_i32
  let c128_i32_354 : BitVec 32 := 128#32
  let v639 : BitVec 32 := Scalar.muli v634 c128_i32_354
  v639
def k0_mult65 : BitVec 32 :=
  let c0_i32_19 : BitVec 32 := 0#32
  let c32_i32_362 : BitVec 32 := 32#32
  let v652 : BitVec 32 := Scalar.muli c0_i32_19 c32_i32_362
  let c31_i32 : BitVec 32 := 31#32
  let v653 : BitVec 32 := Scalar.addi v652 c31_i32
  let c128_i32_363 : BitVec 32 := 128#32
  let v654 : BitVec 32 := Scalar.muli v653 c128_i32_363
  v654
def k0_mult66 : BitVec 32 :=
  let c0_i32_19 : BitVec 32 := 0#32
  let c32_i32_362 : BitVec 32 := 32#32
  let v652 : BitVec 32 := Scalar.muli c0_i32_19 c32_i32_362
  let c31_i32 : BitVec 32 := 31#32
  let v653 : BitVec 32 := Scalar.addi v652 c31_i32
  let c128_i32_365 : BitVec 32 := 128#32
  let v658 : BitVec 32 := Scalar.muli v653 c128_i32_365
  v658
def k0_mult67 : BitVec 32 :=
  let c0_i32_19 : BitVec 32 := 0#32
  let c32_i32_373 : BitVec 32 := 32#32
  let v735 : BitVec 32 := Scalar.muli c0_i32_19 c32_i32_373
  let c0_i32_374 : BitVec 32 := 0#32
  let v736 : BitVec 32 := Scalar.addi v735 c0_i32_374
  let c128_i32_375 : BitVec 32 := 128#32
  let v737 : BitVec 32 := Scalar.muli v736 c128_i32_375
  v737
def k0_mult68 : BitVec 32 :=
  let c0_i32_19 : BitVec 32 := 0#32
  let c32_i32_373 : BitVec 32 := 32#32
  let v735 : BitVec 32 := Scalar.muli c0_i32_19 c32_i32_373
  let c0_i32_374 : BitVec 32 := 0#32
  let v736 : BitVec 32 := Scalar.addi v735 c0_i32_374
  let c128_i32_383 : BitVec 32 := 128#32
  let v768 : BitVec 32 := Scalar.muli v736 c128_i32_383
  v768
def k0_mult69 : BitVec 32 :=
  let c0_i32_19 : BitVec 32 := 0#32
  let c32_i32_373 : BitVec 32 := 32#32
  let v735 : BitVec 32 := Scalar.muli c0_i32_19 c32_i32_373
  let c0_i32_374 : BitVec 32 := 0#32
  let v736 : BitVec 32 := Scalar.addi v735 c0_i32_374
  let c128_i32_388 : BitVec 32 := 128#32
  let v783 : BitVec 32 := Scalar.muli v736 c128_i32_388
  v783
def k0_mult70 : BitVec 32 :=
  let c0_i32_19 : BitVec 32 := 0#32
  let c32_i32_390 : BitVec 32 := 32#32
  let v787 : BitVec 32 := Scalar.muli c0_i32_19 c32_i32_390
  let c1_i32_391 : BitVec 32 := 1#32
  let v788 : BitVec 32 := Scalar.addi v787 c1_i32_391
  let c128_i32_392 : BitVec 32 := 128#32
  let v789 : BitVec 32 := Scalar.muli v788 c128_i32_392
  v789
def k0_mult71 : BitVec 32 :=
  let c0_i32_19 : BitVec 32 := 0#32
  let c32_i32_390 : BitVec 32 := 32#32
  let v787 : BitVec 32 := Scalar.muli c0_i32_19 c32_i32_390
  let c1_i32_391 : BitVec 32 := 1#32
  let v788 : BitVec 32 := Scalar.addi v787 c1_i32_391
  let c128_i32_400 : BitVec 32 := 128#32
  let v820 : BitVec 32 := Scalar.muli v788 c128_i32_400
  v820
def k0_mult72 : BitVec 32 :=
  let c0_i32_19 : BitVec 32 := 0#32
  let c32_i32_390 : BitVec 32 := 32#32
  let v787 : BitVec 32 := Scalar.muli c0_i32_19 c32_i32_390
  let c1_i32_391 : BitVec 32 := 1#32
  let v788 : BitVec 32 := Scalar.addi v787 c1_i32_391
  let c128_i32_405 : BitVec 32 := 128#32
  let v835 : BitVec 32 := Scalar.muli v788 c128_i32_405
  v835
def k0_mult73 : BitVec 32 :=
  let c0_i32_19 : BitVec 32 := 0#32
  let c32_i32_407 : BitVec 32 := 32#32
  let v839 : BitVec 32 := Scalar.muli c0_i32_19 c32_i32_407
  let c2_i32_408 : BitVec 32 := 2#32
  let v840 : BitVec 32 := Scalar.addi v839 c2_i32_408
  let c128_i32_409 : BitVec 32 := 128#32
  let v841 : BitVec 32 := Scalar.muli v840 c128_i32_409
  v841
def k0_mult74 : BitVec 32 :=
  let c0_i32_19 : BitVec 32 := 0#32
  let c32_i32_407 : BitVec 32 := 32#32
  let v839 : BitVec 32 := Scalar.muli c0_i32_19 c32_i32_407
  let c2_i32_408 : BitVec 32 := 2#32
  let v840 : BitVec 32 := Scalar.addi v839 c2_i32_408
  let c128_i32_417 : BitVec 32 := 128#32
  let v872 : BitVec 32 := Scalar.muli v840 c128_i32_417
  v872
def k0_mult75 : BitVec 32 :=
  let c0_i32_19 : BitVec 32 := 0#32
  let c32_i32_407 : BitVec 32 := 32#32
  let v839 : BitVec 32 := Scalar.muli c0_i32_19 c32_i32_407
  let c2_i32_408 : BitVec 32 := 2#32
  let v840 : BitVec 32 := Scalar.addi v839 c2_i32_408
  let c128_i32_422 : BitVec 32 := 128#32
  let v887 : BitVec 32 := Scalar.muli v840 c128_i32_422
  v887
def k0_mult76 : BitVec 32 :=
  let c0_i32_19 : BitVec 32 := 0#32
  let c32_i32_424 : BitVec 32 := 32#32
  let v891 : BitVec 32 := Scalar.muli c0_i32_19 c32_i32_424
  let c3_i32_425 : BitVec 32 := 3#32
  let v892 : BitVec 32 := Scalar.addi v891 c3_i32_425
  let c128_i32_426 : BitVec 32 := 128#32
  let v893 : BitVec 32 := Scalar.muli v892 c128_i32_426
  v893
def k0_mult77 : BitVec 32 :=
  let c0_i32_19 : BitVec 32 := 0#32
  let c32_i32_424 : BitVec 32 := 32#32
  let v891 : BitVec 32 := Scalar.muli c0_i32_19 c32_i32_424
  let c3_i32_425 : BitVec 32 := 3#32
  let v892 : BitVec 32 := Scalar.addi v891 c3_i32_425
  let c128_i32_434 : BitVec 32 := 128#32
  let v924 : BitVec 32 := Scalar.muli v892 c128_i32_434
  v924
def k0_mult78 : BitVec 32 :=
  let c0_i32_19 : BitVec 32 := 0#32
  let c32_i32_424 : BitVec 32 := 32#32
  let v891 : BitVec 32 := Scalar.muli c0_i32_19 c32_i32_424
  let c3_i32_425 : BitVec 32 := 3#32
  let v892 : BitVec 32 := Scalar.addi v891 c3_i32_425
  let c128_i32_439 : BitVec 32 := 128#32
  let v939 : BitVec 32 := Scalar.muli v892 c128_i32_439
  v939
def k0_mult79 : BitVec 32 :=
  let c0_i32_19 : BitVec 32 := 0#32
  let c32_i32_441 : BitVec 32 := 32#32
  let v943 : BitVec 32 := Scalar.muli c0_i32_19 c32_i32_441
  let c4_i32_442 : BitVec 32 := 4#32
  let v944 : BitVec 32 := Scalar.addi v943 c4_i32_442
  let c128_i32_443 : BitVec 32 := 128#32
  let v945 : BitVec 32 := Scalar.muli v944 c128_i32_443
  v945
def k0_mult80 : BitVec 32 :=
  let c0_i32_19 : BitVec 32 := 0#32
  let c32_i32_441 : BitVec 32 := 32#32
  let v943 : BitVec 32 := Scalar.muli c0_i32_19 c32_i32_441
  let c4_i32_442 : BitVec 32 := 4#32
  let v944 : BitVec 32 := Scalar.addi v943 c4_i32_442
  let c128_i32_451 : BitVec 32 := 128#32
  let v976 : BitVec 32 := Scalar.muli v944 c128_i32_451
  v976
def k0_mult81 : BitVec 32 :=
  let c0_i32_19 : BitVec 32 := 0#32
  let c32_i32_441 : BitVec 32 := 32#32
  let v943 : BitVec 32 := Scalar.muli c0_i32_19 c32_i32_441
  let c4_i32_442 : BitVec 32 := 4#32
  let v944 : BitVec 32 := Scalar.addi v943 c4_i32_442
  let c128_i32_456 : BitVec 32 := 128#32
  let v991 : BitVec 32 := Scalar.muli v944 c128_i32_456
  v991
def k0_mult82 : BitVec 32 :=
  let c0_i32_19 : BitVec 32 := 0#32
  let c32_i32_458 : BitVec 32 := 32#32
  let v995 : BitVec 32 := Scalar.muli c0_i32_19 c32_i32_458
  let c5_i32_459 : BitVec 32 := 5#32
  let v996 : BitVec 32 := Scalar.addi v995 c5_i32_459
  let c128_i32_460 : BitVec 32 := 128#32
  let v997 : BitVec 32 := Scalar.muli v996 c128_i32_460
  v997
def k0_mult83 : BitVec 32 :=
  let c0_i32_19 : BitVec 32 := 0#32
  let c32_i32_458 : BitVec 32 := 32#32
  let v995 : BitVec 32 := Scalar.muli c0_i32_19 c32_i32_458
  let c5_i32_459 : BitVec 32 := 5#32
  let v996 : BitVec 32 := Scalar.addi v995 c5_i32_459
  let c128_i32_468 : BitVec 32 := 128#32
  let v1028 : BitVec 32 := Scalar.muli v996 c128_i32_468
  v1028
def k0_mult84 : BitVec 32 :=
  let c0_i32_19 : BitVec 32 := 0#32
  let c32_i32_458 : BitVec 32 := 32#32
  let v995 : BitVec 32 := Scalar.muli c0_i32_19 c32_i32_458
  let c5_i32_459 : BitVec 32 := 5#32
  let v996 : BitVec 32 := Scalar.addi v995 c5_i32_459
  let c128_i32_473 : BitVec 32 := 128#32
  let v1043 : BitVec 32 := Scalar.muli v996 c128_i32_473
  v1043
def k0_mult85 : BitVec 32 :=
  let c0_i32_19 : BitVec 32 := 0#32
  let c32_i32_475 : BitVec 32 := 32#32
  let v1047 : BitVec 32 := Scalar.muli c0_i32_19 c32_i32_475
  let c6_i32_476 : BitVec 32 := 6#32
  let v1048 : BitVec 32 := Scalar.addi v1047 c6_i32_476
  let c128_i32_477 : BitVec 32 := 128#32
  let v1049 : BitVec 32 := Scalar.muli v1048 c128_i32_477
  v1049
def k0_mult86 : BitVec 32 :=
  let c0_i32_19 : BitVec 32 := 0#32
  let c32_i32_475 : BitVec 32 := 32#32
  let v1047 : BitVec 32 := Scalar.muli c0_i32_19 c32_i32_475
  let c6_i32_476 : BitVec 32 := 6#32
  let v1048 : BitVec 32 := Scalar.addi v1047 c6_i32_476
  let c128_i32_485 : BitVec 32 := 128#32
  let v1080 : BitVec 32 := Scalar.muli v1048 c128_i32_485
  v1080
def k0_mult87 : BitVec 32 :=
  let c0_i32_19 : BitVec 32 := 0#32
  let c32_i32_475 : BitVec 32 := 32#32
  let v1047 : BitVec 32 := Scalar.muli c0_i32_19 c32_i32_475
  let c6_i32_476 : BitVec 32 := 6#32
  let v1048 : BitVec 32 := Scalar.addi v1047 c6_i32_476
  let c128_i32_490 : BitVec 32 := 128#32
  let v1095 : BitVec 32 := Scalar.muli v1048 c128_i32_490
  v1095
def k0_mult88 : BitVec 32 :=
  let c0_i32_19 : BitVec 32 := 0#32
  let c32_i32_492 : BitVec 32 := 32#32
  let v1099 : BitVec 32 := Scalar.muli c0_i32_19 c32_i32_492
  let c7_i32_493 : BitVec 32 := 7#32
  let v1100 : BitVec 32 := Scalar.addi v1099 c7_i32_493
  let c128_i32_494 : BitVec 32 := 128#32
  let v1101 : BitVec 32 := Scalar.muli v1100 c128_i32_494
  v1101
def k0_mult89 : BitVec 32 :=
  let c0_i32_19 : BitVec 32 := 0#32
  let c32_i32_492 : BitVec 32 := 32#32
  let v1099 : BitVec 32 := Scalar.muli c0_i32_19 c32_i32_492
  let c7_i32_493 : BitVec 32 := 7#32
  let v1100 : BitVec 32 := Scalar.addi v1099 c7_i32_493
  let c128_i32_502 : BitVec 32 := 128#32
  let v1132 : BitVec 32 := Scalar.muli v1100 c128_i32_502
  v1132
def k0_mult90 : BitVec 32 :=
  let c0_i32_19 : BitVec 32 := 0#32
  let c32_i32_492 : BitVec 32 := 32#32
  let v1099 : BitVec 32 := Scalar.muli c0_i32_19 c32_i32_492
  let c7_i32_493 : BitVec 32 := 7#32
  let v1100 : BitVec 32 := Scalar.addi v1099 c7_i32_493
  let c128_i32_507 : BitVec 32 := 128#32
  let v1147 : BitVec 32 := Scalar.muli v1100 c128_i32_507
  v1147
def k0_mult91 : BitVec 32 :=
  let c0_i32_19 : BitVec 32 := 0#32
  let c32_i32_509 : BitVec 32 := 32#32
  let v1151 : BitVec 32 := Scalar.muli c0_i32_19 c32_i32_509
  let c8_i32_510 : BitVec 32 := 8#32
  let v1152 : BitVec 32 := Scalar.addi v1151 c8_i32_510
  let c128_i32_511 : BitVec 32 := 128#32
  let v1153 : BitVec 32 := Scalar.muli v1152 c128_i32_511
  v1153
def k0_mult92 : BitVec 32 :=
  let c0_i32_19 : BitVec 32 := 0#32
  let c32_i32_509 : BitVec 32 := 32#32
  let v1151 : BitVec 32 := Scalar.muli c0_i32_19 c32_i32_509
  let c8_i32_510 : BitVec 32 := 8#32
  let v1152 : BitVec 32 := Scalar.addi v1151 c8_i32_510
  let c128_i32_519 : BitVec 32 := 128#32
  let v1184 : BitVec 32 := Scalar.muli v1152 c128_i32_519
  v1184
def k0_mult93 : BitVec 32 :=
  let c0_i32_19 : BitVec 32 := 0#32
  let c32_i32_509 : BitVec 32 := 32#32
  let v1151 : BitVec 32 := Scalar.muli c0_i32_19 c32_i32_509
  let c8_i32_510 : BitVec 32 := 8#32
  let v1152 : BitVec 32 := Scalar.addi v1151 c8_i32_510
  let c128_i32_524 : BitVec 32 := 128#32
  let v1199 : BitVec 32 := Scalar.muli v1152 c128_i32_524
  v1199
def k0_mult94 : BitVec 32 :=
  let c0_i32_19 : BitVec 32 := 0#32
  let c32_i32_526 : BitVec 32 := 32#32
  let v1203 : BitVec 32 := Scalar.muli c0_i32_19 c32_i32_526
  let c9_i32_527 : BitVec 32 := 9#32
  let v1204 : BitVec 32 := Scalar.addi v1203 c9_i32_527
  let c128_i32_528 : BitVec 32 := 128#32
  let v1205 : BitVec 32 := Scalar.muli v1204 c128_i32_528
  v1205
def k0_mult95 : BitVec 32 :=
  let c0_i32_19 : BitVec 32 := 0#32
  let c32_i32_526 : BitVec 32 := 32#32
  let v1203 : BitVec 32 := Scalar.muli c0_i32_19 c32_i32_526
  let c9_i32_527 : BitVec 32 := 9#32
  let v1204 : BitVec 32 := Scalar.addi v1203 c9_i32_527
  let c128_i32_536 : BitVec 32 := 128#32
  let v1236 : BitVec 32 := Scalar.muli v1204 c128_i32_536
  v1236
def k0_mult96 : BitVec 32 :=
  let c0_i32_19 : BitVec 32 := 0#32
  let c32_i32_526 : BitVec 32 := 32#32
  let v1203 : BitVec 32 := Scalar.muli c0_i32_19 c32_i32_526
  let c9_i32_527 : BitVec 32 := 9#32
  let v1204 : BitVec 32 := Scalar.addi v1203 c9_i32_527
  let c128_i32_541 : BitVec 32 := 128#32
  let v1251 : BitVec 32 := Scalar.muli v1204 c128_i32_541
  v1251
def k0_mult97 : BitVec 32 :=
  let c0_i32_19 : BitVec 32 := 0#32
  let c32_i32_543 : BitVec 32 := 32#32
  let v1255 : BitVec 32 := Scalar.muli c0_i32_19 c32_i32_543
  let c10_i32_544 : BitVec 32 := 10#32
  let v1256 : BitVec 32 := Scalar.addi v1255 c10_i32_544
  let c128_i32_545 : BitVec 32 := 128#32
  let v1257 : BitVec 32 := Scalar.muli v1256 c128_i32_545
  v1257
def k0_mult98 : BitVec 32 :=
  let c0_i32_19 : BitVec 32 := 0#32
  let c32_i32_543 : BitVec 32 := 32#32
  let v1255 : BitVec 32 := Scalar.muli c0_i32_19 c32_i32_543
  let c10_i32_544 : BitVec 32 := 10#32
  let v1256 : BitVec 32 := Scalar.addi v1255 c10_i32_544
  let c128_i32_553 : BitVec 32 := 128#32
  let v1288 : BitVec 32 := Scalar.muli v1256 c128_i32_553
  v1288
def k0_mult99 : BitVec 32 :=
  let c0_i32_19 : BitVec 32 := 0#32
  let c32_i32_543 : BitVec 32 := 32#32
  let v1255 : BitVec 32 := Scalar.muli c0_i32_19 c32_i32_543
  let c10_i32_544 : BitVec 32 := 10#32
  let v1256 : BitVec 32 := Scalar.addi v1255 c10_i32_544
  let c128_i32_558 : BitVec 32 := 128#32
  let v1303 : BitVec 32 := Scalar.muli v1256 c128_i32_558
  v1303
def k0_mult100 : BitVec 32 :=
  let c0_i32_19 : BitVec 32 := 0#32
  let c32_i32_560 : BitVec 32 := 32#32
  let v1307 : BitVec 32 := Scalar.muli c0_i32_19 c32_i32_560
  let c11_i32_561 : BitVec 32 := 11#32
  let v1308 : BitVec 32 := Scalar.addi v1307 c11_i32_561
  let c128_i32_562 : BitVec 32 := 128#32
  let v1309 : BitVec 32 := Scalar.muli v1308 c128_i32_562
  v1309
def k0_mult101 : BitVec 32 :=
  let c0_i32_19 : BitVec 32 := 0#32
  let c32_i32_560 : BitVec 32 := 32#32
  let v1307 : BitVec 32 := Scalar.muli c0_i32_19 c32_i32_560
  let c11_i32_561 : BitVec 32 := 11#32
  let v1308 : BitVec 32 := Scalar.addi v1307 c11_i32_561
  let c128_i32_570 : BitVec 32 := 128#32
  let v1340 : BitVec 32 := Scalar.muli v1308 c128_i32_570
  v1340
def k0_mult102 : BitVec 32 :=
  let c0_i32_19 : BitVec 32 := 0#32
  let c32_i32_560 : BitVec 32 := 32#32
  let v1307 : BitVec 32 := Scalar.muli c0_i32_19 c32_i32_560
  let c11_i32_561 : BitVec 32 := 11#32
  let v1308 : BitVec 32 := Scalar.addi v1307 c11_i32_561
  let c128_i32_575 : BitVec 32 := 128#32
  let v1355 : BitVec 32 := Scalar.muli v1308 c128_i32_575
  v1355
def k0_mult103 : BitVec 32 :=
  let c0_i32_19 : BitVec 32 := 0#32
  let c32_i32_577 : BitVec 32 := 32#32
  let v1359 : BitVec 32 := Scalar.muli c0_i32_19 c32_i32_577
  let c12_i32_578 : BitVec 32 := 12#32
  let v1360 : BitVec 32 := Scalar.addi v1359 c12_i32_578
  let c128_i32_579 : BitVec 32 := 128#32
  let v1361 : BitVec 32 := Scalar.muli v1360 c128_i32_579
  v1361
def k0_mult104 : BitVec 32 :=
  let c0_i32_19 : BitVec 32 := 0#32
  let c32_i32_577 : BitVec 32 := 32#32
  let v1359 : BitVec 32 := Scalar.muli c0_i32_19 c32_i32_577
  let c12_i32_578 : BitVec 32 := 12#32
  let v1360 : BitVec 32 := Scalar.addi v1359 c12_i32_578
  let c128_i32_587 : BitVec 32 := 128#32
  let v1392 : BitVec 32 := Scalar.muli v1360 c128_i32_587
  v1392
def k0_mult105 : BitVec 32 :=
  let c0_i32_19 : BitVec 32 := 0#32
  let c32_i32_577 : BitVec 32 := 32#32
  let v1359 : BitVec 32 := Scalar.muli c0_i32_19 c32_i32_577
  let c12_i32_578 : BitVec 32 := 12#32
  let v1360 : BitVec 32 := Scalar.addi v1359 c12_i32_578
  let c128_i32_592 : BitVec 32 := 128#32
  let v1407 : BitVec 32 := Scalar.muli v1360 c128_i32_592
  v1407
def k0_mult106 : BitVec 32 :=
  let c0_i32_19 : BitVec 32 := 0#32
  let c32_i32_594 : BitVec 32 := 32#32
  let v1411 : BitVec 32 := Scalar.muli c0_i32_19 c32_i32_594
  let c13_i32_595 : BitVec 32 := 13#32
  let v1412 : BitVec 32 := Scalar.addi v1411 c13_i32_595
  let c128_i32_596 : BitVec 32 := 128#32
  let v1413 : BitVec 32 := Scalar.muli v1412 c128_i32_596
  v1413
def k0_mult107 : BitVec 32 :=
  let c0_i32_19 : BitVec 32 := 0#32
  let c32_i32_594 : BitVec 32 := 32#32
  let v1411 : BitVec 32 := Scalar.muli c0_i32_19 c32_i32_594
  let c13_i32_595 : BitVec 32 := 13#32
  let v1412 : BitVec 32 := Scalar.addi v1411 c13_i32_595
  let c128_i32_604 : BitVec 32 := 128#32
  let v1444 : BitVec 32 := Scalar.muli v1412 c128_i32_604
  v1444
def k0_mult108 : BitVec 32 :=
  let c0_i32_19 : BitVec 32 := 0#32
  let c32_i32_594 : BitVec 32 := 32#32
  let v1411 : BitVec 32 := Scalar.muli c0_i32_19 c32_i32_594
  let c13_i32_595 : BitVec 32 := 13#32
  let v1412 : BitVec 32 := Scalar.addi v1411 c13_i32_595
  let c128_i32_609 : BitVec 32 := 128#32
  let v1459 : BitVec 32 := Scalar.muli v1412 c128_i32_609
  v1459
def k0_mult109 : BitVec 32 :=
  let c0_i32_19 : BitVec 32 := 0#32
  let c32_i32_611 : BitVec 32 := 32#32
  let v1463 : BitVec 32 := Scalar.muli c0_i32_19 c32_i32_611
  let c14_i32_612 : BitVec 32 := 14#32
  let v1464 : BitVec 32 := Scalar.addi v1463 c14_i32_612
  let c128_i32_613 : BitVec 32 := 128#32
  let v1465 : BitVec 32 := Scalar.muli v1464 c128_i32_613
  v1465
def k0_mult110 : BitVec 32 :=
  let c0_i32_19 : BitVec 32 := 0#32
  let c32_i32_611 : BitVec 32 := 32#32
  let v1463 : BitVec 32 := Scalar.muli c0_i32_19 c32_i32_611
  let c14_i32_612 : BitVec 32 := 14#32
  let v1464 : BitVec 32 := Scalar.addi v1463 c14_i32_612
  let c128_i32_621 : BitVec 32 := 128#32
  let v1496 : BitVec 32 := Scalar.muli v1464 c128_i32_621
  v1496
def k0_mult111 : BitVec 32 :=
  let c0_i32_19 : BitVec 32 := 0#32
  let c32_i32_611 : BitVec 32 := 32#32
  let v1463 : BitVec 32 := Scalar.muli c0_i32_19 c32_i32_611
  let c14_i32_612 : BitVec 32 := 14#32
  let v1464 : BitVec 32 := Scalar.addi v1463 c14_i32_612
  let c128_i32_626 : BitVec 32 := 128#32
  let v1511 : BitVec 32 := Scalar.muli v1464 c128_i32_626
  v1511
def k0_mult112 : BitVec 32 :=
  let c0_i32_19 : BitVec 32 := 0#32
  let c32_i32_628 : BitVec 32 := 32#32
  let v1515 : BitVec 32 := Scalar.muli c0_i32_19 c32_i32_628
  let c15_i32_629 : BitVec 32 := 15#32
  let v1516 : BitVec 32 := Scalar.addi v1515 c15_i32_629
  let c128_i32_630 : BitVec 32 := 128#32
  let v1517 : BitVec 32 := Scalar.muli v1516 c128_i32_630
  v1517
def k0_mult113 : BitVec 32 :=
  let c0_i32_19 : BitVec 32 := 0#32
  let c32_i32_628 : BitVec 32 := 32#32
  let v1515 : BitVec 32 := Scalar.muli c0_i32_19 c32_i32_628
  let c15_i32_629 : BitVec 32 := 15#32
  let v1516 : BitVec 32 := Scalar.addi v1515 c15_i32_629
  let c128_i32_638 : BitVec 32 := 128#32
  let v1548 : BitVec 32 := Scalar.muli v1516 c128_i32_638
  v1548
def k0_mult114 : BitVec 32 :=
  let c0_i32_19 : BitVec 32 := 0#32
  let c32_i32_628 : BitVec 32 := 32#32
  let v1515 : BitVec 32 := Scalar.muli c0_i32_19 c32_i32_628
  let c15_i32_629 : BitVec 32 := 15#32
  let v1516 : BitVec 32 := Scalar.addi v1515 c15_i32_629
  let c128_i32_643 : BitVec 32 := 128#32
  let v1563 : BitVec 32 := Scalar.muli v1516 c128_i32_643
  v1563
def k0_mult115 : BitVec 32 :=
  let c0_i32_19 : BitVec 32 := 0#32
  let c32_i32_645 : BitVec 32 := 32#32
  let v1567 : BitVec 32 := Scalar.muli c0_i32_19 c32_i32_645
  let c16_i32_646 : BitVec 32 := 16#32
  let v1568 : BitVec 32 := Scalar.addi v1567 c16_i32_646
  let c128_i32_647 : BitVec 32 := 128#32
  let v1569 : BitVec 32 := Scalar.muli v1568 c128_i32_647
  v1569
def k0_mult116 : BitVec 32 :=
  let c0_i32_19 : BitVec 32 := 0#32
  let c32_i32_645 : BitVec 32 := 32#32
  let v1567 : BitVec 32 := Scalar.muli c0_i32_19 c32_i32_645
  let c16_i32_646 : BitVec 32 := 16#32
  let v1568 : BitVec 32 := Scalar.addi v1567 c16_i32_646
  let c128_i32_655 : BitVec 32 := 128#32
  let v1600 : BitVec 32 := Scalar.muli v1568 c128_i32_655
  v1600
def k0_mult117 : BitVec 32 :=
  let c0_i32_19 : BitVec 32 := 0#32
  let c32_i32_645 : BitVec 32 := 32#32
  let v1567 : BitVec 32 := Scalar.muli c0_i32_19 c32_i32_645
  let c16_i32_646 : BitVec 32 := 16#32
  let v1568 : BitVec 32 := Scalar.addi v1567 c16_i32_646
  let c128_i32_660 : BitVec 32 := 128#32
  let v1615 : BitVec 32 := Scalar.muli v1568 c128_i32_660
  v1615
def k0_mult118 : BitVec 32 :=
  let c0_i32_19 : BitVec 32 := 0#32
  let c32_i32_662 : BitVec 32 := 32#32
  let v1619 : BitVec 32 := Scalar.muli c0_i32_19 c32_i32_662
  let c17_i32_663 : BitVec 32 := 17#32
  let v1620 : BitVec 32 := Scalar.addi v1619 c17_i32_663
  let c128_i32_664 : BitVec 32 := 128#32
  let v1621 : BitVec 32 := Scalar.muli v1620 c128_i32_664
  v1621
def k0_mult119 : BitVec 32 :=
  let c0_i32_19 : BitVec 32 := 0#32
  let c32_i32_662 : BitVec 32 := 32#32
  let v1619 : BitVec 32 := Scalar.muli c0_i32_19 c32_i32_662
  let c17_i32_663 : BitVec 32 := 17#32
  let v1620 : BitVec 32 := Scalar.addi v1619 c17_i32_663
  let c128_i32_672 : BitVec 32 := 128#32
  let v1652 : BitVec 32 := Scalar.muli v1620 c128_i32_672
  v1652
def k0_mult120 : BitVec 32 :=
  let c0_i32_19 : BitVec 32 := 0#32
  let c32_i32_662 : BitVec 32 := 32#32
  let v1619 : BitVec 32 := Scalar.muli c0_i32_19 c32_i32_662
  let c17_i32_663 : BitVec 32 := 17#32
  let v1620 : BitVec 32 := Scalar.addi v1619 c17_i32_663
  let c128_i32_677 : BitVec 32 := 128#32
  let v1667 : BitVec 32 := Scalar.muli v1620 c128_i32_677
  v1667
def k0_mult121 : BitVec 32 :=
  let c0_i32_19 : BitVec 32 := 0#32
  let c32_i32_679 : BitVec 32 := 32#32
  let v1671 : BitVec 32 := Scalar.muli c0_i32_19 c32_i32_679
  let c18_i32_680 : BitVec 32 := 18#32
  let v1672 : BitVec 32 := Scalar.addi v1671 c18_i32_680
  let c128_i32_681 : BitVec 32 := 128#32
  let v1673 : BitVec 32 := Scalar.muli v1672 c128_i32_681
  v1673
def k0_mult122 : BitVec 32 :=
  let c0_i32_19 : BitVec 32 := 0#32
  let c32_i32_679 : BitVec 32 := 32#32
  let v1671 : BitVec 32 := Scalar.muli c0_i32_19 c32_i32_679
  let c18_i32_680 : BitVec 32 := 18#32
  let v1672 : BitVec 32 := Scalar.addi v1671 c18_i32_680
  let c128_i32_689 : BitVec 32 := 128#32
  let v1704 : BitVec 32 := Scalar.muli v1672 c128_i32_689
  v1704
def k0_mult123 : BitVec 32 :=
  let c0_i32_19 : BitVec 32 := 0#32
  let c32_i32_679 : BitVec 32 := 32#32
  let v1671 : BitVec 32 := Scalar.muli c0_i32_19 c32_i32_679
  let c18_i32_680 : BitVec 32 := 18#32
  let v1672 : BitVec 32 := Scalar.addi v1671 c18_i32_680
  let c128_i32_694 : BitVec 32 := 128#32
  let v1719 : BitVec 32 := Scalar.muli v1672 c128_i32_694
  v1719
def k0_mult124 : BitVec 32 :=
  let c0_i32_19 : BitVec 32 := 0#32
  let c32_i32_696 : BitVec 32 := 32#32
  let v1723 : BitVec 32 := Scalar.muli c0_i32_19 c32_i32_696
  let c19_i32_697 : BitVec 32 := 19#32
  let v1724 : BitVec 32 := Scalar.addi v1723 c19_i32_697
  let c128_i32_698 : BitVec 32 := 128#32
  let v1725 : BitVec 32 := Scalar.muli v1724 c128_i32_698
  v1725
def k0_mult125 : BitVec 32 :=
  let c0_i32_19 : BitVec 32 := 0#32
  let c32_i32_696 : BitVec 32 := 32#32
  let v1723 : BitVec 32 := Scalar.muli c0_i32_19 c32_i32_696
  let c19_i32_697 : BitVec 32 := 19#32
  let v1724 : BitVec 32 := Scalar.addi v1723 c19_i32_697
  let c128_i32_706 : BitVec 32 := 128#32
  let v1756 : BitVec 32 := Scalar.muli v1724 c128_i32_706
  v1756
def k0_mult126 : BitVec 32 :=
  let c0_i32_19 : BitVec 32 := 0#32
  let c32_i32_696 : BitVec 32 := 32#32
  let v1723 : BitVec 32 := Scalar.muli c0_i32_19 c32_i32_696
  let c19_i32_697 : BitVec 32 := 19#32
  let v1724 : BitVec 32 := Scalar.addi v1723 c19_i32_697
  let c128_i32_711 : BitVec 32 := 128#32
  let v1771 : BitVec 32 := Scalar.muli v1724 c128_i32_711
  v1771
def k0_mult127 : BitVec 32 :=
  let c0_i32_19 : BitVec 32 := 0#32
  let c32_i32_713 : BitVec 32 := 32#32
  let v1775 : BitVec 32 := Scalar.muli c0_i32_19 c32_i32_713
  let c20_i32_714 : BitVec 32 := 20#32
  let v1776 : BitVec 32 := Scalar.addi v1775 c20_i32_714
  let c128_i32_715 : BitVec 32 := 128#32
  let v1777 : BitVec 32 := Scalar.muli v1776 c128_i32_715
  v1777
def k0_mult128 : BitVec 32 :=
  let c0_i32_19 : BitVec 32 := 0#32
  let c32_i32_713 : BitVec 32 := 32#32
  let v1775 : BitVec 32 := Scalar.muli c0_i32_19 c32_i32_713
  let c20_i32_714 : BitVec 32 := 20#32
  let v1776 : BitVec 32 := Scalar.addi v1775 c20_i32_714
  let c128_i32_723 : BitVec 32 := 128#32
  let v1808 : BitVec 32 := Scalar.muli v1776 c128_i32_723
  v1808
def k0_mult129 : BitVec 32 :=
  let c0_i32_19 : BitVec 32 := 0#32
  let c32_i32_713 : BitVec 32 := 32#32
  let v1775 : BitVec 32 := Scalar.muli c0_i32_19 c32_i32_713
  let c20_i32_714 : BitVec 32 := 20#32
  let v1776 : BitVec 32 := Scalar.addi v1775 c20_i32_714
  let c128_i32_728 : BitVec 32 := 128#32
  let v1823 : BitVec 32 := Scalar.muli v1776 c128_i32_728
  v1823
def k0_mult130 : BitVec 32 :=
  let c0_i32_19 : BitVec 32 := 0#32
  let c32_i32_730 : BitVec 32 := 32#32
  let v1827 : BitVec 32 := Scalar.muli c0_i32_19 c32_i32_730
  let c21_i32_731 : BitVec 32 := 21#32
  let v1828 : BitVec 32 := Scalar.addi v1827 c21_i32_731
  let c128_i32_732 : BitVec 32 := 128#32
  let v1829 : BitVec 32 := Scalar.muli v1828 c128_i32_732
  v1829
def k0_mult131 : BitVec 32 :=
  let c0_i32_19 : BitVec 32 := 0#32
  let c32_i32_730 : BitVec 32 := 32#32
  let v1827 : BitVec 32 := Scalar.muli c0_i32_19 c32_i32_730
  let c21_i32_731 : BitVec 32 := 21#32
  let v1828 : BitVec 32 := Scalar.addi v1827 c21_i32_731
  let c128_i32_740 : BitVec 32 := 128#32
  let v1860 : BitVec 32 := Scalar.muli v1828 c128_i32_740
  v1860
def k0_mult132 : BitVec 32 :=
  let c0_i32_19 : BitVec 32 := 0#32
  let c32_i32_730 : BitVec 32 := 32#32
  let v1827 : BitVec 32 := Scalar.muli c0_i32_19 c32_i32_730
  let c21_i32_731 : BitVec 32 := 21#32
  let v1828 : BitVec 32 := Scalar.addi v1827 c21_i32_731
  let c128_i32_745 : BitVec 32 := 128#32
  let v1875 : BitVec 32 := Scalar.muli v1828 c128_i32_745
  v1875
def k0_mult133 : BitVec 32 :=
  let c0_i32_19 : BitVec 32 := 0#32
  let c32_i32_747 : BitVec 32 := 32#32
  let v1879 : BitVec 32 := Scalar.muli c0_i32_19 c32_i32_747
  let c22_i32_748 : BitVec 32 := 22#32
  let v1880 : BitVec 32 := Scalar.addi v1879 c22_i32_748
  let c128_i32_749 : BitVec 32 := 128#32
  let v1881 : BitVec 32 := Scalar.muli v1880 c128_i32_749
  v1881
def k0_mult134 : BitVec 32 :=
  let c0_i32_19 : BitVec 32 := 0#32
  let c32_i32_747 : BitVec 32 := 32#32
  let v1879 : BitVec 32 := Scalar.muli c0_i32_19 c32_i32_747
  let c22_i32_748 : BitVec 32 := 22#32
  let v1880 : BitVec 32 := Scalar.addi v1879 c22_i32_748
  let c128_i32_757 : BitVec 32 := 128#32
  let v1912 : BitVec 32 := Scalar.muli v1880 c128_i32_757
  v1912
def k0_mult135 : BitVec 32 :=
  let c0_i32_19 : BitVec 32 := 0#32
  let c32_i32_747 : BitVec 32 := 32#32
  let v1879 : BitVec 32 := Scalar.muli c0_i32_19 c32_i32_747
  let c22_i32_748 : BitVec 32 := 22#32
  let v1880 : BitVec 32 := Scalar.addi v1879 c22_i32_748
  let c128_i32_762 : BitVec 32 := 128#32
  let v1927 : BitVec 32 := Scalar.muli v1880 c128_i32_762
  v1927
def k0_mult136 : BitVec 32 :=
  let c0_i32_19 : BitVec 32 := 0#32
  let c32_i32_764 : BitVec 32 := 32#32
  let v1931 : BitVec 32 := Scalar.muli c0_i32_19 c32_i32_764
  let c23_i32_765 : BitVec 32 := 23#32
  let v1932 : BitVec 32 := Scalar.addi v1931 c23_i32_765
  let c128_i32_766 : BitVec 32 := 128#32
  let v1933 : BitVec 32 := Scalar.muli v1932 c128_i32_766
  v1933
def k0_mult137 : BitVec 32 :=
  let c0_i32_19 : BitVec 32 := 0#32
  let c32_i32_764 : BitVec 32 := 32#32
  let v1931 : BitVec 32 := Scalar.muli c0_i32_19 c32_i32_764
  let c23_i32_765 : BitVec 32 := 23#32
  let v1932 : BitVec 32 := Scalar.addi v1931 c23_i32_765
  let c128_i32_774 : BitVec 32 := 128#32
  let v1964 : BitVec 32 := Scalar.muli v1932 c128_i32_774
  v1964
def k0_mult138 : BitVec 32 :=
  let c0_i32_19 : BitVec 32 := 0#32
  let c32_i32_764 : BitVec 32 := 32#32
  let v1931 : BitVec 32 := Scalar.muli c0_i32_19 c32_i32_764
  let c23_i32_765 : BitVec 32 := 23#32
  let v1932 : BitVec 32 := Scalar.addi v1931 c23_i32_765
  let c128_i32_779 : BitVec 32 := 128#32
  let v1979 : BitVec 32 := Scalar.muli v1932 c128_i32_779
  v1979
def k0_mult139 : BitVec 32 :=
  let c0_i32_19 : BitVec 32 := 0#32
  let c32_i32_781 : BitVec 32 := 32#32
  let v1983 : BitVec 32 := Scalar.muli c0_i32_19 c32_i32_781
  let c24_i32_782 : BitVec 32 := 24#32
  let v1984 : BitVec 32 := Scalar.addi v1983 c24_i32_782
  let c128_i32_783 : BitVec 32 := 128#32
  let v1985 : BitVec 32 := Scalar.muli v1984 c128_i32_783
  v1985
def k0_mult140 : BitVec 32 :=
  let c0_i32_19 : BitVec 32 := 0#32
  let c32_i32_781 : BitVec 32 := 32#32
  let v1983 : BitVec 32 := Scalar.muli c0_i32_19 c32_i32_781
  let c24_i32_782 : BitVec 32 := 24#32
  let v1984 : BitVec 32 := Scalar.addi v1983 c24_i32_782
  let c128_i32_791 : BitVec 32 := 128#32
  let v2016 : BitVec 32 := Scalar.muli v1984 c128_i32_791
  v2016
def k0_mult141 : BitVec 32 :=
  let c0_i32_19 : BitVec 32 := 0#32
  let c32_i32_781 : BitVec 32 := 32#32
  let v1983 : BitVec 32 := Scalar.muli c0_i32_19 c32_i32_781
  let c24_i32_782 : BitVec 32 := 24#32
  let v1984 : BitVec 32 := Scalar.addi v1983 c24_i32_782
  let c128_i32_796 : BitVec 32 := 128#32
  let v2031 : BitVec 32 := Scalar.muli v1984 c128_i32_796
  v2031
def k0_mult142 : BitVec 32 :=
  let c0_i32_19 : BitVec 32 := 0#32
  let c32_i32_798 : BitVec 32 := 32#32
  let v2035 : BitVec 32 := Scalar.muli c0_i32_19 c32_i32_798
  let c25_i32_799 : BitVec 32 := 25#32
  let v2036 : BitVec 32 := Scalar.addi v2035 c25_i32_799
  let c128_i32_800 : BitVec 32 := 128#32
  let v2037 : BitVec 32 := Scalar.muli v2036 c128_i32_800
  v2037
def k0_mult143 : BitVec 32 :=
  let c0_i32_19 : BitVec 32 := 0#32
  let c32_i32_798 : BitVec 32 := 32#32
  let v2035 : BitVec 32 := Scalar.muli c0_i32_19 c32_i32_798
  let c25_i32_799 : BitVec 32 := 25#32
  let v2036 : BitVec 32 := Scalar.addi v2035 c25_i32_799
  let c128_i32_808 : BitVec 32 := 128#32
  let v2068 : BitVec 32 := Scalar.muli v2036 c128_i32_808
  v2068
def k0_mult144 : BitVec 32 :=
  let c0_i32_19 : BitVec 32 := 0#32
  let c32_i32_798 : BitVec 32 := 32#32
  let v2035 : BitVec 32 := Scalar.muli c0_i32_19 c32_i32_798
  let c25_i32_799 : BitVec 32 := 25#32
  let v2036 : BitVec 32 := Scalar.addi v2035 c25_i32_799
  let c128_i32_813 : BitVec 32 := 128#32
  let v2083 : BitVec 32 := Scalar.muli v2036 c128_i32_813
  v2083
def k0_mult145 : BitVec 32 :=
  let c0_i32_19 : BitVec 32 := 0#32
  let c32_i32_815 : BitVec 32 := 32#32
  let v2087 : BitVec 32 := Scalar.muli c0_i32_19 c32_i32_815
  let c26_i32_816 : BitVec 32 := 26#32
  let v2088 : BitVec 32 := Scalar.addi v2087 c26_i32_816
  let c128_i32_817 : BitVec 32 := 128#32
  let v2089 : BitVec 32 := Scalar.muli v2088 c128_i32_817
  v2089
def k0_mult146 : BitVec 32 :=
  let c0_i32_19 : BitVec 32 := 0#32
  let c32_i32_815 : BitVec 32 := 32#32
  let v2087 : BitVec 32 := Scalar.muli c0_i32_19 c32_i32_815
  let c26_i32_816 : BitVec 32 := 26#32
  let v2088 : BitVec 32 := Scalar.addi v2087 c26_i32_816
  let c128_i32_825 : BitVec 32 := 128#32
  let v2120 : BitVec 32 := Scalar.muli v2088 c128_i32_825
  v2120
def k0_mult147 : BitVec 32 :=
  let c0_i32_19 : BitVec 32 := 0#32
  let c32_i32_815 : BitVec 32 := 32#32
  let v2087 : BitVec 32 := Scalar.muli c0_i32_19 c32_i32_815
  let c26_i32_816 : BitVec 32 := 26#32
  let v2088 : BitVec 32 := Scalar.addi v2087 c26_i32_816
  let c128_i32_830 : BitVec 32 := 128#32
  let v2135 : BitVec 32 := Scalar.muli v2088 c128_i32_830
  v2135
def k0_mult148 : BitVec 32 :=
  let c0_i32_19 : BitVec 32 := 0#32
  let c32_i32_832 : BitVec 32 := 32#32
  let v2139 : BitVec 32 := Scalar.muli c0_i32_19 c32_i32_832
  let c27_i32_833 : BitVec 32 := 27#32
  let v2140 : BitVec 32 := Scalar.addi v2139 c27_i32_833
  let c128_i32_834 : BitVec 32 := 128#32
  let v2141 : BitVec 32 := Scalar.muli v2140 c128_i32_834
  v2141
def k0_mult149 : BitVec 32 :=
  let c0_i32_19 : BitVec 32 := 0#32
  let c32_i32_832 : BitVec 32 := 32#32
  let v2139 : BitVec 32 := Scalar.muli c0_i32_19 c32_i32_832
  let c27_i32_833 : BitVec 32 := 27#32
  let v2140 : BitVec 32 := Scalar.addi v2139 c27_i32_833
  let c128_i32_842 : BitVec 32 := 128#32
  let v2172 : BitVec 32 := Scalar.muli v2140 c128_i32_842
  v2172
def k0_mult150 : BitVec 32 :=
  let c0_i32_19 : BitVec 32 := 0#32
  let c32_i32_832 : BitVec 32 := 32#32
  let v2139 : BitVec 32 := Scalar.muli c0_i32_19 c32_i32_832
  let c27_i32_833 : BitVec 32 := 27#32
  let v2140 : BitVec 32 := Scalar.addi v2139 c27_i32_833
  let c128_i32_847 : BitVec 32 := 128#32
  let v2187 : BitVec 32 := Scalar.muli v2140 c128_i32_847
  v2187
def k0_mult151 : BitVec 32 :=
  let c0_i32_19 : BitVec 32 := 0#32
  let c32_i32_849 : BitVec 32 := 32#32
  let v2191 : BitVec 32 := Scalar.muli c0_i32_19 c32_i32_849
  let c28_i32_850 : BitVec 32 := 28#32
  let v2192 : BitVec 32 := Scalar.addi v2191 c28_i32_850
  let c128_i32_851 : BitVec 32 := 128#32
  let v2193 : BitVec 32 := Scalar.muli v2192 c128_i32_851
  v2193
def k0_mult152 : BitVec 32 :=
  let c0_i32_19 : BitVec 32 := 0#32
  let c32_i32_849 : BitVec 32 := 32#32
  let v2191 : BitVec 32 := Scalar.muli c0_i32_19 c32_i32_849
  let c28_i32_850 : BitVec 32 := 28#32
  let v2192 : BitVec 32 := Scalar.addi v2191 c28_i32_850
  let c128_i32_859 : BitVec 32 := 128#32
  let v2224 : BitVec 32 := Scalar.muli v2192 c128_i32_859
  v2224
def k0_mult153 : BitVec 32 :=
  let c0_i32_19 : BitVec 32 := 0#32
  let c32_i32_849 : BitVec 32 := 32#32
  let v2191 : BitVec 32 := Scalar.muli c0_i32_19 c32_i32_849
  let c28_i32_850 : BitVec 32 := 28#32
  let v2192 : BitVec 32 := Scalar.addi v2191 c28_i32_850
  let c128_i32_864 : BitVec 32 := 128#32
  let v2239 : BitVec 32 := Scalar.muli v2192 c128_i32_864
  v2239
def k0_mult154 : BitVec 32 :=
  let c0_i32_19 : BitVec 32 := 0#32
  let c32_i32_866 : BitVec 32 := 32#32
  let v2243 : BitVec 32 := Scalar.muli c0_i32_19 c32_i32_866
  let c29_i32_867 : BitVec 32 := 29#32
  let v2244 : BitVec 32 := Scalar.addi v2243 c29_i32_867
  let c128_i32_868 : BitVec 32 := 128#32
  let v2245 : BitVec 32 := Scalar.muli v2244 c128_i32_868
  v2245
def k0_mult155 : BitVec 32 :=
  let c0_i32_19 : BitVec 32 := 0#32
  let c32_i32_866 : BitVec 32 := 32#32
  let v2243 : BitVec 32 := Scalar.muli c0_i32_19 c32_i32_866
  let c29_i32_867 : BitVec 32 := 29#32
  let v2244 : BitVec 32 := Scalar.addi v2243 c29_i32_867
  let c128_i32_876 : BitVec 32 := 128#32
  let v2276 : BitVec 32 := Scalar.muli v2244 c128_i32_876
  v2276
def k0_mult156 : BitVec 32 :=
  let c0_i32_19 : BitVec 32 := 0#32
  let c32_i32_866 : BitVec 32 := 32#32
  let v2243 : BitVec 32 := Scalar.muli c0_i32_19 c32_i32_866
  let c29_i32_867 : BitVec 32 := 29#32
  let v2244 : BitVec 32 := Scalar.addi v2243 c29_i32_867
  let c128_i32_881 : BitVec 32 := 128#32
  let v2291 : BitVec 32 := Scalar.muli v2244 c128_i32_881
  v2291
def k0_mult157 : BitVec 32 :=
  let c0_i32_19 : BitVec 32 := 0#32
  let c32_i32_883 : BitVec 32 := 32#32
  let v2295 : BitVec 32 := Scalar.muli c0_i32_19 c32_i32_883
  let c30_i32_884 : BitVec 32 := 30#32
  let v2296 : BitVec 32 := Scalar.addi v2295 c30_i32_884
  let c128_i32_885 : BitVec 32 := 128#32
  let v2297 : BitVec 32 := Scalar.muli v2296 c128_i32_885
  v2297
def k0_mult158 : BitVec 32 :=
  let c0_i32_19 : BitVec 32 := 0#32
  let c32_i32_883 : BitVec 32 := 32#32
  let v2295 : BitVec 32 := Scalar.muli c0_i32_19 c32_i32_883
  let c30_i32_884 : BitVec 32 := 30#32
  let v2296 : BitVec 32 := Scalar.addi v2295 c30_i32_884
  let c128_i32_893 : BitVec 32 := 128#32
  let v2328 : BitVec 32 := Scalar.muli v2296 c128_i32_893
  v2328
def k0_mult159 : BitVec 32 :=
  let c0_i32_19 : BitVec 32 := 0#32
  let c32_i32_883 : BitVec 32 := 32#32
  let v2295 : BitVec 32 := Scalar.muli c0_i32_19 c32_i32_883
  let c30_i32_884 : BitVec 32 := 30#32
  let v2296 : BitVec 32 := Scalar.addi v2295 c30_i32_884
  let c128_i32_898 : BitVec 32 := 128#32
  let v2343 : BitVec 32 := Scalar.muli v2296 c128_i32_898
  v2343
def k0_mult160 : BitVec 32 :=
  let c0_i32_19 : BitVec 32 := 0#32
  let c32_i32_900 : BitVec 32 := 32#32
  let v2347 : BitVec 32 := Scalar.muli c0_i32_19 c32_i32_900
  let c31_i32_901 : BitVec 32 := 31#32
  let v2348 : BitVec 32 := Scalar.addi v2347 c31_i32_901
  let c128_i32_902 : BitVec 32 := 128#32
  let v2349 : BitVec 32 := Scalar.muli v2348 c128_i32_902
  v2349
def k0_mult161 : BitVec 32 :=
  let c0_i32_19 : BitVec 32 := 0#32
  let c32_i32_900 : BitVec 32 := 32#32
  let v2347 : BitVec 32 := Scalar.muli c0_i32_19 c32_i32_900
  let c31_i32_901 : BitVec 32 := 31#32
  let v2348 : BitVec 32 := Scalar.addi v2347 c31_i32_901
  let c128_i32_910 : BitVec 32 := 128#32
  let v2380 : BitVec 32 := Scalar.muli v2348 c128_i32_910
  v2380
def k0_mult162 : BitVec 32 :=
  let c0_i32_19 : BitVec 32 := 0#32
  let c32_i32_900 : BitVec 32 := 32#32
  let v2347 : BitVec 32 := Scalar.muli c0_i32_19 c32_i32_900
  let c31_i32_901 : BitVec 32 := 31#32
  let v2348 : BitVec 32 := Scalar.addi v2347 c31_i32_901
  let c128_i32_915 : BitVec 32 := 128#32
  let v2395 : BitVec 32 := Scalar.muli v2348 c128_i32_915
  v2395
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi arg1 c32_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi arg1 c48_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S2x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8192x8192 : Shape := ⟨2, ![8192, 8192]⟩
abbrev S2x16 : Shape := ⟨2, ![2, 16]⟩
abbrev S2048 : Shape := ⟨1, ![2048]⟩
abbrev S2x4096x8192 : Shape := ⟨3, ![2, 4096, 8192]⟩
abbrev S2x4096x2048 : Shape := ⟨3, ![2, 4096, 2048]⟩
abbrev S2x4096x16x128 : Shape := ⟨4, ![2, 4096, 16, 128]⟩
abbrev S_ : Shape := ⟨0, ![]⟩
abbrev S1x16 : Shape := ⟨2, ![1, 16]⟩
abbrev S16 : Shape := ⟨1, ![16]⟩
abbrev S2x32x128x16x128 : Shape := ⟨5, ![2, 32, 128, 16, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S16x1x1 : Shape := ⟨3, ![16, 1, 1]⟩
abbrev S16x128x128 : Shape := ⟨3, ![16, 128, 128]⟩
abbrev S2x32x16x128x128 : Shape := ⟨5, ![2, 32, 16, 128, 128]⟩
abbrev S1x1x16x128x128 : Shape := ⟨5, ![1, 1, 16, 128, 128]⟩
abbrev S128x16 : Shape := ⟨2, ![128, 16]⟩
abbrev S1x1x128x16x1 : Shape := ⟨5, ![1, 1, 128, 16, 1]⟩
abbrev S32x2x16x128x128 : Shape := ⟨5, ![32, 2, 16, 128, 128]⟩
abbrev S1x16x1x1 : Shape := ⟨4, ![1, 16, 1, 1]⟩
abbrev S1x2x16x128x128 : Shape := ⟨5, ![1, 2, 16, 128, 128]⟩
abbrev S2x16x128x128 : Shape := ⟨4, ![2, 16, 128, 128]⟩
abbrev S0x2x16x128x128 : Shape := ⟨5, ![0, 2, 16, 128, 128]⟩
abbrev S16x2x16x128x128 : Shape := ⟨5, ![16, 2, 16, 128, 128]⟩
abbrev S2x4096x16 : Shape := ⟨3, ![2, 4096, 16]⟩
abbrev S2x4096x16x1 : Shape := ⟨4, ![2, 4096, 16, 1]⟩
abbrev S1x1x2048 : Shape := ⟨3, ![1, 1, 2048]⟩
abbrev S8192x2048 : Shape := ⟨2, ![8192, 2048]⟩

abbrev nBuf : Space → Nat
  | .hbm => 605
  | .vmem => 0
  | .smem => 0
  | _ => 0

abbrev hbmTy0_0 (i : Nat) : BufTy := match i % 128 with
  | 0 => ⟨S8192x8192, .bf16⟩
  | 1 => ⟨S2x16, .f32⟩
  | 2 => ⟨S2048, .f32⟩
  | 3 => ⟨S8192x8192, .f32⟩
  | 4 => ⟨S2x4096x8192, .f32⟩
  | 5 => ⟨S2x4096x2048, .f32⟩
  | 6 => ⟨S2x4096x2048, .f32⟩
  | 7 => ⟨S2x4096x2048, .f32⟩
  | 8 => ⟨S2x4096x2048, .f32⟩
  | 9 => ⟨S2x4096x16x128, .f32⟩
  | 10 => ⟨S2x4096x16x128, .f32⟩
  | 11 => ⟨S2x4096x16x128, .f32⟩
  | 12 => ⟨S_, .f32⟩
  | 13 => ⟨S2x4096x16x128, .f32⟩
  | 14 => ⟨S2x4096x16x128, .f32⟩
  | 15 => ⟨S1x16, .f32⟩
  | 16 => ⟨S16, .f32⟩
  | 17 => ⟨S2x32x128x16x128, .f32⟩
  | 18 => ⟨S2x32x128x16x128, .f32⟩
  | 19 => ⟨S2x32x128x16x128, .f32⟩
  | 20 => ⟨S128, .f32⟩
  | 21 => ⟨S128x1, .f32⟩
  | 22 => ⟨S1x128, .f32⟩
  | 23 => ⟨S128x128, .f32⟩
  | 24 => ⟨S128x128, .f32⟩
  | 25 => ⟨S128x128, .f32⟩
  | 26 => ⟨S_, .f32⟩
  | 27 => ⟨S128x128, .f32⟩
  | 28 => ⟨S128x128, .i1⟩
  | 29 => ⟨S1x128x128, .i1⟩
  | 30 => ⟨S16x1x1, .f32⟩
  | 31 => ⟨S_, .f32⟩
  | 32 => ⟨S128x128, .f32⟩
  | 33 => ⟨S128x128, .f32⟩
  | 34 => ⟨S1x128x128, .f32⟩
  | 35 => ⟨S16x128x128, .f32⟩
  | 36 => ⟨S16x128x128, .f32⟩
  | 37 => ⟨S16x128x128, .f32⟩
  | 38 => ⟨S16x128x128, .f32⟩
  | 39 => ⟨S_, .f32⟩
  | 40 => ⟨S_, .f32⟩
  | 41 => ⟨S16x128x128, .i1⟩
  | 42 => ⟨S16x128x128, .f32⟩
  | 43 => ⟨S16x128x128, .f32⟩
  | 44 => ⟨S2x32x16x128x128, .f32⟩
  | 45 => ⟨S1x1x16x128x128, .f32⟩
  | 46 => ⟨S2x32x16x128x128, .f32⟩
  | 47 => ⟨S2x32x16x128x128, .f32⟩
  | 48 => ⟨S2x32x16x128x128, .f32⟩
  | 49 => ⟨S2x32x128x16x128, .f32⟩
  | 50 => ⟨S1x16, .f32⟩
  | 51 => ⟨S_, .f32⟩
  | 52 => ⟨S128, .f32⟩
  | 53 => ⟨S128, .f32⟩
  | 54 => ⟨S128x1, .f32⟩
  | 55 => ⟨S128x16, .f32⟩
  | 56 => ⟨S128x16, .f32⟩
  | 57 => ⟨S128x16, .f32⟩
  | 58 => ⟨S128x16, .f32⟩
  | 59 => ⟨S1x1x128x16x1, .f32⟩
  | 60 => ⟨S2x32x128x16x128, .f32⟩
  | 61 => ⟨S2x32x128x16x128, .f32⟩
  | 62 => ⟨S32x2x16x128x128, .f32⟩
  | 63 => ⟨S_, .f32⟩
  | 64 => ⟨S16, .f32⟩
  | 65 => ⟨S16, .f32⟩
  | 66 => ⟨S16, .f32⟩
  | 67 => ⟨S1x16x1x1, .f32⟩
  | 68 => ⟨S1x2x16x128x128, .f32⟩
  | 69 => ⟨S2x16x128x128, .f32⟩
  | 70 => ⟨S_, .f32⟩
  | 71 => ⟨S2x16x128x128, .f32⟩
  | 72 => ⟨S0x2x16x128x128, .f32⟩
  | 73 => ⟨S32x2x16x128x128, .f32⟩
  | 74 => ⟨S_, .f32⟩
  | 75 => ⟨S0x2x16x128x128, .f32⟩
  | 76 => ⟨S1x2x16x128x128, .f32⟩
  | 77 => ⟨S2x16x128x128, .f32⟩
  | 78 => ⟨S2x16x128x128, .f32⟩
  | 79 => ⟨S2x16x128x128, .f32⟩
  | 80 => ⟨S2x16x128x128, .f32⟩
  | 81 => ⟨S1x2x16x128x128, .f32⟩
  | 82 => ⟨S2x16x128x128, .f32⟩
  | 83 => ⟨S2x16x128x128, .f32⟩
  | 84 => ⟨S2x16x128x128, .f32⟩
  | 85 => ⟨S2x16x128x128, .f32⟩
  | 86 => ⟨S1x2x16x128x128, .f32⟩
  | 87 => ⟨S2x16x128x128, .f32⟩
  | 88 => ⟨S2x16x128x128, .f32⟩
  | 89 => ⟨S2x16x128x128, .f32⟩
  | 90 => ⟨S2x16x128x128, .f32⟩
  | 91 => ⟨S1x2x16x128x128, .f32⟩
  | 92 => ⟨S2x16x128x128, .f32⟩
  | 93 => ⟨S2x16x128x128, .f32⟩
  | 94 => ⟨S2x16x128x128, .f32⟩
  | 95 => ⟨S2x16x128x128, .f32⟩
  | 96 => ⟨S1x2x16x128x128, .f32⟩
  | 97 => ⟨S2x16x128x128, .f32⟩
  | 98 => ⟨S2x16x128x128, .f32⟩
  | 99 => ⟨S2x16x128x128, .f32⟩
  | 100 => ⟨S2x16x128x128, .f32⟩
  | 101 => ⟨S1x2x16x128x128, .f32⟩
  | 102 => ⟨S2x16x128x128, .f32⟩
  | 103 => ⟨S2x16x128x128, .f32⟩
  | 104 => ⟨S2x16x128x128, .f32⟩
  | 105 => ⟨S2x16x128x128, .f32⟩
  | 106 => ⟨S1x2x16x128x128, .f32⟩
  | 107 => ⟨S2x16x128x128, .f32⟩
  | 108 => ⟨S2x16x128x128, .f32⟩
  | 109 => ⟨S2x16x128x128, .f32⟩
  | 110 => ⟨S2x16x128x128, .f32⟩
  | 111 => ⟨S1x2x16x128x128, .f32⟩
  | 112 => ⟨S2x16x128x128, .f32⟩
  | 113 => ⟨S2x16x128x128, .f32⟩
  | 114 => ⟨S2x16x128x128, .f32⟩
  | 115 => ⟨S2x16x128x128, .f32⟩
  | 116 => ⟨S1x2x16x128x128, .f32⟩
  | 117 => ⟨S2x16x128x128, .f32⟩
  | 118 => ⟨S2x16x128x128, .f32⟩
  | 119 => ⟨S2x16x128x128, .f32⟩
  | 120 => ⟨S2x16x128x128, .f32⟩
  | 121 => ⟨S1x2x16x128x128, .f32⟩
  | 122 => ⟨S2x16x128x128, .f32⟩
  | 123 => ⟨S2x16x128x128, .f32⟩
  | 124 => ⟨S2x16x128x128, .f32⟩
  | 125 => ⟨S2x16x128x128, .f32⟩
  | 126 => ⟨S1x2x16x128x128, .f32⟩
  | 127 => ⟨S2x16x128x128, .f32⟩
  | _ => ⟨S8192x8192, .bf16⟩

abbrev hbmTy0_1 (i : Nat) : BufTy := match i % 128 with
  | 0 => ⟨S2x16x128x128, .f32⟩
  | 1 => ⟨S2x16x128x128, .f32⟩
  | 2 => ⟨S2x16x128x128, .f32⟩
  | 3 => ⟨S1x2x16x128x128, .f32⟩
  | 4 => ⟨S2x16x128x128, .f32⟩
  | 5 => ⟨S2x16x128x128, .f32⟩
  | 6 => ⟨S2x16x128x128, .f32⟩
  | 7 => ⟨S2x16x128x128, .f32⟩
  | 8 => ⟨S1x2x16x128x128, .f32⟩
  | 9 => ⟨S2x16x128x128, .f32⟩
  | 10 => ⟨S2x16x128x128, .f32⟩
  | 11 => ⟨S2x16x128x128, .f32⟩
  | 12 => ⟨S2x16x128x128, .f32⟩
  | 13 => ⟨S1x2x16x128x128, .f32⟩
  | 14 => ⟨S2x16x128x128, .f32⟩
  | 15 => ⟨S2x16x128x128, .f32⟩
  | 16 => ⟨S2x16x128x128, .f32⟩
  | 17 => ⟨S2x16x128x128, .f32⟩
  | 18 => ⟨S1x2x16x128x128, .f32⟩
  | 19 => ⟨S2x16x128x128, .f32⟩
  | 20 => ⟨S2x16x128x128, .f32⟩
  | 21 => ⟨S2x16x128x128, .f32⟩
  | 22 => ⟨S2x16x128x128, .f32⟩
  | 23 => ⟨S1x2x16x128x128, .f32⟩
  | 24 => ⟨S2x16x128x128, .f32⟩
  | 25 => ⟨S2x16x128x128, .f32⟩
  | 26 => ⟨S2x16x128x128, .f32⟩
  | 27 => ⟨S2x16x128x128, .f32⟩
  | 28 => ⟨S1x2x16x128x128, .f32⟩
  | 29 => ⟨S2x16x128x128, .f32⟩
  | 30 => ⟨S2x16x128x128, .f32⟩
  | 31 => ⟨S2x16x128x128, .f32⟩
  | 32 => ⟨S2x16x128x128, .f32⟩
  | 33 => ⟨S1x2x16x128x128, .f32⟩
  | 34 => ⟨S2x16x128x128, .f32⟩
  | 35 => ⟨S2x16x128x128, .f32⟩
  | 36 => ⟨S2x16x128x128, .f32⟩
  | 37 => ⟨S2x16x128x128, .f32⟩
  | 38 => ⟨S1x2x16x128x128, .f32⟩
  | 39 => ⟨S2x16x128x128, .f32⟩
  | 40 => ⟨S2x16x128x128, .f32⟩
  | 41 => ⟨S2x16x128x128, .f32⟩
  | 42 => ⟨S2x16x128x128, .f32⟩
  | 43 => ⟨S1x2x16x128x128, .f32⟩
  | 44 => ⟨S2x16x128x128, .f32⟩
  | 45 => ⟨S2x16x128x128, .f32⟩
  | 46 => ⟨S2x16x128x128, .f32⟩
  | 47 => ⟨S2x16x128x128, .f32⟩
  | 48 => ⟨S1x2x16x128x128, .f32⟩
  | 49 => ⟨S2x16x128x128, .f32⟩
  | 50 => ⟨S2x16x128x128, .f32⟩
  | 51 => ⟨S2x16x128x128, .f32⟩
  | 52 => ⟨S2x16x128x128, .f32⟩
  | 53 => ⟨S1x2x16x128x128, .f32⟩
  | 54 => ⟨S2x16x128x128, .f32⟩
  | 55 => ⟨S2x16x128x128, .f32⟩
  | 56 => ⟨S2x16x128x128, .f32⟩
  | 57 => ⟨S2x16x128x128, .f32⟩
  | 58 => ⟨S1x2x16x128x128, .f32⟩
  | 59 => ⟨S2x16x128x128, .f32⟩
  | 60 => ⟨S2x16x128x128, .f32⟩
  | 61 => ⟨S2x16x128x128, .f32⟩
  | 62 => ⟨S2x16x128x128, .f32⟩
  | 63 => ⟨S1x2x16x128x128, .f32⟩
  | 64 => ⟨S2x16x128x128, .f32⟩
  | 65 => ⟨S2x16x128x128, .f32⟩
  | 66 => ⟨S2x16x128x128, .f32⟩
  | 67 => ⟨S2x16x128x128, .f32⟩
  | 68 => ⟨S1x2x16x128x128, .f32⟩
  | 69 => ⟨S2x16x128x128, .f32⟩
  | 70 => ⟨S2x16x128x128, .f32⟩
  | 71 => ⟨S2x16x128x128, .f32⟩
  | 72 => ⟨S2x16x128x128, .f32⟩
  | 73 => ⟨S1x2x16x128x128, .f32⟩
  | 74 => ⟨S2x16x128x128, .f32⟩
  | 75 => ⟨S2x16x128x128, .f32⟩
  | 76 => ⟨S2x16x128x128, .f32⟩
  | 77 => ⟨S2x16x128x128, .f32⟩
  | 78 => ⟨S1x2x16x128x128, .f32⟩
  | 79 => ⟨S2x16x128x128, .f32⟩
  | 80 => ⟨S2x16x128x128, .f32⟩
  | 81 => ⟨S2x16x128x128, .f32⟩
  | 82 => ⟨S2x16x128x128, .f32⟩
  | 83 => ⟨S1x2x16x128x128, .f32⟩
  | 84 => ⟨S2x16x128x128, .f32⟩
  | 85 => ⟨S2x16x128x128, .f32⟩
  | 86 => ⟨S2x16x128x128, .f32⟩
  | 87 => ⟨S2x16x128x128, .f32⟩
  | 88 => ⟨S1x2x16x128x128, .f32⟩
  | 89 => ⟨S2x16x128x128, .f32⟩
  | 90 => ⟨S2x16x128x128, .f32⟩
  | 91 => ⟨S2x16x128x128, .f32⟩
  | 92 => ⟨S2x16x128x128, .f32⟩
  | 93 => ⟨S1x2x16x128x128, .f32⟩
  | 94 => ⟨S2x16x128x128, .f32⟩
  | 95 => ⟨S2x16x128x128, .f32⟩
  | 96 => ⟨S2x16x128x128, .f32⟩
  | 97 => ⟨S2x16x128x128, .f32⟩
  | 98 => ⟨S1x2x16x128x128, .f32⟩
  | 99 => ⟨S2x16x128x128, .f32⟩
  | 100 => ⟨S2x16x128x128, .f32⟩
  | 101 => ⟨S2x16x128x128, .f32⟩
  | 102 => ⟨S2x16x128x128, .f32⟩
  | 103 => ⟨S1x2x16x128x128, .f32⟩
  | 104 => ⟨S2x16x128x128, .f32⟩
  | 105 => ⟨S2x16x128x128, .f32⟩
  | 106 => ⟨S2x16x128x128, .f32⟩
  | 107 => ⟨S2x16x128x128, .f32⟩
  | 108 => ⟨S1x2x16x128x128, .f32⟩
  | 109 => ⟨S1x2x16x128x128, .f32⟩
  | 110 => ⟨S1x2x16x128x128, .f32⟩
  | 111 => ⟨S1x2x16x128x128, .f32⟩
  | 112 => ⟨S1x2x16x128x128, .f32⟩
  | 113 => ⟨S1x2x16x128x128, .f32⟩
  | 114 => ⟨S1x2x16x128x128, .f32⟩
  | 115 => ⟨S1x2x16x128x128, .f32⟩
  | 116 => ⟨S1x2x16x128x128, .f32⟩
  | 117 => ⟨S1x2x16x128x128, .f32⟩
  | 118 => ⟨S1x2x16x128x128, .f32⟩
  | 119 => ⟨S1x2x16x128x128, .f32⟩
  | 120 => ⟨S1x2x16x128x128, .f32⟩
  | 121 => ⟨S1x2x16x128x128, .f32⟩
  | 122 => ⟨S1x2x16x128x128, .f32⟩
  | 123 => ⟨S1x2x16x128x128, .f32⟩
  | 124 => ⟨S1x2x16x128x128, .f32⟩
  | 125 => ⟨S1x2x16x128x128, .f32⟩
  | 126 => ⟨S1x2x16x128x128, .f32⟩
  | 127 => ⟨S1x2x16x128x128, .f32⟩
  | _ => ⟨S8192x8192, .bf16⟩

abbrev hbmTy0_2 (i : Nat) : BufTy := match i % 128 with
  | 0 => ⟨S1x2x16x128x128, .f32⟩
  | 1 => ⟨S1x2x16x128x128, .f32⟩
  | 2 => ⟨S1x2x16x128x128, .f32⟩
  | 3 => ⟨S1x2x16x128x128, .f32⟩
  | 4 => ⟨S1x2x16x128x128, .f32⟩
  | 5 => ⟨S1x2x16x128x128, .f32⟩
  | 6 => ⟨S1x2x16x128x128, .f32⟩
  | 7 => ⟨S1x2x16x128x128, .f32⟩
  | 8 => ⟨S1x2x16x128x128, .f32⟩
  | 9 => ⟨S1x2x16x128x128, .f32⟩
  | 10 => ⟨S1x2x16x128x128, .f32⟩
  | 11 => ⟨S1x2x16x128x128, .f32⟩
  | 12 => ⟨S16x2x16x128x128, .f32⟩
  | 13 => ⟨S16x2x16x128x128, .f32⟩
  | 14 => ⟨S32x2x16x128x128, .f32⟩
  | 15 => ⟨S32x2x16x128x128, .f32⟩
  | 16 => ⟨S1x16, .f32⟩
  | 17 => ⟨S_, .f32⟩
  | 18 => ⟨S128, .f32⟩
  | 19 => ⟨S128, .f32⟩
  | 20 => ⟨S128x1, .f32⟩
  | 21 => ⟨S128x16, .f32⟩
  | 22 => ⟨S128x16, .f32⟩
  | 23 => ⟨S128x16, .f32⟩
  | 24 => ⟨S128x16, .f32⟩
  | 25 => ⟨S2x32x16x128x128, .f32⟩
  | 26 => ⟨S2x32x128x16x128, .f32⟩
  | 27 => ⟨S1x1x128x16x1, .f32⟩
  | 28 => ⟨S2x32x128x16x128, .f32⟩
  | 29 => ⟨S2x32x128x16x128, .f32⟩
  | 30 => ⟨S2x32x128x16x128, .f32⟩
  | 31 => ⟨S2x4096x16x128, .f32⟩
  | 32 => ⟨S2x4096x16x128, .f32⟩
  | 33 => ⟨S2x4096x16x128, .f32⟩
  | 34 => ⟨S2x4096x16x128, .f32⟩
  | 35 => ⟨S1x16, .f32⟩
  | 36 => ⟨S16, .f32⟩
  | 37 => ⟨S2x32x128x16x128, .f32⟩
  | 38 => ⟨S2x32x128x16x128, .f32⟩
  | 39 => ⟨S2x32x128x16x128, .f32⟩
  | 40 => ⟨S128, .f32⟩
  | 41 => ⟨S128x1, .f32⟩
  | 42 => ⟨S1x128, .f32⟩
  | 43 => ⟨S128x128, .f32⟩
  | 44 => ⟨S128x128, .f32⟩
  | 45 => ⟨S128x128, .f32⟩
  | 46 => ⟨S_, .f32⟩
  | 47 => ⟨S128x128, .f32⟩
  | 48 => ⟨S128x128, .i1⟩
  | 49 => ⟨S1x128x128, .i1⟩
  | 50 => ⟨S16x1x1, .f32⟩
  | 51 => ⟨S_, .f32⟩
  | 52 => ⟨S128x128, .f32⟩
  | 53 => ⟨S128x128, .f32⟩
  | 54 => ⟨S1x128x128, .f32⟩
  | 55 => ⟨S16x128x128, .f32⟩
  | 56 => ⟨S16x128x128, .f32⟩
  | 57 => ⟨S16x128x128, .f32⟩
  | 58 => ⟨S16x128x128, .f32⟩
  | 59 => ⟨S_, .f32⟩
  | 60 => ⟨S_, .f32⟩
  | 61 => ⟨S16x128x128, .i1⟩
  | 62 => ⟨S16x128x128, .f32⟩
  | 63 => ⟨S16x128x128, .f32⟩
  | 64 => ⟨S2x32x16x128x128, .f32⟩
  | 65 => ⟨S1x1x16x128x128, .f32⟩
  | 66 => ⟨S2x32x16x128x128, .f32⟩
  | 67 => ⟨S2x32x16x128x128, .f32⟩
  | 68 => ⟨S2x32x16x128x128, .f32⟩
  | 69 => ⟨S2x32x128x16x128, .f32⟩
  | 70 => ⟨S1x16, .f32⟩
  | 71 => ⟨S_, .f32⟩
  | 72 => ⟨S128, .f32⟩
  | 73 => ⟨S128, .f32⟩
  | 74 => ⟨S128x1, .f32⟩
  | 75 => ⟨S128x16, .f32⟩
  | 76 => ⟨S128x16, .f32⟩
  | 77 => ⟨S128x16, .f32⟩
  | 78 => ⟨S128x16, .f32⟩
  | 79 => ⟨S1x1x128x16x1, .f32⟩
  | 80 => ⟨S2x32x128x16x128, .f32⟩
  | 81 => ⟨S2x32x128x16x128, .f32⟩
  | 82 => ⟨S32x2x16x128x128, .f32⟩
  | 83 => ⟨S_, .f32⟩
  | 84 => ⟨S16, .f32⟩
  | 85 => ⟨S16, .f32⟩
  | 86 => ⟨S16, .f32⟩
  | 87 => ⟨S1x16x1x1, .f32⟩
  | 88 => ⟨S1x2x16x128x128, .f32⟩
  | 89 => ⟨S2x16x128x128, .f32⟩
  | 90 => ⟨S_, .f32⟩
  | 91 => ⟨S2x16x128x128, .f32⟩
  | 92 => ⟨S0x2x16x128x128, .f32⟩
  | 93 => ⟨S32x2x16x128x128, .f32⟩
  | 94 => ⟨S_, .f32⟩
  | 95 => ⟨S0x2x16x128x128, .f32⟩
  | 96 => ⟨S1x2x16x128x128, .f32⟩
  | 97 => ⟨S2x16x128x128, .f32⟩
  | 98 => ⟨S2x16x128x128, .f32⟩
  | 99 => ⟨S2x16x128x128, .f32⟩
  | 100 => ⟨S2x16x128x128, .f32⟩
  | 101 => ⟨S1x2x16x128x128, .f32⟩
  | 102 => ⟨S2x16x128x128, .f32⟩
  | 103 => ⟨S2x16x128x128, .f32⟩
  | 104 => ⟨S2x16x128x128, .f32⟩
  | 105 => ⟨S2x16x128x128, .f32⟩
  | 106 => ⟨S1x2x16x128x128, .f32⟩
  | 107 => ⟨S2x16x128x128, .f32⟩
  | 108 => ⟨S2x16x128x128, .f32⟩
  | 109 => ⟨S2x16x128x128, .f32⟩
  | 110 => ⟨S2x16x128x128, .f32⟩
  | 111 => ⟨S1x2x16x128x128, .f32⟩
  | 112 => ⟨S2x16x128x128, .f32⟩
  | 113 => ⟨S2x16x128x128, .f32⟩
  | 114 => ⟨S2x16x128x128, .f32⟩
  | 115 => ⟨S2x16x128x128, .f32⟩
  | 116 => ⟨S1x2x16x128x128, .f32⟩
  | 117 => ⟨S2x16x128x128, .f32⟩
  | 118 => ⟨S2x16x128x128, .f32⟩
  | 119 => ⟨S2x16x128x128, .f32⟩
  | 120 => ⟨S2x16x128x128, .f32⟩
  | 121 => ⟨S1x2x16x128x128, .f32⟩
  | 122 => ⟨S2x16x128x128, .f32⟩
  | 123 => ⟨S2x16x128x128, .f32⟩
  | 124 => ⟨S2x16x128x128, .f32⟩
  | 125 => ⟨S2x16x128x128, .f32⟩
  | 126 => ⟨S1x2x16x128x128, .f32⟩
  | 127 => ⟨S2x16x128x128, .f32⟩
  | _ => ⟨S8192x8192, .bf16⟩

abbrev hbmTy0_3 (i : Nat) : BufTy := match i % 128 with
  | 0 => ⟨S2x16x128x128, .f32⟩
  | 1 => ⟨S2x16x128x128, .f32⟩
  | 2 => ⟨S2x16x128x128, .f32⟩
  | 3 => ⟨S1x2x16x128x128, .f32⟩
  | 4 => ⟨S2x16x128x128, .f32⟩
  | 5 => ⟨S2x16x128x128, .f32⟩
  | 6 => ⟨S2x16x128x128, .f32⟩
  | 7 => ⟨S2x16x128x128, .f32⟩
  | 8 => ⟨S1x2x16x128x128, .f32⟩
  | 9 => ⟨S2x16x128x128, .f32⟩
  | 10 => ⟨S2x16x128x128, .f32⟩
  | 11 => ⟨S2x16x128x128, .f32⟩
  | 12 => ⟨S2x16x128x128, .f32⟩
  | 13 => ⟨S1x2x16x128x128, .f32⟩
  | 14 => ⟨S2x16x128x128, .f32⟩
  | 15 => ⟨S2x16x128x128, .f32⟩
  | 16 => ⟨S2x16x128x128, .f32⟩
  | 17 => ⟨S2x16x128x128, .f32⟩
  | 18 => ⟨S1x2x16x128x128, .f32⟩
  | 19 => ⟨S2x16x128x128, .f32⟩
  | 20 => ⟨S2x16x128x128, .f32⟩
  | 21 => ⟨S2x16x128x128, .f32⟩
  | 22 => ⟨S2x16x128x128, .f32⟩
  | 23 => ⟨S1x2x16x128x128, .f32⟩
  | 24 => ⟨S2x16x128x128, .f32⟩
  | 25 => ⟨S2x16x128x128, .f32⟩
  | 26 => ⟨S2x16x128x128, .f32⟩
  | 27 => ⟨S2x16x128x128, .f32⟩
  | 28 => ⟨S1x2x16x128x128, .f32⟩
  | 29 => ⟨S2x16x128x128, .f32⟩
  | 30 => ⟨S2x16x128x128, .f32⟩
  | 31 => ⟨S2x16x128x128, .f32⟩
  | 32 => ⟨S2x16x128x128, .f32⟩
  | 33 => ⟨S1x2x16x128x128, .f32⟩
  | 34 => ⟨S2x16x128x128, .f32⟩
  | 35 => ⟨S2x16x128x128, .f32⟩
  | 36 => ⟨S2x16x128x128, .f32⟩
  | 37 => ⟨S2x16x128x128, .f32⟩
  | 38 => ⟨S1x2x16x128x128, .f32⟩
  | 39 => ⟨S2x16x128x128, .f32⟩
  | 40 => ⟨S2x16x128x128, .f32⟩
  | 41 => ⟨S2x16x128x128, .f32⟩
  | 42 => ⟨S2x16x128x128, .f32⟩
  | 43 => ⟨S1x2x16x128x128, .f32⟩
  | 44 => ⟨S2x16x128x128, .f32⟩
  | 45 => ⟨S2x16x128x128, .f32⟩
  | 46 => ⟨S2x16x128x128, .f32⟩
  | 47 => ⟨S2x16x128x128, .f32⟩
  | 48 => ⟨S1x2x16x128x128, .f32⟩
  | 49 => ⟨S2x16x128x128, .f32⟩
  | 50 => ⟨S2x16x128x128, .f32⟩
  | 51 => ⟨S2x16x128x128, .f32⟩
  | 52 => ⟨S2x16x128x128, .f32⟩
  | 53 => ⟨S1x2x16x128x128, .f32⟩
  | 54 => ⟨S2x16x128x128, .f32⟩
  | 55 => ⟨S2x16x128x128, .f32⟩
  | 56 => ⟨S2x16x128x128, .f32⟩
  | 57 => ⟨S2x16x128x128, .f32⟩
  | 58 => ⟨S1x2x16x128x128, .f32⟩
  | 59 => ⟨S2x16x128x128, .f32⟩
  | 60 => ⟨S2x16x128x128, .f32⟩
  | 61 => ⟨S2x16x128x128, .f32⟩
  | 62 => ⟨S2x16x128x128, .f32⟩
  | 63 => ⟨S1x2x16x128x128, .f32⟩
  | 64 => ⟨S2x16x128x128, .f32⟩
  | 65 => ⟨S2x16x128x128, .f32⟩
  | 66 => ⟨S2x16x128x128, .f32⟩
  | 67 => ⟨S2x16x128x128, .f32⟩
  | 68 => ⟨S1x2x16x128x128, .f32⟩
  | 69 => ⟨S2x16x128x128, .f32⟩
  | 70 => ⟨S2x16x128x128, .f32⟩
  | 71 => ⟨S2x16x128x128, .f32⟩
  | 72 => ⟨S2x16x128x128, .f32⟩
  | 73 => ⟨S1x2x16x128x128, .f32⟩
  | 74 => ⟨S2x16x128x128, .f32⟩
  | 75 => ⟨S2x16x128x128, .f32⟩
  | 76 => ⟨S2x16x128x128, .f32⟩
  | 77 => ⟨S2x16x128x128, .f32⟩
  | 78 => ⟨S1x2x16x128x128, .f32⟩
  | 79 => ⟨S2x16x128x128, .f32⟩
  | 80 => ⟨S2x16x128x128, .f32⟩
  | 81 => ⟨S2x16x128x128, .f32⟩
  | 82 => ⟨S2x16x128x128, .f32⟩
  | 83 => ⟨S1x2x16x128x128, .f32⟩
  | 84 => ⟨S2x16x128x128, .f32⟩
  | 85 => ⟨S2x16x128x128, .f32⟩
  | 86 => ⟨S2x16x128x128, .f32⟩
  | 87 => ⟨S2x16x128x128, .f32⟩
  | 88 => ⟨S1x2x16x128x128, .f32⟩
  | 89 => ⟨S2x16x128x128, .f32⟩
  | 90 => ⟨S2x16x128x128, .f32⟩
  | 91 => ⟨S2x16x128x128, .f32⟩
  | 92 => ⟨S2x16x128x128, .f32⟩
  | 93 => ⟨S1x2x16x128x128, .f32⟩
  | 94 => ⟨S2x16x128x128, .f32⟩
  | 95 => ⟨S2x16x128x128, .f32⟩
  | 96 => ⟨S2x16x128x128, .f32⟩
  | 97 => ⟨S2x16x128x128, .f32⟩
  | 98 => ⟨S1x2x16x128x128, .f32⟩
  | 99 => ⟨S2x16x128x128, .f32⟩
  | 100 => ⟨S2x16x128x128, .f32⟩
  | 101 => ⟨S2x16x128x128, .f32⟩
  | 102 => ⟨S2x16x128x128, .f32⟩
  | 103 => ⟨S1x2x16x128x128, .f32⟩
  | 104 => ⟨S2x16x128x128, .f32⟩
  | 105 => ⟨S2x16x128x128, .f32⟩
  | 106 => ⟨S2x16x128x128, .f32⟩
  | 107 => ⟨S2x16x128x128, .f32⟩
  | 108 => ⟨S1x2x16x128x128, .f32⟩
  | 109 => ⟨S2x16x128x128, .f32⟩
  | 110 => ⟨S2x16x128x128, .f32⟩
  | 111 => ⟨S2x16x128x128, .f32⟩
  | 112 => ⟨S2x16x128x128, .f32⟩
  | 113 => ⟨S1x2x16x128x128, .f32⟩
  | 114 => ⟨S2x16x128x128, .f32⟩
  | 115 => ⟨S2x16x128x128, .f32⟩
  | 116 => ⟨S2x16x128x128, .f32⟩
  | 117 => ⟨S2x16x128x128, .f32⟩
  | 118 => ⟨S1x2x16x128x128, .f32⟩
  | 119 => ⟨S2x16x128x128, .f32⟩
  | 120 => ⟨S2x16x128x128, .f32⟩
  | 121 => ⟨S2x16x128x128, .f32⟩
  | 122 => ⟨S2x16x128x128, .f32⟩
  | 123 => ⟨S1x2x16x128x128, .f32⟩
  | 124 => ⟨S2x16x128x128, .f32⟩
  | 125 => ⟨S2x16x128x128, .f32⟩
  | 126 => ⟨S2x16x128x128, .f32⟩
  | 127 => ⟨S2x16x128x128, .f32⟩
  | _ => ⟨S8192x8192, .bf16⟩

abbrev hbmTy0_4 (i : Nat) : BufTy := match i % 128 with
  | 0 => ⟨S1x2x16x128x128, .f32⟩
  | 1 => ⟨S1x2x16x128x128, .f32⟩
  | 2 => ⟨S1x2x16x128x128, .f32⟩
  | 3 => ⟨S1x2x16x128x128, .f32⟩
  | 4 => ⟨S1x2x16x128x128, .f32⟩
  | 5 => ⟨S1x2x16x128x128, .f32⟩
  | 6 => ⟨S1x2x16x128x128, .f32⟩
  | 7 => ⟨S1x2x16x128x128, .f32⟩
  | 8 => ⟨S1x2x16x128x128, .f32⟩
  | 9 => ⟨S1x2x16x128x128, .f32⟩
  | 10 => ⟨S1x2x16x128x128, .f32⟩
  | 11 => ⟨S1x2x16x128x128, .f32⟩
  | 12 => ⟨S1x2x16x128x128, .f32⟩
  | 13 => ⟨S1x2x16x128x128, .f32⟩
  | 14 => ⟨S1x2x16x128x128, .f32⟩
  | 15 => ⟨S1x2x16x128x128, .f32⟩
  | 16 => ⟨S1x2x16x128x128, .f32⟩
  | 17 => ⟨S1x2x16x128x128, .f32⟩
  | 18 => ⟨S1x2x16x128x128, .f32⟩
  | 19 => ⟨S1x2x16x128x128, .f32⟩
  | 20 => ⟨S1x2x16x128x128, .f32⟩
  | 21 => ⟨S1x2x16x128x128, .f32⟩
  | 22 => ⟨S1x2x16x128x128, .f32⟩
  | 23 => ⟨S1x2x16x128x128, .f32⟩
  | 24 => ⟨S1x2x16x128x128, .f32⟩
  | 25 => ⟨S1x2x16x128x128, .f32⟩
  | 26 => ⟨S1x2x16x128x128, .f32⟩
  | 27 => ⟨S1x2x16x128x128, .f32⟩
  | 28 => ⟨S1x2x16x128x128, .f32⟩
  | 29 => ⟨S1x2x16x128x128, .f32⟩
  | 30 => ⟨S1x2x16x128x128, .f32⟩
  | 31 => ⟨S1x2x16x128x128, .f32⟩
  | 32 => ⟨S16x2x16x128x128, .f32⟩
  | 33 => ⟨S16x2x16x128x128, .f32⟩
  | 34 => ⟨S32x2x16x128x128, .f32⟩
  | 35 => ⟨S32x2x16x128x128, .f32⟩
  | 36 => ⟨S1x16, .f32⟩
  | 37 => ⟨S_, .f32⟩
  | 38 => ⟨S128, .f32⟩
  | 39 => ⟨S128, .f32⟩
  | 40 => ⟨S128x1, .f32⟩
  | 41 => ⟨S128x16, .f32⟩
  | 42 => ⟨S128x16, .f32⟩
  | 43 => ⟨S128x16, .f32⟩
  | 44 => ⟨S128x16, .f32⟩
  | 45 => ⟨S2x32x16x128x128, .f32⟩
  | 46 => ⟨S2x32x128x16x128, .f32⟩
  | 47 => ⟨S1x1x128x16x1, .f32⟩
  | 48 => ⟨S2x32x128x16x128, .f32⟩
  | 49 => ⟨S2x32x128x16x128, .f32⟩
  | 50 => ⟨S2x32x128x16x128, .f32⟩
  | 51 => ⟨S2x4096x16x128, .f32⟩
  | 52 => ⟨S2x4096x16x128, .f32⟩
  | 53 => ⟨S2x4096x16x128, .f32⟩
  | 54 => ⟨S_, .f32⟩
  | 55 => ⟨S2x4096x16, .f32⟩
  | 56 => ⟨S2x4096x16x1, .f32⟩
  | 57 => ⟨S_, .f32⟩
  | 58 => ⟨S2x4096x16x1, .f32⟩
  | 59 => ⟨S2x4096x16x1, .f32⟩
  | 60 => ⟨S2x4096x16x128, .f32⟩
  | 61 => ⟨S2x4096x16x128, .f32⟩
  | 62 => ⟨S2x4096x16x128, .f32⟩
  | 63 => ⟨S_, .f32⟩
  | 64 => ⟨S2x4096x16, .f32⟩
  | 65 => ⟨S2x4096x16x1, .f32⟩
  | 66 => ⟨S_, .f32⟩
  | 67 => ⟨S2x4096x16x1, .f32⟩
  | 68 => ⟨S2x4096x16x1, .f32⟩
  | 69 => ⟨S2x4096x16x128, .f32⟩
  | 70 => ⟨S2x4096x16x128, .f32⟩
  | 71 => ⟨S_, .f32⟩
  | 72 => ⟨S2x4096x16x1, .f32⟩
  | 73 => ⟨S2x4096x16x1, .f32⟩
  | 74 => ⟨S2x4096x16x1, .f32⟩
  | 75 => ⟨S2x4096x16x128, .f32⟩
  | 76 => ⟨S2x4096x16x128, .f32⟩
  | 77 => ⟨S2x4096x2048, .f32⟩
  | 78 => ⟨S1x1x2048, .f32⟩
  | 79 => ⟨S2x4096x2048, .f32⟩
  | 80 => ⟨S2x4096x2048, .f32⟩
  | 81 => ⟨S2x4096x2048, .f32⟩
  | 82 => ⟨S2x4096x2048, .f32⟩
  | 83 => ⟨S_, .f32⟩
  | 84 => ⟨S2x4096x2048, .f32⟩
  | 85 => ⟨S2x4096x2048, .f32⟩
  | 86 => ⟨S_, .f32⟩
  | 87 => ⟨S2x4096x2048, .f32⟩
  | 88 => ⟨S2x4096x2048, .f32⟩
  | 89 => ⟨S2x4096x2048, .f32⟩
  | 90 => ⟨S2x4096x2048, .f32⟩
  | 91 => ⟨S8192x2048, .f32⟩
  | 92 => ⟨S8192x2048, .bf16⟩
  | _ => ⟨S8192x8192, .bf16⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8192x8192, .bf16⟩

abbrev bufTy : (tb : Table) → Fin (tcTables nBuf tb) → BufTy
  | .hbm, ⟨i, _⟩ => hbmTy i
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_0 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_1 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_2 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_3 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_4 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_5 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_cst_6 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_v176 : Ref sig .tc := ⟨.hbm, 190, rfl⟩
abbrev main_v177 : Ref sig .tc := ⟨.hbm, 191, rfl⟩
abbrev main_v178 : Ref sig .tc := ⟨.hbm, 192, rfl⟩
abbrev main_v179 : Ref sig .tc := ⟨.hbm, 193, rfl⟩
abbrev main_v180 : Ref sig .tc := ⟨.hbm, 194, rfl⟩
abbrev main_v181 : Ref sig .tc := ⟨.hbm, 195, rfl⟩
abbrev main_v182 : Ref sig .tc := ⟨.hbm, 196, rfl⟩
abbrev main_v183 : Ref sig .tc := ⟨.hbm, 197, rfl⟩
abbrev main_v184 : Ref sig .tc := ⟨.hbm, 198, rfl⟩
abbrev main_v185 : Ref sig .tc := ⟨.hbm, 199, rfl⟩
abbrev main_v186 : Ref sig .tc := ⟨.hbm, 200, rfl⟩
abbrev main_v187 : Ref sig .tc := ⟨.hbm, 201, rfl⟩
abbrev main_v188 : Ref sig .tc := ⟨.hbm, 202, rfl⟩
abbrev main_v189 : Ref sig .tc := ⟨.hbm, 203, rfl⟩
abbrev main_v190 : Ref sig .tc := ⟨.hbm, 204, rfl⟩
abbrev main_v191 : Ref sig .tc := ⟨.hbm, 205, rfl⟩
abbrev main_v192 : Ref sig .tc := ⟨.hbm, 206, rfl⟩
abbrev main_v193 : Ref sig .tc := ⟨.hbm, 207, rfl⟩
abbrev main_v194 : Ref sig .tc := ⟨.hbm, 208, rfl⟩
abbrev main_v195 : Ref sig .tc := ⟨.hbm, 209, rfl⟩
abbrev main_v196 : Ref sig .tc := ⟨.hbm, 210, rfl⟩
abbrev main_v197 : Ref sig .tc := ⟨.hbm, 211, rfl⟩
abbrev main_v198 : Ref sig .tc := ⟨.hbm, 212, rfl⟩
abbrev main_v199 : Ref sig .tc := ⟨.hbm, 213, rfl⟩
abbrev main_v200 : Ref sig .tc := ⟨.hbm, 214, rfl⟩
abbrev main_v201 : Ref sig .tc := ⟨.hbm, 215, rfl⟩
abbrev main_v202 : Ref sig .tc := ⟨.hbm, 216, rfl⟩
abbrev main_v203 : Ref sig .tc := ⟨.hbm, 217, rfl⟩
abbrev main_v204 : Ref sig .tc := ⟨.hbm, 218, rfl⟩
abbrev main_v205 : Ref sig .tc := ⟨.hbm, 219, rfl⟩
abbrev main_v206 : Ref sig .tc := ⟨.hbm, 220, rfl⟩
abbrev main_v207 : Ref sig .tc := ⟨.hbm, 221, rfl⟩
abbrev main_v208 : Ref sig .tc := ⟨.hbm, 222, rfl⟩
abbrev main_v209 : Ref sig .tc := ⟨.hbm, 223, rfl⟩
abbrev main_v210 : Ref sig .tc := ⟨.hbm, 224, rfl⟩
abbrev main_v211 : Ref sig .tc := ⟨.hbm, 225, rfl⟩
abbrev main_v212 : Ref sig .tc := ⟨.hbm, 226, rfl⟩
abbrev main_v213 : Ref sig .tc := ⟨.hbm, 227, rfl⟩
abbrev main_v214 : Ref sig .tc := ⟨.hbm, 228, rfl⟩
abbrev main_v215 : Ref sig .tc := ⟨.hbm, 229, rfl⟩
abbrev main_v216 : Ref sig .tc := ⟨.hbm, 230, rfl⟩
abbrev main_v217 : Ref sig .tc := ⟨.hbm, 231, rfl⟩
abbrev main_v218 : Ref sig .tc := ⟨.hbm, 232, rfl⟩
abbrev main_v219 : Ref sig .tc := ⟨.hbm, 233, rfl⟩
abbrev main_v220 : Ref sig .tc := ⟨.hbm, 234, rfl⟩
abbrev main_v221 : Ref sig .tc := ⟨.hbm, 235, rfl⟩
abbrev main_v222 : Ref sig .tc := ⟨.hbm, 236, rfl⟩
abbrev main_v223 : Ref sig .tc := ⟨.hbm, 237, rfl⟩
abbrev main_v224 : Ref sig .tc := ⟨.hbm, 238, rfl⟩
abbrev main_v225 : Ref sig .tc := ⟨.hbm, 239, rfl⟩
abbrev main_v226 : Ref sig .tc := ⟨.hbm, 240, rfl⟩
abbrev main_v227 : Ref sig .tc := ⟨.hbm, 241, rfl⟩
abbrev main_v228 : Ref sig .tc := ⟨.hbm, 242, rfl⟩
abbrev main_v229 : Ref sig .tc := ⟨.hbm, 243, rfl⟩
abbrev main_v230 : Ref sig .tc := ⟨.hbm, 244, rfl⟩
abbrev main_v231 : Ref sig .tc := ⟨.hbm, 245, rfl⟩
abbrev main_v232 : Ref sig .tc := ⟨.hbm, 246, rfl⟩
abbrev main_v233 : Ref sig .tc := ⟨.hbm, 247, rfl⟩
abbrev main_v234 : Ref sig .tc := ⟨.hbm, 248, rfl⟩
abbrev main_v235 : Ref sig .tc := ⟨.hbm, 249, rfl⟩
abbrev main_v236 : Ref sig .tc := ⟨.hbm, 250, rfl⟩
abbrev main_v237 : Ref sig .tc := ⟨.hbm, 251, rfl⟩
abbrev main_v238 : Ref sig .tc := ⟨.hbm, 252, rfl⟩
abbrev main_v239 : Ref sig .tc := ⟨.hbm, 253, rfl⟩
abbrev main_v240 : Ref sig .tc := ⟨.hbm, 254, rfl⟩
abbrev main_v241 : Ref sig .tc := ⟨.hbm, 255, rfl⟩
abbrev main_v242 : Ref sig .tc := ⟨.hbm, 256, rfl⟩
abbrev main_v243 : Ref sig .tc := ⟨.hbm, 257, rfl⟩
abbrev main_v244 : Ref sig .tc := ⟨.hbm, 258, rfl⟩
abbrev main_v245 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_v254 : Ref sig .tc := ⟨.hbm, 268, rfl⟩
abbrev main_v255 : Ref sig .tc := ⟨.hbm, 269, rfl⟩
abbrev main_v256 : Ref sig .tc := ⟨.hbm, 270, rfl⟩
abbrev main_v257 : Ref sig .tc := ⟨.hbm, 271, rfl⟩
abbrev main_v258 : Ref sig .tc := ⟨.hbm, 272, rfl⟩
abbrev main_cst_7 : Ref sig .tc := ⟨.hbm, 273, rfl⟩
abbrev main_v259 : Ref sig .tc := ⟨.hbm, 274, rfl⟩
abbrev main_v260 : Ref sig .tc := ⟨.hbm, 275, rfl⟩
abbrev main_v261 : Ref sig .tc := ⟨.hbm, 276, rfl⟩
abbrev main_v262 : Ref sig .tc := ⟨.hbm, 277, rfl⟩
abbrev main_v263 : Ref sig .tc := ⟨.hbm, 278, rfl⟩
abbrev main_v264 : Ref sig .tc := ⟨.hbm, 279, rfl⟩
abbrev main_v265 : Ref sig .tc := ⟨.hbm, 280, rfl⟩
abbrev main_v266 : Ref sig .tc := ⟨.hbm, 281, rfl⟩
abbrev main_v267 : Ref sig .tc := ⟨.hbm, 282, rfl⟩
abbrev main_v268 : Ref sig .tc := ⟨.hbm, 283, rfl⟩
abbrev main_v269 : Ref sig .tc := ⟨.hbm, 284, rfl⟩
abbrev main_v270 : Ref sig .tc := ⟨.hbm, 285, rfl⟩
abbrev main_v271 : Ref sig .tc := ⟨.hbm, 286, rfl⟩
abbrev main_v272 : Ref sig .tc := ⟨.hbm, 287, rfl⟩
abbrev main_v273 : Ref sig .tc := ⟨.hbm, 288, rfl⟩
abbrev main_v274 : Ref sig .tc := ⟨.hbm, 289, rfl⟩
abbrev main_v275 : Ref sig .tc := ⟨.hbm, 290, rfl⟩
abbrev main_v276 : Ref sig .tc := ⟨.hbm, 291, rfl⟩
abbrev main_v277 : Ref sig .tc := ⟨.hbm, 292, rfl⟩
abbrev main_v278 : Ref sig .tc := ⟨.hbm, 293, rfl⟩
abbrev main_v279 : Ref sig .tc := ⟨.hbm, 294, rfl⟩
abbrev main_v280 : Ref sig .tc := ⟨.hbm, 295, rfl⟩
abbrev main_v281 : Ref sig .tc := ⟨.hbm, 296, rfl⟩
abbrev main_v282 : Ref sig .tc := ⟨.hbm, 297, rfl⟩
abbrev main_v283 : Ref sig .tc := ⟨.hbm, 298, rfl⟩
abbrev main_v284 : Ref sig .tc := ⟨.hbm, 299, rfl⟩
abbrev main_v285 : Ref sig .tc := ⟨.hbm, 300, rfl⟩
abbrev main_v286 : Ref sig .tc := ⟨.hbm, 301, rfl⟩
abbrev main_cst_8 : Ref sig .tc := ⟨.hbm, 302, rfl⟩
abbrev main_v287 : Ref sig .tc := ⟨.hbm, 303, rfl⟩
abbrev main_v288 : Ref sig .tc := ⟨.hbm, 304, rfl⟩
abbrev main_v289 : Ref sig .tc := ⟨.hbm, 305, rfl⟩
abbrev main_v290 : Ref sig .tc := ⟨.hbm, 306, rfl⟩
abbrev main_cst_9 : Ref sig .tc := ⟨.hbm, 307, rfl⟩
abbrev main_v291 : Ref sig .tc := ⟨.hbm, 308, rfl⟩
abbrev main_v292 : Ref sig .tc := ⟨.hbm, 309, rfl⟩
abbrev main_v293 : Ref sig .tc := ⟨.hbm, 310, rfl⟩
abbrev main_v294 : Ref sig .tc := ⟨.hbm, 311, rfl⟩
abbrev main_v295 : Ref sig .tc := ⟨.hbm, 312, rfl⟩
abbrev main_v296 : Ref sig .tc := ⟨.hbm, 313, rfl⟩
abbrev main_v297 : Ref sig .tc := ⟨.hbm, 314, rfl⟩
abbrev main_cst_10 : Ref sig .tc := ⟨.hbm, 315, rfl⟩
abbrev main_call1_v0 : Ref sig .tc := ⟨.hbm, 316, rfl⟩
abbrev main_call1_v1 : Ref sig .tc := ⟨.hbm, 317, rfl⟩
abbrev main_call1_v2 : Ref sig .tc := ⟨.hbm, 318, rfl⟩
abbrev main_v298 : Ref sig .tc := ⟨.hbm, 319, rfl⟩
abbrev main_v299 : Ref sig .tc := ⟨.hbm, 320, rfl⟩
abbrev main_v300 : Ref sig .tc := ⟨.hbm, 321, rfl⟩
abbrev main_v301 : Ref sig .tc := ⟨.hbm, 322, rfl⟩
abbrev main_v302 : Ref sig .tc := ⟨.hbm, 323, rfl⟩
abbrev main_v303 : Ref sig .tc := ⟨.hbm, 324, rfl⟩
abbrev main_v304 : Ref sig .tc := ⟨.hbm, 325, rfl⟩
abbrev main_v305 : Ref sig .tc := ⟨.hbm, 326, rfl⟩
abbrev main_cst_11 : Ref sig .tc := ⟨.hbm, 327, rfl⟩
abbrev main_v306 : Ref sig .tc := ⟨.hbm, 328, rfl⟩
abbrev main_v307 : Ref sig .tc := ⟨.hbm, 329, rfl⟩
abbrev main_v308 : Ref sig .tc := ⟨.hbm, 330, rfl⟩
abbrev main_v309 : Ref sig .tc := ⟨.hbm, 331, rfl⟩
abbrev main_v310 : Ref sig .tc := ⟨.hbm, 332, rfl⟩
abbrev main_v311 : Ref sig .tc := ⟨.hbm, 333, rfl⟩
abbrev main_v312 : Ref sig .tc := ⟨.hbm, 334, rfl⟩
abbrev main_v313 : Ref sig .tc := ⟨.hbm, 335, rfl⟩
abbrev main_v314 : Ref sig .tc := ⟨.hbm, 336, rfl⟩
abbrev main_v315 : Ref sig .tc := ⟨.hbm, 337, rfl⟩
abbrev main_v316 : Ref sig .tc := ⟨.hbm, 338, rfl⟩
abbrev main_cst_12 : Ref sig .tc := ⟨.hbm, 339, rfl⟩
abbrev main_v317 : Ref sig .tc := ⟨.hbm, 340, rfl⟩
abbrev main_v318 : Ref sig .tc := ⟨.hbm, 341, rfl⟩
abbrev main_v319 : Ref sig .tc := ⟨.hbm, 342, rfl⟩
abbrev main_v320 : Ref sig .tc := ⟨.hbm, 343, rfl⟩
abbrev main_v321 : Ref sig .tc := ⟨.hbm, 344, rfl⟩
abbrev main_v322 : Ref sig .tc := ⟨.hbm, 345, rfl⟩
abbrev main_cst_13 : Ref sig .tc := ⟨.hbm, 346, rfl⟩
abbrev main_v323 : Ref sig .tc := ⟨.hbm, 347, rfl⟩
abbrev main_v324 : Ref sig .tc := ⟨.hbm, 348, rfl⟩
abbrev main_v325 : Ref sig .tc := ⟨.hbm, 349, rfl⟩
abbrev main_cst_14 : Ref sig .tc := ⟨.hbm, 350, rfl⟩
abbrev main_v326 : Ref sig .tc := ⟨.hbm, 351, rfl⟩
abbrev main_v327 : Ref sig .tc := ⟨.hbm, 352, rfl⟩
abbrev main_v328 : Ref sig .tc := ⟨.hbm, 353, rfl⟩
abbrev main_v329 : Ref sig .tc := ⟨.hbm, 354, rfl⟩
abbrev main_v330 : Ref sig .tc := ⟨.hbm, 355, rfl⟩
abbrev main_v331 : Ref sig .tc := ⟨.hbm, 356, rfl⟩
abbrev main_v332 : Ref sig .tc := ⟨.hbm, 357, rfl⟩
abbrev main_v333 : Ref sig .tc := ⟨.hbm, 358, rfl⟩
abbrev main_v334 : Ref sig .tc := ⟨.hbm, 359, rfl⟩
abbrev main_v335 : Ref sig .tc := ⟨.hbm, 360, rfl⟩
abbrev main_v336 : Ref sig .tc := ⟨.hbm, 361, rfl⟩
abbrev main_v337 : Ref sig .tc := ⟨.hbm, 362, rfl⟩
abbrev main_v338 : Ref sig .tc := ⟨.hbm, 363, rfl⟩
abbrev main_v339 : Ref sig .tc := ⟨.hbm, 364, rfl⟩
abbrev main_v340 : Ref sig .tc := ⟨.hbm, 365, rfl⟩
abbrev main_v341 : Ref sig .tc := ⟨.hbm, 366, rfl⟩
abbrev main_v342 : Ref sig .tc := ⟨.hbm, 367, rfl⟩
abbrev main_v343 : Ref sig .tc := ⟨.hbm, 368, rfl⟩
abbrev main_v344 : Ref sig .tc := ⟨.hbm, 369, rfl⟩
abbrev main_v345 : Ref sig .tc := ⟨.hbm, 370, rfl⟩
abbrev main_v346 : Ref sig .tc := ⟨.hbm, 371, rfl⟩
abbrev main_v347 : Ref sig .tc := ⟨.hbm, 372, rfl⟩
abbrev main_v348 : Ref sig .tc := ⟨.hbm, 373, rfl⟩
abbrev main_v349 : Ref sig .tc := ⟨.hbm, 374, rfl⟩
abbrev main_v350 : Ref sig .tc := ⟨.hbm, 375, rfl⟩
abbrev main_v351 : Ref sig .tc := ⟨.hbm, 376, rfl⟩
abbrev main_v352 : Ref sig .tc := ⟨.hbm, 377, rfl⟩
abbrev main_v353 : Ref sig .tc := ⟨.hbm, 378, rfl⟩
abbrev main_v354 : Ref sig .tc := ⟨.hbm, 379, rfl⟩
abbrev main_v355 : Ref sig .tc := ⟨.hbm, 380, rfl⟩
abbrev main_v356 : Ref sig .tc := ⟨.hbm, 381, rfl⟩
abbrev main_v357 : Ref sig .tc := ⟨.hbm, 382, rfl⟩
abbrev main_v358 : Ref sig .tc := ⟨.hbm, 383, rfl⟩
abbrev main_v359 : Ref sig .tc := ⟨.hbm, 384, rfl⟩
abbrev main_v360 : Ref sig .tc := ⟨.hbm, 385, rfl⟩
abbrev main_v361 : Ref sig .tc := ⟨.hbm, 386, rfl⟩
abbrev main_v362 : Ref sig .tc := ⟨.hbm, 387, rfl⟩
abbrev main_v363 : Ref sig .tc := ⟨.hbm, 388, rfl⟩
abbrev main_v364 : Ref sig .tc := ⟨.hbm, 389, rfl⟩
abbrev main_v365 : Ref sig .tc := ⟨.hbm, 390, rfl⟩
abbrev main_v366 : Ref sig .tc := ⟨.hbm, 391, rfl⟩
abbrev main_v367 : Ref sig .tc := ⟨.hbm, 392, rfl⟩
abbrev main_v368 : Ref sig .tc := ⟨.hbm, 393, rfl⟩
abbrev main_v369 : Ref sig .tc := ⟨.hbm, 394, rfl⟩
abbrev main_v370 : Ref sig .tc := ⟨.hbm, 395, rfl⟩
abbrev main_v371 : Ref sig .tc := ⟨.hbm, 396, rfl⟩
abbrev main_v372 : Ref sig .tc := ⟨.hbm, 397, rfl⟩
abbrev main_v373 : Ref sig .tc := ⟨.hbm, 398, rfl⟩
abbrev main_v374 : Ref sig .tc := ⟨.hbm, 399, rfl⟩
abbrev main_v375 : Ref sig .tc := ⟨.hbm, 400, rfl⟩
abbrev main_v376 : Ref sig .tc := ⟨.hbm, 401, rfl⟩
abbrev main_v377 : Ref sig .tc := ⟨.hbm, 402, rfl⟩
abbrev main_v378 : Ref sig .tc := ⟨.hbm, 403, rfl⟩
abbrev main_v379 : Ref sig .tc := ⟨.hbm, 404, rfl⟩
abbrev main_v380 : Ref sig .tc := ⟨.hbm, 405, rfl⟩
abbrev main_v381 : Ref sig .tc := ⟨.hbm, 406, rfl⟩
abbrev main_v382 : Ref sig .tc := ⟨.hbm, 407, rfl⟩
abbrev main_v383 : Ref sig .tc := ⟨.hbm, 408, rfl⟩
abbrev main_v384 : Ref sig .tc := ⟨.hbm, 409, rfl⟩
abbrev main_v385 : Ref sig .tc := ⟨.hbm, 410, rfl⟩
abbrev main_v386 : Ref sig .tc := ⟨.hbm, 411, rfl⟩
abbrev main_v387 : Ref sig .tc := ⟨.hbm, 412, rfl⟩
abbrev main_v388 : Ref sig .tc := ⟨.hbm, 413, rfl⟩
abbrev main_v389 : Ref sig .tc := ⟨.hbm, 414, rfl⟩
abbrev main_v390 : Ref sig .tc := ⟨.hbm, 415, rfl⟩
abbrev main_v391 : Ref sig .tc := ⟨.hbm, 416, rfl⟩
abbrev main_v392 : Ref sig .tc := ⟨.hbm, 417, rfl⟩
abbrev main_v393 : Ref sig .tc := ⟨.hbm, 418, rfl⟩
abbrev main_v394 : Ref sig .tc := ⟨.hbm, 419, rfl⟩
abbrev main_v395 : Ref sig .tc := ⟨.hbm, 420, rfl⟩
abbrev main_v396 : Ref sig .tc := ⟨.hbm, 421, rfl⟩
abbrev main_v397 : Ref sig .tc := ⟨.hbm, 422, rfl⟩
abbrev main_v398 : Ref sig .tc := ⟨.hbm, 423, rfl⟩
abbrev main_v399 : Ref sig .tc := ⟨.hbm, 424, rfl⟩
abbrev main_v400 : Ref sig .tc := ⟨.hbm, 425, rfl⟩
abbrev main_v401 : Ref sig .tc := ⟨.hbm, 426, rfl⟩
abbrev main_v402 : Ref sig .tc := ⟨.hbm, 427, rfl⟩
abbrev main_v403 : Ref sig .tc := ⟨.hbm, 428, rfl⟩
abbrev main_v404 : Ref sig .tc := ⟨.hbm, 429, rfl⟩
abbrev main_v405 : Ref sig .tc := ⟨.hbm, 430, rfl⟩
abbrev main_v406 : Ref sig .tc := ⟨.hbm, 431, rfl⟩
abbrev main_v407 : Ref sig .tc := ⟨.hbm, 432, rfl⟩
abbrev main_v408 : Ref sig .tc := ⟨.hbm, 433, rfl⟩
abbrev main_v409 : Ref sig .tc := ⟨.hbm, 434, rfl⟩
abbrev main_v410 : Ref sig .tc := ⟨.hbm, 435, rfl⟩
abbrev main_v411 : Ref sig .tc := ⟨.hbm, 436, rfl⟩
abbrev main_v412 : Ref sig .tc := ⟨.hbm, 437, rfl⟩
abbrev main_v413 : Ref sig .tc := ⟨.hbm, 438, rfl⟩
abbrev main_v414 : Ref sig .tc := ⟨.hbm, 439, rfl⟩
abbrev main_v415 : Ref sig .tc := ⟨.hbm, 440, rfl⟩
abbrev main_v416 : Ref sig .tc := ⟨.hbm, 441, rfl⟩
abbrev main_v417 : Ref sig .tc := ⟨.hbm, 442, rfl⟩
abbrev main_v418 : Ref sig .tc := ⟨.hbm, 443, rfl⟩
abbrev main_v419 : Ref sig .tc := ⟨.hbm, 444, rfl⟩
abbrev main_v420 : Ref sig .tc := ⟨.hbm, 445, rfl⟩
abbrev main_v421 : Ref sig .tc := ⟨.hbm, 446, rfl⟩
abbrev main_v422 : Ref sig .tc := ⟨.hbm, 447, rfl⟩
abbrev main_v423 : Ref sig .tc := ⟨.hbm, 448, rfl⟩
abbrev main_v424 : Ref sig .tc := ⟨.hbm, 449, rfl⟩
abbrev main_v425 : Ref sig .tc := ⟨.hbm, 450, rfl⟩
abbrev main_v426 : Ref sig .tc := ⟨.hbm, 451, rfl⟩
abbrev main_v427 : Ref sig .tc := ⟨.hbm, 452, rfl⟩
abbrev main_v428 : Ref sig .tc := ⟨.hbm, 453, rfl⟩
abbrev main_v429 : Ref sig .tc := ⟨.hbm, 454, rfl⟩
abbrev main_v430 : Ref sig .tc := ⟨.hbm, 455, rfl⟩
abbrev main_v431 : Ref sig .tc := ⟨.hbm, 456, rfl⟩
abbrev main_v432 : Ref sig .tc := ⟨.hbm, 457, rfl⟩
abbrev main_v433 : Ref sig .tc := ⟨.hbm, 458, rfl⟩
abbrev main_v434 : Ref sig .tc := ⟨.hbm, 459, rfl⟩
abbrev main_v435 : Ref sig .tc := ⟨.hbm, 460, rfl⟩
abbrev main_v436 : Ref sig .tc := ⟨.hbm, 461, rfl⟩
abbrev main_v437 : Ref sig .tc := ⟨.hbm, 462, rfl⟩
abbrev main_v438 : Ref sig .tc := ⟨.hbm, 463, rfl⟩
abbrev main_v439 : Ref sig .tc := ⟨.hbm, 464, rfl⟩
abbrev main_v440 : Ref sig .tc := ⟨.hbm, 465, rfl⟩
abbrev main_v441 : Ref sig .tc := ⟨.hbm, 466, rfl⟩
abbrev main_v442 : Ref sig .tc := ⟨.hbm, 467, rfl⟩
abbrev main_v443 : Ref sig .tc := ⟨.hbm, 468, rfl⟩
abbrev main_v444 : Ref sig .tc := ⟨.hbm, 469, rfl⟩
abbrev main_v445 : Ref sig .tc := ⟨.hbm, 470, rfl⟩
abbrev main_v446 : Ref sig .tc := ⟨.hbm, 471, rfl⟩
abbrev main_v447 : Ref sig .tc := ⟨.hbm, 472, rfl⟩
abbrev main_v448 : Ref sig .tc := ⟨.hbm, 473, rfl⟩
abbrev main_v449 : Ref sig .tc := ⟨.hbm, 474, rfl⟩
abbrev main_v450 : Ref sig .tc := ⟨.hbm, 475, rfl⟩
abbrev main_v451 : Ref sig .tc := ⟨.hbm, 476, rfl⟩
abbrev main_v452 : Ref sig .tc := ⟨.hbm, 477, rfl⟩
abbrev main_v453 : Ref sig .tc := ⟨.hbm, 478, rfl⟩
abbrev main_v454 : Ref sig .tc := ⟨.hbm, 479, rfl⟩
abbrev main_v455 : Ref sig .tc := ⟨.hbm, 480, rfl⟩
abbrev main_v456 : Ref sig .tc := ⟨.hbm, 481, rfl⟩
abbrev main_v457 : Ref sig .tc := ⟨.hbm, 482, rfl⟩
abbrev main_v458 : Ref sig .tc := ⟨.hbm, 483, rfl⟩
abbrev main_v459 : Ref sig .tc := ⟨.hbm, 484, rfl⟩
abbrev main_v460 : Ref sig .tc := ⟨.hbm, 485, rfl⟩
abbrev main_v461 : Ref sig .tc := ⟨.hbm, 486, rfl⟩
abbrev main_v462 : Ref sig .tc := ⟨.hbm, 487, rfl⟩
abbrev main_v463 : Ref sig .tc := ⟨.hbm, 488, rfl⟩
abbrev main_v464 : Ref sig .tc := ⟨.hbm, 489, rfl⟩
abbrev main_v465 : Ref sig .tc := ⟨.hbm, 490, rfl⟩
abbrev main_v466 : Ref sig .tc := ⟨.hbm, 491, rfl⟩
abbrev main_v467 : Ref sig .tc := ⟨.hbm, 492, rfl⟩
abbrev main_v468 : Ref sig .tc := ⟨.hbm, 493, rfl⟩
abbrev main_v469 : Ref sig .tc := ⟨.hbm, 494, rfl⟩
abbrev main_v470 : Ref sig .tc := ⟨.hbm, 495, rfl⟩
abbrev main_v471 : Ref sig .tc := ⟨.hbm, 496, rfl⟩
abbrev main_v472 : Ref sig .tc := ⟨.hbm, 497, rfl⟩
abbrev main_v473 : Ref sig .tc := ⟨.hbm, 498, rfl⟩
abbrev main_v474 : Ref sig .tc := ⟨.hbm, 499, rfl⟩
abbrev main_v475 : Ref sig .tc := ⟨.hbm, 500, rfl⟩
abbrev main_v476 : Ref sig .tc := ⟨.hbm, 501, rfl⟩
abbrev main_v477 : Ref sig .tc := ⟨.hbm, 502, rfl⟩
abbrev main_v478 : Ref sig .tc := ⟨.hbm, 503, rfl⟩
abbrev main_v479 : Ref sig .tc := ⟨.hbm, 504, rfl⟩
abbrev main_v480 : Ref sig .tc := ⟨.hbm, 505, rfl⟩
abbrev main_v481 : Ref sig .tc := ⟨.hbm, 506, rfl⟩
abbrev main_v482 : Ref sig .tc := ⟨.hbm, 507, rfl⟩
abbrev main_v483 : Ref sig .tc := ⟨.hbm, 508, rfl⟩
abbrev main_v484 : Ref sig .tc := ⟨.hbm, 509, rfl⟩
abbrev main_v485 : Ref sig .tc := ⟨.hbm, 510, rfl⟩
abbrev main_v486 : Ref sig .tc := ⟨.hbm, 511, rfl⟩
abbrev main_v487 : Ref sig .tc := ⟨.hbm, 512, rfl⟩
abbrev main_v488 : Ref sig .tc := ⟨.hbm, 513, rfl⟩
abbrev main_v489 : Ref sig .tc := ⟨.hbm, 514, rfl⟩
abbrev main_v490 : Ref sig .tc := ⟨.hbm, 515, rfl⟩
abbrev main_v491 : Ref sig .tc := ⟨.hbm, 516, rfl⟩
abbrev main_v492 : Ref sig .tc := ⟨.hbm, 517, rfl⟩
abbrev main_v493 : Ref sig .tc := ⟨.hbm, 518, rfl⟩
abbrev main_v494 : Ref sig .tc := ⟨.hbm, 519, rfl⟩
abbrev main_v495 : Ref sig .tc := ⟨.hbm, 520, rfl⟩
abbrev main_v496 : Ref sig .tc := ⟨.hbm, 521, rfl⟩
abbrev main_v497 : Ref sig .tc := ⟨.hbm, 522, rfl⟩
abbrev main_v498 : Ref sig .tc := ⟨.hbm, 523, rfl⟩
abbrev main_v499 : Ref sig .tc := ⟨.hbm, 524, rfl⟩
abbrev main_v500 : Ref sig .tc := ⟨.hbm, 525, rfl⟩
abbrev main_v501 : Ref sig .tc := ⟨.hbm, 526, rfl⟩
abbrev main_v502 : Ref sig .tc := ⟨.hbm, 527, rfl⟩
abbrev main_v503 : Ref sig .tc := ⟨.hbm, 528, rfl⟩
abbrev main_v504 : Ref sig .tc := ⟨.hbm, 529, rfl⟩
abbrev main_v505 : Ref sig .tc := ⟨.hbm, 530, rfl⟩
abbrev main_v506 : Ref sig .tc := ⟨.hbm, 531, rfl⟩
abbrev main_v507 : Ref sig .tc := ⟨.hbm, 532, rfl⟩
abbrev main_v508 : Ref sig .tc := ⟨.hbm, 533, rfl⟩
abbrev main_v509 : Ref sig .tc := ⟨.hbm, 534, rfl⟩
abbrev main_v510 : Ref sig .tc := ⟨.hbm, 535, rfl⟩
abbrev main_v511 : Ref sig .tc := ⟨.hbm, 536, rfl⟩
abbrev main_v512 : Ref sig .tc := ⟨.hbm, 537, rfl⟩
abbrev main_v513 : Ref sig .tc := ⟨.hbm, 538, rfl⟩
abbrev main_v514 : Ref sig .tc := ⟨.hbm, 539, rfl⟩
abbrev main_v515 : Ref sig .tc := ⟨.hbm, 540, rfl⟩
abbrev main_v516 : Ref sig .tc := ⟨.hbm, 541, rfl⟩
abbrev main_v517 : Ref sig .tc := ⟨.hbm, 542, rfl⟩
abbrev main_v518 : Ref sig .tc := ⟨.hbm, 543, rfl⟩
abbrev main_v519 : Ref sig .tc := ⟨.hbm, 544, rfl⟩
abbrev main_v520 : Ref sig .tc := ⟨.hbm, 545, rfl⟩
abbrev main_v521 : Ref sig .tc := ⟨.hbm, 546, rfl⟩
abbrev main_v522 : Ref sig .tc := ⟨.hbm, 547, rfl⟩
abbrev main_v523 : Ref sig .tc := ⟨.hbm, 548, rfl⟩
abbrev main_cst_15 : Ref sig .tc := ⟨.hbm, 549, rfl⟩
abbrev main_v524 : Ref sig .tc := ⟨.hbm, 550, rfl⟩
abbrev main_v525 : Ref sig .tc := ⟨.hbm, 551, rfl⟩
abbrev main_v526 : Ref sig .tc := ⟨.hbm, 552, rfl⟩
abbrev main_v527 : Ref sig .tc := ⟨.hbm, 553, rfl⟩
abbrev main_v528 : Ref sig .tc := ⟨.hbm, 554, rfl⟩
abbrev main_v529 : Ref sig .tc := ⟨.hbm, 555, rfl⟩
abbrev main_v530 : Ref sig .tc := ⟨.hbm, 556, rfl⟩
abbrev main_v531 : Ref sig .tc := ⟨.hbm, 557, rfl⟩
abbrev main_v532 : Ref sig .tc := ⟨.hbm, 558, rfl⟩
abbrev main_v533 : Ref sig .tc := ⟨.hbm, 559, rfl⟩
abbrev main_v534 : Ref sig .tc := ⟨.hbm, 560, rfl⟩
abbrev main_v535 : Ref sig .tc := ⟨.hbm, 561, rfl⟩
abbrev main_v536 : Ref sig .tc := ⟨.hbm, 562, rfl⟩
abbrev main_v537 : Ref sig .tc := ⟨.hbm, 563, rfl⟩
abbrev main_v538 : Ref sig .tc := ⟨.hbm, 564, rfl⟩
abbrev main_v539 : Ref sig .tc := ⟨.hbm, 565, rfl⟩
abbrev main_cst_16 : Ref sig .tc := ⟨.hbm, 566, rfl⟩
abbrev main_v540 : Ref sig .tc := ⟨.hbm, 567, rfl⟩
abbrev main_v541 : Ref sig .tc := ⟨.hbm, 568, rfl⟩
abbrev main_cst_17 : Ref sig .tc := ⟨.hbm, 569, rfl⟩
abbrev main_v542 : Ref sig .tc := ⟨.hbm, 570, rfl⟩
abbrev main_v543 : Ref sig .tc := ⟨.hbm, 571, rfl⟩
abbrev main_v544 : Ref sig .tc := ⟨.hbm, 572, rfl⟩
abbrev main_v545 : Ref sig .tc := ⟨.hbm, 573, rfl⟩
abbrev main_v546 : Ref sig .tc := ⟨.hbm, 574, rfl⟩
abbrev main_cst_18 : Ref sig .tc := ⟨.hbm, 575, rfl⟩
abbrev main_v547 : Ref sig .tc := ⟨.hbm, 576, rfl⟩
abbrev main_v548 : Ref sig .tc := ⟨.hbm, 577, rfl⟩
abbrev main_cst_19 : Ref sig .tc := ⟨.hbm, 578, rfl⟩
abbrev main_v549 : Ref sig .tc := ⟨.hbm, 579, rfl⟩
abbrev main_v550 : Ref sig .tc := ⟨.hbm, 580, rfl⟩
abbrev main_v551 : Ref sig .tc := ⟨.hbm, 581, rfl⟩
abbrev main_v552 : Ref sig .tc := ⟨.hbm, 582, rfl⟩
abbrev main_cst_20 : Ref sig .tc := ⟨.hbm, 583, rfl⟩
abbrev main_v553 : Ref sig .tc := ⟨.hbm, 584, rfl⟩
abbrev main_v554 : Ref sig .tc := ⟨.hbm, 585, rfl⟩
abbrev main_v555 : Ref sig .tc := ⟨.hbm, 586, rfl⟩
abbrev main_v556 : Ref sig .tc := ⟨.hbm, 587, rfl⟩
abbrev main_v557 : Ref sig .tc := ⟨.hbm, 588, rfl⟩
abbrev main_v558 : Ref sig .tc := ⟨.hbm, 589, rfl⟩
abbrev main_v559 : Ref sig .tc := ⟨.hbm, 590, rfl⟩
abbrev main_v560 : Ref sig .tc := ⟨.hbm, 591, rfl⟩
abbrev main_v561 : Ref sig .tc := ⟨.hbm, 592, rfl⟩
abbrev main_call2_v0 : Ref sig .tc := ⟨.hbm, 593, rfl⟩
abbrev main_call2_v1 : Ref sig .tc := ⟨.hbm, 594, rfl⟩
abbrev main_call2_cst : Ref sig .tc := ⟨.hbm, 595, rfl⟩
abbrev main_call2_v2 : Ref sig .tc := ⟨.hbm, 596, rfl⟩
abbrev main_call2_v3 : Ref sig .tc := ⟨.hbm, 597, rfl⟩
abbrev main_call2_cst_0 : Ref sig .tc := ⟨.hbm, 598, rfl⟩
abbrev main_call2_v4 : Ref sig .tc := ⟨.hbm, 599, rfl⟩
abbrev main_call2_v5 : Ref sig .tc := ⟨.hbm, 600, rfl⟩
abbrev main_v562 : Ref sig .tc := ⟨.hbm, 601, rfl⟩
abbrev main_v563 : Ref sig .tc := ⟨.hbm, 602, rfl⟩
abbrev main_v564 : Ref sig .tc := ⟨.hbm, 603, rfl⟩
abbrev main_v565 : Ref sig .tc := ⟨.hbm, 604, rfl⟩

abbrev nD : Nat := 1
abbrev τ : Topo := Topo.v7x

variable {F : FTy → Type} [FloatOps F]
-- ==== Kernel2.lean ====
abbrev S8192x2048 : Shape := ⟨2, ![8192, 2048]⟩
abbrev S8192x4096 : Shape := ⟨2, ![8192, 4096]⟩
abbrev S8192x256 : Shape := ⟨2, ![8192, 256]⟩
abbrev S4096x4096 : Shape := ⟨2, ![4096, 4096]⟩
abbrev S4096 : Shape := ⟨1, ![4096]⟩
abbrev S4096x11008 : Shape := ⟨2, ![4096, 11008]⟩
abbrev S11008x4096 : Shape := ⟨2, ![11008, 4096]⟩
abbrev S256x4096 : Shape := ⟨2, ![256, 4096]⟩
abbrev S4096x1 : Shape := ⟨2, ![4096, 1]⟩
abbrev S8192x128 : Shape := ⟨2, ![8192, 128]⟩
abbrev S1024x2048 : Shape := ⟨2, ![1024, 2048]⟩
abbrev S2048x512 : Shape := ⟨2, ![2048, 512]⟩
abbrev S1024x512 : Shape := ⟨2, ![1024, 512]⟩
abbrev S1024x128 : Shape := ⟨2, ![1024, 128]⟩
abbrev S8192x10752 : Shape := ⟨2, ![8192, 10752]⟩
abbrev S1024x4096 : Shape := ⟨2, ![1024, 4096]⟩
abbrev S4096x512 : Shape := ⟨2, ![4096, 512]⟩
abbrev S1024 : Shape := ⟨1, ![1024]⟩
abbrev S1024x1 : Shape := ⟨2, ![1024, 1]⟩
abbrev S4096x256 : Shape := ⟨2, ![4096, 256]⟩
abbrev S1024x256 : Shape := ⟨2, ![1024, 256]⟩
abbrev S512x10752 : Shape := ⟨2, ![512, 10752]⟩
abbrev S512x256 : Shape := ⟨2, ![512, 256]⟩
abbrev S10752x512 : Shape := ⟨2, ![10752, 512]⟩
abbrev S256x512 : Shape := ⟨2, ![256, 512]⟩
abbrev S512x512 : Shape := ⟨2, ![512, 512]⟩
abbrev S512x128 : Shape := ⟨2, ![512, 128]⟩

abbrev nBuf : Space → Nat
  | .hbm => 38
  | .vmem => 68
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x4096, .f32⟩
  | .hbm, ⟨3, _⟩ => ⟨S8192x256, .f32⟩
  | .hbm, ⟨4, _⟩ => ⟨S4096x4096, .f32⟩
  | .hbm, ⟨5, _⟩ => ⟨S4096, .f32⟩
  | .hbm, ⟨6, _⟩ => ⟨S4096x11008, .f32⟩
  | .hbm, ⟨7, _⟩ => ⟨S4096x11008, .f32⟩
  | .hbm, ⟨8, _⟩ => ⟨S11008x4096, .f32⟩
  | .hbm, ⟨9, _⟩ => ⟨S4096, .f32⟩
  | .hbm, ⟨10, _⟩ => ⟨S4096x4096, .f32⟩
  | .hbm, ⟨11, _⟩ => ⟨S256x4096, .f32⟩
  | .hbm, ⟨12, _⟩ => ⟨S4096x4096, .bf16⟩
  | .hbm, ⟨13, _⟩ => ⟨S4096x1, .f32⟩
  | .hbm, ⟨14, _⟩ => ⟨S4096x11008, .f32⟩
  | .hbm, ⟨15, _⟩ => ⟨S4096x11008, .f32⟩
  | .hbm, ⟨16, _⟩ => ⟨S4096x11008, .bf16⟩
  | .hbm, ⟨17, _⟩ => ⟨S4096x1, .f32⟩
  | .hbm, ⟨18, _⟩ => ⟨S4096x11008, .f32⟩
  | .hbm, ⟨19, _⟩ => ⟨S4096x11008, .f32⟩
  | .hbm, ⟨20, _⟩ => ⟨S4096x11008, .bf16⟩
  | .hbm, ⟨21, _⟩ => ⟨S11008x4096, .bf16⟩
  | .hbm, ⟨22, _⟩ => ⟨S4096x1, .f32⟩
  | .hbm, ⟨23, _⟩ => ⟨S4096x4096, .f32⟩
  | .hbm, ⟨24, _⟩ => ⟨S4096x4096, .f32⟩
  | .hbm, ⟨25, _⟩ => ⟨S4096x4096, .bf16⟩
  | .hbm, ⟨26, _⟩ => ⟨S256x4096, .bf16⟩
  | .hbm, ⟨27, _⟩ => ⟨S8192x4096, .f32⟩
  | .hbm, ⟨28, _⟩ => ⟨S8192x4096, .bf16⟩
  | .hbm, ⟨29, _⟩ => ⟨S8192x128, .f32⟩
  | .hbm, ⟨30, _⟩ => ⟨S8192x10752, .bf16⟩
  | .hbm, ⟨31, _⟩ => ⟨S8192x256, .bf16⟩
  | .hbm, ⟨32, _⟩ => ⟨S8192x4096, .f32⟩
  | .hbm, ⟨33, _⟩ => ⟨S8192x4096, .bf16⟩
  | .hbm, ⟨34, _⟩ => ⟨S8192x128, .f32⟩
  | .hbm, ⟨35, _⟩ => ⟨S8192x4096, .f32⟩
  | .hbm, ⟨36, _⟩ => ⟨S8192x4096, .bf16⟩
  | .hbm, ⟨37, _⟩ => ⟨S8192x128, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S1024x128, .f32⟩
  | .local _ .vmem, ⟨15, _⟩ => ⟨S1024x128, .f32⟩
  | .local _ .vmem, ⟨16, _⟩ => ⟨S1024x4096, .bf16⟩
  | .local _ .vmem, ⟨17, _⟩ => ⟨S1024x4096, .bf16⟩
  | .local _ .vmem, ⟨18, _⟩ => ⟨S1024x128, .f32⟩
  | .local _ .vmem, ⟨19, _⟩ => ⟨S1024x128, .f32⟩
  | .local _ .vmem, ⟨20, _⟩ => ⟨S4096x512, .bf16⟩
  | .local _ .vmem, ⟨21, _⟩ => ⟨S4096x512, .bf16⟩
  | .local _ .vmem, ⟨22, _⟩ => ⟨S4096x512, .bf16⟩
  | .local _ .vmem, ⟨23, _⟩ => ⟨S4096x512, .bf16⟩
  | .local _ .vmem, ⟨24, _⟩ => ⟨S1024x512, .bf16⟩
  | .local _ .vmem, ⟨25, _⟩ => ⟨S1024x512, .bf16⟩
  | .local _ .vmem, ⟨26, _⟩ => ⟨S1024x4096, .bf16⟩
  | .local _ .vmem, ⟨27, _⟩ => ⟨S1024x4096, .bf16⟩
  | .local _ .vmem, ⟨28, _⟩ => ⟨S1024x128, .f32⟩
  | .local _ .vmem, ⟨29, _⟩ => ⟨S1024x128, .f32⟩
  | .local _ .vmem, ⟨30, _⟩ => ⟨S4096x256, .bf16⟩
  | .local _ .vmem, ⟨31, _⟩ => ⟨S4096x256, .bf16⟩
  | .local _ .vmem, ⟨32, _⟩ => ⟨S1024x256, .bf16⟩
  | .local _ .vmem, ⟨33, _⟩ => ⟨S1024x256, .bf16⟩
  | .local _ .vmem, ⟨34, _⟩ => ⟨S512x10752, .bf16⟩
  | .local _ .vmem, ⟨35, _⟩ => ⟨S512x10752, .bf16⟩
  | .local _ .vmem, ⟨36, _⟩ => ⟨S512x256, .bf16⟩
  | .local _ .vmem, ⟨37, _⟩ => ⟨S512x256, .bf16⟩
  | .local _ .vmem, ⟨38, _⟩ => ⟨S10752x512, .bf16⟩
  | .local _ .vmem, ⟨39, _⟩ => ⟨S10752x512, .bf16⟩
  | .local _ .vmem, ⟨40, _⟩ => ⟨S256x512, .bf16⟩
  | .local _ .vmem, ⟨41, _⟩ => ⟨S256x512, .bf16⟩
  | .local _ .vmem, ⟨42, _⟩ => ⟨S512x512, .f32⟩
  | .local _ .vmem, ⟨43, _⟩ => ⟨S512x512, .f32⟩
  | .local _ .vmem, ⟨44, _⟩ => ⟨S512x512, .f32⟩
  | .local _ .vmem, ⟨45, _⟩ => ⟨S512x512, .f32⟩
  | .local _ .vmem, ⟨46, _⟩ => ⟨S512x512, .bf16⟩
  | .local _ .vmem, ⟨47, _⟩ => ⟨S512x512, .bf16⟩
  | .local _ .vmem, ⟨48, _⟩ => ⟨S512x128, .f32⟩
  | .local _ .vmem, ⟨49, _⟩ => ⟨S512x128, .f32⟩
  | .local _ .vmem, ⟨50, _⟩ => ⟨S1024x4096, .bf16⟩
  | .local _ .vmem, ⟨51, _⟩ => ⟨S1024x4096, .bf16⟩
  | .local _ .vmem, ⟨52, _⟩ => ⟨S1024x128, .f32⟩
  | .local _ .vmem, ⟨53, _⟩ => ⟨S1024x128, .f32⟩
  | .local _ .vmem, ⟨54, _⟩ => ⟨S4096x512, .bf16⟩
  | .local _ .vmem, ⟨55, _⟩ => ⟨S4096x512, .bf16⟩
  | .local _ .vmem, ⟨56, _⟩ => ⟨S1024x256, .f32⟩
  | .local _ .vmem, ⟨57, _⟩ => ⟨S1024x256, .f32⟩
  | .local _ .vmem, ⟨58, _⟩ => ⟨S256x512, .bf16⟩
  | .local _ .vmem, ⟨59, _⟩ => ⟨S256x512, .bf16⟩
  | .local _ .vmem, ⟨60, _⟩ => ⟨S1024x512, .f32⟩
  | .local _ .vmem, ⟨61, _⟩ => ⟨S1024x512, .f32⟩
  | .local _ .vmem, ⟨62, _⟩ => ⟨S1024x512, .f32⟩
  | .local _ .vmem, ⟨63, _⟩ => ⟨S1024x512, .f32⟩
  | .local _ .vmem, ⟨64, _⟩ => ⟨S1024x512, .bf16⟩
  | .local _ .vmem, ⟨65, _⟩ => ⟨S1024x512, .bf16⟩
  | .local _ .vmem, ⟨66, _⟩ => ⟨S1024x128, .f32⟩
  | .local _ .vmem, ⟨67, _⟩ => ⟨S1024x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev main_v15_2 : Ref sig .tc := ⟨.hbm, 29, rfl⟩
abbrev main_v16 : Ref sig .tc := ⟨.hbm, 30, rfl⟩
abbrev main_v17 : Ref sig .tc := ⟨.hbm, 31, rfl⟩
abbrev main_v18_0 : Ref sig .tc := ⟨.hbm, 32, rfl⟩
abbrev main_v18_1 : Ref sig .tc := ⟨.hbm, 33, rfl⟩
abbrev main_v18_2 : Ref sig .tc := ⟨.hbm, 34, rfl⟩
abbrev main_v19_0 : Ref sig .tc := ⟨.hbm, 35, rfl⟩
abbrev main_v19_1 : Ref sig .tc := ⟨.hbm, 36, rfl⟩
abbrev main_v19_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg4_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg2_1 : Ref sig .tc := ⟨.vmem, 39, rfl⟩
abbrev cc3_stg3_0 : Ref sig .tc := ⟨.vmem, 40, rfl⟩
abbrev cc3_stg3_1 : Ref sig .tc := ⟨.vmem, 41, rfl⟩
abbrev cc3_stg4_0 : Ref sig .tc := ⟨.vmem, 42, rfl⟩
abbrev cc3_stg4_1 : Ref sig .tc := ⟨.vmem, 43, rfl⟩
abbrev cc3_stg5_0 : Ref sig .tc := ⟨.vmem, 44, rfl⟩
abbrev cc3_stg5_1 : Ref sig .tc := ⟨.vmem, 45, rfl⟩
abbrev cc3_stg6_0 : Ref sig .tc := ⟨.vmem, 46, rfl⟩
abbrev cc3_stg6_1 : Ref sig .tc := ⟨.vmem, 47, rfl⟩
abbrev cc3_stg7_0 : Ref sig .tc := ⟨.vmem, 48, rfl⟩
abbrev cc3_stg7_1 : Ref sig .tc := ⟨.vmem, 49, rfl⟩
abbrev cc4_stg0_0 : Ref sig .tc := ⟨.vmem, 50, rfl⟩
abbrev cc4_stg0_1 : Ref sig .tc := ⟨.vmem, 51, rfl⟩
abbrev cc4_stg1_0 : Ref sig .tc := ⟨.vmem, 52, rfl⟩
abbrev cc4_stg1_1 : Ref sig .tc := ⟨.vmem, 53, rfl⟩
abbrev cc4_stg2_0 : Ref sig .tc := ⟨.vmem, 54, rfl⟩
abbrev cc4_stg2_1 : Ref sig .tc := ⟨.vmem, 55, rfl⟩
abbrev cc4_stg3_0 : Ref sig .tc := ⟨.vmem, 56, rfl⟩
abbrev cc4_stg3_1 : Ref sig .tc := ⟨.vmem, 57, rfl⟩
abbrev cc4_stg4_0 : Ref sig .tc := ⟨.vmem, 58, rfl⟩
abbrev cc4_stg4_1 : Ref sig .tc := ⟨.vmem, 59, rfl⟩
abbrev cc4_stg5_0 : Ref sig .tc := ⟨.vmem, 60, rfl⟩
abbrev cc4_stg5_1 : Ref sig .tc := ⟨.vmem, 61, rfl⟩
abbrev cc4_stg6_0 : Ref sig .tc := ⟨.vmem, 62, rfl⟩
abbrev cc4_stg6_1 : Ref sig .tc := ⟨.vmem, 63, rfl⟩
abbrev cc4_stg7_0 : Ref sig .tc := ⟨.vmem, 64, rfl⟩
abbrev cc4_stg7_1 : Ref sig .tc := ⟨.vmem, 65, rfl⟩
abbrev cc4_stg8_0 : Ref sig .tc := ⟨.vmem, 66, rfl⟩
abbrev cc4_stg8_1 : Ref sig .tc := ⟨.vmem, 67, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem4_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem2_1 : DmaSem sig := 39
abbrev cc3_sem3_0 : DmaSem sig := 40
abbrev cc3_sem3_1 : DmaSem sig := 41
abbrev cc3_sem4_0 : DmaSem sig := 42
abbrev cc3_sem4_1 : DmaSem sig := 43
abbrev cc3_sem5_0 : DmaSem sig := 44
abbrev cc3_sem5_1 : DmaSem sig := 45
abbrev cc3_sem6_0 : DmaSem sig := 46
abbrev cc3_sem6_1 : DmaSem sig := 47
abbrev cc3_sem7_0 : DmaSem sig := 48
abbrev cc3_sem7_1 : DmaSem sig := 49
abbrev cc4_sem0_0 : DmaSem sig := 50
abbrev cc4_sem0_1 : DmaSem sig := 51
abbrev cc4_sem1_0 : DmaSem sig := 52
abbrev cc4_sem1_1 : DmaSem sig := 53
abbrev cc4_sem2_0 : DmaSem sig := 54
abbrev cc4_sem2_1 : DmaSem sig := 55
abbrev cc4_sem3_0 : DmaSem sig := 56
abbrev cc4_sem3_1 : DmaSem sig := 57
abbrev cc4_sem4_0 : DmaSem sig := 58
abbrev cc4_sem4_1 : DmaSem sig := 59
abbrev cc4_sem5_0 : DmaSem sig := 60
abbrev cc4_sem5_1 : DmaSem sig := 61
abbrev cc4_sem6_0 : DmaSem sig := 62
abbrev cc4_sem6_1 : DmaSem sig := 63
abbrev cc4_sem7_0 : DmaSem sig := 64
abbrev cc4_sem7_1 : DmaSem sig := 65
abbrev cc4_sem8_0 : DmaSem sig := 66
abbrev cc4_sem8_1 : DmaSem sig := 67

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v22 : BitVec 1 := Scalar.cmpi .eq arg1 c0_i32
  let v23 : BitVec 32 := Scalar.extui v22
  let c0_i32_14 : BitVec 32 := 0#32
  let v24 : BitVec 1 := Scalar.cmpi .ne v23 c0_i32_14
  v24

def k0_cond2 (i : grid0.Coords) : BitVec 1 :=
  let arg1 : BitVec 32 := BitVec.ofNat 32 (i 1).val
  let c0_i32_15 : BitVec 32 := 0#32
  let v25 : BitVec 1 := Scalar.cmpi .sgt arg1 c0_i32_15
  let v26 : BitVec 32 := Scalar.extui v25
  let c0_i32_16 : BitVec 32 := 0#32
  let v27 : BitVec 1 := Scalar.cmpi .ne v26 c0_i32_16
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![8, 21], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S4096x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S4096x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![8, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c42_i32 : BitVec 32 := 42#32
  let v0 : BitVec 32 := Scalar.addi arg1 c42_i32
  let c0_i32 : BitVec 32 := 0#32
  let c0_i32_0 : BitVec 32 := 0#32
  ![c0_i32.toNat, v0.toNat]

def cc2_transform_3 (i : grid2.Coords) : Fin 2 → Nat :=
  let arg0 : BitVec 32 := BitVec.ofNat 32 (i 0).val
  let arg1 : BitVec 32 := BitVec.ofNat 32 (i 1).val
  let c42_i32 : BitVec 32 := 42#32
  let v0 : BitVec 32 := Scalar.addi arg1 c42_i32
  let c0_i32 : BitVec 32 := 0#32
  let c0_i32_0 : BitVec 32 := 0#32
  ![c0_i32.toNat, v0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 1 → Memref sig .tc .vmem S4096x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true]

abbrev stage2_3 : Fin 1 → Memref sig .tc .vmem S4096x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, true]

abbrev stage2_4 : Fin 2 → Memref sig .tc .vmem S1024x256 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨2, ![16, 8], ![false, false]⟩

def k3_cond1 (i : grid3.Coords) : BitVec 1 :=
  let arg1 : BitVec 32 := BitVec.ofNat 32 (i 1).val
  let c0_i32 : BitVec 32 := 0#32
  let v25 : BitVec 1 := Scalar.cmpi .eq arg1 c0_i32
  let v26 : BitVec 32 := Scalar.extui v25
  let c0_i32_14 : BitVec 32 := 0#32
  let v27 : BitVec 1 := Scalar.cmpi .ne v26 c0_i32_14
  v27

def k3_cond2 (i : grid3.Coords) : BitVec 1 :=
  let arg1 : BitVec 32 := BitVec.ofNat 32 (i 1).val
  let c0_i32_15 : BitVec 32 := 0#32
  let v28 : BitVec 1 := Scalar.cmpi .sgt arg1 c0_i32_15
  let v29 : BitVec 32 := Scalar.extui v28
  let c0_i32_16 : BitVec 32 := 0#32
  let v30 : BitVec 1 := Scalar.cmpi .ne v29 c0_i32_16
  v30

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let c42_i32 : BitVec 32 := 42#32
  let c0_i32 : BitVec 32 := 0#32
  ![c42_i32.toNat, arg1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S512x10752 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S512x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S10752x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S256x512 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S512x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S512x512 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S512x512 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev stage3_7 : Fin 2 → Memref sig .tc .vmem S512x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, false]

abbrev grid4 : Pipeline.Grid := ⟨2, ![8, 8], ![false, false]⟩

def k4_cond1 (i : grid4.Coords) : BitVec 1 :=
  let arg1 : BitVec 32 := BitVec.ofNat 32 (i 1).val
  let c0_i32 : BitVec 32 := 0#32
  let v43 : BitVec 1 := Scalar.cmpi .eq arg1 c0_i32
  let v44 : BitVec 32 := Scalar.extui v43
  let c0_i32_22 : BitVec 32 := 0#32
  let v45 : BitVec 1 := Scalar.cmpi .ne v44 c0_i32_22
  v45

def k4_cond2 (i : grid4.Coords) : BitVec 1 :=
  let arg1 : BitVec 32 := BitVec.ofNat 32 (i 1).val
  let c0_i32_23 : BitVec 32 := 0#32
  let v46 : BitVec 1 := Scalar.cmpi .sgt arg1 c0_i32_23
  let v47 : BitVec 32 := Scalar.extui v46
  let c0_i32_24 : BitVec 32 := 0#32
  let v48 : BitVec 1 := Scalar.cmpi .ne v47 c0_i32_24
  v48

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_7 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_8 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1024x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1024x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S4096x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S1024x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev stage4_4 : Fin 2 → Memref sig .tc .vmem S256x512 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![false, true]

abbrev stage4_5 : Fin 2 → Memref sig .tc .vmem S1024x512 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev stage4_6 : Fin 2 → Memref sig .tc .vmem S1024x512 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, true]

abbrev stage4_7 : Fin 2 → Memref sig .tc .vmem S1024x512 .bf16 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true, true]

abbrev stage4_8 : Fin 2 → Memref sig .tc .vmem S1024x128 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true, false]
-- ==== Reference2Ideal.lean ====
abbrev S8192x2048 : Shape := ⟨2, ![8192, 2048]⟩
abbrev S8192x4096 : Shape := ⟨2, ![8192, 4096]⟩
abbrev S8192x256 : Shape := ⟨2, ![8192, 256]⟩
abbrev S4096x4096 : Shape := ⟨2, ![4096, 4096]⟩
abbrev S4096 : Shape := ⟨1, ![4096]⟩
abbrev S4096x11008 : Shape := ⟨2, ![4096, 11008]⟩
abbrev S11008x4096 : Shape := ⟨2, ![11008, 4096]⟩
abbrev S256x4096 : Shape := ⟨2, ![256, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S8192x11008 : Shape := ⟨2, ![8192, 11008]⟩

abbrev nBuf : Space → Nat
  | .hbm => 75
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x4096, .f32⟩
  | .hbm, ⟨3, _⟩ => ⟨S8192x256, .f32⟩
  | .hbm, ⟨4, _⟩ => ⟨S4096x4096, .f32⟩
  | .hbm, ⟨5, _⟩ => ⟨S4096, .f32⟩
  | .hbm, ⟨6, _⟩ => ⟨S4096x11008, .f32⟩
  | .hbm, ⟨7, _⟩ => ⟨S4096x11008, .f32⟩
  | .hbm, ⟨8, _⟩ => ⟨S11008x4096, .f32⟩
  | .hbm, ⟨9, _⟩ => ⟨S4096, .f32⟩
  | .hbm, ⟨10, _⟩ => ⟨S4096x4096, .f32⟩
  | .hbm, ⟨11, _⟩ => ⟨S256x4096, .f32⟩
  | .hbm, ⟨12, _⟩ => ⟨S8192x2048, .f32⟩
  | .hbm, ⟨13, _⟩ => ⟨S8192x2048, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x4096, .f32⟩
  | .hbm, ⟨29, _⟩ => ⟨S8192x4096, .f32⟩
  | .hbm, ⟨30, _⟩ => ⟨S1x4096, .f32⟩
  | .hbm, ⟨31, _⟩ => ⟨S8192x4096, .f32⟩
  | .hbm, ⟨32, _⟩ => ⟨S8192x4096, .f32⟩
  | .hbm, ⟨33, _⟩ => ⟨S8192x11008, .f32⟩
  | .hbm, ⟨34, _⟩ => ⟨S8192x11008, .f32⟩
  | .hbm, ⟨35, _⟩ => ⟨S8192x11008, .f32⟩
  | .hbm, ⟨36, _⟩ => ⟨S_, .f32⟩
  | .hbm, ⟨37, _⟩ => ⟨S8192x11008, .f32⟩
  | .hbm, ⟨38, _⟩ => ⟨S8192x11008, .f32⟩
  | .hbm, ⟨39, _⟩ => ⟨S_, .f32⟩
  | .hbm, ⟨40, _⟩ => ⟨S8192x11008, .f32⟩
  | .hbm, ⟨41, _⟩ => ⟨S8192x11008, .f32⟩
  | .hbm, ⟨42, _⟩ => ⟨S8192x11008, .f32⟩
  | .hbm, ⟨43, _⟩ => ⟨S8192x11008, .f32⟩
  | .hbm, ⟨44, _⟩ => ⟨S8192x11008, .f32⟩
  | .hbm, ⟨45, _⟩ => ⟨S8192x4096, .f32⟩
  | .hbm, ⟨46, _⟩ => ⟨S8192x4096, .f32⟩
  | .hbm, ⟨47, _⟩ => ⟨S8192x4096, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x1, .f32⟩
  | .hbm, ⟨58, _⟩ => ⟨S8192x4096, .f32⟩
  | .hbm, ⟨59, _⟩ => ⟨S8192x4096, .f32⟩
  | .hbm, ⟨60, _⟩ => ⟨S1x4096, .f32⟩
  | .hbm, ⟨61, _⟩ => ⟨S8192x4096, .f32⟩
  | .hbm, ⟨62, _⟩ => ⟨S8192x4096, .f32⟩
  | .hbm, ⟨63, _⟩ => ⟨S8192x4096, .f32⟩
  | .hbm, ⟨64, _⟩ => ⟨S8192x4096, .f32⟩
  | .hbm, ⟨65, _⟩ => ⟨S8192x4096, .f32⟩
  | .hbm, ⟨66, _⟩ => ⟨S_, .f32⟩
  | .hbm, ⟨67, _⟩ => ⟨S8192x4096, .f32⟩
  | .hbm, ⟨68, _⟩ => ⟨S8192x4096, .f32⟩
  | .hbm, ⟨69, _⟩ => ⟨S_, .f32⟩
  | .hbm, ⟨70, _⟩ => ⟨S8192x4096, .f32⟩
  | .hbm, ⟨71, _⟩ => ⟨S8192x4096, .f32⟩
  | .hbm, ⟨72, _⟩ => ⟨S8192x4096, .f32⟩
  | .hbm, ⟨73, _⟩ => ⟨S8192x4096, .f32⟩
  | .hbm, ⟨74, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_2 : Ref sig .tc := ⟨.hbm, 48, rfl⟩
abbrev main_v25 : Ref sig .tc := ⟨.hbm, 49, rfl⟩
abbrev main_v26 : Ref sig .tc := ⟨.hbm, 50, rfl⟩
abbrev main_cst_3 : Ref sig .tc := ⟨.hbm, 51, rfl⟩
abbrev main_v27 : Ref sig .tc := ⟨.hbm, 52, rfl⟩
abbrev main_v28 : Ref sig .tc := ⟨.hbm, 53, rfl⟩
abbrev main_cst_4 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_5 : Ref sig .tc := ⟨.hbm, 66, rfl⟩
abbrev main_v40 : Ref sig .tc := ⟨.hbm, 67, rfl⟩
abbrev main_v41 : Ref sig .tc := ⟨.hbm, 68, rfl⟩
abbrev main_cst_6 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩

abbrev nD : Nat := 1
abbrev τ : Topo := Topo.v7x

variable {F : FTy → Type} [FloatOps F]
-- ==== Kernel3.lean ====
abbrev S8192x4096 : Shape := ⟨2, ![8192, 4096]⟩
abbrev S4096 : Shape := ⟨1, ![4096]⟩
abbrev S4096x14336 : Shape := ⟨2, ![4096, 14336]⟩
abbrev S4096x1 : Shape := ⟨2, ![4096, 1]⟩
abbrev S8192x128 : Shape := ⟨2, ![8192, 128]⟩
abbrev S512x4096 : Shape := ⟨2, ![512, 4096]⟩
abbrev S512x128 : Shape := ⟨2, ![512, 128]⟩
abbrev S8192x8192 : Shape := ⟨2, ![8192, 8192]⟩
abbrev S1024x4096 : Shape := ⟨2, ![1024, 4096]⟩
abbrev S1024x128 : Shape := ⟨2, ![1024, 128]⟩
abbrev S4096x1024 : Shape := ⟨2, ![4096, 1024]⟩
abbrev S1024x1024 : Shape := ⟨2, ![1024, 1024]⟩
abbrev S1024 : Shape := ⟨1, ![1024]⟩
abbrev S1024x1 : Shape := ⟨2, ![1024, 1]⟩
abbrev S8192x6144 : Shape := ⟨2, ![8192, 6144]⟩

abbrev nBuf : Space → Nat
  | .hbm => 11
  | .vmem => 22
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096x14336, .f32⟩
  | .hbm, ⟨3, _⟩ => ⟨S4096x1, .f32⟩
  | .hbm, ⟨4, _⟩ => ⟨S4096x14336, .f32⟩
  | .hbm, ⟨5, _⟩ => ⟨S4096x14336, .f32⟩
  | .hbm, ⟨6, _⟩ => ⟨S4096x14336, .bf16⟩
  | .hbm, ⟨7, _⟩ => ⟨S8192x4096, .bf16⟩
  | .hbm, ⟨8, _⟩ => ⟨S8192x128, .f32⟩
  | .hbm, ⟨9, _⟩ => ⟨S8192x8192, .bf16⟩
  | .hbm, ⟨10, _⟩ => ⟨S8192x6144, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S512x128, .f32⟩
  | .local _ .vmem, ⟨5, _⟩ => ⟨S512x128, .f32⟩
  | .local _ .vmem, ⟨6, _⟩ => ⟨S1024x4096, .bf16⟩
  | .local _ .vmem, ⟨7, _⟩ => ⟨S1024x4096, .bf16⟩
  | .local _ .vmem, ⟨8, _⟩ => ⟨S1024x128, .f32⟩
  | .local _ .vmem, ⟨9, _⟩ => ⟨S1024x128, .f32⟩
  | .local _ .vmem, ⟨10, _⟩ => ⟨S4096x1024, .bf16⟩
  | .local _ .vmem, ⟨11, _⟩ => ⟨S4096x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x4096, .bf16⟩
  | .local _ .vmem, ⟨15, _⟩ => ⟨S1024x4096, .bf16⟩
  | .local _ .vmem, ⟨16, _⟩ => ⟨S1024x128, .f32⟩
  | .local _ .vmem, ⟨17, _⟩ => ⟨S1024x128, .f32⟩
  | .local _ .vmem, ⟨18, _⟩ => ⟨S4096x1024, .bf16⟩
  | .local _ .vmem, ⟨19, _⟩ => ⟨S4096x1024, .bf16⟩
  | .local _ .vmem, ⟨20, _⟩ => ⟨S1024x1024, .f32⟩
  | .local _ .vmem, ⟨21, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S4096x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![8, 6], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![c0_i32.toNat, v0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S4096x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]
-- ==== Reference3Ideal.lean ====
abbrev S8192x4096 : Shape := ⟨2, ![8192, 4096]⟩
abbrev S4096 : Shape := ⟨1, ![4096]⟩
abbrev S4096x14336 : Shape := ⟨2, ![4096, 14336]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S8192x14336 : Shape := ⟨2, ![8192, 14336]⟩
abbrev S8192x8192 : Shape := ⟨2, ![8192, 8192]⟩
abbrev S8192x6144 : Shape := ⟨2, ![8192, 6144]⟩

abbrev nBuf : Space → Nat
  | .hbm => 23
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096x14336, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x4096, .f32⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S8192x4096, .f32⟩
  | .hbm, ⟨19, _⟩ => ⟨S8192x14336, .f32⟩
  | .hbm, ⟨20, _⟩ => ⟨S8192x8192, .f32⟩
  | .hbm, ⟨21, _⟩ => ⟨S8192x6144, .f32⟩
  | .hbm, ⟨22, _⟩ => ⟨S8192x8192, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Loops.lean ====
/- The two counted loops of the retention kernel by their invariants, over any float values.

   The first loop stores, chunk by chunk, the two chunk summaries `Kᵀ (V ζ)` (forward and backward) into the two
   f32 scratch arrays. The second carries the two states through the chunks, the forward one upwards and the
   backward one downwards, and stores each state as it stands before its chunk into the two bf16 scratch arrays.
   Both are stated by what the slabs of the scratch arrays hold. -/
module

public import proofs.«01_k».proof.Proof.Gen.KernelIdeal.Loops
public import proofs.«01_k».proof.Proof.Gen.KernelIdeal.Frame
public import Idealize.ShloMosaic.Lib.VecWindow

@[expose] public section

set_option maxRecDepth 16384
set_option maxHeartbeats 4000000

noncomputable section

namespace Cert.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- The chunk number of a trip number (below 32, itself). -/
abbrev ch (k : ℕ) : Fin 32 := Fin.ofNat 32 k

theorem ch_val (n : Fin 32) : ch n.val = n := Fin.ext (Nat.mod_eq_of_lt n.isLt)

theorem chunk_inb (n : Fin 32) : ∀ a, (![128 * n.val, 0] : Fin 2 → ℕ) a + S128x128.size a ≤ S4096x128.size a :=
  Fin.forall_fin_two.mpr ⟨by have := n.isLt; show 128 * n.val + 128 ≤ 4096; omega, Nat.le_refl _⟩

theorem slab_inb (n : Fin 32) : ∀ a, (![n.val, 0, 0] : Fin 3 → ℕ) a + S1x128x128.size a ≤ S32x128x128.size a := by
  revert n; decide +kernel

/-- Chunk `n` (128 rows) of a block of 4096 rows. -/
def chunk {α : Type} (X : S4096x128.Idx → α) (n : Fin 32) : S128x128.Idx → α :=
  VecWindow.window X ![128 * n.val, 0] S128x128.size (chunk_inb n)

/-- Slab `n` of an array of 32 slabs. -/
def slab {α : Type} (X : S32x128x128.Idx → α) (n : Fin 32) : S1x128x128.Idx → α :=
  VecWindow.window X ![n.val, 0, 0] S1x128x128.size (slab_inb n)

/-- The forward state before chunk `k`, from the decay word and the chunk summaries. -/
def stF (v1 : Elt F .f32) (r : Fin 32 → FVec F S1x128x128 .f32) : ℕ → FVec F S128x128 .f32
  | 0 => k0_pay13
  | k + 1 => k0_pay16 v1 (stF v1 r k) (r (ch k))

/-- The backward state after `k` chunks from the last one downwards. -/
def stB (v3 : Elt F .f32) (r : Fin 32 → FVec F S1x128x128 .f32) : ℕ → FVec F S128x128 .f32
  | 0 => k0_pay13
  | k + 1 => k0_pay17 v3 (stB v3 r k) (r (ch (31 - k)))

section Slabs

variable {sig : RefSig} {κ : Kind} {sp : Space} {e : EltTy} {Val : EltTy → Type}

theorem readAt_chunk (v : View sig κ sp S4096x128 e) (f : v.ty.Contents Val) {off : Fin 2 → ℕ}
    (inb : ∀ a, off a + S128x128.size a ≤ S4096x128.size a) (n : Fin 32) (h : off = ![128 * n.val, 0]) :
    v.readAt Val (Rect.unit (s := S4096x128) off S128x128.size inb).toLoadRect f = chunk (v.read Val f) n :=
  View.readAt_unit v f inb h (chunk_inb n)

theorem readAt_slab (v : View sig κ sp S32x128x128 e) (f : v.ty.Contents Val) {off : Fin 3 → ℕ}
    (inb : ∀ a, off a + S1x128x128.size a ≤ S32x128x128.size a) (n : Fin 32) (h : off = ![n.val, 0, 0]) :
    v.readAt Val (Rect.unit (s := S32x128x128) off S1x128x128.size inb).toLoadRect f = slab (v.read Val f) n :=
  View.readAt_unit v f inb h (slab_inb n)

/-- A slab just stored is the payload. -/
theorem slab_writes_same (v : View sig κ sp S32x128x128 e) (f : v.ty.Contents Val) {off : Fin 3 → ℕ}
    (inb : ∀ a, off a + S1x128x128.size a ≤ S32x128x128.size a) (w : S1x128x128.Idx → Val e) (n : Fin 32)
    (h : off = ![n.val, 0, 0]) :
    slab (v.read Val (v.writes Val f [⟨Rect.unit (s := S32x128x128) off S1x128x128.size inb, w⟩])) n = w := by
  rw [View.read_writes_cons_put v f inb w [] h]
  exact VecWindow.window_put_same _ _ _ _ _

/-- Another slab is as it was. -/
theorem slab_writes_ne (v : View sig κ sp S32x128x128 e) (f : v.ty.Contents Val) {off : Fin 3 → ℕ}
    (inb : ∀ a, off a + S1x128x128.size a ≤ S32x128x128.size a) (w : S1x128x128.Idx → Val e) (n m : Fin 32)
    (h : off = ![n.val, 0, 0]) (hne : m ≠ n) :
    slab (v.read Val (v.writes Val f [⟨Rect.unit (s := S32x128x128) off S1x128x128.size inb, w⟩])) m = slab (v.read Val f) m := by
  rw [View.read_writes_cons_put v f inb w [] h]
  refine VecWindow.window_put_of_disjoint _ _ _ _ _ _ _ (0 : Fin 3) ?_
  have hne' : m.val ≠ n.val := fun e => hne (Fin.ext e)
  show m.val + 1 ≤ n.val ∨ n.val + 1 ≤ m.val
  omega

/-- Slabs filled upwards: the ones before `k` as wanted, slab `k` stored, hence the ones before `k + 1`. -/
theorem slab_up (v : View sig κ sp S32x128x128 e) (f : v.ty.Contents Val) {off : Fin 3 → ℕ}
    (inb : ∀ a, off a + S1x128x128.size a ≤ S32x128x128.size a) (w : S1x128x128.Idx → Val e)
    (W : Fin 32 → S1x128x128.Idx → Val e) (k : ℕ) (hk : k < 32) (hoff : off = ![(ch k).val, 0, 0])
    (hw : w = W (ch k)) (h : ∀ n : Fin 32, n.val < k → slab (v.read Val f) n = W n) :
    ∀ n : Fin 32, n.val < k + 1 →
      slab (v.read Val (v.writes Val f [⟨Rect.unit (s := S32x128x128) off S1x128x128.size inb, w⟩])) n = W n := by
  intro n hn
  have hc : (ch k).val = k := Nat.mod_eq_of_lt hk
  by_cases e : n = ch k
  · subst e; rw [slab_writes_same v f inb w _ hoff, hw]
  · rw [slab_writes_ne v f inb w _ n hoff e]
    refine h n ?_
    have : n.val ≠ (ch k).val := fun e' => e (Fin.ext e')
    omega

/-- Slabs filled downwards, from the last one. -/
theorem slab_down (v : View sig κ sp S32x128x128 e) (f : v.ty.Contents Val) {off : Fin 3 → ℕ}
    (inb : ∀ a, off a + S1x128x128.size a ≤ S32x128x128.size a) (w : S1x128x128.Idx → Val e)
    (W : Fin 32 → S1x128x128.Idx → Val e) (k : ℕ) (hk : k < 32) (hoff : off = ![(ch (31 - k)).val, 0, 0])
    (hw : w = W (ch (31 - k))) (h : ∀ n : Fin 32, 31 - n.val < k → slab (v.read Val f) n = W n) :
    ∀ n : Fin 32, 31 - n.val < k + 1 →
      slab (v.read Val (v.writes Val f [⟨Rect.unit (s := S32x128x128) off S1x128x128.size inb, w⟩])) n = W n := by
  intro n hn
  have hc : (ch (31 - k)).val = 31 - k := Nat.mod_eq_of_lt (by omega)
  by_cases e : n = ch (31 - k)
  · subst e; rw [slab_writes_same v f inb w _ hoff, hw]
  · rw [slab_writes_ne v f inb w _ n hoff e]
    refine h n ?_
    have : n.val ≠ (ch (31 - k)).val := fun e' => e (Fin.ext e')
    have := n.isLt
    omega

end Slabs

theorem off3_eq : ∀ k : Fin k0_t1_loop.trips, k0_off3 k = ![128 * (ch k.val).val, 0] := by decide +kernel
theorem off4_eq : ∀ k : Fin k0_t1_loop.trips, k0_off4 k = ![(ch k.val).val, 0, 0] := by decide +kernel
theorem off5_eq : ∀ k : Fin k0_t2_loop.trips, k0_off5 k = ![(ch k.val).val, 0, 0] := by decide +kernel
theorem off6_eq : ∀ k : Fin k0_t2_loop.trips, k0_off6 k = ![(ch (31 - k.val)).val, 0, 0] := by decide +kernel

section Inv

variable (𝒱 : Variants) (c : Dev nD) (bd : Option 𝒱.V) (E : Set ℕ) (i : grid0.Coords)
  (arg2 : Memref sig .tc .smem S2x16 .f32) (harg2 : arg2.IsWhole) (arg3 : Memref sig .tc .vmem S4096x128 .bf16) (harg3 : arg3.IsWhole)
  (arg4 : Memref sig .tc .vmem S4096x128 .bf16) (harg4 : arg4.IsWhole) (arg5 : Memref sig .tc .vmem S4096x128 .bf16) (harg5 : arg5.IsWhole)
  (arg6 : Memref sig .tc .vmem S4096x128 .bf16) (harg6 : arg6.IsWhole) (arg7 : Memref sig .tc .vmem S1x128 .f32) (harg7 : arg7.IsWhole)
  (arg8 : Memref sig .tc .vmem S4096x128 .bf16) (harg8 : arg8.IsWhole) (arg9 : Memref sig .tc .vmem S32x128x128 .f32) (harg9 : arg9.IsWhole)
  (arg10 : Memref sig .tc .vmem S32x128x128 .f32) (harg10 : arg10.IsWhole) (arg11 : Memref sig .tc .vmem S32x128x128 .bf16) (harg11 : arg11.IsWhole)
  (arg12 : Memref sig .tc .vmem S32x128x128 .bf16) (harg12 : arg12.IsWhole)
  (v1 : Elt F .f32) (v3 : Elt F .f32) (v32 : FVec F S128x1 .f32) (v37 : FVec F S128x1 .f32) (v46 : FVec F S128x1 .f32)

/-- Before trip `k` of the summaries' loop: the slabs before `k` hold the summaries of their chunks. -/
abbrev invK (fk : BufTy.Contents (Elt F) arg4.view.ty) (fv : BufTy.Contents (Elt F) arg5.view.ty) (k : ℕ) :
    sProp (MT nD τ sig Unit (Elt F) ℕ (UR sig nD τ) ℕ) :=
  iprop((arg4.view.loc (c : Thread nD τ) ↦[arg4.view.set]{fullShare} fk) ∗ (arg5.view.loc (c : Thread nD τ) ↦[arg5.view.set]{fullShare} fv)
    ∗ (∃ f, (arg9.view.loc (c : Thread nD τ) ↦[arg9.view.set]{fullShare} f)
        ∗ ⌜∀ n : Fin 32, n.val < k → slab (arg9.view.read (Elt F) f) n
            = k0_pay11 v32 v37 (chunk (arg4.view.read (Elt F) fk) n) (chunk (arg5.view.read (Elt F) fv) n)⌝)
    ∗ (∃ f, (arg10.view.loc (c : Thread nD τ) ↦[arg10.view.set]{fullShare} f)
        ∗ ⌜∀ n : Fin 32, n.val < k → slab (arg10.view.read (Elt F) f) n
            = k0_pay12 v32 v37 (chunk (arg4.view.read (Elt F) fk) n) (chunk (arg5.view.read (Elt F) fv) n)⌝))

set_option warn.classDefReducibility false in
/-- The summaries' loop. -/
@[sl_loop] def loopK (fk : BufTy.Contents (Elt F) arg4.view.ty) (fv : BufTy.Contents (Elt F) arg5.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 v1 v3 v32 v37 v46 where
  inv k _ := invK c arg4 arg5 arg9 arg10 v32 v37 fk fv k
  step k acc := by
    have hk : k.val < 32 := Nat.lt_of_lt_of_le k.isLt k0_t1_abs.2.1
    iintro ⟨HR4, HR5, ⟨%f9, HW9, %h9⟩, ⟨%f10, HW10, %h10⟩⟩
    unfold k0_t1_body
    sl_exec
    sl_step
    isplitl [HR4]; · iexact HR4
    isplitl [HR5]; · iexact HR5
    isplitl [HW9]
    · iexists _; isplitl [HW9]; · iexact HW9
      ipureintro
      refine slab_up (Val := Elt F) arg9.view f9 (k0_off4_inb k) _ (fun n => k0_pay11 v32 v37 (chunk (arg4.view.read (Elt F) fk) n) (chunk (arg5.view.read (Elt F) fv) n)) k.val hk
        (off4_eq k) ?_ h9
      rw [readAt_chunk _ _ _ _ (off3_eq k), readAt_chunk _ _ _ _ (off3_eq k)]
    iexists _; isplitl [HW10]; · iexact HW10
    ipureintro
    refine slab_up (Val := Elt F) arg10.view f10 (k0_off4_inb k) _ (fun n => k0_pay12 v32 v37 (chunk (arg4.view.read (Elt F) fk) n) (chunk (arg5.view.read (Elt F) fv) n)) k.val hk
      (off4_eq k) ?_ h10
    rw [readAt_chunk _ _ _ _ (off3_eq k), readAt_chunk _ _ _ _ (off3_eq k)]

/-- Before trip `k` of the states' loop: both states carried, the forward states before chunks below `k` and the
backward states of the last `k` chunks stored. -/
abbrev invS (f9 : BufTy.Contents (Elt F) arg9.view.ty) (f10 : BufTy.Contents (Elt F) arg10.view.ty) (k : ℕ)
    (acc : FVec F S128x128 .f32 × FVec F S128x128 .f32) : sProp (MT nD τ sig Unit (Elt F) ℕ (UR sig nD τ) ℕ) :=
  iprop((arg9.view.loc (c : Thread nD τ) ↦[arg9.view.set]{fullShare} f9) ∗ (arg10.view.loc (c : Thread nD τ) ↦[arg10.view.set]{fullShare} f10)
    ∗ (∃ f, (arg11.view.loc (c : Thread nD τ) ↦[arg11.view.set]{fullShare} f)
        ∗ ⌜∀ n : Fin 32, n.val < k → slab (arg11.view.read (Elt F) f) n = k0_pay14 (stF v1 (slab (arg9.view.read (Elt F) f9)) n.val)⌝)
    ∗ (∃ f, (arg12.view.loc (c : Thread nD τ) ↦[arg12.view.set]{fullShare} f)
        ∗ ⌜∀ n : Fin 32, 31 - n.val < k → slab (arg12.view.read (Elt F) f) n = k0_pay15 (stB v3 (slab (arg10.view.read (Elt F) f10)) (31 - n.val))⌝)
    ∗ ⌜acc = (stF v1 (slab (arg9.view.read (Elt F) f9)) k, stB v3 (slab (arg10.view.read (Elt F) f10)) k)⌝)

set_option warn.classDefReducibility false in
/-- The states' loop. -/
@[sl_loop] def loopS (f9 : BufTy.Contents (Elt F) arg9.view.ty) (f10 : BufTy.Contents (Elt F) arg10.view.ty) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 v1 v3 v32 v37 v46 (k0_pay13 (F := F), k0_pay13 (F := F)) where
  inv k acc := invS c arg9 arg10 arg11 arg12 v1 v3 f9 f10 k acc
  step k acc := by
    have hk : k.val < 32 := Nat.lt_of_lt_of_le k.isLt k0_t2_abs.2.1
    have hc : (ch k.val).val = k.val := Nat.mod_eq_of_lt hk
    have hc' : (ch (31 - k.val)).val = 31 - k.val := Nat.mod_eq_of_lt (by omega)
    iintro ⟨HR9, HR10, ⟨%f11, HW11, %h11⟩, ⟨%f12, HW12, %h12⟩, %hacc⟩
    subst hacc
    unfold k0_t2_body
    sl_exec
    sl_step
    isplitl [HR9]; · iexact HR9
    isplitl [HR10]; · iexact HR10
    isplitl [HW11]
    · iexists _; isplitl [HW11]; · iexact HW11
      ipureintro
      refine slab_up (Val := Elt F) arg11.view f11 (k0_off5_inb k) _ (fun n => k0_pay14 (stF v1 (slab (arg9.view.read (Elt F) f9)) n.val)) k.val hk
        (off5_eq k) ?_ h11
      rw [hc]
    isplitl [HW12]
    · iexists _; isplitl [HW12]; · iexact HW12
      ipureintro
      refine slab_down (Val := Elt F) arg12.view f12 (k0_off6_inb k) _ (fun n => k0_pay15 (stB v3 (slab (arg10.view.read (Elt F) f10)) (31 - n.val))) k.val hk
        (off6_eq k) ?_ h12
      rw [hc']; congr 2; omega
    ipureintro
    rw [readAt_slab _ _ _ _ (off5_eq k), readAt_slab _ _ _ _ (off6_eq k)]
    rfl

end Inv

end Cert.Ret
-- ==== Proof.Body.lean ====
/- One run of the retention kernel's body: what the output block holds, from the six input blocks.

   The body reads two decay words, forms the decay vectors and the decay matrix, fills the chunk summaries and the
   states (the two loops of Loops.lean), and then writes the 32 chunks of the output one after the other. Every
   chunk is the same function `chunkOut` of its rows of q, k, v, g and of the two states standing before it. -/
module

public import proofs.«01_k».proof.Proof.Loops

@[expose] public section

set_option maxRecDepth 16384

noncomputable section

namespace Cert.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-! ## What the body computes -/

/-- The forward and the backward decay word of head `i 1`. -/
def wordF (x0 : Vec F S2x16 .f32) (i : grid0.Coords) : Elt F .f32 :=
  VecWindow.window x0 (k0_off1 i) S1x1.size (k0_off1_inb i) (Shape.Idx.first (Nat.lt_of_lt_of_eq Nat.zero_lt_one numel1_S1x1.symm))
def wordB (x0 : Vec F S2x16 .f32) (i : grid0.Coords) : Elt F .f32 :=
  VecWindow.window x0 (k0_off2 i) S1x1.size (k0_off2_inb i) (Shape.Idx.first (Nat.lt_of_lt_of_eq Nat.zero_lt_one numel1_S1x1.symm))

/-- One chunk of the output: the masked scores times the values, the two crossings with the states, the group
    norm over the head's columns, and the gate. -/
def chunkOut (dm : FVec F S128x128 .f32) (xf xb : FVec F S128x1 .f32) (gn : FVec F S1x128 .f32)
    (q k v g : FVec F S128x128 .bf16) (sf sb : FVec F S1x128x128 .bf16) : FVec F S128x128 .bf16 :=
  k0_pay124 (k0_pay121 xf xb gn (k0_pay22 q (k0_pay20 sf) (k0_pay21 sb)) (k0_pay89 dm (k0_pay19 q k)) v)
    (k0_pay122 g) k0_pay123

/-- The forward and the backward state standing before chunk `n`. -/
def stateF (wf wb : Elt F .f32) (k v : Vec F S4096x128 .bf16) (n : Fin 32) : FVec F S1x128x128 .bf16 :=
  k0_pay14 (stF wf (fun j => k0_pay11 (k0_pay4 wf) (k0_pay5 wb) (chunk k j) (chunk v j)) n.val)
def stateB (wf wb : Elt F .f32) (k v : Vec F S4096x128 .bf16) (n : Fin 32) : FVec F S1x128x128 .bf16 :=
  k0_pay15 (stB wb (fun j => k0_pay12 (k0_pay4 wf) (k0_pay5 wb) (chunk k j) (chunk v j)) (31 - n.val))

/-- Chunk `n` of the output block. -/
def outChunk (wf wb : Elt F .f32) (q k v g : Vec F S4096x128 .bf16) (gn : Vec F S1x128 .f32) (n : Fin 32) :
    FVec F S128x128 .bf16 :=
  chunkOut (k0_pay2 wf wb) (k0_pay6 wf) (k0_pay8 (k0_pay7 wb)) (k0_pay18 gn) (chunk q n) (chunk k n) (chunk v n)
    (chunk g n) (stateF wf wb k v n) (stateB wf wb k v n)

/-- The chunk of a row, and its row inside the chunk. -/
def rowChunk (y : S4096x128.Idx) : Fin 32 := ⟨(y 0).val / 128, by have := (y 0).isLt; change (y 0).val < 4096 at this; omega⟩
def rowIn (y : S4096x128.Idx) : S128x128.Idx := fun a => match a with
  | ⟨0, _⟩ => ⟨(y 0).val % 128, Nat.mod_lt _ (Nat.zero_lt_succ 127)⟩
  | ⟨1, _⟩ => y 1

/-- The output block. -/
def outBlock (wf wb : Elt F .f32) (q k v g : Vec F S4096x128 .bf16) (gn : Vec F S1x128 .f32) : Vec F S4096x128 .bf16 :=
  fun y => outChunk wf wb q k v g gn (rowChunk y) (rowIn y)

/-! ## Chunks written from the first to the last -/

section Rows

variable {sig : RefSig} {κ : Kind} {sp : Space} {e : EltTy} {Val : EltTy → Type}

/-- The rows before chunk `n` as wanted, chunk `n` stored, hence the rows before chunk `n + 1`. -/
theorem rows_up (v : View sig κ sp S4096x128 e) (f : v.ty.Contents Val) {off : Fin 2 → ℕ}
    (inb : ∀ a, off a + S128x128.size a ≤ S4096x128.size a) (w : S128x128.Idx → Val e)
    (L : List (View.Piece Val S4096x128 e)) (W : Fin 32 → S128x128.Idx → Val e) (n : Fin 32)
    (hoff : off = ![128 * n.val, 0]) (hw : w = W n)
    (h : ∀ y : S4096x128.Idx, (y 0).val < 128 * n.val → v.read Val (v.writes Val f L) y = W (rowChunk y) (rowIn y)) :
    ∀ y : S4096x128.Idx, (y 0).val < 128 * (n.val + 1) →
      v.read Val (v.writes Val f (⟨Rect.unit (s := S4096x128) off S128x128.size inb, w⟩ :: L)) y
        = W (rowChunk y) (rowIn y) := by
  intro y hy
  by_cases hlt : (y 0).val < 128 * n.val
  · rw [View.read_writes_cons_unit_of_not_mem v f inb w L y hoff (0 : Fin 2) (Or.inl hlt)]
    exact h y hlt
  · have hn : rowChunk y = n := Fin.ext (by show (y 0).val / 128 = n.val; omega)
    have hx : ∀ a, (y a).val = (![128 * n.val, 0] : Fin 2 → ℕ) a + (rowIn y a).val :=
      Fin.forall_fin_two.mpr ⟨by change (y 0).val = 128 * n.val + (y 0).val % 128; omega, (Nat.zero_add _).symm⟩
    rw [View.read_writes_cons_unit_of_mem v f inb w L y (rowIn y) hoff hx, hw, hn]

end Rows

set_option maxHeartbeats 8000000 in
theorem body_run (c : Dev nD) (i : grid0.Coords) (arg2 : Memref sig .tc .smem S2x16 .f32) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S1x128 .f32) (harg7 : arg7.IsWhole) (arg8 : Memref sig .tc .vmem S4096x128 .bf16) (harg8 : arg8.IsWhole) (arg9 : Memref sig .tc .vmem S32x128x128 .f32) (harg9 : arg9.IsWhole) (arg10 : Memref sig .tc .vmem S32x128x128 .f32) (harg10 : arg10.IsWhole) (arg11 : Memref sig .tc .vmem S32x128x128 .bf16) (harg11 : arg11.IsWhole) (arg12 : Memref sig .tc .vmem S32x128x128 .bf16) (harg12 : arg12.IsWhole)
    (x0 : Vec F S2x16 .f32) (x1 : Vec F S4096x128 .bf16) (x2 : Vec F S4096x128 .bf16) (x3 : Vec F S4096x128 .bf16) (x4 : Vec F S4096x128 .bf16) (x5 : Vec F S1x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outBlock (wordF x0 i) (wordB x0 i) x1 x2 x3 x4 x5) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_retention i arg2 harg2 arg3 harg3 arg4 harg4 arg5 harg5 arg6 harg6 arg7 harg7 arg8 harg8 arg9 harg9 arg10 harg10 arg11 harg11 arg12 harg12) K := by
    intro E K
    simp only [cc0_retention_eq_skeleton]; unfold cc0_retention_skel
    simp only [k0_part57_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      have e0 : wordF x0 i = View.readAt (Elt F) arg2.view (Rect.unit (s := S2x16) (k0_off1 i) S1x1.size (k0_off1_inb i)).toLoadRect (harg2.unread x0) (Shape.Idx.first (Nat.lt_of_lt_of_eq Nat.zero_lt_one numel1_S1x1.symm)) := by
        rw [View.readAt_unit arg2.view _ (k0_off1_inb i) rfl (k0_off1_inb i), hf0]; rfl
      have e1 : wordB x0 i = View.readAt (Elt F) arg2.view (Rect.unit (s := S2x16) (k0_off2 i) S1x1.size (k0_off2_inb i)).toLoadRect (harg2.unread x0) (Shape.Idx.first (Nat.lt_of_lt_of_eq Nat.zero_lt_one numel1_S1x1.symm)) := by
        rw [View.readAt_unit arg2.view _ (k0_off2_inb i) rfl (k0_off2_inb i), hf0]; rfl
      have e5 : x5 = View.readAt (Elt F) arg7.view (Rect.unit (s := S1x128) ![0, 0] S1x128.size inb_S1x128_S1x128_0_0).toLoadRect (harg7.unread x5) := by
        rw [View.readAt_full arg7.view _ inb_S1x128_S1x128_0_0, hf5]
      let W : Fin 32 → FVec F S128x128 .bf16 := outChunk (wordF x0 i) (wordB x0 i) x1 x2 x3 x4 x5
      have t1 : ∀ n : Fin 32, n.val < Scf.trips k0_t2_loop.lb k0_t2_loop.ub k0_t2_loop.st := fun n => n.isLt
      have s9 : slab (View.read (Elt F) arg9.view fL0) = fun n => k0_pay11 (k0_pay4 (wordF x0 i)) (k0_pay5 (wordB x0 i)) (chunk x2 n) (chunk x3 n) := by
        funext n; rw [hL3 n n.isLt, hf2, hf3, e0, e1]; rfl
      have s10 : slab (View.read (Elt F) arg10.view fL1) = fun n => k0_pay12 (k0_pay4 (wordF x0 i)) (k0_pay5 (wordB x0 i)) (chunk x2 n) (chunk x3 n) := by
        funext n; rw [hL5 n n.isLt, hf2, hf3, e0, e1]; rfl
      have s11 : ∀ n : Fin 32, slab (View.read (Elt F) arg11.view fL2) n = stateF (wordF x0 i) (wordB x0 i) x2 x3 n := by
        intro n; rw [hL9 n n.isLt, s9]; unfold stateF; rw [e0]; rfl
      have s12 : ∀ n : Fin 32, slab (View.read (Elt F) arg12.view fL3) n = stateB (wordF x0 i) (wordB x0 i) x2 x3 n := by
        intro n; rw [hL11 n (Nat.lt_of_le_of_lt (Nat.sub_le _ _) (Nat.lt_succ_self 31)), s10]; unfold stateB; rw [e1]; rfl
      have hW : ∀ n : Fin 32,
          chunkOut (body_run.sl.r_2 c i arg2 harg2 x0) (body_run.sl.r_5 c i arg2 harg2 x0) (body_run.sl.r_7 c i arg2 harg2 x0) (body_run.sl.r_8 c arg7 harg7 x5)
            (View.readAt (Elt F) arg3.view (Rect.unit (s := S4096x128) ![128 * n.val, 0] S128x128.size (chunk_inb n)).toLoadRect (harg3.unread x1))
            (View.readAt (Elt F) arg4.view (Rect.unit (s := S4096x128) ![128 * n.val, 0] S128x128.size (chunk_inb n)).toLoadRect (harg4.unread x2))
            (View.readAt (Elt F) arg5.view (Rect.unit (s := S4096x128) ![128 * n.val, 0] S128x128.size (chunk_inb n)).toLoadRect (harg5.unread x3))
            (View.readAt (Elt F) arg6.view (Rect.unit (s := S4096x128) ![128 * n.val, 0] S128x128.size (chunk_inb n)).toLoadRect (harg6.unread x4))
            (View.readAt (Elt F) arg11.view (Rect.unit (s := S32x128x128) ![n.val, 0, 0] S1x128x128.size (slab_inb n)).toLoadRect fL2)
            (View.readAt (Elt F) arg12.view (Rect.unit (s := S32x128x128) ![n.val, 0, 0] S1x128x128.size (slab_inb n)).toLoadRect fL3)
          = W n := by
        intro n
        rw [readAt_chunk _ _ _ n rfl, readAt_chunk _ _ _ n rfl, readAt_chunk _ _ _ n rfl, readAt_chunk _ _ _ n rfl, readAt_slab _ _ _ n rfl, readAt_slab _ _ _ n rfl, hf1, hf2, hf3, hf4, s11, s12]
        show _ = outChunk (wordF x0 i) (wordB x0 i) x1 x2 x3 x4 x5 n
        unfold outChunk
        congr 1
        · rw [e0, e1]; rfl
        · rw [e0]; rfl
        · rw [e1]; rfl
        · exact congrArg k0_pay18 e5.symm
      suffices hall : ∀ y : S4096x128.Idx, (y 0).val < 128 * ((31 : Fin 32).val + 1) → _ = W (rowChunk y) (rowIn y) from
        funext fun y => hall y (y 0).isLt
      refine rows_up (Val := Elt F) arg8.view _ _ _ _ W 31 rfl (Eq.trans rfl (hW 31)) ?_
      refine rows_up (Val := Elt F) arg8.view _ _ _ _ W 30 rfl (Eq.trans rfl (hW 30)) ?_
      refine rows_up (Val := Elt F) arg8.view _ _ _ _ W 29 rfl (Eq.trans rfl (hW 29)) ?_
      refine rows_up (Val := Elt F) arg8.view _ _ _ _ W 28 rfl (Eq.trans rfl (hW 28)) ?_
      refine rows_up (Val := Elt F) arg8.view _ _ _ _ W 27 rfl (Eq.trans rfl (hW 27)) ?_
      refine rows_up (Val := Elt F) arg8.view _ _ _ _ W 26 rfl (Eq.trans rfl (hW 26)) ?_
      refine rows_up (Val := Elt F) arg8.view _ _ _ _ W 25 rfl (Eq.trans rfl (hW 25)) ?_
      refine rows_up (Val := Elt F) arg8.view _ _ _ _ W 24 rfl (Eq.trans rfl (hW 24)) ?_
      refine rows_up (Val := Elt F) arg8.view _ _ _ _ W 23 rfl (Eq.trans rfl (hW 23)) ?_
      refine rows_up (Val := Elt F) arg8.view _ _ _ _ W 22 rfl (Eq.trans rfl (hW 22)) ?_
      refine rows_up (Val := Elt F) arg8.view _ _ _ _ W 21 rfl (Eq.trans rfl (hW 21)) ?_
      refine rows_up (Val := Elt F) arg8.view _ _ _ _ W 20 rfl (Eq.trans rfl (hW 20)) ?_
      refine rows_up (Val := Elt F) arg8.view _ _ _ _ W 19 rfl (Eq.trans rfl (hW 19)) ?_
      refine rows_up (Val := Elt F) arg8.view _ _ _ _ W 18 rfl (Eq.trans rfl (hW 18)) ?_
      refine rows_up (Val := Elt F) arg8.view _ _ _ _ W 17 rfl (Eq.trans rfl (hW 17)) ?_
      refine rows_up (Val := Elt F) arg8.view _ _ _ _ W 16 rfl (Eq.trans rfl (hW 16)) ?_
      refine rows_up (Val := Elt F) arg8.view _ _ _ _ W 15 rfl (Eq.trans rfl (hW 15)) ?_
      refine rows_up (Val := Elt F) arg8.view _ _ _ _ W 14 rfl (Eq.trans rfl (hW 14)) ?_
      refine rows_up (Val := Elt F) arg8.view _ _ _ _ W 13 rfl (Eq.trans rfl (hW 13)) ?_
      refine rows_up (Val := Elt F) arg8.view _ _ _ _ W 12 rfl (Eq.trans rfl (hW 12)) ?_
      refine rows_up (Val := Elt F) arg8.view _ _ _ _ W 11 rfl (Eq.trans rfl (hW 11)) ?_
      refine rows_up (Val := Elt F) arg8.view _ _ _ _ W 10 rfl (Eq.trans rfl (hW 10)) ?_
      refine rows_up (Val := Elt F) arg8.view _ _ _ _ W 9 rfl (Eq.trans rfl (hW 9)) ?_
      refine rows_up (Val := Elt F) arg8.view _ _ _ _ W 8 rfl (Eq.trans rfl (hW 8)) ?_
      refine rows_up (Val := Elt F) arg8.view _ _ _ _ W 7 rfl (Eq.trans rfl (hW 7)) ?_
      refine rows_up (Val := Elt F) arg8.view _ _ _ _ W 6 rfl (Eq.trans rfl (hW 6)) ?_
      refine rows_up (Val := Elt F) arg8.view _ _ _ _ W 5 rfl (Eq.trans rfl (hW 5)) ?_
      refine rows_up (Val := Elt F) arg8.view _ _ _ _ W 4 rfl (Eq.trans rfl (hW 4)) ?_
      refine rows_up (Val := Elt F) arg8.view _ _ _ _ W 3 rfl (Eq.trans rfl (hW 3)) ?_
      refine rows_up (Val := Elt F) arg8.view _ _ _ _ W 2 rfl (Eq.trans rfl (hW 2)) ?_
      refine rows_up (Val := Elt F) arg8.view _ _ _ _ W 1 rfl (Eq.trans rfl (hW 1)) ?_
      refine rows_up (Val := Elt F) arg8.view _ _ _ _ W 0 rfl (Eq.trans rfl (hW 0)) ?_
      intro y hy
      exact absurd hy (Nat.not_lt_zero _)
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Ret

end
-- ==== Proof.Run.lean ====
/- The launch of the retention kernel, over any float values: the proof data of its pipeline, the body's obligation
   at every grid point, and the run. Every final state has the output array block by block at `outBlock` of the
   blocks read there, the argument arrays as they were, and every semaphore counter at zero. -/
module

public import proofs.«01_k».proof.Proof.Body
public import Idealize.ShloMosaic.Lib.Claim

@[expose] public section

set_option maxRecDepth 16384

noncomputable section

namespace Cert.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output block of grid point `t`. -/
def outAt (c : Dev nD) (t : Fin cfg0.N) : Vec F S4096x128 .bf16 :=
  outBlock (wordF (iblk m c 0 t) (grid0.coords t)) (wordB (iblk m c 0 t) (grid0.coords t))
    (iblk m c 1 t) (iblk m c 2 t) (iblk m c 3 t) (iblk m c 4 t) (iblk m c 5 t)

/-- The proof data: the arrays as the region finds them, the inputs left at their blocks, the output at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := Pipeline.ΦA spec0 c
  q w := Pipeline.shareOf spec0 w
  owed _ := 0

theorem dats_A (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outAt m c t := by dsimp only [dats]
theorem before_0 (c : Dev nD) (t : Fin cfg0.N) (d) : (dats m 0 c).before 0 t d = iblk m c 0 t :=
  before0_0_of m (dats m 0 c) (dats_A m c 0) (after_0 m c) t d
theorem before_1 (c : Dev nD) (t : Fin cfg0.N) (d) : (dats m 0 c).before 1 t d = iblk m c 1 t :=
  before0_1_of m (dats m 0 c) (dats_A m c 1) (after_1 m c) t d
theorem before_2 (c : Dev nD) (t : Fin cfg0.N) (d) : (dats m 0 c).before 2 t d = iblk m c 2 t :=
  before0_2_of m (dats m 0 c) (dats_A m c 2) (after_2 m c) t d
theorem before_3 (c : Dev nD) (t : Fin cfg0.N) (d) : (dats m 0 c).before 3 t d = iblk m c 3 t :=
  before0_3_of m (dats m 0 c) (dats_A m c 3) (after_3 m c) t d
theorem before_4 (c : Dev nD) (t : Fin cfg0.N) (d) : (dats m 0 c).before 4 t d = iblk m c 4 t :=
  before0_4_of m (dats m 0 c) (dats_A m c 4) (after_4 m c) t d
theorem before_5 (c : Dev nD) (t : Fin cfg0.N) (d) : (dats m 0 c).before 5 t d = iblk m c 5 t :=
  before0_5_of m (dats m 0 c) (dats_A m c 5) (after_5 m c) t d

/-- What the body is called with at point `t`, window by window, -/
def bodyPre (c : Dev nD) (t : Fin cfg0.N) : sProp 𝕄 :=
  iprop((dats m 0 c).Φ t.castSucc ∗ (dats m 0 c).owesAt () t.castSucc ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)))

/-- and what it returns. -/
def bodyPost (c : Dev nD) (t : Fin cfg0.N) : sProp 𝕄 :=
  iprop((dats m 0 c).Φ t.succ ∗ (dats m 0 c).owesAt () t.succ ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t))

/-- The invariant with the four scratch arrays spelled as memrefs at some contents. -/
theorem inv_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  rw [show (dats m 0 c).Φ t.castSucc = Pipeline.ΦA spec0 c from rfl, inv_eq]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩⟩
  iapply ((body_run c (grid0.coords t) _ _ _ _ _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0]; · iexact S0
  isplitl [S1]; · iexact S1
  isplitl [S2]; · iexact S2
  isplitl [S3]; · iexact S3
  iintro ⟨H0, H1, H2, H3, H4, H5, H6, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

-- unifying the launch theorem's conclusion with this one unfolds plain definitions in a metavariable's type
set_option backward.isDefEq.respectTransparency.types false in
/-- The run: the pipeline's arrays at their final contents, every other buffer as the region found it, every counter at zero. -/
theorem run_full : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := dats_A m) (hΦ := fun _ _ => rfl)

theorem run_frame : θ_run defs (onTc (τ := τ) (main (F := F))) (s₀ m ρ) (Pipeline.FramePost cfgs (dats m) 0 (V m)) :=
  (θ_run defs _ _).mono (fun _ h => h.1) (run_full m ρ)

/-- The arguments end unchanged and the machine is quiescent. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (dats_A m) (run_frame m ρ)) ((θ_run defs _ _).mono (fun _ h => h.2) (run_full m ρ))

/-- The output array and the arguments after the run. -/
theorem value : θ_run defs (onTc (τ := τ) (main (F := F))) ⟨m, fun _ => 0, ρ⟩ (fun r => ∀ c : Dev nD,
      r.2.mem ((c.tc : Thread nD τ).loc main_v1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1 c).1 6, h.2 c⟩)
    (θ_run_and (run_frame m ρ) (frame_of m ρ (dats m) (dats_A m) (run_frame m ρ)))

end Cert.Ret

end
-- ==== Proof.Math.lean ====
module

public import Idealize.ShloMosaic.Lib.Pointwise

/-!
The arithmetic of one head of one sequence, over the extended reals: the two-directional retention summed chunk by
chunk with both decays in one mask (`both`), and the same as the sum of a forward pass and of a backward pass over the
reversed sequence (`pass`). `both_eq` says that they agree.
-/

@[expose] public section
set_option maxRecDepth 16384
noncomputable section
namespace Cert.Ret
open Idealize.ShloMosaic

/-- One head's queries, keys or values: chunk, position in the chunk, feature. -/
abbrev Head := Fin 32 → Fin 128 → Fin 128 → EReal

/-- The scale of the scores, a positive word. -/
abbrev scw : EReal := Ideal.ofBits .f32 1035273459#32
abbrev w127 : EReal := Ideal.ofBits .f32 1123942400#32
abbrev w128 : EReal := Ideal.ofBits .f32 1124073472#32

/-- A position as an extended real. -/
def pos (i : Fin 128) : EReal := ((i.val : ℝ) : EReal)

theorem sitofp_pos (i : Fin 128) : FloatOps.sitofp (F := Ideal) FTy.f32 (BitVec.ofNat 32 i.val) = pos i := by
  show (((BitVec.ofNat 32 i.val).toInt : ℝ) : EReal) = _
  have h : (BitVec.ofNat 32 i.val).toInt = (i.val : ℤ) := by
    have := i.isLt
    rw [BitVec.toInt_ofNat', Int.bmod_def]; omega
  rw [h, pos]; norm_cast

theorem sitofp_sub (i j : Fin 128) :
    FloatOps.sitofp (F := Ideal) FTy.f32 (IntOp.subi (BitVec.ofNat 32 i.val) (BitVec.ofNat 32 j.val)) = pos i - pos j := by
  show (((BitVec.ofNat 32 i.val - BitVec.ofNat 32 j.val).toInt : ℝ) : EReal) = _
  have h : (BitVec.ofNat 32 i.val - BitVec.ofNat 32 j.val).toInt = (i.val : ℤ) - (j.val : ℤ) := by
    have := i.isLt
    have := j.isLt
    rw [BitVec.toInt_sub, BitVec.toInt_ofNat', BitVec.toInt_ofNat', Int.bmod_def, Int.bmod_def, Int.bmod_def]; omega
  rw [h, pos, pos, ← EReal.coe_sub]; norm_cast

theorem cmpi_pos {α : Type} (i j : Fin 128) (x y : α) :
    Scalar.select (IntOp.cmpi .sge (BitVec.ofNat 32 i.val) (BitVec.ofNat 32 j.val)) x y = if j ≤ i then x else y := by
  have hi : (BitVec.ofNat 32 i.val).toInt = (i.val : ℤ) := by
    have := i.isLt
    rw [BitVec.toInt_ofNat', Int.bmod_def]; omega
  have hj : (BitVec.ofNat 32 j.val).toInt = (j.val : ℤ) := by
    have := j.isLt
    rw [BitVec.toInt_ofNat', Int.bmod_def]; omega
  have h : IntOp.cmpi .sge (BitVec.ofNat 32 i.val) (BitVec.ofNat 32 j.val) = BitVec.ofBool (decide (j ≤ i)) := by
    show BitVec.ofBool (BitVec.sle _ _) = _
    rw [BitVec.sle_eq_decide, hi, hj]
    exact congrArg BitVec.ofBool (decide_eq_decide.mpr (by rw [Fin.le_def]; exact Nat.cast_le))
  rw [h]
  by_cases hc : j ≤ i
  · rw [if_pos hc, decide_eq_true hc]; rfl
  · rw [if_neg hc, decide_eq_false hc]; rfl

theorem w127_eq : w127 = ((127 : ℝ) : EReal) := by
  simp [w127, Ideal.ofBits, Ideal.ieee, -EReal.coe_mul]; norm_num

theorem w128_eq : w128 = ((128 : ℝ) : EReal) := by
  simp [w128, Ideal.ofBits, Ideal.ieee, -EReal.coe_mul]; norm_num

theorem scw_pos : ∃ r : ℝ, 0 ≤ r ∧ scw = (r : EReal) := by
  refine ⟨_, ?_, by simp [scw, Ideal.ofBits, Ideal.ieee, -EReal.coe_mul]; rfl⟩
  positivity

theorem sum_scale {ι : Type} [Fintype ι] (f : ι → EReal) : ∑ d, f d * scw = (∑ d, f d) * scw := by
  obtain ⟨r, hr, e⟩ := scw_pos
  rw [e]
  have h : ∀ s : Finset ι, ∑ d ∈ s, f d * (r : EReal) = (∑ d ∈ s, f d) * (r : EReal) := by
    intro s
    classical
    induction s using Finset.induction_on with
    | empty => simp
    | insert a s ha ih =>
      rw [Finset.sum_insert ha, Finset.sum_insert ha, ih,
        EReal.right_distrib_of_nonneg_of_ne_top (by exact_mod_cast hr) (EReal.coe_ne_top r)]
  exact h _

/-- The state before chunk `n`: what the chunks before it added, each later chunk decaying it by `c`. -/
def scan (c : EReal) (u : ℕ → EReal) : ℕ → EReal
  | 0 => 0
  | n + 1 => scan c u n * c + u n

theorem scan_congr (c : EReal) {u w : ℕ → EReal} (h : ∀ n, n < 32 → u n = w n) : ∀ n, n ≤ 32 → scan c u n = scan c w n
  | 0, _ => rfl
  | n + 1, hn => by rw [scan, scan, scan_congr c h n (by omega), h n (by omega)]

/-- Chunk `n`, counted round. -/
def nn (n : ℕ) : Fin 32 := ⟨n % 32, Nat.mod_lt _ (by decide)⟩

theorem nn_val (n : Fin 32) : nn n.val = n := Fin.ext (Nat.mod_eq_of_lt n.isLt)

theorem nn_rev (n : ℕ) (h : n < 32) : (nn n).rev = nn (31 - n) := by
  apply Fin.ext; simp only [nn, Fin.val_rev]; omega

/-- The causal mask with its decay: `dec lf i j` where `i ≥ j`, or where `i > j` when `strict`. -/
def maskF (lf : EReal) (i j : Fin 128) : EReal :=
  if (0 : EReal) ≤ pos i - pos j then Ideal.exp (lf * max (pos i - pos j) 0) else 0
def maskB (lb : EReal) (i j : Fin 128) : EReal :=
  if (0 : EReal) < pos i - pos j then Ideal.exp (lb * max (pos i - pos j) 0) else 0

/-- What chunk `n` adds to the state, in a pass in order. -/
def kvp (l : EReal) (k v : Head) (d e : Fin 128) (n : ℕ) : EReal :=
  ∑ j, k (nn n) j d * scw * (v (nn n) j e * Ideal.exp (l * (w127 - pos j)))

/-- One pass over a sequence, with mask `M`. -/
def pass (M : Fin 128 → Fin 128 → EReal) (l : EReal) (q k v : Head) (n : Fin 32) (i e : Fin 128) : EReal :=
  (∑ j, v n j e * ((∑ d, q n i d * (k n j d * scw)) * M i j)) +
    (∑ d, scan (Ideal.exp (l * w128)) (kvp l k v d e) n.val * q n i d) * Ideal.exp (l * (pos i + 1))

/-- Both decays in one mask. -/
def maskK (lf lb : EReal) (i j : Fin 128) : EReal :=
  (if j ≤ i then Ideal.exp (lf * max (pos i - pos j) 0) else Ideal.exp (lb * max (0 - (pos i - pos j)) 0)) * scw

/-- What chunk `n` adds to the forward and to the backward state. -/
def kvF (lf : EReal) (k v : Head) (d e : Fin 128) (n : ℕ) : EReal :=
  ∑ j, k (nn n) j d * (v (nn n) j e * (Ideal.exp (lf * (w127 - pos j)) * scw))
def kvB (lb : EReal) (k v : Head) (d e : Fin 128) (n : ℕ) : EReal :=
  ∑ j, k (nn (31 - n)) j d * (v (nn (31 - n)) j e * (Ideal.exp (lb * pos j) * scw))

/-- Both directions at once. -/
def both (lf lb : EReal) (q k v : Head) (n : Fin 32) (i e : Fin 128) : EReal :=
  (∑ j, (∑ d, q n i d * k n j d) * maskK lf lb i j * v n j e) +
    (∑ d, q n i d * scan (Ideal.exp (lf * w128)) (kvF lf k v d e) n.val) * Ideal.exp (lf * (pos i + 1)) +
    (∑ d, q n i d * scan (Ideal.exp (lb * w128)) (kvB lb k v d e) (31 - n.val)) * Ideal.exp (lb * (w128 - pos i))

/-- A sequence read from its end. -/
def flip (a : Head) : Head := fun n i d => a n.rev i.rev d

theorem kvF_eq (lf : EReal) (k v : Head) (d e : Fin 128) (n : ℕ) : kvF lf k v d e n = kvp lf k v d e n :=
  Finset.sum_congr rfl fun j _ => by ac_rfl

theorem pos_rev (i : Fin 128) : pos i.rev = ((127 - (i.val : ℝ) : ℝ) : EReal) := by
  rw [pos, Fin.val_rev]
  have := i.isLt
  congr 1
  rw [Nat.cast_sub (by omega)]; push_cast; ring

theorem w127_sub_pos_rev (i : Fin 128) : w127 - pos i.rev = pos i := by
  rw [w127_eq, pos_rev, pos, ← EReal.coe_sub]; congr 1; ring

theorem pos_rev_add (i : Fin 128) : pos i.rev + 1 = w128 - pos i := by
  rw [w128_eq, pos_rev, pos, ← EReal.coe_sub, ← EReal.coe_one, ← EReal.coe_add]; congr 1; ring

theorem pos_rev_sub (i j : Fin 128) : pos i.rev - pos j.rev = 0 - (pos i - pos j) := by
  rw [pos_rev, pos_rev, pos, pos, ← EReal.coe_sub, ← EReal.coe_sub, ← EReal.coe_zero, ← EReal.coe_sub]; congr 1; ring

theorem pos_sub_nonneg (i j : Fin 128) : (0 : EReal) ≤ pos i - pos j ↔ j ≤ i := by
  rw [pos, pos, ← EReal.coe_sub, EReal.coe_nonneg, sub_nonneg, Nat.cast_le, Fin.le_def]

theorem pos_rev_sub_pos (i j : Fin 128) : (0 : EReal) < 0 - (pos i - pos j) ↔ ¬ j ≤ i := by
  rw [← pos_rev_sub, pos, pos, ← EReal.coe_sub, EReal.coe_pos, sub_pos, Nat.cast_lt, Fin.le_def, Fin.val_rev, Fin.val_rev]
  have := i.isLt
  have := j.isLt
  omega

theorem kvB_eq (lb : EReal) (k v : Head) (d e : Fin 128) (n : ℕ) (h : n < 32) :
    kvB lb k v d e n = kvp lb (flip k) (flip v) d e n := by
  refine (Equiv.sum_comp Fin.revPerm _).symm.trans (Finset.sum_congr rfl fun j _ => ?_)
  simp only [flip, nn_rev n h, Fin.revPerm_apply]
  rw [show w127 - pos j = pos j.rev from by rw [← w127_sub_pos_rev j.rev, Fin.rev_rev]]
  ac_rfl

/-- The scores of a chunk, masked and summed against the values: one mask for both directions against one each. -/
theorem intra_eq (lf lb : EReal) (q k v : Head) (n : Fin 32) (i e : Fin 128) :
    (∑ j, (∑ d, q n i d * k n j d) * maskK lf lb i j * v n j e)
      = (∑ j, v n j e * ((∑ d, q n i d * (k n j d * scw)) * maskF lf i j)) +
        ∑ j, flip v n.rev j e * ((∑ d, flip q n.rev i.rev d * (flip k n.rev j d * scw)) * maskB lb i.rev j) := by
  rw [← Equiv.sum_comp Fin.revPerm (fun j => flip v n.rev j e * _), ← Finset.sum_add_distrib]
  refine Finset.sum_congr rfl fun j _ => ?_
  have hs : (∑ d, q n i d * (k n j d * scw)) = (∑ d, q n i d * k n j d) * scw := by
    rw [← sum_scale]; exact Finset.sum_congr rfl fun d _ => (mul_assoc _ _ _).symm
  simp only [flip, Fin.revPerm_apply, Fin.rev_rev, hs, maskF, maskB, maskK, pos_sub_nonneg, pos_rev_sub_pos, pos_rev_sub]
  by_cases hc : j ≤ i
  · simp only [hc, if_true, not_true_eq_false, if_false, mul_zero, add_zero]; ac_rfl
  · simp only [hc, if_false, not_false_eq_true, if_true, mul_zero, zero_add]; ac_rfl

/-- The two-directional retention is the sum of the two passes. -/
theorem both_eq (lf lb : EReal) (q k v : Head) (n : Fin 32) (i e : Fin 128) :
    both lf lb q k v n i e
      = pass (maskF lf) lf q k v n i e + pass (maskB lb) lb (flip q) (flip k) (flip v) n.rev i.rev e := by
  have hF : ∀ d, scan (Ideal.exp (lf * w128)) (kvF lf k v d e) n.val = scan (Ideal.exp (lf * w128)) (kvp lf k v d e) n.val :=
    fun d => scan_congr _ (fun m _ => kvF_eq lf k v d e m) _ (by omega)
  have hB : ∀ d, scan (Ideal.exp (lb * w128)) (kvB lb k v d e) (31 - n.val)
      = scan (Ideal.exp (lb * w128)) (kvp lb (flip k) (flip v) d e) n.rev.val := fun d => by
    rw [Fin.val_rev, show 32 - (n.val + 1) = 31 - n.val by omega]
    exact scan_congr _ (fun m hm => kvB_eq lb k v d e m hm) _ (by omega)
  rw [both, pass, pass, intra_eq, pos_rev_add]
  simp only [hF, hB]
  have hc : ∀ (x y : Fin 128 → EReal), ∑ d, x d * y d = ∑ d, y d * x d :=
    fun x y => Finset.sum_congr rfl fun d _ => mul_comm _ _
  rw [hc (fun d => q n i d), hc (fun d => q n i d)]
  simp only [show ∀ d, flip q n.rev i.rev d = q n i d from fun d => by simp only [flip, Fin.rev_rev]]
  ac_rfl

/-- The logistic, in the form with a hyperbolic tangent and in the form with an exponential. -/
theorem logistic_eq (g : EReal) :
    Ideal.ofBits .f32 1056964608#32 * Ideal.tanh (Ideal.ofBits .f32 1056964608#32 * g) + Ideal.ofBits .f32 1056964608#32
      = Ideal.div 1 (1 + Ideal.exp (-g)) := by
  have hh : Ideal.ofBits .f32 1056964608#32 = ((1 / 2 : ℝ) : EReal) := by
    simp [Ideal.ofBits, Ideal.ieee, -EReal.coe_mul]; norm_num
  rw [hh]
  induction g with
  | bot =>
    rw [EReal.coe_mul_bot_of_pos (by norm_num)]
    simp only [Ideal.tanh_bot, EReal.neg_bot, Ideal.exp_top]
    rw [show (1 : EReal) + ⊤ = ⊤ from rfl, Ideal.div, if_neg (by simp), EReal.inv_top, mul_zero,
      show (-1 : EReal) = ((-1 : ℝ) : EReal) from rfl, ← EReal.coe_mul, ← EReal.coe_add]
    norm_num
  | top =>
    rw [EReal.coe_mul_top_of_pos (by norm_num)]
    simp only [Ideal.tanh_top, EReal.neg_top, Ideal.exp_bot, add_zero]
    rw [mul_one, ← EReal.coe_add, ← EReal.coe_one, Ideal.div_coe one_ne_zero, ← EReal.coe_mul]
    norm_num
  | coe r =>
    have hp : (1 + Real.exp (-r)) ≠ 0 := by positivity
    rw [← EReal.coe_mul, Ideal.tanh_coe, ← EReal.coe_neg, Ideal.exp_coe, ← EReal.coe_one, ← EReal.coe_add,
      Ideal.div_coe hp, ← EReal.coe_mul, ← EReal.coe_mul, ← EReal.coe_add]
    congr 1
    have h1 : Real.exp (-r) = Real.exp (-(1 / 2 * r)) * Real.exp (-(1 / 2 * r)) := by
      rw [← Real.exp_add]; congr 1; ring
    have h2 : Real.exp (1 / 2 * r) * Real.exp (-(1 / 2 * r)) = 1 := by rw [← Real.exp_add]; simp
    rw [Real.tanh_eq_sinh_div_cosh, Real.sinh_eq, Real.cosh_eq, h1]
    have ha := Real.exp_pos (1 / 2 * r)
    have hb := Real.exp_pos (-(1 / 2 * r))
    generalize Real.exp (1 / 2 * r) = a at *
    generalize Real.exp (-(1 / 2 * r)) = b at *
    have : a + b ≠ 0 := by positivity
    have : 1 + b * b ≠ 0 := by positivity
    field_simp
    nlinarith [h2]

/-- The gate: `g` times its logistic, in either form. -/
theorem gate_eq (g : EReal) :
    g * (Ideal.ofBits .f32 1056964608#32 * Ideal.tanh (Ideal.ofBits .f32 1056964608#32 * g) + Ideal.ofBits .f32 1056964608#32)
      = g * Ideal.div 1 (1 + Ideal.exp (-g)) := by rw [logistic_eq]

end Cert.Ret
end
-- ==== Proof.RefHead.lean ====
module

public import proofs.«01_k».proof.Proof.Gen.ReferenceIdeal.Read
public import proofs.«01_k».proof.Proof.Math

/-!
One head of the projections, read by its coordinates, and the operations both passes of the reference share.
-/

@[expose] public section
set_option maxRecDepth 16384
set_option maxHeartbeats 1000000
noncomputable section
namespace Cert.Ret
open Idealize.ShloMosaic Idealize.ShloMosaic.TcCoe
open Cert.ReferenceIdeal Cert.ReferenceIdeal.Read
open Idealize.ShloMosaic.Pointwise

/-- One head's slice of the projections, the columns from `c` on. -/
def hd (x0 : S8192x8192.Idx → EReal) (c : ℕ) (b : Fin 2) (h : Fin 16) (hc : c + 2048 ≤ 8192) : Head := fun n i d =>
  x0 (ix2 ⟨b.val * 4096 + (n.val * 128 + i.val), by omega⟩ ⟨c + (h.val * 128 + d.val), by omega⟩)

theorem hd_eq (x0 : S8192x8192.Idx → EReal) (c : ℕ) (b : Fin 2) (h : Fin 16) (hc : c + 2048 ≤ 8192)
    (n : Fin 32) (i d : Fin 128) (r l : Fin 8192) (hr : r.val = b.val * 4096 + (n.val * 128 + i.val))
    (hl : l.val = c + (h.val * 128 + d.val)) : x0 (ix2 r l) = hd x0 c b h hc n i d := by
  rw [hd]; congr 2 <;> exact Fin.ext ‹_›

theorem rev4 (x : S2x4096x16x128.Idx → EReal) (b : Fin 2) (t : Fin 4096) (h : Fin 16) (d : Fin 128) :
    Host.reverse [1] x (ix4 b t h d) = x (ix4 b t.rev h d) := by
  unfold Host.reverse
  congr 1
  funext a
  match a with
  | ⟨0, _⟩ => rfl
  | ⟨1, _⟩ => rfl
  | ⟨2, _⟩ => rfl
  | ⟨3, _⟩ => rfl

theorem stack_shapes {s : Shape} (f : Fin 16 → (s.Idx → EReal)) :
    (List.ofFn fun k : Fin 16 => (⟨s, f k⟩ : (s : Shape) × (s.Idx → EReal))).map (·.1)
      = [s, s, s, s, s, s, s, s, s, s, s, s, s, s, s, s] := rfl

theorem stacked : Shape.Concatenates [S1x2x16x128x128, S1x2x16x128x128, S1x2x16x128x128, S1x2x16x128x128, S1x2x16x128x128, S1x2x16x128x128, S1x2x16x128x128, S1x2x16x128x128, S1x2x16x128x128, S1x2x16x128x128, S1x2x16x128x128, S1x2x16x128x128, S1x2x16x128x128, S1x2x16x128x128, S1x2x16x128x128, S1x2x16x128x128]
    S16x2x16x128x128 (0 : Fin 5) := by decide

end Cert.Ret
end
-- ==== Proof.RefF.lean ====
module

public import proofs.«01_k».proof.Proof.Gen.ReferenceIdeal.Read
public import proofs.«01_k».proof.Proof.RefHead

/-!
The forward pass of the reference, read at an index.
-/

@[expose] public section
set_option maxRecDepth 16384
set_option maxHeartbeats 1000000
noncomputable section
namespace Cert.Ret
open Idealize.ShloMosaic Idealize.ShloMosaic.TcCoe
open Cert.ReferenceIdeal Cert.ReferenceIdeal.Read
open Idealize.ShloMosaic.Pointwise

theorem qF_apply (x0 : S8192x8192.Idx → EReal) (b : Fin 2) (n : Fin 32) (i : Fin 128) (h : Fin 16) (d : Fin 128) :
    val_main_v13 (F := Ideal) x0 (ix5 b n i h d) = hd x0 0 b h (by omega) n i d := by
  pointwise [val_main_v13, val_main_v6, val_main_v2, val_main_v1, val_main_v0]
  exact hd_eq x0 0 b h (by omega) n i d _ _ rfl (by simp only []; omega)

theorem kF_apply (x0 : S8192x8192.Idx → EReal) (b : Fin 2) (n : Fin 32) (i : Fin 128) (h : Fin 16) (d : Fin 128) :
    val_main_v14 (F := Ideal) x0 (ix5 b n i h d) = hd x0 2048 b h (by omega) n i d * scw := by
  pointwise [val_main_v14, val_main_v10, val_main_v9, val_main_cst, val_main_v7, val_main_v3, val_main_v1, val_main_v0]
  exact congrArg (· * scw) (hd_eq x0 2048 b h (by omega) n i d _ _ rfl rfl)

theorem vF_apply (x0 : S8192x8192.Idx → EReal) (b : Fin 2) (n : Fin 32) (i : Fin 128) (h : Fin 16) (d : Fin 128) :
    val_main_v15 (F := Ideal) x0 (ix5 b n i h d) = hd x0 4096 b h (by omega) n i d := by
  pointwise [val_main_v15, val_main_v8, val_main_v4, val_main_v1, val_main_v0]
  exact hd_eq x0 4096 b h (by omega) n i d _ _ rfl rfl

theorem maskF_apply (x1 : S2x16.Idx → EReal) (h : Fin 16) (i j : Fin 128) :
    val_main_v33 (F := Ideal) x1 (ix3 h i j) = maskF (x1 (ix2 0 h)) i j := by
  pointwise [val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v12, val_main_v11, val_main_call0_v0, val_main_call0_v1, val_main_call0_v2, val_main_cst_0, val_main_cst_1, val_main_cst_2, id_eq]
  simp only [sitofp_pos, maskF]

theorem intraF_apply (x0 : S8192x8192.Idx → EReal) (x1 : S2x16.Idx → EReal) (b : Fin 2) (n : Fin 32) (i : Fin 128) (h : Fin 16) (e : Fin 128) :
    val_main_v39 (F := Ideal) x0 x1 (ix5 b n i h e) = ∑ j, (hd x0 4096 b h (by omega)) n j e *
      ((∑ d, (hd x0 0 b h (by omega)) n i d * ((hd x0 2048 b h (by omega)) n j d * scw)) * maskF (x1 (ix2 0 h)) i j) := by
  pointwise [val_main_v39, val_main_v38, val_main_v37, val_main_v36, val_main_v35, val_main_v34]
  simp only [qF_apply, kF_apply, vF_apply, maskF_apply]

theorem kvF_apply (x0 : S8192x8192.Idx → EReal) (x1 : S2x16.Idx → EReal) (b : Fin 2) (n : Fin 32) (h : Fin 16) (d e : Fin 128) :
    val_main_v51 (F := Ideal) x0 x1 (ix5 n b h d e) = kvp (x1 (ix2 0 h)) (hd x0 2048 b h (by omega)) (hd x0 4096 b h (by omega)) d e n.val := by
  pointwise [val_main_v51, val_main_v50, val_main_v49, val_main_v48, val_main_v47, val_main_v46, val_main_v45, val_main_v44, val_main_v43, val_main_v42, val_main_v41, val_main_v40, val_main_v16, val_main_v12, val_main_v11, val_main_cst_3]
  simp only [kF_apply, vF_apply, sitofp_pos, kvp, nn_val]

/-- The state before chunk `n`. -/
def rsF (x0 : S8192x8192.Idx → EReal) (x1 : S2x16.Idx → EReal) (b : Fin 2) (h : Fin 16) (d e : Fin 128) (n : ℕ) : EReal :=
  scan (Ideal.exp (x1 (ix2 0 h) * w128)) (kvp (x1 (ix2 0 h)) (hd x0 2048 b h (by omega)) (hd x0 4096 b h (by omega)) d e) n

theorem rsF0_apply (x0 : S8192x8192.Idx → EReal) (x1 : S2x16.Idx → EReal) (b : Fin 2) (h : Fin 16) (d e : Fin 128) :
    val_main_v58 (F := Ideal) (ix4 b h d e) = rsF x0 x1 b h d e 0 := by
  pointwise [val_main_v58, val_main_cst_5]
  rfl

theorem rsF1_apply (x0 : S8192x8192.Idx → EReal) (x1 : S2x16.Idx → EReal) (b : Fin 2) (h : Fin 16) (d e : Fin 128) :
    val_main_v66 (F := Ideal) x0 x1 (ix4 b h d e) = rsF x0 x1 b h d e 1 := by
  pointwise [val_main_v66, val_main_v65, val_main_v64, val_main_v63, val_main_v62, val_main_v60, val_main_v55, val_main_v54, val_main_v53, val_main_v52, val_main_v12, val_main_v11, val_main_cst_4]
  rw [rsF0_apply x0 x1, kvF_apply]; rfl

theorem rsF2_apply (x0 : S8192x8192.Idx → EReal) (x1 : S2x16.Idx → EReal) (b : Fin 2) (h : Fin 16) (d e : Fin 128) :
    val_main_v71 (F := Ideal) x0 x1 (ix4 b h d e) = rsF x0 x1 b h d e 2 := by
  pointwise [val_main_v71, val_main_v70, val_main_v69, val_main_v68, val_main_v67, val_main_v60, val_main_v55, val_main_v54, val_main_v53, val_main_v52, val_main_v12, val_main_v11, val_main_cst_4]
  rw [rsF1_apply, kvF_apply]; rfl

theorem rsF3_apply (x0 : S8192x8192.Idx → EReal) (x1 : S2x16.Idx → EReal) (b : Fin 2) (h : Fin 16) (d e : Fin 128) :
    val_main_v76 (F := Ideal) x0 x1 (ix4 b h d e) = rsF x0 x1 b h d e 3 := by
  pointwise [val_main_v76, val_main_v75, val_main_v74, val_main_v73, val_main_v72, val_main_v60, val_main_v55, val_main_v54, val_main_v53, val_main_v52, val_main_v12, val_main_v11, val_main_cst_4]
  rw [rsF2_apply, kvF_apply]; rfl

theorem rsF4_apply (x0 : S8192x8192.Idx → EReal) (x1 : S2x16.Idx → EReal) (b : Fin 2) (h : Fin 16) (d e : Fin 128) :
    val_main_v81 (F := Ideal) x0 x1 (ix4 b h d e) = rsF x0 x1 b h d e 4 := by
  pointwise [val_main_v81, val_main_v80, val_main_v79, val_main_v78, val_main_v77, val_main_v60, val_main_v55, val_main_v54, val_main_v53, val_main_v52, val_main_v12, val_main_v11, val_main_cst_4]
  rw [rsF3_apply, kvF_apply]; rfl

theorem rsF5_apply (x0 : S8192x8192.Idx → EReal) (x1 : S2x16.Idx → EReal) (b : Fin 2) (h : Fin 16) (d e : Fin 128) :
    val_main_v86 (F := Ideal) x0 x1 (ix4 b h d e) = rsF x0 x1 b h d e 5 := by
  pointwise [val_main_v86, val_main_v85, val_main_v84, val_main_v83, val_main_v82, val_main_v60, val_main_v55, val_main_v54, val_main_v53, val_main_v52, val_main_v12, val_main_v11, val_main_cst_4]
  rw [rsF4_apply, kvF_apply]; rfl

theorem rsF6_apply (x0 : S8192x8192.Idx → EReal) (x1 : S2x16.Idx → EReal) (b : Fin 2) (h : Fin 16) (d e : Fin 128) :
    val_main_v91 (F := Ideal) x0 x1 (ix4 b h d e) = rsF x0 x1 b h d e 6 := by
  pointwise [val_main_v91, val_main_v90, val_main_v89, val_main_v88, val_main_v87, val_main_v60, val_main_v55, val_main_v54, val_main_v53, val_main_v52, val_main_v12, val_main_v11, val_main_cst_4]
  rw [rsF5_apply, kvF_apply]; rfl

theorem rsF7_apply (x0 : S8192x8192.Idx → EReal) (x1 : S2x16.Idx → EReal) (b : Fin 2) (h : Fin 16) (d e : Fin 128) :
    val_main_v96 (F := Ideal) x0 x1 (ix4 b h d e) = rsF x0 x1 b h d e 7 := by
  pointwise [val_main_v96, val_main_v95, val_main_v94, val_main_v93, val_main_v92, val_main_v60, val_main_v55, val_main_v54, val_main_v53, val_main_v52, val_main_v12, val_main_v11, val_main_cst_4]
  rw [rsF6_apply, kvF_apply]; rfl

theorem rsF8_apply (x0 : S8192x8192.Idx → EReal) (x1 : S2x16.Idx → EReal) (b : Fin 2) (h : Fin 16) (d e : Fin 128) :
    val_main_v101 (F := Ideal) x0 x1 (ix4 b h d e) = rsF x0 x1 b h d e 8 := by
  pointwise [val_main_v101, val_main_v100, val_main_v99, val_main_v98, val_main_v97, val_main_v60, val_main_v55, val_main_v54, val_main_v53, val_main_v52, val_main_v12, val_main_v11, val_main_cst_4]
  rw [rsF7_apply, kvF_apply]; rfl

theorem rsF9_apply (x0 : S8192x8192.Idx → EReal) (x1 : S2x16.Idx → EReal) (b : Fin 2) (h : Fin 16) (d e : Fin 128) :
    val_main_v106 (F := Ideal) x0 x1 (ix4 b h d e) = rsF x0 x1 b h d e 9 := by
  pointwise [val_main_v106, val_main_v105, val_main_v104, val_main_v103, val_main_v102, val_main_v60, val_main_v55, val_main_v54, val_main_v53, val_main_v52, val_main_v12, val_main_v11, val_main_cst_4]
  rw [rsF8_apply, kvF_apply]; rfl

theorem rsF10_apply (x0 : S8192x8192.Idx → EReal) (x1 : S2x16.Idx → EReal) (b : Fin 2) (h : Fin 16) (d e : Fin 128) :
    val_main_v111 (F := Ideal) x0 x1 (ix4 b h d e) = rsF x0 x1 b h d e 10 := by
  pointwise [val_main_v111, val_main_v110, val_main_v109, val_main_v108, val_main_v107, val_main_v60, val_main_v55, val_main_v54, val_main_v53, val_main_v52, val_main_v12, val_main_v11, val_main_cst_4]
  rw [rsF9_apply, kvF_apply]; rfl

theorem rsF11_apply (x0 : S8192x8192.Idx → EReal) (x1 : S2x16.Idx → EReal) (b : Fin 2) (h : Fin 16) (d e : Fin 128) :
    val_main_v116 (F := Ideal) x0 x1 (ix4 b h d e) = rsF x0 x1 b h d e 11 := by
  pointwise [val_main_v116, val_main_v115, val_main_v114, val_main_v113, val_main_v112, val_main_v60, val_main_v55, val_main_v54, val_main_v53, val_main_v52, val_main_v12, val_main_v11, val_main_cst_4]
  rw [rsF10_apply, kvF_apply]; rfl

theorem rsF12_apply (x0 : S8192x8192.Idx → EReal) (x1 : S2x16.Idx → EReal) (b : Fin 2) (h : Fin 16) (d e : Fin 128) :
    val_main_v121 (F := Ideal) x0 x1 (ix4 b h d e) = rsF x0 x1 b h d e 12 := by
  pointwise [val_main_v121, val_main_v120, val_main_v119, val_main_v118, val_main_v117, val_main_v60, val_main_v55, val_main_v54, val_main_v53, val_main_v52, val_main_v12, val_main_v11, val_main_cst_4]
  rw [rsF11_apply, kvF_apply]; rfl

theorem rsF13_apply (x0 : S8192x8192.Idx → EReal) (x1 : S2x16.Idx → EReal) (b : Fin 2) (h : Fin 16) (d e : Fin 128) :
    val_main_v126 (F := Ideal) x0 x1 (ix4 b h d e) = rsF x0 x1 b h d e 13 := by
  pointwise [val_main_v126, val_main_v125, val_main_v124, val_main_v123, val_main_v122, val_main_v60, val_main_v55, val_main_v54, val_main_v53, val_main_v52, val_main_v12, val_main_v11, val_main_cst_4]
  rw [rsF12_apply, kvF_apply]; rfl

theorem rsF14_apply (x0 : S8192x8192.Idx → EReal) (x1 : S2x16.Idx → EReal) (b : Fin 2) (h : Fin 16) (d e : Fin 128) :
    val_main_v131 (F := Ideal) x0 x1 (ix4 b h d e) = rsF x0 x1 b h d e 14 := by
  pointwise [val_main_v131, val_main_v130, val_main_v129, val_main_v128, val_main_v127, val_main_v60, val_main_v55, val_main_v54, val_main_v53, val_main_v52, val_main_v12, val_main_v11, val_main_cst_4]
  rw [rsF13_apply, kvF_apply]; rfl

theorem rsF15_apply (x0 : S8192x8192.Idx → EReal) (x1 : S2x16.Idx → EReal) (b : Fin 2) (h : Fin 16) (d e : Fin 128) :
    val_main_v136 (F := Ideal) x0 x1 (ix4 b h d e) = rsF x0 x1 b h d e 15 := by
  pointwise [val_main_v136, val_main_v135, val_main_v134, val_main_v133, val_main_v132, val_main_v60, val_main_v55, val_main_v54, val_main_v53, val_main_v52, val_main_v12, val_main_v11, val_main_cst_4]
  rw [rsF14_apply, kvF_apply]; rfl

theorem rsF16_apply (x0 : S8192x8192.Idx → EReal) (x1 : S2x16.Idx → EReal) (b : Fin 2) (h : Fin 16) (d e : Fin 128) :
    val_main_v141 (F := Ideal) x0 x1 (ix4 b h d e) = rsF x0 x1 b h d e 16 := by
  pointwise [val_main_v141, val_main_v140, val_main_v139, val_main_v138, val_main_v137, val_main_v60, val_main_v55, val_main_v54, val_main_v53, val_main_v52, val_main_v12, val_main_v11, val_main_cst_4]
  rw [rsF15_apply, kvF_apply]; rfl

theorem rsF17_apply (x0 : S8192x8192.Idx → EReal) (x1 : S2x16.Idx → EReal) (b : Fin 2) (h : Fin 16) (d e : Fin 128) :
    val_main_v146 (F := Ideal) x0 x1 (ix4 b h d e) = rsF x0 x1 b h d e 17 := by
  pointwise [val_main_v146, val_main_v145, val_main_v144, val_main_v143, val_main_v142, val_main_v60, val_main_v55, val_main_v54, val_main_v53, val_main_v52, val_main_v12, val_main_v11, val_main_cst_4]
  rw [rsF16_apply, kvF_apply]; rfl

theorem rsF18_apply (x0 : S8192x8192.Idx → EReal) (x1 : S2x16.Idx → EReal) (b : Fin 2) (h : Fin 16) (d e : Fin 128) :
    val_main_v151 (F := Ideal) x0 x1 (ix4 b h d e) = rsF x0 x1 b h d e 18 := by
  pointwise [val_main_v151, val_main_v150, val_main_v149, val_main_v148, val_main_v147, val_main_v60, val_main_v55, val_main_v54, val_main_v53, val_main_v52, val_main_v12, val_main_v11, val_main_cst_4]
  rw [rsF17_apply, kvF_apply]; rfl

theorem rsF19_apply (x0 : S8192x8192.Idx → EReal) (x1 : S2x16.Idx → EReal) (b : Fin 2) (h : Fin 16) (d e : Fin 128) :
    val_main_v156 (F := Ideal) x0 x1 (ix4 b h d e) = rsF x0 x1 b h d e 19 := by
  pointwise [val_main_v156, val_main_v155, val_main_v154, val_main_v153, val_main_v152, val_main_v60, val_main_v55, val_main_v54, val_main_v53, val_main_v52, val_main_v12, val_main_v11, val_main_cst_4]
  rw [rsF18_apply, kvF_apply]; rfl

theorem rsF20_apply (x0 : S8192x8192.Idx → EReal) (x1 : S2x16.Idx → EReal) (b : Fin 2) (h : Fin 16) (d e : Fin 128) :
    val_main_v161 (F := Ideal) x0 x1 (ix4 b h d e) = rsF x0 x1 b h d e 20 := by
  pointwise [val_main_v161, val_main_v160, val_main_v159, val_main_v158, val_main_v157, val_main_v60, val_main_v55, val_main_v54, val_main_v53, val_main_v52, val_main_v12, val_main_v11, val_main_cst_4]
  rw [rsF19_apply, kvF_apply]; rfl

theorem rsF21_apply (x0 : S8192x8192.Idx → EReal) (x1 : S2x16.Idx → EReal) (b : Fin 2) (h : Fin 16) (d e : Fin 128) :
    val_main_v166 (F := Ideal) x0 x1 (ix4 b h d e) = rsF x0 x1 b h d e 21 := by
  pointwise [val_main_v166, val_main_v165, val_main_v164, val_main_v163, val_main_v162, val_main_v60, val_main_v55, val_main_v54, val_main_v53, val_main_v52, val_main_v12, val_main_v11, val_main_cst_4]
  rw [rsF20_apply, kvF_apply]; rfl

theorem rsF22_apply (x0 : S8192x8192.Idx → EReal) (x1 : S2x16.Idx → EReal) (b : Fin 2) (h : Fin 16) (d e : Fin 128) :
    val_main_v171 (F := Ideal) x0 x1 (ix4 b h d e) = rsF x0 x1 b h d e 22 := by
  pointwise [val_main_v171, val_main_v170, val_main_v169, val_main_v168, val_main_v167, val_main_v60, val_main_v55, val_main_v54, val_main_v53, val_main_v52, val_main_v12, val_main_v11, val_main_cst_4]
  rw [rsF21_apply, kvF_apply]; rfl

theorem rsF23_apply (x0 : S8192x8192.Idx → EReal) (x1 : S2x16.Idx → EReal) (b : Fin 2) (h : Fin 16) (d e : Fin 128) :
    val_main_v176 (F := Ideal) x0 x1 (ix4 b h d e) = rsF x0 x1 b h d e 23 := by
  pointwise [val_main_v176, val_main_v175, val_main_v174, val_main_v173, val_main_v172, val_main_v60, val_main_v55, val_main_v54, val_main_v53, val_main_v52, val_main_v12, val_main_v11, val_main_cst_4]
  rw [rsF22_apply, kvF_apply]; rfl

theorem rsF24_apply (x0 : S8192x8192.Idx → EReal) (x1 : S2x16.Idx → EReal) (b : Fin 2) (h : Fin 16) (d e : Fin 128) :
    val_main_v181 (F := Ideal) x0 x1 (ix4 b h d e) = rsF x0 x1 b h d e 24 := by
  pointwise [val_main_v181, val_main_v180, val_main_v179, val_main_v178, val_main_v177, val_main_v60, val_main_v55, val_main_v54, val_main_v53, val_main_v52, val_main_v12, val_main_v11, val_main_cst_4]
  rw [rsF23_apply, kvF_apply]; rfl

theorem rsF25_apply (x0 : S8192x8192.Idx → EReal) (x1 : S2x16.Idx → EReal) (b : Fin 2) (h : Fin 16) (d e : Fin 128) :
    val_main_v186 (F := Ideal) x0 x1 (ix4 b h d e) = rsF x0 x1 b h d e 25 := by
  pointwise [val_main_v186, val_main_v185, val_main_v184, val_main_v183, val_main_v182, val_main_v60, val_main_v55, val_main_v54, val_main_v53, val_main_v52, val_main_v12, val_main_v11, val_main_cst_4]
  rw [rsF24_apply, kvF_apply]; rfl

theorem rsF26_apply (x0 : S8192x8192.Idx → EReal) (x1 : S2x16.Idx → EReal) (b : Fin 2) (h : Fin 16) (d e : Fin 128) :
    val_main_v191 (F := Ideal) x0 x1 (ix4 b h d e) = rsF x0 x1 b h d e 26 := by
  pointwise [val_main_v191, val_main_v190, val_main_v189, val_main_v188, val_main_v187, val_main_v60, val_main_v55, val_main_v54, val_main_v53, val_main_v52, val_main_v12, val_main_v11, val_main_cst_4]
  rw [rsF25_apply, kvF_apply]; rfl

theorem rsF27_apply (x0 : S8192x8192.Idx → EReal) (x1 : S2x16.Idx → EReal) (b : Fin 2) (h : Fin 16) (d e : Fin 128) :
    val_main_v196 (F := Ideal) x0 x1 (ix4 b h d e) = rsF x0 x1 b h d e 27 := by
  pointwise [val_main_v196, val_main_v195, val_main_v194, val_main_v193, val_main_v192, val_main_v60, val_main_v55, val_main_v54, val_main_v53, val_main_v52, val_main_v12, val_main_v11, val_main_cst_4]
  rw [rsF26_apply, kvF_apply]; rfl

theorem rsF28_apply (x0 : S8192x8192.Idx → EReal) (x1 : S2x16.Idx → EReal) (b : Fin 2) (h : Fin 16) (d e : Fin 128) :
    val_main_v201 (F := Ideal) x0 x1 (ix4 b h d e) = rsF x0 x1 b h d e 28 := by
  pointwise [val_main_v201, val_main_v200, val_main_v199, val_main_v198, val_main_v197, val_main_v60, val_main_v55, val_main_v54, val_main_v53, val_main_v52, val_main_v12, val_main_v11, val_main_cst_4]
  rw [rsF27_apply, kvF_apply]; rfl

theorem rsF29_apply (x0 : S8192x8192.Idx → EReal) (x1 : S2x16.Idx → EReal) (b : Fin 2) (h : Fin 16) (d e : Fin 128) :
    val_main_v206 (F := Ideal) x0 x1 (ix4 b h d e) = rsF x0 x1 b h d e 29 := by
  pointwise [val_main_v206, val_main_v205, val_main_v204, val_main_v203, val_main_v202, val_main_v60, val_main_v55, val_main_v54, val_main_v53, val_main_v52, val_main_v12, val_main_v11, val_main_cst_4]
  rw [rsF28_apply, kvF_apply]; rfl

theorem rsF30_apply (x0 : S8192x8192.Idx → EReal) (x1 : S2x16.Idx → EReal) (b : Fin 2) (h : Fin 16) (d e : Fin 128) :
    val_main_v211 (F := Ideal) x0 x1 (ix4 b h d e) = rsF x0 x1 b h d e 30 := by
  pointwise [val_main_v211, val_main_v210, val_main_v209, val_main_v208, val_main_v207, val_main_v60, val_main_v55, val_main_v54, val_main_v53, val_main_v52, val_main_v12, val_main_v11, val_main_cst_4]
  rw [rsF29_apply, kvF_apply]; rfl

theorem rsF31_apply (x0 : S8192x8192.Idx → EReal) (x1 : S2x16.Idx → EReal) (b : Fin 2) (h : Fin 16) (d e : Fin 128) :
    val_main_v216 (F := Ideal) x0 x1 (ix4 b h d e) = rsF x0 x1 b h d e 31 := by
  pointwise [val_main_v216, val_main_v215, val_main_v214, val_main_v213, val_main_v212, val_main_v60, val_main_v55, val_main_v54, val_main_v53, val_main_v52, val_main_v12, val_main_v11, val_main_cst_4]
  rw [rsF30_apply, kvF_apply]; rfl

/-- The states before chunks 0 to 15, one slab each. -/
def piecesF0 (x0 : S8192x8192.Idx → EReal) (x1 : S2x16.Idx → EReal) : Fin 16 → (S1x2x16x128x128.Idx → EReal) :=
  ![val_main_v222 (F := Ideal), val_main_v223 (F := Ideal) x0 x1, val_main_v224 (F := Ideal) x0 x1, val_main_v225 (F := Ideal) x0 x1, val_main_v226 (F := Ideal) x0 x1, val_main_v227 (F := Ideal) x0 x1, val_main_v228 (F := Ideal) x0 x1, val_main_v229 (F := Ideal) x0 x1, val_main_v230 (F := Ideal) x0 x1, val_main_v231 (F := Ideal) x0 x1, val_main_v232 (F := Ideal) x0 x1, val_main_v233 (F := Ideal) x0 x1, val_main_v234 (F := Ideal) x0 x1, val_main_v235 (F := Ideal) x0 x1, val_main_v236 (F := Ideal) x0 x1, val_main_v237 (F := Ideal) x0 x1]

theorem piecesF0_apply (x0 : S8192x8192.Idx → EReal) (x1 : S2x16.Idx → EReal) (b : Fin 2) (h : Fin 16) (d e : Fin 128) (n : Fin 16) :
    piecesF0 x0 x1 n (ix5 0 b h d e) = rsF x0 x1 b h d e (0 + n.val) := by
  match n with
  | ⟨0, _⟩ =>
    show val_main_v222 (F := Ideal) (ix5 0 b h d e) = _
    pointwise [val_main_v222]
    exact rsF0_apply x0 x1 b h d e
  | ⟨1, _⟩ =>
    show val_main_v223 (F := Ideal) x0 x1 (ix5 0 b h d e) = _
    pointwise [val_main_v223]
    exact rsF1_apply x0 x1 b h d e
  | ⟨2, _⟩ =>
    show val_main_v224 (F := Ideal) x0 x1 (ix5 0 b h d e) = _
    pointwise [val_main_v224]
    exact rsF2_apply x0 x1 b h d e
  | ⟨3, _⟩ =>
    show val_main_v225 (F := Ideal) x0 x1 (ix5 0 b h d e) = _
    pointwise [val_main_v225]
    exact rsF3_apply x0 x1 b h d e
  | ⟨4, _⟩ =>
    show val_main_v226 (F := Ideal) x0 x1 (ix5 0 b h d e) = _
    pointwise [val_main_v226]
    exact rsF4_apply x0 x1 b h d e
  | ⟨5, _⟩ =>
    show val_main_v227 (F := Ideal) x0 x1 (ix5 0 b h d e) = _
    pointwise [val_main_v227]
    exact rsF5_apply x0 x1 b h d e
  | ⟨6, _⟩ =>
    show val_main_v228 (F := Ideal) x0 x1 (ix5 0 b h d e) = _
    pointwise [val_main_v228]
    exact rsF6_apply x0 x1 b h d e
  | ⟨7, _⟩ =>
    show val_main_v229 (F := Ideal) x0 x1 (ix5 0 b h d e) = _
    pointwise [val_main_v229]
    exact rsF7_apply x0 x1 b h d e
  | ⟨8, _⟩ =>
    show val_main_v230 (F := Ideal) x0 x1 (ix5 0 b h d e) = _
    pointwise [val_main_v230]
    exact rsF8_apply x0 x1 b h d e
  | ⟨9, _⟩ =>
    show val_main_v231 (F := Ideal) x0 x1 (ix5 0 b h d e) = _
    pointwise [val_main_v231]
    exact rsF9_apply x0 x1 b h d e
  | ⟨10, _⟩ =>
    show val_main_v232 (F := Ideal) x0 x1 (ix5 0 b h d e) = _
    pointwise [val_main_v232]
    exact rsF10_apply x0 x1 b h d e
  | ⟨11, _⟩ =>
    show val_main_v233 (F := Ideal) x0 x1 (ix5 0 b h d e) = _
    pointwise [val_main_v233]
    exact rsF11_apply x0 x1 b h d e
  | ⟨12, _⟩ =>
    show val_main_v234 (F := Ideal) x0 x1 (ix5 0 b h d e) = _
    pointwise [val_main_v234]
    exact rsF12_apply x0 x1 b h d e
  | ⟨13, _⟩ =>
    show val_main_v235 (F := Ideal) x0 x1 (ix5 0 b h d e) = _
    pointwise [val_main_v235]
    exact rsF13_apply x0 x1 b h d e
  | ⟨14, _⟩ =>
    show val_main_v236 (F := Ideal) x0 x1 (ix5 0 b h d e) = _
    pointwise [val_main_v236]
    exact rsF14_apply x0 x1 b h d e
  | ⟨15, _⟩ =>
    show val_main_v237 (F := Ideal) x0 x1 (ix5 0 b h d e) = _
    pointwise [val_main_v237]
    exact rsF15_apply x0 x1 b h d e
  | ⟨m + 16, hm⟩ => exact absurd hm (by omega)

theorem halfF0_apply (x0 : S8192x8192.Idx → EReal) (x1 : S2x16.Idx → EReal) (b : Fin 2) (n h : Fin 16) (d e : Fin 128) :
    val_main_v254 (F := Ideal) x0 x1 (ix5 n b h d e) = rsF x0 x1 b h d e (0 + n.val) := by
  have hc : val_main_v254 (F := Ideal) x0 x1
      = concatenate S16x2x16x128x128 0 (List.ofFn fun k : Fin 16 => (⟨S1x2x16x128x128, piecesF0 x0 x1 k⟩ : (s : Shape) × (s.Idx → EReal)))
        (by rw [stack_shapes]; exact stacked) := rfl
  rw [hc, concatenate_ofFn_unit_apply' 0 _ _ rfl]
  refine Eq.trans ?_ (piecesF0_apply x0 x1 b h d e n)
  congr 1
  funext a
  match a with
  | ⟨0, _⟩ => rfl
  | ⟨1, _⟩ => rfl
  | ⟨2, _⟩ => rfl
  | ⟨3, _⟩ => rfl
  | ⟨4, _⟩ => rfl

/-- The states before chunks 16 to 31, one slab each. -/
def piecesF1 (x0 : S8192x8192.Idx → EReal) (x1 : S2x16.Idx → EReal) : Fin 16 → (S1x2x16x128x128.Idx → EReal) :=
  ![val_main_v238 (F := Ideal) x0 x1, val_main_v239 (F := Ideal) x0 x1, val_main_v240 (F := Ideal) x0 x1, val_main_v241 (F := Ideal) x0 x1, val_main_v242 (F := Ideal) x0 x1, val_main_v243 (F := Ideal) x0 x1, val_main_v244 (F := Ideal) x0 x1, val_main_v245 (F := Ideal) x0 x1, val_main_v246 (F := Ideal) x0 x1, val_main_v247 (F := Ideal) x0 x1, val_main_v248 (F := Ideal) x0 x1, val_main_v249 (F := Ideal) x0 x1, val_main_v250 (F := Ideal) x0 x1, val_main_v251 (F := Ideal) x0 x1, val_main_v252 (F := Ideal) x0 x1, val_main_v253 (F := Ideal) x0 x1]

theorem piecesF1_apply (x0 : S8192x8192.Idx → EReal) (x1 : S2x16.Idx → EReal) (b : Fin 2) (h : Fin 16) (d e : Fin 128) (n : Fin 16) :
    piecesF1 x0 x1 n (ix5 0 b h d e) = rsF x0 x1 b h d e (16 + n.val) := by
  match n with
  | ⟨0, _⟩ =>
    show val_main_v238 (F := Ideal) x0 x1 (ix5 0 b h d e) = _
    pointwise [val_main_v238]
    exact rsF16_apply x0 x1 b h d e
  | ⟨1, _⟩ =>
    show val_main_v239 (F := Ideal) x0 x1 (ix5 0 b h d e) = _
    pointwise [val_main_v239]
    exact rsF17_apply x0 x1 b h d e
  | ⟨2, _⟩ =>
    show val_main_v240 (F := Ideal) x0 x1 (ix5 0 b h d e) = _
    pointwise [val_main_v240]
    exact rsF18_apply x0 x1 b h d e
  | ⟨3, _⟩ =>
    show val_main_v241 (F := Ideal) x0 x1 (ix5 0 b h d e) = _
    pointwise [val_main_v241]
    exact rsF19_apply x0 x1 b h d e
  | ⟨4, _⟩ =>
    show val_main_v242 (F := Ideal) x0 x1 (ix5 0 b h d e) = _
    pointwise [val_main_v242]
    exact rsF20_apply x0 x1 b h d e
  | ⟨5, _⟩ =>
    show val_main_v243 (F := Ideal) x0 x1 (ix5 0 b h d e) = _
    pointwise [val_main_v243]
    exact rsF21_apply x0 x1 b h d e
  | ⟨6, _⟩ =>
    show val_main_v244 (F := Ideal) x0 x1 (ix5 0 b h d e) = _
    pointwise [val_main_v244]
    exact rsF22_apply x0 x1 b h d e
  | ⟨7, _⟩ =>
    show val_main_v245 (F := Ideal) x0 x1 (ix5 0 b h d e) = _
    pointwise [val_main_v245]
    exact rsF23_apply x0 x1 b h d e
  | ⟨8, _⟩ =>
    show val_main_v246 (F := Ideal) x0 x1 (ix5 0 b h d e) = _
    pointwise [val_main_v246]
    exact rsF24_apply x0 x1 b h d e
  | ⟨9, _⟩ =>
    show val_main_v247 (F := Ideal) x0 x1 (ix5 0 b h d e) = _
    pointwise [val_main_v247]
    exact rsF25_apply x0 x1 b h d e
  | ⟨10, _⟩ =>
    show val_main_v248 (F := Ideal) x0 x1 (ix5 0 b h d e) = _
    pointwise [val_main_v248]
    exact rsF26_apply x0 x1 b h d e
  | ⟨11, _⟩ =>
    show val_main_v249 (F := Ideal) x0 x1 (ix5 0 b h d e) = _
    pointwise [val_main_v249]
    exact rsF27_apply x0 x1 b h d e
  | ⟨12, _⟩ =>
    show val_main_v250 (F := Ideal) x0 x1 (ix5 0 b h d e) = _
    pointwise [val_main_v250]
    exact rsF28_apply x0 x1 b h d e
  | ⟨13, _⟩ =>
    show val_main_v251 (F := Ideal) x0 x1 (ix5 0 b h d e) = _
    pointwise [val_main_v251]
    exact rsF29_apply x0 x1 b h d e
  | ⟨14, _⟩ =>
    show val_main_v252 (F := Ideal) x0 x1 (ix5 0 b h d e) = _
    pointwise [val_main_v252]
    exact rsF30_apply x0 x1 b h d e
  | ⟨15, _⟩ =>
    show val_main_v253 (F := Ideal) x0 x1 (ix5 0 b h d e) = _
    pointwise [val_main_v253]
    exact rsF31_apply x0 x1 b h d e
  | ⟨m + 16, hm⟩ => exact absurd hm (by omega)

theorem halfF1_apply (x0 : S8192x8192.Idx → EReal) (x1 : S2x16.Idx → EReal) (b : Fin 2) (n h : Fin 16) (d e : Fin 128) :
    val_main_v255 (F := Ideal) x0 x1 (ix5 n b h d e) = rsF x0 x1 b h d e (16 + n.val) := by
  have hc : val_main_v255 (F := Ideal) x0 x1
      = concatenate S16x2x16x128x128 0 (List.ofFn fun k : Fin 16 => (⟨S1x2x16x128x128, piecesF1 x0 x1 k⟩ : (s : Shape) × (s.Idx → EReal)))
        (by rw [stack_shapes]; exact stacked) := rfl
  rw [hc, concatenate_ofFn_unit_apply' 0 _ _ rfl]
  refine Eq.trans ?_ (piecesF1_apply x0 x1 b h d e n)
  congr 1
  funext a
  match a with
  | ⟨0, _⟩ => rfl
  | ⟨1, _⟩ => rfl
  | ⟨2, _⟩ => rfl
  | ⟨3, _⟩ => rfl
  | ⟨4, _⟩ => rfl

theorem prevF_apply (x0 : S8192x8192.Idx → EReal) (x1 : S2x16.Idx → EReal) (b : Fin 2) (n : Fin 32) (h : Fin 16) (d e : Fin 128) :
    val_main_v257 (F := Ideal) x0 x1 (ix5 n b h d e) = rsF x0 x1 b h d e n.val := by
  pointwise [val_main_v257, val_main_v256]
  rw [dif_neg (Nat.not_lt_zero _)]
  split
  · rw [halfF0_apply]; simp only [Nat.zero_add]
  · rw [halfF1_apply]; congr 1; simp only []; omega

theorem passF_apply (x0 : S8192x8192.Idx → EReal) (x1 : S2x16.Idx → EReal) (b : Fin 2) (n : Fin 32) (i : Fin 128) (h : Fin 16) (e : Fin 128) :
    val_main_v271 (F := Ideal) x0 x1 (ix5 b n i h e)
      = pass (maskF (x1 (ix2 0 h))) (x1 (ix2 0 h)) (hd x0 0 b h (by omega)) (hd x0 2048 b h (by omega)) (hd x0 4096 b h (by omega)) n i e := by
  pointwise [val_main_v271, val_main_v270, val_main_v269, val_main_v268, val_main_v267, val_main_v266, val_main_v265, val_main_v264, val_main_v263, val_main_v262, val_main_v261, val_main_v260, val_main_v259, val_main_v258, val_main_v16, val_main_v12, val_main_v11, val_main_cst_7]
  simp only [intraF_apply, prevF_apply, qF_apply, sitofp_pos]
  rfl

end Cert.Ret
end
-- ==== Proof.RefB.lean ====
module

public import proofs.«01_k».proof.Proof.Gen.ReferenceIdeal.Read
public import proofs.«01_k».proof.Proof.RefHead

/-!
The backward pass of the reference, over the reversed sequence, read at an index.
-/

@[expose] public section
set_option maxRecDepth 16384
set_option maxHeartbeats 1000000
noncomputable section
namespace Cert.Ret
open Idealize.ShloMosaic Idealize.ShloMosaic.TcCoe
open Cert.ReferenceIdeal Cert.ReferenceIdeal.Read
open Idealize.ShloMosaic.Pointwise

theorem qB_apply (x0 : S8192x8192.Idx → EReal) (b : Fin 2) (n : Fin 32) (i : Fin 128) (h : Fin 16) (d : Fin 128) :
    val_main_v278 (F := Ideal) x0 (ix5 b n i h d) = (flip (hd x0 0 b h (by omega))) n i d := by
  pointwise [val_main_v278]
  rw [val_main_v273, rev4]
  pointwise [val_main_v6, val_main_v2, val_main_v1, val_main_v0]
  exact hd_eq x0 0 b h (by omega) n.rev i.rev d _ _ (by have := n.isLt; have := i.isLt; simp only [Fin.val_rev]; omega) (by simp only []; omega)

theorem kB_apply (x0 : S8192x8192.Idx → EReal) (b : Fin 2) (n : Fin 32) (i : Fin 128) (h : Fin 16) (d : Fin 128) :
    val_main_v279 (F := Ideal) x0 (ix5 b n i h d) = (flip (hd x0 2048 b h (by omega))) n i d * scw := by
  pointwise [val_main_v279]
  rw [val_main_v274, rev4]
  pointwise [val_main_v10, val_main_v9, val_main_cst, val_main_v7, val_main_v3, val_main_v1, val_main_v0]
  exact congrArg (· * scw) (hd_eq x0 2048 b h (by omega) n.rev i.rev d _ _ (by have := n.isLt; have := i.isLt; simp only [Fin.val_rev]; omega) rfl)

theorem vB_apply (x0 : S8192x8192.Idx → EReal) (b : Fin 2) (n : Fin 32) (i : Fin 128) (h : Fin 16) (d : Fin 128) :
    val_main_v280 (F := Ideal) x0 (ix5 b n i h d) = (flip (hd x0 4096 b h (by omega))) n i d := by
  pointwise [val_main_v280]
  rw [val_main_v275, rev4]
  pointwise [val_main_v8, val_main_v4, val_main_v1, val_main_v0]
  exact hd_eq x0 4096 b h (by omega) n.rev i.rev d _ _ (by have := n.isLt; have := i.isLt; simp only [Fin.val_rev]; omega) rfl

theorem maskB_apply (x1 : S2x16.Idx → EReal) (h : Fin 16) (i j : Fin 128) :
    val_main_v298 (F := Ideal) x1 (ix3 h i j) = maskB (x1 (ix2 1 h)) i j := by
  pointwise [val_main_v298, val_main_v297, val_main_v296, val_main_v295, val_main_v294, val_main_v293, val_main_v292, val_main_v291, val_main_v290, val_main_v289, val_main_v288, val_main_v287, val_main_v286, val_main_v285, val_main_v284, val_main_v283, val_main_v282, val_main_v281, val_main_v277, val_main_v276, val_main_call1_v0, val_main_call1_v1, val_main_call1_v2, val_main_cst_8, val_main_cst_9, val_main_cst_10, id_eq]
  simp only [sitofp_pos, maskB]

theorem intraB_apply (x0 : S8192x8192.Idx → EReal) (x1 : S2x16.Idx → EReal) (b : Fin 2) (n : Fin 32) (i : Fin 128) (h : Fin 16) (e : Fin 128) :
    val_main_v304 (F := Ideal) x0 x1 (ix5 b n i h e) = ∑ j, (flip (hd x0 4096 b h (by omega))) n j e *
      ((∑ d, (flip (hd x0 0 b h (by omega))) n i d * ((flip (hd x0 2048 b h (by omega))) n j d * scw)) * maskB (x1 (ix2 1 h)) i j) := by
  pointwise [val_main_v304, val_main_v303, val_main_v302, val_main_v301, val_main_v300, val_main_v299]
  simp only [qB_apply, kB_apply, vB_apply, maskB_apply]

theorem kvB_apply (x0 : S8192x8192.Idx → EReal) (x1 : S2x16.Idx → EReal) (b : Fin 2) (n : Fin 32) (h : Fin 16) (d e : Fin 128) :
    val_main_v316 (F := Ideal) x0 x1 (ix5 n b h d e) = kvp (x1 (ix2 1 h)) (flip (hd x0 2048 b h (by omega))) (flip (hd x0 4096 b h (by omega))) d e n.val := by
  pointwise [val_main_v316, val_main_v315, val_main_v314, val_main_v313, val_main_v312, val_main_v311, val_main_v310, val_main_v309, val_main_v308, val_main_v307, val_main_v306, val_main_v305, val_main_v281, val_main_v277, val_main_v276, val_main_cst_11]
  simp only [kB_apply, vB_apply, sitofp_pos, kvp, nn_val]

/-- The state before chunk `n`. -/
def rsB (x0 : S8192x8192.Idx → EReal) (x1 : S2x16.Idx → EReal) (b : Fin 2) (h : Fin 16) (d e : Fin 128) (n : ℕ) : EReal :=
  scan (Ideal.exp (x1 (ix2 1 h) * w128)) (kvp (x1 (ix2 1 h)) (flip (hd x0 2048 b h (by omega))) (flip (hd x0 4096 b h (by omega))) d e) n

theorem rsB0_apply (x0 : S8192x8192.Idx → EReal) (x1 : S2x16.Idx → EReal) (b : Fin 2) (h : Fin 16) (d e : Fin 128) :
    val_main_v323 (F := Ideal) (ix4 b h d e) = rsB x0 x1 b h d e 0 := by
  pointwise [val_main_v323, val_main_cst_13]
  rfl

theorem rsB1_apply (x0 : S8192x8192.Idx → EReal) (x1 : S2x16.Idx → EReal) (b : Fin 2) (h : Fin 16) (d e : Fin 128) :
    val_main_v331 (F := Ideal) x0 x1 (ix4 b h d e) = rsB x0 x1 b h d e 1 := by
  pointwise [val_main_v331, val_main_v330, val_main_v329, val_main_v328, val_main_v327, val_main_v325, val_main_v320, val_main_v319, val_main_v318, val_main_v317, val_main_v277, val_main_v276, val_main_cst_12]
  rw [rsB0_apply x0 x1, kvB_apply]; rfl

theorem rsB2_apply (x0 : S8192x8192.Idx → EReal) (x1 : S2x16.Idx → EReal) (b : Fin 2) (h : Fin 16) (d e : Fin 128) :
    val_main_v336 (F := Ideal) x0 x1 (ix4 b h d e) = rsB x0 x1 b h d e 2 := by
  pointwise [val_main_v336, val_main_v335, val_main_v334, val_main_v333, val_main_v332, val_main_v325, val_main_v320, val_main_v319, val_main_v318, val_main_v317, val_main_v277, val_main_v276, val_main_cst_12]
  rw [rsB1_apply, kvB_apply]; rfl

theorem rsB3_apply (x0 : S8192x8192.Idx → EReal) (x1 : S2x16.Idx → EReal) (b : Fin 2) (h : Fin 16) (d e : Fin 128) :
    val_main_v341 (F := Ideal) x0 x1 (ix4 b h d e) = rsB x0 x1 b h d e 3 := by
  pointwise [val_main_v341, val_main_v340, val_main_v339, val_main_v338, val_main_v337, val_main_v325, val_main_v320, val_main_v319, val_main_v318, val_main_v317, val_main_v277, val_main_v276, val_main_cst_12]
  rw [rsB2_apply, kvB_apply]; rfl

theorem rsB4_apply (x0 : S8192x8192.Idx → EReal) (x1 : S2x16.Idx → EReal) (b : Fin 2) (h : Fin 16) (d e : Fin 128) :
    val_main_v346 (F := Ideal) x0 x1 (ix4 b h d e) = rsB x0 x1 b h d e 4 := by
  pointwise [val_main_v346, val_main_v345, val_main_v344, val_main_v343, val_main_v342, val_main_v325, val_main_v320, val_main_v319, val_main_v318, val_main_v317, val_main_v277, val_main_v276, val_main_cst_12]
  rw [rsB3_apply, kvB_apply]; rfl

theorem rsB5_apply (x0 : S8192x8192.Idx → EReal) (x1 : S2x16.Idx → EReal) (b : Fin 2) (h : Fin 16) (d e : Fin 128) :
    val_main_v351 (F := Ideal) x0 x1 (ix4 b h d e) = rsB x0 x1 b h d e 5 := by
  pointwise [val_main_v351, val_main_v350, val_main_v349, val_main_v348, val_main_v347, val_main_v325, val_main_v320, val_main_v319, val_main_v318, val_main_v317, val_main_v277, val_main_v276, val_main_cst_12]
  rw [rsB4_apply, kvB_apply]; rfl

theorem rsB6_apply (x0 : S8192x8192.Idx → EReal) (x1 : S2x16.Idx → EReal) (b : Fin 2) (h : Fin 16) (d e : Fin 128) :
    val_main_v356 (F := Ideal) x0 x1 (ix4 b h d e) = rsB x0 x1 b h d e 6 := by
  pointwise [val_main_v356, val_main_v355, val_main_v354, val_main_v353, val_main_v352, val_main_v325, val_main_v320, val_main_v319, val_main_v318, val_main_v317, val_main_v277, val_main_v276, val_main_cst_12]
  rw [rsB5_apply, kvB_apply]; rfl

theorem rsB7_apply (x0 : S8192x8192.Idx → EReal) (x1 : S2x16.Idx → EReal) (b : Fin 2) (h : Fin 16) (d e : Fin 128) :
    val_main_v361 (F := Ideal) x0 x1 (ix4 b h d e) = rsB x0 x1 b h d e 7 := by
  pointwise [val_main_v361, val_main_v360, val_main_v359, val_main_v358, val_main_v357, val_main_v325, val_main_v320, val_main_v319, val_main_v318, val_main_v317, val_main_v277, val_main_v276, val_main_cst_12]
  rw [rsB6_apply, kvB_apply]; rfl

theorem rsB8_apply (x0 : S8192x8192.Idx → EReal) (x1 : S2x16.Idx → EReal) (b : Fin 2) (h : Fin 16) (d e : Fin 128) :
    val_main_v366 (F := Ideal) x0 x1 (ix4 b h d e) = rsB x0 x1 b h d e 8 := by
  pointwise [val_main_v366, val_main_v365, val_main_v364, val_main_v363, val_main_v362, val_main_v325, val_main_v320, val_main_v319, val_main_v318, val_main_v317, val_main_v277, val_main_v276, val_main_cst_12]
  rw [rsB7_apply, kvB_apply]; rfl

theorem rsB9_apply (x0 : S8192x8192.Idx → EReal) (x1 : S2x16.Idx → EReal) (b : Fin 2) (h : Fin 16) (d e : Fin 128) :
    val_main_v371 (F := Ideal) x0 x1 (ix4 b h d e) = rsB x0 x1 b h d e 9 := by
  pointwise [val_main_v371, val_main_v370, val_main_v369, val_main_v368, val_main_v367, val_main_v325, val_main_v320, val_main_v319, val_main_v318, val_main_v317, val_main_v277, val_main_v276, val_main_cst_12]
  rw [rsB8_apply, kvB_apply]; rfl

theorem rsB10_apply (x0 : S8192x8192.Idx → EReal) (x1 : S2x16.Idx → EReal) (b : Fin 2) (h : Fin 16) (d e : Fin 128) :
    val_main_v376 (F := Ideal) x0 x1 (ix4 b h d e) = rsB x0 x1 b h d e 10 := by
  pointwise [val_main_v376, val_main_v375, val_main_v374, val_main_v373, val_main_v372, val_main_v325, val_main_v320, val_main_v319, val_main_v318, val_main_v317, val_main_v277, val_main_v276, val_main_cst_12]
  rw [rsB9_apply, kvB_apply]; rfl

theorem rsB11_apply (x0 : S8192x8192.Idx → EReal) (x1 : S2x16.Idx → EReal) (b : Fin 2) (h : Fin 16) (d e : Fin 128) :
    val_main_v381 (F := Ideal) x0 x1 (ix4 b h d e) = rsB x0 x1 b h d e 11 := by
  pointwise [val_main_v381, val_main_v380, val_main_v379, val_main_v378, val_main_v377, val_main_v325, val_main_v320, val_main_v319, val_main_v318, val_main_v317, val_main_v277, val_main_v276, val_main_cst_12]
  rw [rsB10_apply, kvB_apply]; rfl

theorem rsB12_apply (x0 : S8192x8192.Idx → EReal) (x1 : S2x16.Idx → EReal) (b : Fin 2) (h : Fin 16) (d e : Fin 128) :
    val_main_v386 (F := Ideal) x0 x1 (ix4 b h d e) = rsB x0 x1 b h d e 12 := by
  pointwise [val_main_v386, val_main_v385, val_main_v384, val_main_v383, val_main_v382, val_main_v325, val_main_v320, val_main_v319, val_main_v318, val_main_v317, val_main_v277, val_main_v276, val_main_cst_12]
  rw [rsB11_apply, kvB_apply]; rfl

theorem rsB13_apply (x0 : S8192x8192.Idx → EReal) (x1 : S2x16.Idx → EReal) (b : Fin 2) (h : Fin 16) (d e : Fin 128) :
    val_main_v391 (F := Ideal) x0 x1 (ix4 b h d e) = rsB x0 x1 b h d e 13 := by
  pointwise [val_main_v391, val_main_v390, val_main_v389, val_main_v388, val_main_v387, val_main_v325, val_main_v320, val_main_v319, val_main_v318, val_main_v317, val_main_v277, val_main_v276, val_main_cst_12]
  rw [rsB12_apply, kvB_apply]; rfl

theorem rsB14_apply (x0 : S8192x8192.Idx → EReal) (x1 : S2x16.Idx → EReal) (b : Fin 2) (h : Fin 16) (d e : Fin 128) :
    val_main_v396 (F := Ideal) x0 x1 (ix4 b h d e) = rsB x0 x1 b h d e 14 := by
  pointwise [val_main_v396, val_main_v395, val_main_v394, val_main_v393, val_main_v392, val_main_v325, val_main_v320, val_main_v319, val_main_v318, val_main_v317, val_main_v277, val_main_v276, val_main_cst_12]
  rw [rsB13_apply, kvB_apply]; rfl

theorem rsB15_apply (x0 : S8192x8192.Idx → EReal) (x1 : S2x16.Idx → EReal) (b : Fin 2) (h : Fin 16) (d e : Fin 128) :
    val_main_v401 (F := Ideal) x0 x1 (ix4 b h d e) = rsB x0 x1 b h d e 15 := by
  pointwise [val_main_v401, val_main_v400, val_main_v399, val_main_v398, val_main_v397, val_main_v325, val_main_v320, val_main_v319, val_main_v318, val_main_v317, val_main_v277, val_main_v276, val_main_cst_12]
  rw [rsB14_apply, kvB_apply]; rfl

theorem rsB16_apply (x0 : S8192x8192.Idx → EReal) (x1 : S2x16.Idx → EReal) (b : Fin 2) (h : Fin 16) (d e : Fin 128) :
    val_main_v406 (F := Ideal) x0 x1 (ix4 b h d e) = rsB x0 x1 b h d e 16 := by
  pointwise [val_main_v406, val_main_v405, val_main_v404, val_main_v403, val_main_v402, val_main_v325, val_main_v320, val_main_v319, val_main_v318, val_main_v317, val_main_v277, val_main_v276, val_main_cst_12]
  rw [rsB15_apply, kvB_apply]; rfl

theorem rsB17_apply (x0 : S8192x8192.Idx → EReal) (x1 : S2x16.Idx → EReal) (b : Fin 2) (h : Fin 16) (d e : Fin 128) :
    val_main_v411 (F := Ideal) x0 x1 (ix4 b h d e) = rsB x0 x1 b h d e 17 := by
  pointwise [val_main_v411, val_main_v410, val_main_v409, val_main_v408, val_main_v407, val_main_v325, val_main_v320, val_main_v319, val_main_v318, val_main_v317, val_main_v277, val_main_v276, val_main_cst_12]
  rw [rsB16_apply, kvB_apply]; rfl

theorem rsB18_apply (x0 : S8192x8192.Idx → EReal) (x1 : S2x16.Idx → EReal) (b : Fin 2) (h : Fin 16) (d e : Fin 128) :
    val_main_v416 (F := Ideal) x0 x1 (ix4 b h d e) = rsB x0 x1 b h d e 18 := by
  pointwise [val_main_v416, val_main_v415, val_main_v414, val_main_v413, val_main_v412, val_main_v325, val_main_v320, val_main_v319, val_main_v318, val_main_v317, val_main_v277, val_main_v276, val_main_cst_12]
  rw [rsB17_apply, kvB_apply]; rfl

theorem rsB19_apply (x0 : S8192x8192.Idx → EReal) (x1 : S2x16.Idx → EReal) (b : Fin 2) (h : Fin 16) (d e : Fin 128) :
    val_main_v421 (F := Ideal) x0 x1 (ix4 b h d e) = rsB x0 x1 b h d e 19 := by
  pointwise [val_main_v421, val_main_v420, val_main_v419, val_main_v418, val_main_v417, val_main_v325, val_main_v320, val_main_v319, val_main_v318, val_main_v317, val_main_v277, val_main_v276, val_main_cst_12]
  rw [rsB18_apply, kvB_apply]; rfl

theorem rsB20_apply (x0 : S8192x8192.Idx → EReal) (x1 : S2x16.Idx → EReal) (b : Fin 2) (h : Fin 16) (d e : Fin 128) :
    val_main_v426 (F := Ideal) x0 x1 (ix4 b h d e) = rsB x0 x1 b h d e 20 := by
  pointwise [val_main_v426, val_main_v425, val_main_v424, val_main_v423, val_main_v422, val_main_v325, val_main_v320, val_main_v319, val_main_v318, val_main_v317, val_main_v277, val_main_v276, val_main_cst_12]
  rw [rsB19_apply, kvB_apply]; rfl

theorem rsB21_apply (x0 : S8192x8192.Idx → EReal) (x1 : S2x16.Idx → EReal) (b : Fin 2) (h : Fin 16) (d e : Fin 128) :
    val_main_v431 (F := Ideal) x0 x1 (ix4 b h d e) = rsB x0 x1 b h d e 21 := by
  pointwise [val_main_v431, val_main_v430, val_main_v429, val_main_v428, val_main_v427, val_main_v325, val_main_v320, val_main_v319, val_main_v318, val_main_v317, val_main_v277, val_main_v276, val_main_cst_12]
  rw [rsB20_apply, kvB_apply]; rfl

theorem rsB22_apply (x0 : S8192x8192.Idx → EReal) (x1 : S2x16.Idx → EReal) (b : Fin 2) (h : Fin 16) (d e : Fin 128) :
    val_main_v436 (F := Ideal) x0 x1 (ix4 b h d e) = rsB x0 x1 b h d e 22 := by
  pointwise [val_main_v436, val_main_v435, val_main_v434, val_main_v433, val_main_v432, val_main_v325, val_main_v320, val_main_v319, val_main_v318, val_main_v317, val_main_v277, val_main_v276, val_main_cst_12]
  rw [rsB21_apply, kvB_apply]; rfl

theorem rsB23_apply (x0 : S8192x8192.Idx → EReal) (x1 : S2x16.Idx → EReal) (b : Fin 2) (h : Fin 16) (d e : Fin 128) :
    val_main_v441 (F := Ideal) x0 x1 (ix4 b h d e) = rsB x0 x1 b h d e 23 := by
  pointwise [val_main_v441, val_main_v440, val_main_v439, val_main_v438, val_main_v437, val_main_v325, val_main_v320, val_main_v319, val_main_v318, val_main_v317, val_main_v277, val_main_v276, val_main_cst_12]
  rw [rsB22_apply, kvB_apply]; rfl

theorem rsB24_apply (x0 : S8192x8192.Idx → EReal) (x1 : S2x16.Idx → EReal) (b : Fin 2) (h : Fin 16) (d e : Fin 128) :
    val_main_v446 (F := Ideal) x0 x1 (ix4 b h d e) = rsB x0 x1 b h d e 24 := by
  pointwise [val_main_v446, val_main_v445, val_main_v444, val_main_v443, val_main_v442, val_main_v325, val_main_v320, val_main_v319, val_main_v318, val_main_v317, val_main_v277, val_main_v276, val_main_cst_12]
  rw [rsB23_apply, kvB_apply]; rfl

theorem rsB25_apply (x0 : S8192x8192.Idx → EReal) (x1 : S2x16.Idx → EReal) (b : Fin 2) (h : Fin 16) (d e : Fin 128) :
    val_main_v451 (F := Ideal) x0 x1 (ix4 b h d e) = rsB x0 x1 b h d e 25 := by
  pointwise [val_main_v451, val_main_v450, val_main_v449, val_main_v448, val_main_v447, val_main_v325, val_main_v320, val_main_v319, val_main_v318, val_main_v317, val_main_v277, val_main_v276, val_main_cst_12]
  rw [rsB24_apply, kvB_apply]; rfl

theorem rsB26_apply (x0 : S8192x8192.Idx → EReal) (x1 : S2x16.Idx → EReal) (b : Fin 2) (h : Fin 16) (d e : Fin 128) :
    val_main_v456 (F := Ideal) x0 x1 (ix4 b h d e) = rsB x0 x1 b h d e 26 := by
  pointwise [val_main_v456, val_main_v455, val_main_v454, val_main_v453, val_main_v452, val_main_v325, val_main_v320, val_main_v319, val_main_v318, val_main_v317, val_main_v277, val_main_v276, val_main_cst_12]
  rw [rsB25_apply, kvB_apply]; rfl

theorem rsB27_apply (x0 : S8192x8192.Idx → EReal) (x1 : S2x16.Idx → EReal) (b : Fin 2) (h : Fin 16) (d e : Fin 128) :
    val_main_v461 (F := Ideal) x0 x1 (ix4 b h d e) = rsB x0 x1 b h d e 27 := by
  pointwise [val_main_v461, val_main_v460, val_main_v459, val_main_v458, val_main_v457, val_main_v325, val_main_v320, val_main_v319, val_main_v318, val_main_v317, val_main_v277, val_main_v276, val_main_cst_12]
  rw [rsB26_apply, kvB_apply]; rfl

theorem rsB28_apply (x0 : S8192x8192.Idx → EReal) (x1 : S2x16.Idx → EReal) (b : Fin 2) (h : Fin 16) (d e : Fin 128) :
    val_main_v466 (F := Ideal) x0 x1 (ix4 b h d e) = rsB x0 x1 b h d e 28 := by
  pointwise [val_main_v466, val_main_v465, val_main_v464, val_main_v463, val_main_v462, val_main_v325, val_main_v320, val_main_v319, val_main_v318, val_main_v317, val_main_v277, val_main_v276, val_main_cst_12]
  rw [rsB27_apply, kvB_apply]; rfl

theorem rsB29_apply (x0 : S8192x8192.Idx → EReal) (x1 : S2x16.Idx → EReal) (b : Fin 2) (h : Fin 16) (d e : Fin 128) :
    val_main_v471 (F := Ideal) x0 x1 (ix4 b h d e) = rsB x0 x1 b h d e 29 := by
  pointwise [val_main_v471, val_main_v470, val_main_v469, val_main_v468, val_main_v467, val_main_v325, val_main_v320, val_main_v319, val_main_v318, val_main_v317, val_main_v277, val_main_v276, val_main_cst_12]
  rw [rsB28_apply, kvB_apply]; rfl

theorem rsB30_apply (x0 : S8192x8192.Idx → EReal) (x1 : S2x16.Idx → EReal) (b : Fin 2) (h : Fin 16) (d e : Fin 128) :
    val_main_v476 (F := Ideal) x0 x1 (ix4 b h d e) = rsB x0 x1 b h d e 30 := by
  pointwise [val_main_v476, val_main_v475, val_main_v474, val_main_v473, val_main_v472, val_main_v325, val_main_v320, val_main_v319, val_main_v318, val_main_v317, val_main_v277, val_main_v276, val_main_cst_12]
  rw [rsB29_apply, kvB_apply]; rfl

theorem rsB31_apply (x0 : S8192x8192.Idx → EReal) (x1 : S2x16.Idx → EReal) (b : Fin 2) (h : Fin 16) (d e : Fin 128) :
    val_main_v481 (F := Ideal) x0 x1 (ix4 b h d e) = rsB x0 x1 b h d e 31 := by
  pointwise [val_main_v481, val_main_v480, val_main_v479, val_main_v478, val_main_v477, val_main_v325, val_main_v320, val_main_v319, val_main_v318, val_main_v317, val_main_v277, val_main_v276, val_main_cst_12]
  rw [rsB30_apply, kvB_apply]; rfl

/-- The states before chunks 0 to 15, one slab each. -/
def piecesB0 (x0 : S8192x8192.Idx → EReal) (x1 : S2x16.Idx → EReal) : Fin 16 → (S1x2x16x128x128.Idx → EReal) :=
  ![val_main_v487 (F := Ideal), val_main_v488 (F := Ideal) x0 x1, val_main_v489 (F := Ideal) x0 x1, val_main_v490 (F := Ideal) x0 x1, val_main_v491 (F := Ideal) x0 x1, val_main_v492 (F := Ideal) x0 x1, val_main_v493 (F := Ideal) x0 x1, val_main_v494 (F := Ideal) x0 x1, val_main_v495 (F := Ideal) x0 x1, val_main_v496 (F := Ideal) x0 x1, val_main_v497 (F := Ideal) x0 x1, val_main_v498 (F := Ideal) x0 x1, val_main_v499 (F := Ideal) x0 x1, val_main_v500 (F := Ideal) x0 x1, val_main_v501 (F := Ideal) x0 x1, val_main_v502 (F := Ideal) x0 x1]

theorem piecesB0_apply (x0 : S8192x8192.Idx → EReal) (x1 : S2x16.Idx → EReal) (b : Fin 2) (h : Fin 16) (d e : Fin 128) (n : Fin 16) :
    piecesB0 x0 x1 n (ix5 0 b h d e) = rsB x0 x1 b h d e (0 + n.val) := by
  match n with
  | ⟨0, _⟩ =>
    show val_main_v487 (F := Ideal) (ix5 0 b h d e) = _
    pointwise [val_main_v487]
    exact rsB0_apply x0 x1 b h d e
  | ⟨1, _⟩ =>
    show val_main_v488 (F := Ideal) x0 x1 (ix5 0 b h d e) = _
    pointwise [val_main_v488]
    exact rsB1_apply x0 x1 b h d e
  | ⟨2, _⟩ =>
    show val_main_v489 (F := Ideal) x0 x1 (ix5 0 b h d e) = _
    pointwise [val_main_v489]
    exact rsB2_apply x0 x1 b h d e
  | ⟨3, _⟩ =>
    show val_main_v490 (F := Ideal) x0 x1 (ix5 0 b h d e) = _
    pointwise [val_main_v490]
    exact rsB3_apply x0 x1 b h d e
  | ⟨4, _⟩ =>
    show val_main_v491 (F := Ideal) x0 x1 (ix5 0 b h d e) = _
    pointwise [val_main_v491]
    exact rsB4_apply x0 x1 b h d e
  | ⟨5, _⟩ =>
    show val_main_v492 (F := Ideal) x0 x1 (ix5 0 b h d e) = _
    pointwise [val_main_v492]
    exact rsB5_apply x0 x1 b h d e
  | ⟨6, _⟩ =>
    show val_main_v493 (F := Ideal) x0 x1 (ix5 0 b h d e) = _
    pointwise [val_main_v493]
    exact rsB6_apply x0 x1 b h d e
  | ⟨7, _⟩ =>
    show val_main_v494 (F := Ideal) x0 x1 (ix5 0 b h d e) = _
    pointwise [val_main_v494]
    exact rsB7_apply x0 x1 b h d e
  | ⟨8, _⟩ =>
    show val_main_v495 (F := Ideal) x0 x1 (ix5 0 b h d e) = _
    pointwise [val_main_v495]
    exact rsB8_apply x0 x1 b h d e
  | ⟨9, _⟩ =>
    show val_main_v496 (F := Ideal) x0 x1 (ix5 0 b h d e) = _
    pointwise [val_main_v496]
    exact rsB9_apply x0 x1 b h d e
  | ⟨10, _⟩ =>
    show val_main_v497 (F := Ideal) x0 x1 (ix5 0 b h d e) = _
    pointwise [val_main_v497]
    exact rsB10_apply x0 x1 b h d e
  | ⟨11, _⟩ =>
    show val_main_v498 (F := Ideal) x0 x1 (ix5 0 b h d e) = _
    pointwise [val_main_v498]
    exact rsB11_apply x0 x1 b h d e
  | ⟨12, _⟩ =>
    show val_main_v499 (F := Ideal) x0 x1 (ix5 0 b h d e) = _
    pointwise [val_main_v499]
    exact rsB12_apply x0 x1 b h d e
  | ⟨13, _⟩ =>
    show val_main_v500 (F := Ideal) x0 x1 (ix5 0 b h d e) = _
    pointwise [val_main_v500]
    exact rsB13_apply x0 x1 b h d e
  | ⟨14, _⟩ =>
    show val_main_v501 (F := Ideal) x0 x1 (ix5 0 b h d e) = _
    pointwise [val_main_v501]
    exact rsB14_apply x0 x1 b h d e
  | ⟨15, _⟩ =>
    show val_main_v502 (F := Ideal) x0 x1 (ix5 0 b h d e) = _
    pointwise [val_main_v502]
    exact rsB15_apply x0 x1 b h d e
  | ⟨m + 16, hm⟩ => exact absurd hm (by omega)

theorem halfB0_apply (x0 : S8192x8192.Idx → EReal) (x1 : S2x16.Idx → EReal) (b : Fin 2) (n h : Fin 16) (d e : Fin 128) :
    val_main_v519 (F := Ideal) x0 x1 (ix5 n b h d e) = rsB x0 x1 b h d e (0 + n.val) := by
  have hc : val_main_v519 (F := Ideal) x0 x1
      = concatenate S16x2x16x128x128 0 (List.ofFn fun k : Fin 16 => (⟨S1x2x16x128x128, piecesB0 x0 x1 k⟩ : (s : Shape) × (s.Idx → EReal)))
        (by rw [stack_shapes]; exact stacked) := rfl
  rw [hc, concatenate_ofFn_unit_apply' 0 _ _ rfl]
  refine Eq.trans ?_ (piecesB0_apply x0 x1 b h d e n)
  congr 1
  funext a
  match a with
  | ⟨0, _⟩ => rfl
  | ⟨1, _⟩ => rfl
  | ⟨2, _⟩ => rfl
  | ⟨3, _⟩ => rfl
  | ⟨4, _⟩ => rfl

/-- The states before chunks 16 to 31, one slab each. -/
def piecesB1 (x0 : S8192x8192.Idx → EReal) (x1 : S2x16.Idx → EReal) : Fin 16 → (S1x2x16x128x128.Idx → EReal) :=
  ![val_main_v503 (F := Ideal) x0 x1, val_main_v504 (F := Ideal) x0 x1, val_main_v505 (F := Ideal) x0 x1, val_main_v506 (F := Ideal) x0 x1, val_main_v507 (F := Ideal) x0 x1, val_main_v508 (F := Ideal) x0 x1, val_main_v509 (F := Ideal) x0 x1, val_main_v510 (F := Ideal) x0 x1, val_main_v511 (F := Ideal) x0 x1, val_main_v512 (F := Ideal) x0 x1, val_main_v513 (F := Ideal) x0 x1, val_main_v514 (F := Ideal) x0 x1, val_main_v515 (F := Ideal) x0 x1, val_main_v516 (F := Ideal) x0 x1, val_main_v517 (F := Ideal) x0 x1, val_main_v518 (F := Ideal) x0 x1]

theorem piecesB1_apply (x0 : S8192x8192.Idx → EReal) (x1 : S2x16.Idx → EReal) (b : Fin 2) (h : Fin 16) (d e : Fin 128) (n : Fin 16) :
    piecesB1 x0 x1 n (ix5 0 b h d e) = rsB x0 x1 b h d e (16 + n.val) := by
  match n with
  | ⟨0, _⟩ =>
    show val_main_v503 (F := Ideal) x0 x1 (ix5 0 b h d e) = _
    pointwise [val_main_v503]
    exact rsB16_apply x0 x1 b h d e
  | ⟨1, _⟩ =>
    show val_main_v504 (F := Ideal) x0 x1 (ix5 0 b h d e) = _
    pointwise [val_main_v504]
    exact rsB17_apply x0 x1 b h d e
  | ⟨2, _⟩ =>
    show val_main_v505 (F := Ideal) x0 x1 (ix5 0 b h d e) = _
    pointwise [val_main_v505]
    exact rsB18_apply x0 x1 b h d e
  | ⟨3, _⟩ =>
    show val_main_v506 (F := Ideal) x0 x1 (ix5 0 b h d e) = _
    pointwise [val_main_v506]
    exact rsB19_apply x0 x1 b h d e
  | ⟨4, _⟩ =>
    show val_main_v507 (F := Ideal) x0 x1 (ix5 0 b h d e) = _
    pointwise [val_main_v507]
    exact rsB20_apply x0 x1 b h d e
  | ⟨5, _⟩ =>
    show val_main_v508 (F := Ideal) x0 x1 (ix5 0 b h d e) = _
    pointwise [val_main_v508]
    exact rsB21_apply x0 x1 b h d e
  | ⟨6, _⟩ =>
    show val_main_v509 (F := Ideal) x0 x1 (ix5 0 b h d e) = _
    pointwise [val_main_v509]
    exact rsB22_apply x0 x1 b h d e
  | ⟨7, _⟩ =>
    show val_main_v510 (F := Ideal) x0 x1 (ix5 0 b h d e) = _
    pointwise [val_main_v510]
    exact rsB23_apply x0 x1 b h d e
  | ⟨8, _⟩ =>
    show val_main_v511 (F := Ideal) x0 x1 (ix5 0 b h d e) = _
    pointwise [val_main_v511]
    exact rsB24_apply x0 x1 b h d e
  | ⟨9, _⟩ =>
    show val_main_v512 (F := Ideal) x0 x1 (ix5 0 b h d e) = _
    pointwise [val_main_v512]
    exact rsB25_apply x0 x1 b h d e
  | ⟨10, _⟩ =>
    show val_main_v513 (F := Ideal) x0 x1 (ix5 0 b h d e) = _
    pointwise [val_main_v513]
    exact rsB26_apply x0 x1 b h d e
  | ⟨11, _⟩ =>
    show val_main_v514 (F := Ideal) x0 x1 (ix5 0 b h d e) = _
    pointwise [val_main_v514]
    exact rsB27_apply x0 x1 b h d e
  | ⟨12, _⟩ =>
    show val_main_v515 (F := Ideal) x0 x1 (ix5 0 b h d e) = _
    pointwise [val_main_v515]
    exact rsB28_apply x0 x1 b h d e
  | ⟨13, _⟩ =>
    show val_main_v516 (F := Ideal) x0 x1 (ix5 0 b h d e) = _
    pointwise [val_main_v516]
    exact rsB29_apply x0 x1 b h d e
  | ⟨14, _⟩ =>
    show val_main_v517 (F := Ideal) x0 x1 (ix5 0 b h d e) = _
    pointwise [val_main_v517]
    exact rsB30_apply x0 x1 b h d e
  | ⟨15, _⟩ =>
    show val_main_v518 (F := Ideal) x0 x1 (ix5 0 b h d e) = _
    pointwise [val_main_v518]
    exact rsB31_apply x0 x1 b h d e
  | ⟨m + 16, hm⟩ => exact absurd hm (by omega)

theorem halfB1_apply (x0 : S8192x8192.Idx → EReal) (x1 : S2x16.Idx → EReal) (b : Fin 2) (n h : Fin 16) (d e : Fin 128) :
    val_main_v520 (F := Ideal) x0 x1 (ix5 n b h d e) = rsB x0 x1 b h d e (16 + n.val) := by
  have hc : val_main_v520 (F := Ideal) x0 x1
      = concatenate S16x2x16x128x128 0 (List.ofFn fun k : Fin 16 => (⟨S1x2x16x128x128, piecesB1 x0 x1 k⟩ : (s : Shape) × (s.Idx → EReal)))
        (by rw [stack_shapes]; exact stacked) := rfl
  rw [hc, concatenate_ofFn_unit_apply' 0 _ _ rfl]
  refine Eq.trans ?_ (piecesB1_apply x0 x1 b h d e n)
  congr 1
  funext a
  match a with
  | ⟨0, _⟩ => rfl
  | ⟨1, _⟩ => rfl
  | ⟨2, _⟩ => rfl
  | ⟨3, _⟩ => rfl
  | ⟨4, _⟩ => rfl

theorem prevB_apply (x0 : S8192x8192.Idx → EReal) (x1 : S2x16.Idx → EReal) (b : Fin 2) (n : Fin 32) (h : Fin 16) (d e : Fin 128) :
    val_main_v522 (F := Ideal) x0 x1 (ix5 n b h d e) = rsB x0 x1 b h d e n.val := by
  pointwise [val_main_v522, val_main_v521]
  rw [dif_neg (Nat.not_lt_zero _)]
  split
  · rw [halfB0_apply]; simp only [Nat.zero_add]
  · rw [halfB1_apply]; congr 1; simp only []; omega

theorem passB_apply (x0 : S8192x8192.Idx → EReal) (x1 : S2x16.Idx → EReal) (b : Fin 2) (n : Fin 32) (i : Fin 128) (h : Fin 16) (e : Fin 128) :
    val_main_v536 (F := Ideal) x0 x1 (ix5 b n i h e)
      = pass (maskB (x1 (ix2 1 h))) (x1 (ix2 1 h)) (flip (hd x0 0 b h (by omega))) (flip (hd x0 2048 b h (by omega))) (flip (hd x0 4096 b h (by omega))) n i e := by
  pointwise [val_main_v536, val_main_v535, val_main_v534, val_main_v533, val_main_v532, val_main_v531, val_main_v530, val_main_v529, val_main_v528, val_main_v527, val_main_v526, val_main_v525, val_main_v524, val_main_v523, val_main_v281, val_main_v277, val_main_v276, val_main_cst_15]
  simp only [intraB_apply, prevB_apply, qB_apply, sitofp_pos]
  rfl

end Cert.Ret
end
-- ==== Proof.RefOut.lean ====
module

public import proofs.«01_k».proof.Proof.RefF
public import proofs.«01_k».proof.Proof.RefB

/-!
The reference's result read at an index: the gate, times the group-normalised sum of the two passes, times the gain.
-/

@[expose] public section
set_option maxRecDepth 16384
set_option maxHeartbeats 1000000
noncomputable section
namespace Cert.Ret
open Idealize.ShloMosaic Idealize.ShloMosaic.TcCoe
open Cert.ReferenceIdeal Cert.ReferenceIdeal.Read
open Idealize.ShloMosaic.Pointwise

/-- The mean over a head's features. -/
def mean (Y : Fin 128 → EReal) : EReal := Ideal.div (∑ x, Y x) w128

/-- The group norm over a head's features. -/
def normd (Y : Fin 128 → EReal) (e : Fin 128) : EReal :=
  (Y e - mean Y) * Ideal.rsqrt (Ideal.div (∑ x, (Y x - mean Y) * (Y x - mean Y)) w128 + Ideal.ofBits FTy.f32 925353388#32)

/-- Position `i` of chunk `n` in its sequence. -/
def tk (n : Fin 32) (i : Fin 128) : Fin 4096 := ⟨n.val * 128 + i.val, by omega⟩

theorem tk_rev (n : Fin 32) (i : Fin 128) : (tk n i).rev = tk n.rev i.rev := by
  apply Fin.ext; simp only [tk, Fin.val_rev]; omega

theorem tk_split (x : S2x32x128x16x128.Idx → EReal) (b : Fin 2) (n : Fin 32) (i : Fin 128) (h : Fin 16) (e : Fin 128)
    (p : (tk n i).val / 128 < 32) (p' : (tk n i).val % 128 < 128) :
    x (ix5 b ⟨(tk n i).val / 128, p⟩ ⟨(tk n i).val % 128, p'⟩ h e) = x (ix5 b n i h e) := by
  congr 2 <;> apply Fin.ext <;> simp only [tk] <;> omega

/-- The sum of the two passes. -/
theorem sum_apply (x0 : S8192x8192.Idx → EReal) (x1 : S2x16.Idx → EReal) (b : Fin 2) (n : Fin 32) (i : Fin 128) (h : Fin 16)
    (e : Fin 128) :
    val_main_v539 (F := Ideal) x0 x1 (ix4 b (tk n i) h e)
      = both (x1 (ix2 0 h)) (x1 (ix2 1 h)) (hd x0 0 b h (by omega)) (hd x0 2048 b h (by omega)) (hd x0 4096 b h (by omega)) n i e := by
  pointwise [val_main_v539, val_main_v272]
  rw [tk_split (val_main_v271 (F := Ideal) x0 x1), passF_apply, val_main_v538, rev4, tk_rev]
  pointwise [val_main_v537]
  rw [tk_split (val_main_v536 (F := Ideal) x0 x1), passB_apply, both_eq]

theorem ref_apply (x0 : S8192x8192.Idx → EReal) (x1 : S2x16.Idx → EReal) (x2 : S2048.Idx → EReal) (b : Fin 2) (n : Fin 32)
    (i : Fin 128) (h : Fin 16) (e : Fin 128) :
    val_main_v565 (F := Ideal) x0 x1 x2 (ix2 ⟨b.val * 4096 + (tk n i).val, by omega⟩ ⟨h.val * 128 + e.val, by omega⟩)
      = hd x0 6144 b h (by omega) n i e * Ideal.div 1 (1 + Ideal.exp (-hd x0 6144 b h (by omega) n i e)) *
        (normd (both (x1 (ix2 0 h)) (x1 (ix2 1 h)) (hd x0 0 b h (by omega)) (hd x0 2048 b h (by omega))
          (hd x0 4096 b h (by omega)) n i) e * x2 (ix1 ⟨h.val * 128 + e.val, by omega⟩)) := by
  have ht : ∀ p, (⟨(b.val * 4096 + (tk n i).val) % 4096, p⟩ : Fin 4096) = tk n i := fun p => by
    apply Fin.ext; have := (tk n i).isLt; simp only []; omega
  have hg : ∀ p p', x0 (ix2 ⟨b.val * 4096 + (tk n i).val, p⟩ ⟨6144 + (h.val * 128 + e.val), p'⟩)
      = hd x0 6144 b h (by omega) n i e := fun _ _ => rfl
  pointwise [val_main_v565, val_main_v564, val_main_v563, val_main_v562, val_main_v561, val_main_v560, val_main_v559,
    val_main_v558, val_main_v557, val_main_v556, val_main_v555, val_main_v554, val_main_v553, val_main_cst_20,
    val_main_v551, val_main_v552, val_main_v550, val_main_v549, val_main_cst_19, val_main_v548, val_main_v547,
    val_main_cst_18, val_main_v546, val_main_v545, val_main_v544, val_main_v543, val_main_v542, val_main_cst_17,
    val_main_v541, val_main_v540, val_main_cst_16, val_main_call2_v0, val_main_call2_v1, val_main_call2_v2,
    val_main_call2_v3, val_main_call2_v4, val_main_call2_v5, val_main_call2_cst, val_main_call2_cst_0, val_main_v5,
    val_main_v1, val_main_v0]
  simp only [ht, sum_apply, hg, normd, mean]

end Cert.Ret
end
-- ==== Proof.KernOut.lean ====
module

public import proofs.«01_k».proof.Proof.Body
public import proofs.«01_k».proof.Proof.RefOut

/-!
The kernel's output block read at an index.
-/

@[expose] public section
set_option maxRecDepth 16384
set_option maxHeartbeats 1000000
noncomputable section
namespace Cert.Ret
open Idealize.ShloMosaic Idealize.ShloMosaic.TcCoe
open Cert.KernelIdeal Cert.KernelIdeal.Gen
open Idealize.ShloMosaic.Pointwise

/-- A block of one head, by chunk, position and feature. -/
def bh (X : S4096x128.Idx → EReal) : Head := fun n i d => X (ix2 (tk n i) d)

theorem chunk_apply (X : S4096x128.Idx → EReal) (n : Fin 32) (i d : Fin 128) : chunk X n (ix2 i d) = bh X n i d := by
  refine congrArg X (funext fun a => ?_)
  match a with
  | ⟨0, _⟩ => exact Fin.ext (show 128 * n.val + 1 * i.val = n.val * 128 + i.val by omega)
  | ⟨1, _⟩ => exact Fin.ext (show 0 + 1 * d.val = d.val by omega)

theorem ch_nn (k : ℕ) : ch k = nn k := rfl

theorem mask_apply (wf wb : EReal) (i j : Fin 128) : k0_pay2 (F := Ideal) wf wb (ix2 i j) = maskK wf wb i j := by
  pointwise [k0_pay2]
  simp only [sitofp_sub, cmpi_pos, maskK]

theorem sumF_apply (wf wb : EReal) (k v : S4096x128.Idx → EReal) (n : ℕ) (d e : Fin 128) :
    k0_pay11 (k0_pay4 (F := Ideal) wf) (k0_pay5 (F := Ideal) wb) (chunk k (ch n)) (chunk v (ch n)) (ix3 0 d e)
      = kvF wf (bh k) (bh v) d e n := by
  pointwise [k0_pay11, k0_pay10, k0_pay4, k0_pay5, k0_pay3]
  simp only [sitofp_pos, chunk_apply, kvF, ch_nn]

theorem sumB_apply (wf wb : EReal) (k v : S4096x128.Idx → EReal) (n : ℕ) (d e : Fin 128) :
    k0_pay12 (k0_pay4 (F := Ideal) wf) (k0_pay5 (F := Ideal) wb) (chunk k (ch (31 - n))) (chunk v (ch (31 - n))) (ix3 0 d e)
      = kvB wb (bh k) (bh v) d e n := by
  pointwise [k0_pay12, k0_pay10, k0_pay4, k0_pay5, k0_pay3]
  simp only [sitofp_pos, chunk_apply, kvB, ch_nn]

theorem stF_apply (wf : EReal) (r : Fin 32 → FVec Ideal S1x128x128 .f32) (u : ℕ → EReal) (d e : Fin 128)
    (h : ∀ n, r (ch n) (ix3 0 d e) = u n) : ∀ n, stF wf r n (ix2 d e) = scan (Ideal.exp (wf * w128)) u n
  | 0 => by
    rw [stF]; pointwise [k0_pay13]; rfl
  | n + 1 => by
    rw [stF]; pointwise [k0_pay16, k0_pay9]; rw [stF_apply wf r u d e h n, h n]; rfl

theorem stB_apply (wb : EReal) (r : Fin 32 → FVec Ideal S1x128x128 .f32) (u : ℕ → EReal) (d e : Fin 128)
    (h : ∀ n, r (ch (31 - n)) (ix3 0 d e) = u n) : ∀ n, stB wb r n (ix2 d e) = scan (Ideal.exp (wb * w128)) u n
  | 0 => by
    rw [stB]; pointwise [k0_pay13]; rfl
  | n + 1 => by
    rw [stB]; pointwise [k0_pay17, k0_pay9]; rw [stB_apply wb r u d e h n, h n]; rfl

theorem stateF_apply (wf wb : EReal) (k v : S4096x128.Idx → EReal) (n : Fin 32) (d e : Fin 128) :
    stateF (F := Ideal) wf wb k v n (ix3 0 d e) = scan (Ideal.exp (wf * w128)) (kvF wf (bh k) (bh v) d e) n.val := by
  unfold stateF
  pointwise [k0_pay14]
  exact stF_apply wf _ _ d e (fun m => sumF_apply wf wb k v m d e) _

theorem stateB_apply (wf wb : EReal) (k v : S4096x128.Idx → EReal) (n : Fin 32) (d e : Fin 128) :
    stateB (F := Ideal) wf wb k v n (ix3 0 d e) = scan (Ideal.exp (wb * w128)) (kvB wb (bh k) (bh v) d e) (31 - n.val) := by
  unfold stateB
  pointwise [k0_pay15]
  exact stB_apply wb _ _ d e (fun m => sumB_apply wf wb k v m d e) _

theorem xiF_apply (wf : EReal) (i : Fin 128) : k0_pay6 (F := Ideal) wf (ix2 i 0) = Ideal.exp (wf * (pos i + 1)) := by
  pointwise [k0_pay6, k0_pay3]
  rw [sitofp_pos]

theorem xiB_apply (wb : EReal) (i : Fin 128) :
    k0_pay8 (k0_pay7 (F := Ideal) wb) (ix2 i 0) = Ideal.exp (wb * (w128 - pos i)) := by
  pointwise [k0_pay8, k0_pay7, k0_pay3]
  rw [sitofp_pos]

/-- One chunk before the gate. -/
theorem norm_apply (wf wb : EReal) (q k v : S4096x128.Idx → EReal) (gn : S1x128.Idx → EReal) (n : Fin 32) (i e : Fin 128) :
    k0_pay121 (F := Ideal) (k0_pay6 wf) (k0_pay8 (k0_pay7 wb)) (k0_pay18 gn)
        (k0_pay22 (chunk q n) (k0_pay20 (stateF (F := Ideal) wf wb k v n)) (k0_pay21 (stateB (F := Ideal) wf wb k v n)))
        (k0_pay89 (k0_pay2 wf wb) (k0_pay19 (chunk q n) (chunk k n))) (chunk v n) (ix2 i e)
      = normd (both wf wb (bh q) (bh k) (bh v) n i) e * gn (ix2 0 e) := by
  pointwise [k0_pay121, k0_pay22, k0_pay20, k0_pay21, k0_pay89, k0_pay19, k0_pay18]
  simp only [mask_apply, chunk_apply, stateF_apply, stateB_apply, xiF_apply, xiB_apply, normd, mean, both]

theorem outBlock_apply (wf wb : EReal) (q k v g : S4096x128.Idx → EReal) (gn : S1x128.Idx → EReal) (n : Fin 32)
    (i e : Fin 128) :
    outBlock (F := Ideal) wf wb q k v g gn (ix2 (tk n i) e)
      = bh g n i e * Ideal.div 1 (1 + Ideal.exp (-bh g n i e)) *
        (normd (both wf wb (bh q) (bh k) (bh v) n i) e * gn (ix2 0 e)) := by
  have hn : rowChunk (ix2 (tk n i) e) = n := Fin.ext (show (n.val * 128 + i.val) / 128 = n.val by omega)
  have hi : rowIn (ix2 (tk n i) e) = ix2 i e := funext fun a => by
    match a with
    | ⟨0, _⟩ => exact Fin.ext (show (n.val * 128 + i.val) % 128 = i.val by omega)
    | ⟨1, _⟩ => rfl
  rw [outBlock, hn, hi, outChunk, chunkOut]
  pointwise [k0_pay124, k0_pay122, k0_pay123]
  rw [norm_apply, chunk_apply, gate_eq]

end Cert.Ret
end
-- ==== Proof.Value.lean ====
module

public import proofs.«01_k».proof.Proof.Run
public import proofs.«01_k».proof.Proof.KernOut
public import proofs.«01_k».proof.Proof.Gen.ReferenceIdeal.Run
public import Idealize.ShloMosaic.Lib.Pipeline.ValueKit

/-!
The kernel's output array is the reference's result: each grid point writes one head of one sequence.
-/

@[expose] public section
set_option maxRecDepth 16384
set_option maxHeartbeats 1000000
noncomputable section
namespace Cert.Ret
open Idealize.ShloMosaic Idealize.ShloMosaic.TcCoe Idealize.ShloMosaic.Tactic
open Cert.KernelIdeal Cert.KernelIdeal.Gen
open Idealize.ShloMosaic.Pointwise
open Idealize.ShloMosaic.Pipeline (Dat Cfg Window BodyObligation cellOf)

variable (m : (ℓ : Loc nD τ sig) → Buf (Elt Ideal) ℓ)

/-- The sequence and the head of a grid point. -/
def seqOf (t : Fin cfg0.N) : Fin 2 := grid0.coords t 0
def headOf (t : Fin cfg0.N) : Fin 16 := grid0.coords t 1

/-- The blocks of a grid point. -/
theorem idx : ∀ t : Fin cfg0.N, win0_0.index t = ![0, 0]
    ∧ win0_1.index t = ![(seqOf t).val, (headOf t).val] ∧ win0_2.index t = ![(seqOf t).val, 16 + (headOf t).val]
    ∧ win0_3.index t = ![(seqOf t).val, 32 + (headOf t).val] ∧ win0_4.index t = ![(seqOf t).val, 48 + (headOf t).val]
    ∧ win0_5.index t = ![0, (headOf t).val] ∧ win0_6.index t = ![(seqOf t).val, (headOf t).val] := by decide +kernel

theorem off1 (t : Fin cfg0.N) : k0_off1 (grid0.coords t) = ![0, (headOf t).val] := by
  have := (headOf t).isLt
  have e : (BitVec.ofNat 32 (headOf t).val).toNat = (headOf t).val := by rw [BitVec.toNat_ofNat]; omega
  exact congrArg (fun x => ![0, x]) e

theorem off2 (t : Fin cfg0.N) : k0_off2 (grid0.coords t) = ![1, (headOf t).val] := by
  have := (headOf t).isLt
  have e : (BitVec.ofNat 32 (headOf t).val).toNat = (headOf t).val := by rw [BitVec.toNat_ofNat]; omega
  exact congrArg (fun x => ![1, x]) e

variable (c : Dev nD)

/-- The projections, the decays and the gain. -/
abbrev a0 : S8192x8192.Idx → EReal := m ((c.tc : Thread nD τ).loc main_arg0)
abbrev a1 : S2x16.Idx → EReal := m ((c.tc : Thread nD τ).loc main_arg1)
abbrev a2 : S2048.Idx → EReal := m ((c.tc : Thread nD τ).loc main_arg2)

theorem blk0 (t : Fin cfg0.N) (r : Fin 2) (l : Fin 16) : iblk m c 0 t (ix2 r l) = a1 m c (ix2 r l) := by
  blk_ext [iblk, V, idx t]

theorem blk1 (t : Fin cfg0.N) : bh (iblk m c 1 t) = hd (a0 m c) 0 (seqOf t) (headOf t) (by omega) := by
  funext n i d
  unfold bh hd tk
  blk_ext [iblk, V, idx t]

theorem blk2 (t : Fin cfg0.N) : bh (iblk m c 2 t) = hd (a0 m c) 2048 (seqOf t) (headOf t) (by omega) := by
  funext n i d
  unfold bh hd tk
  blk_ext [iblk, V, idx t]

theorem blk3 (t : Fin cfg0.N) : bh (iblk m c 3 t) = hd (a0 m c) 4096 (seqOf t) (headOf t) (by omega) := by
  funext n i d
  unfold bh hd tk
  blk_ext [iblk, V, idx t]

theorem blk4 (t : Fin cfg0.N) : bh (iblk m c 4 t) = hd (a0 m c) 6144 (seqOf t) (headOf t) (by omega) := by
  funext n i d
  unfold bh hd tk
  blk_ext [iblk, V, idx t]

theorem blk5 (t : Fin cfg0.N) (e : Fin 128) :
    iblk m c 5 t (ix2 0 e) = a2 m c (ix1 ⟨(headOf t).val * 128 + e.val, by omega⟩) := by
  blk_simp [iblk, idx t]
  entry_read
  pointwise
  blk_ext [iblk, V, idx t]

theorem wordF_eq (t : Fin cfg0.N) : wordF (F := Ideal) (iblk m c 0 t) (grid0.coords t) = a1 m c (ix2 0 (headOf t)) := by
  refine Eq.trans ?_ (blk0 m c t 0 (headOf t))
  refine congrArg (iblk m c 0 t) (funext fun a => ?_)
  match a with
  | ⟨0, _⟩ => exact Fin.ext (show k0_off1 (grid0.coords t) 0 + 1 * 0 = 0 by rw [off1]; rfl)
  | ⟨1, _⟩ => exact Fin.ext (show k0_off1 (grid0.coords t) 1 + 1 * 0 = (headOf t).val by rw [off1]; rfl)

theorem wordB_eq (t : Fin cfg0.N) : wordB (F := Ideal) (iblk m c 0 t) (grid0.coords t) = a1 m c (ix2 1 (headOf t)) := by
  refine Eq.trans ?_ (blk0 m c t 1 (headOf t))
  refine congrArg (iblk m c 0 t) (funext fun a => ?_)
  match a with
  | ⟨0, _⟩ => exact Fin.ext (show k0_off2 (grid0.coords t) 0 + 1 * 0 = 1 by rw [off2]; rfl)
  | ⟨1, _⟩ => exact Fin.ext (show k0_off2 (grid0.coords t) 1 + 1 * 0 = (headOf t).val by rw [off2]; rfl)

/-- One head of one sequence. -/
theorem point_eq (t : Fin cfg0.N) (n : Fin 32) (i e : Fin 128) : outAt (F := Ideal) m c t (ix2 (tk n i) e)
    = Cert.ReferenceIdeal.Read.val_main_v565 (F := Ideal) (a0 m c) (a1 m c) (a2 m c)
        (ix2 ⟨(seqOf t).val * 4096 + (tk n i).val, by omega⟩ ⟨(headOf t).val * 128 + e.val, by omega⟩) := by
  refine (outBlock_apply _ _ _ _ _ _ _ n i e).trans ?_
  rw [ref_apply, wordF_eq, wordB_eq, blk1, blk2, blk3, blk4, blk5]

theorem tk_surj (r : Fin 4096) : ∃ n i, r = tk n i :=
  ⟨⟨r.val / 128, by omega⟩, ⟨r.val % 128, by omega⟩, Fin.ext (show r.val = r.val / 128 * 128 + r.val % 128 by omega)⟩

theorem out_eq : (dats (F := Ideal) m 0 c).arrAt 6 cfg0.N
    = Cert.ReferenceIdeal.Read.val_main_v565 (F := Ideal) (a0 m c) (a1 m c) (a2 m c) := by
  refine (dats m 0 c).arrAt_eq_of_covers 6 _ (by decide +kernel) fun t hf y => ?_
  blk_simp
  rw [after_6]
  obtain ⟨n, i, hr⟩ := tk_surj (y 0)
  have hy : y = ix2 (tk n i) (y 1) := by rw [← hr]; exact eq_ix2 y
  rw [hy]
  refine (point_eq m c t n i (y 1)).trans ?_
  blk_ext [iblk, V, idx t]

end Cert.Ret
end
-- ==== Proof.Same.lean ====
/- The kernel and its idealisation are one text: their bodies and their definitions agree at any float values. -/
module

public import proofs.«01_k».proof.Defs
public import proofs.«01_k».proof.Proof.Gen.Kernel
public import proofs.«01_k».proof.Proof.Gen.KernelIdeal

@[expose] public section

set_option maxRecDepth 16384
set_option maxHeartbeats 2000000

noncomputable section

namespace Cert.Ret

open Idealize.ShloMosaic Idealize.SL.Sem

variable {F : FTy → Type} [FloatOps F]

theorem body_same : @Cert.Kernel.cc0_retention F _ Cert.Kernel.Gen.facts = @Cert.KernelIdeal.cc0_retention F _ Cert.KernelIdeal.Gen.facts := rfl

theorem defs₀_same : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc (funext fun l => funext fun a => ?_)
  match l, a with
  | ⟨0, _⟩, (t, s) => rfl

theorem defs_same : @Cert.Kernel.defs F _ Cert.Kernel.Gen.facts = @Cert.KernelIdeal.defs F _ Cert.KernelIdeal.Gen.facts :=
  congrArg (Pipeline.defs _) defs₀_same

end Cert.Ret

end
-- ==== Proof.Norm.lean ====
module

public import Idealize.ShloMosaic.Lib.Pointwise

/-!
The normalisation by the root mean square, over the extended reals: its factor is a real number that is not negative, so
it may be taken out of a product's sum; and the squares of a row summed lane by lane are the squares of the row.
-/

@[expose] public section
set_option maxRecDepth 16384
noncomputable section
namespace Cert.In
open Idealize.ShloMosaic

/-- One over the row's length, the row's length, and the small number under the root. -/
abbrev winv : EReal := Ideal.ofBits .f32 964689920#32
abbrev wlen : EReal := Ideal.ofBits .f32 1166016512#32
abbrev weps : EReal := Ideal.ofBits .f32 897988541#32

/-- The factor of a row whose squares sum to `s`. -/
def rs (s : EReal) : EReal := Ideal.rsqrt (s * winv + weps)

theorem winv_eq : winv = ((1 / 4096 : ℝ) : EReal) := by
  simp [winv, Ideal.ofBits, Ideal.ieee, -EReal.coe_mul]; norm_num

theorem wlen_eq : wlen = ((4096 : ℝ) : EReal) := by
  simp [wlen, Ideal.ofBits, Ideal.ieee, -EReal.coe_mul]; norm_num

theorem weps_pos : ∃ e : ℝ, 0 < e ∧ weps = (e : EReal) := by
  refine ⟨_, ?_, by simp [weps, Ideal.ofBits, Ideal.ieee, -EReal.coe_mul]; rfl⟩
  positivity

theorem div_wlen (s : EReal) : Ideal.div s wlen = s * winv := by
  rw [wlen_eq, winv_eq, Ideal.div, if_neg (by norm_num), ← EReal.coe_inv, one_div]

theorem sq_nonneg' (x : EReal) : 0 ≤ x * x := by
  rcases le_total 0 x with h | h
  · exact mul_nonneg h h
  · have h' : 0 ≤ -x := by simpa using EReal.neg_le_neg_iff.mpr h
    have := mul_nonneg h' h'
    rwa [neg_mul_neg] at this

theorem rs_real {s : EReal} (h : 0 ≤ s) : ∃ r : ℝ, 0 ≤ r ∧ rs s = (r : EReal) := by
  obtain ⟨e, he, hw⟩ := weps_pos
  unfold rs
  rw [hw, winv_eq]
  induction s with
  | bot => simp at h
  | top =>
    rw [EReal.top_mul_coe_of_pos (by norm_num), EReal.top_add_coe, Ideal.rsqrt_top]
    exact ⟨0, le_refl _, rfl⟩
  | coe x =>
    have hx : 0 ≤ x := by exact_mod_cast h
    rw [← EReal.coe_mul, ← EReal.coe_add, Ideal.rsqrt_coe, if_neg (not_lt.mpr (by positivity)), if_neg (by positivity)]
    exact ⟨_, by positivity, rfl⟩

theorem sum_mul_real {ι : Type} [Fintype ι] (f : ι → EReal) {r : ℝ} (hr : 0 ≤ r) :
    ∑ d, f d * (r : EReal) = (∑ d, f d) * (r : EReal) := by
  have h : ∀ s : Finset ι, ∑ d ∈ s, f d * (r : EReal) = (∑ d ∈ s, f d) * (r : EReal) := by
    intro s
    classical
    induction s using Finset.induction_on with
    | empty => simp
    | insert a s ha ih =>
      rw [Finset.sum_insert ha, Finset.sum_insert ha, ih,
        EReal.right_distrib_of_nonneg_of_ne_top (EReal.coe_nonneg.mpr hr) (EReal.coe_ne_top r)]
  exact h _

/-- The squares of a row, summed. -/
def ssq {n : ℕ} (x : Fin n → EReal) : EReal := ∑ k, x k * x k

theorem ssq_nonneg {n : ℕ} (x : Fin n → EReal) : 0 ≤ ssq x := Finset.sum_nonneg fun k _ => sq_nonneg' (x k)

/-- A row normalised, multiplied by its gain and by a column of the weights: the factor comes last, the gain first. -/
theorem norm_dot {n : ℕ} {s : EReal} (hs : 0 ≤ s) (x g w : Fin n → EReal) :
    ∑ k, x k * rs s * g k * w k = (∑ k, x k * (g k * w k)) * rs s := by
  obtain ⟨r, hr, e⟩ := rs_real hs
  rw [e, ← sum_mul_real _ hr]
  exact Finset.sum_congr rfl fun k _ => by ac_rfl

/-- A row's entries, lane by lane: `a` chunks of `b` lanes each. -/
theorem lanes (a b : ℕ) (f : Fin (a * b) → EReal) :
    ∑ l : Fin b, ∑ c : Fin a, f ⟨c.val * b + l.val, by
      have := c.isLt
      have := l.isLt
      calc c.val * b + l.val < c.val * b + b := by omega
        _ = (c.val + 1) * b := by ring
        _ ≤ a * b := Nat.mul_le_mul_right b (by omega)⟩ = ∑ k, f k := by
  rw [Finset.sum_comm, ← Fintype.sum_prod_type', ← Equiv.sum_comp finProdFinEquiv f]
  exact Finset.sum_congr rfl fun p _ => congrArg f (Fin.ext (by simp [finProdFinEquiv]; ring))

end Cert.In
end
-- ==== Proof.In.lean ====
module

public import proofs.«01_k».proof.Proof.Gen.Kernel3Ideal.Frame
public import proofs.«01_k».proof.Proof.Gen.Reference3Ideal.Run
public import proofs.«01_k».proof.Proof.Gen.Reference3Ideal.Read
public import proofs.«01_k».proof.Proof.Norm
public import Idealize.ShloMosaic.Lib.Pipeline.ValueKit
public import Idealize.ShloMosaic.Lib.Pointwise

/-!
The normalised in-projection: the arrays its three calls leave, at an index, are the reference's.
-/

@[expose] public section
set_option maxRecDepth 16384
set_option maxHeartbeats 1000000
noncomputable section
namespace Cert.In
open Idealize.ShloMosaic Idealize.ShloMosaic.TcCoe Idealize.ShloMosaic.Tactic
open Cert.Kernel3Ideal Cert.Kernel3Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pointwise
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg) (c : Dev nD)

/-- A row's squares, lane by lane. -/
theorem pay_ssq (x : S512x4096.Idx → EReal) (i : Fin 512) (l : Fin 128) :
    k0_pay1 (F := Ideal) (k0_pay3 x) (k0_pay4 x) (k0_pay5 x) (ix2 i l)
      = ∑ c : Fin 32, x (ix2 i ⟨c.val * 128 + l.val, by omega⟩) * x (ix2 i ⟨c.val * 128 + l.val, by omega⟩) := by
  pointwise [k0_pay1, k0_pay3, k0_pay4, k0_pay5]
  simp only [Fin.sum_univ_castSucc, Fin.sum_univ_zero, zero_add, Fin.val_castSucc, Fin.val_last, Nat.reduceMul, Fin.isValue, zero_mul]

/-- A block of the products, each row scaled by its factor. -/
theorem pay_ret (x : S1024x4096.Idx → EReal) (w : S4096x1024.Idx → EReal) (s : S1024x128.Idx → EReal) (i j : Fin 1024) :
    k1_pay1 (F := Ideal) x w s (ix2 i j) = (∑ k, x (ix2 i k) * w (ix2 k j)) * rs (∑ l, s (ix2 i l)) := by
  pointwise [k1_pay1]
  rfl

theorem pay_att (x : S1024x4096.Idx → EReal) (w : S4096x1024.Idx → EReal) (s : S1024x128.Idx → EReal) (i j : Fin 1024) :
    k2_pay1 (F := Ideal) x w s (ix2 i j) = (∑ k, x (ix2 i k) * w (ix2 k j)) * rs (∑ l, s (ix2 i l)) := by
  pointwise [k2_pay1]
  rfl

/-- The activations, the gain and the weights. -/
abbrev a0 : S8192x4096.Idx → EReal := m ((c.tc : Thread nD τ).loc main_arg0)
abbrev a1 : S4096.Idx → EReal := m ((c.tc : Thread nD τ).loc main_arg1)
abbrev a2 : S4096x14336.Idx → EReal := m ((c.tc : Thread nD τ).loc main_arg2)

/-- The weights with the gain multiplied into their rows. -/
theorem weights (k : Fin 4096) (j : Fin 14336) :
    (V1 (F := Ideal) m ρ c main_v3 : S4096x14336.Idx → EReal) (ix2 k j) = a1 m c (ix1 k) * a2 m c (ix2 k j) := by
  show (StableHlo.after hostOps0 (W0 (F := Ideal) m ρ c) (Proc.devRef .tc main_v3) : S4096x14336.Idx → EReal) (ix2 k j) = _
  entry_read
  pointwise

/-- The blocks of a point of each grid. -/
theorem idx0 : ∀ t : Fin cfg0.N, win0_0.index t = ![(grid0.coords t 0).val, 0] ∧ win0_1.index t = ![(grid0.coords t 0).val, 0]
    ∧ win0_2.index t = ![(grid0.coords t 0).val, 0] := by decide +kernel

theorem idx1 : ∀ t : Fin cfg1.N, win1_0.index t = ![(grid1.coords t 0).val, 0] ∧ win1_1.index t = ![(grid1.coords t 0).val, 0]
    ∧ win1_2.index t = ![0, (grid1.coords t 1).val]
    ∧ win1_3.index t = ![(grid1.coords t 0).val, (grid1.coords t 1).val] := by decide +kernel

theorem idx2 : ∀ t : Fin cfg2.N, win2_0.index t = ![(grid2.coords t 0).val, 0] ∧ win2_1.index t = ![(grid2.coords t 0).val, 0]
    ∧ win2_2.index t = ![0, 8 + (grid2.coords t 1).val]
    ∧ win2_3.index t = ![(grid2.coords t 0).val, (grid2.coords t 1).val] := by decide +kernel

/-- The activations, narrowed. -/
theorem xb_eq : (dat0 (V1 (F := Ideal) m ρ) c).arrAt 1 cfg0.N = a0 m c := by
  refine (dat0 (V1 (F := Ideal) m ρ) c).arrAt_eq_of_covers 1 _ (by decide +kernel) fun t hf y => ?_
  blk_simp
  rw [after0_1]
  frame_out
  rw [eq_ix2 y]
  pointwise [k0_pay2]
  have h0 : V1 (F := Ideal) m ρ c main_arg0 = a0 m c := W1_of m ρ c main_arg0 (by decide)
  blk_ext [iblk0, h0, idx0 t]

/-- The squares of each row, lane by lane. -/
def lane (x : S8192x4096.Idx → EReal) : S8192x128.Idx → EReal := fun y =>
  ∑ c : Fin 32, x (ix2 (y 0) ⟨c.val * 128 + (y 1).val, by have : (y 1).val < 128 := (y 1).isLt; omega⟩)
    * x (ix2 (y 0) ⟨c.val * 128 + (y 1).val, by have : (y 1).val < 128 := (y 1).isLt; omega⟩)

theorem ssq_eq : (dat0 (V1 (F := Ideal) m ρ) c).arrAt 2 cfg0.N = lane (a0 m c) := by
  have h0 : V1 (F := Ideal) m ρ c main_arg0 = a0 m c := W1_of m ρ c main_arg0 (by decide)
  refine (dat0 (V1 (F := Ideal) m ρ) c).arrAt_eq_of_covers 2 _ (by decide +kernel) fun t hf y => ?_
  blk_simp
  rw [after0_2]
  frame_out
  obtain ⟨i, l, rfl⟩ : ∃ (i : Fin 512) (l : Fin 128), y = ix2 i l := ⟨y 0, y 1, eq_ix2 y⟩
  have hr : (grid0.coords t 0).val < 16 := (grid0.coords t 0).isLt
  have hb : ∀ d, iblk0 (V1 (F := Ideal) m ρ) c 0 t (ix2 i d) = a0 m c (ix2 ⟨(grid0.coords t 0).val * 512 + i.val, by omega⟩ d) :=
    fun d => by blk_ext [iblk0, h0, idx0 t]
  refine (pay_ssq _ i l).trans ?_
  simp only [hb]
  show lane (a0 m c) (ix2 ⟨(grid0.coords t 0).val * 512 + i.val, by omega⟩ l) = _
  blk_ext [idx0 t]

theorem lane_sum (x : S8192x4096.Idx → EReal) (i : Fin 8192) : ∑ l, lane x (ix2 i l) = ssq fun k => x (ix2 i k) :=
  lanes 32 128 fun k => x (ix2 i k) * x (ix2 i k)

/-- The reference's product at an index. -/
theorem ref_apply (x : S8192x4096.Idx → EReal) (g : S4096.Idx → EReal) (w : S4096x14336.Idx → EReal) (i : Fin 8192) (j : Fin 14336) :
    Cert.Reference3Ideal.Read.val_main_v13 (F := Ideal) x g w (ix2 i j)
      = (∑ k, x (ix2 i k) * (g (ix1 k) * w (ix2 k j))) * rs (ssq fun k => x (ix2 i k)) := by
  pointwise [Cert.Reference3Ideal.Read.val_main_v13, Cert.Reference3Ideal.Read.val_main_v12,
    Cert.Reference3Ideal.Read.val_main_v11, Cert.Reference3Ideal.Read.val_main_v10,
    Cert.Reference3Ideal.Read.val_main_v9, Cert.Reference3Ideal.Read.val_main_v8, Cert.Reference3Ideal.Read.val_main_v7,
    Cert.Reference3Ideal.Read.val_main_v6, Cert.Reference3Ideal.Read.val_main_v5, Cert.Reference3Ideal.Read.val_main_v4,
    Cert.Reference3Ideal.Read.val_main_v3, Cert.Reference3Ideal.Read.val_main_v2, Cert.Reference3Ideal.Read.val_main_v1,
    Cert.Reference3Ideal.Read.val_main_v0, Cert.Reference3Ideal.Read.val_main_cst, Cert.Reference3Ideal.Read.val_main_cst_0,
    Cert.Reference3Ideal.Read.val_main_cst_1]
  rw [← norm_dot (ssq_nonneg _)]
  refine Finset.sum_congr rfl fun k _ => ?_
  rw [show Ideal.ofBits FTy.f32 1166016512#32 = wlen from rfl, div_wlen]
  rfl

/-- The part the retention reads. -/
theorem ret_eq : (dat1 (V2 (F := Ideal) m ρ) c).arrAt 3 cfg1.N
    = Cert.Reference3Ideal.Read.val_main_v16 (F := Ideal) (a0 m c) (a1 m c) (a2 m c) := by
  have hx : V2 (F := Ideal) m ρ c main_v4_0 = a0 m c := (W2_arr m ρ c 1).trans (xb_eq m ρ c)
  have hs : V2 (F := Ideal) m ρ c main_v4_1 = lane (a0 m c) := (W2_arr m ρ c 2).trans (ssq_eq m ρ c)
  have hw : V2 (F := Ideal) m ρ c main_v3 = V1 (F := Ideal) m ρ c main_v3 := W2_of m ρ c main_v3 (by decide)
  refine (dat1 (V2 (F := Ideal) m ρ) c).arrAt_eq_of_covers 3 _ (by decide +kernel) fun t hf y => ?_
  blk_simp
  rw [after1_3]
  frame_out
  obtain ⟨i, j, rfl⟩ : ∃ (i : Fin 1024) (j : Fin 1024), y = ix2 i j := ⟨y 0, y 1, eq_ix2 y⟩
  have hr : (grid1.coords t 0).val < 8 := (grid1.coords t 0).isLt
  have hc : (grid1.coords t 1).val < 8 := (grid1.coords t 1).isLt
  have bx : ∀ k, iblk1 (V2 (F := Ideal) m ρ) c 0 t (ix2 i k)
      = a0 m c (ix2 ⟨(grid1.coords t 0).val * 1024 + i.val, by omega⟩ k) :=
    fun k => by blk_ext [iblk1, hx, idx1 t]
  have bs : ∀ l, iblk1 (V2 (F := Ideal) m ρ) c 1 t (ix2 i l)
      = lane (a0 m c) (ix2 ⟨(grid1.coords t 0).val * 1024 + i.val, by omega⟩ l) :=
    fun k => by blk_ext [iblk1, hs, idx1 t]
  have bw : ∀ k, iblk1 (V2 (F := Ideal) m ρ) c 2 t (ix2 k j)
      = a1 m c (ix1 k) * a2 m c (ix2 k ⟨(grid1.coords t 1).val * 1024 + j.val, by omega⟩) :=
    fun k => by
      rw [← weights m ρ c, ← hw]
      blk_ext [iblk1, idx1 t]
  refine (pay_ret _ _ _ i j).trans ?_
  simp only [bx, bs, bw, lane_sum]
  rw [← ref_apply]
  pointwise [Cert.Reference3Ideal.Read.val_main_v16, Cert.Reference3Ideal.Read.val_main_v14]
  blk_ext [idx1 t]

/-- The part the attention reads. -/
theorem att_eq : (dat2 (V3 (F := Ideal) m ρ) c).arrAt 3 cfg2.N
    = Cert.Reference3Ideal.Read.val_main_v15 (F := Ideal) (a0 m c) (a1 m c) (a2 m c) := by
  have hx : V3 (F := Ideal) m ρ c main_v4_0 = a0 m c := (W3_of m ρ c main_v4_0 (by decide)).trans ((W2_arr m ρ c 1).trans (xb_eq m ρ c))
  have hs : V3 (F := Ideal) m ρ c main_v4_1 = lane (a0 m c) := (W3_of m ρ c main_v4_1 (by decide)).trans ((W2_arr m ρ c 2).trans (ssq_eq m ρ c))
  have hw : V3 (F := Ideal) m ρ c main_v3 = V1 (F := Ideal) m ρ c main_v3 := (W3_of m ρ c main_v3 (by decide)).trans (W2_of m ρ c main_v3 (by decide))
  refine (dat2 (V3 (F := Ideal) m ρ) c).arrAt_eq_of_covers 3 _ (by decide +kernel) fun t hf y => ?_
  blk_simp
  rw [after2_3]
  frame_out
  obtain ⟨i, j, rfl⟩ : ∃ (i : Fin 1024) (j : Fin 1024), y = ix2 i j := ⟨y 0, y 1, eq_ix2 y⟩
  have hr : (grid2.coords t 0).val < 8 := (grid2.coords t 0).isLt
  have hc : (grid2.coords t 1).val < 6 := (grid2.coords t 1).isLt
  have bx : ∀ k, iblk2 (V3 (F := Ideal) m ρ) c 0 t (ix2 i k)
      = a0 m c (ix2 ⟨(grid2.coords t 0).val * 1024 + i.val, by omega⟩ k) :=
    fun k => by blk_ext [iblk2, hx, idx2 t]
  have bs : ∀ l, iblk2 (V3 (F := Ideal) m ρ) c 1 t (ix2 i l)
      = lane (a0 m c) (ix2 ⟨(grid2.coords t 0).val * 1024 + i.val, by omega⟩ l) :=
    fun k => by blk_ext [iblk2, hs, idx2 t]
  have bw : ∀ k, iblk2 (V3 (F := Ideal) m ρ) c 2 t (ix2 k j)
      = a1 m c (ix1 k) * a2 m c (ix2 k ⟨8192 + (grid2.coords t 1).val * 1024 + j.val, by omega⟩) :=
    fun k => by
      rw [← weights m ρ c, ← hw]
      blk_ext [iblk2, idx2 t]
  refine (pay_att _ _ _ i j).trans ?_
  simp only [bx, bs, bw, lane_sum]
  rw [← ref_apply]
  pointwise [Cert.Reference3Ideal.Read.val_main_v15]
  blk_ext [idx2 t]

set_option backward.isDefEq.respectTransparency.types false in
/-- The calls one after another, from any memory: the results are what the last two leave in their output arrays, the
    arguments are as they were. -/
theorem run_in (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5) = Cert.Reference3Ideal.Read.val_main_v16 (F := Ideal) (a0 m c) (a1 m c) (a2 m c)
      ∧ r.2.mem ((c.tc : Thread nD τ).loc main_v6) = Cert.Reference3Ideal.Read.val_main_v15 (F := Ideal) (a0 m c) (a1 m c) (a2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]
      · iexact Hh
      isplitl [Hp]
      · iexists _
        iexact Hp
      iexists ∅
      iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v5 (by decide))).trans ((W4_of m ρ c main_v5 (by decide)).trans ((W3_arr m ρ c 3).trans (ret_eq m ρ c))),
       (h c _ (mem_uc main_v6 (by decide))).trans ((W4_arr m ρ c 3).trans (att_eq m ρ c)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.In
end
-- ==== Proof.T0.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

/-!
The out-projection and the residual: the body at every grid point, the running sums of squares carried along a row of blocks.
-/

@[expose] public section

set_option maxRecDepth 16384

noncomputable section

namespace Cert.Post

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := k0_cond1 i = 1#1
theorem hcond0_0 : ∀ t : Fin cfg0.N, cond0_0 (grid0.coords t) ↔ t.val % 8 = 0 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val % 8 = 0)

abbrev cond0_1 (i : grid0.Coords) : Prop := k0_cond2 i = 1#1
theorem hcond0_1 : ∀ t : Fin cfg0.N, cond0_1 (grid0.coords t) ↔ 1 ≤ t.val % 8 :=
  (by decide +kernel : ∀ t : Fin grid0.N, cond0_1 (grid0.coords t) ↔ 1 ≤ t.val % 8)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
def freshTab0_7 : ℕ → Bool
  | 0 => true
  | n + 1 => (0x8080808080808080 : ℕ).testBit n
theorem freshTab0_7_step : ∀ t : Fin cfg0.N,
    freshTab0_7 (t.val + 1) = ((cfg0.win 7).flush t || (cfg0.idle 7 (cfg0.grid.coords t) && freshTab0_7 t.val)) := by decide +kernel
theorem fresh0_7_eq (t : Fin cfg0.N) : cfg0.fresh 7 t.val = freshTab0_7 t.val :=
  Pipeline.Cfg.fresh_tab cfg0 7 freshTab0_7 rfl freshTab0_7_step t.val (Nat.le_of_lt t.isLt)
theorem liveAt0_7_A : ∀ t : Fin cfg0.N, cond0_0 (grid0.coords t) → ¬cond0_1 (grid0.coords t) → cfg0.idle 7 (grid0.coords t) = false := by decide +kernel
theorem liveAt0_7_B : ∀ t : Fin cfg0.N, ¬cond0_0 (grid0.coords t) → cond0_1 (grid0.coords t) → cfg0.idle 7 (grid0.coords t) = false := by decide +kernel
theorem notFresh0_7_B : ∀ t : Fin cfg0.N, ¬cond0_0 (grid0.coords t) → cond0_1 (grid0.coords t) → cfg0.fresh 7 t.val = false := by
  intro t; rw [fresh0_7_eq t]; revert t; decide +kernel

abbrev VO0_5 : View sig .tc .vmem S1024x512 .f32 := (Memref.whole cc0_stg5_0 : Memref sig .tc .vmem S1024x512 .f32).view
abbrev VO0_6 : View sig .tc .vmem S1024x512 .bf16 := (Memref.whole cc0_stg6_0 : Memref sig .tc .vmem S1024x512 .bf16).view
abbrev VO0_7 : View sig .tc .vmem S1024x128 .f32 := (Memref.whole cc0_stg7_0 : Memref sig .tc .vmem S1024x128 .f32).view
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x128 .f32 := win0_7.stage (cfg0.slots t 7)
abbrev hs0_7 (t : Fin cfg0.N) : (ms0_7 t).IsWhole := hstage0_7 ((cfg0.slots t 7).cast nbuf0_7)

set_option maxHeartbeats 1000000 in
noncomputable def kernelRun0_A (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .bf16) (harg8 : arg8.IsWhole) (arg9 : Memref sig .tc .vmem S1024x128 .f32) (harg9 : arg9.IsWhole) (hc0 : cond0_0 i) (hc1 : ¬cond0_1 i)
    (x0 : Vec F S1024x2048 .bf16) (x1 : Vec F S1024x2048 .bf16) (x2 : Vec F S2048x512 .bf16) (x3 : Vec F S2048x512 .bf16) (x4 : Vec F S1024x512 .f32) :
    Σ' (L5 : List (View.Piece (Elt F) S1024x512 .f32)), Σ' (L6 : List (View.Piece (Elt F) S1024x512 .bf16)), { L7 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc0_mm_out i arg2 harg2 arg3 harg3 arg4 harg4 arg5 harg5 arg6 harg6 arg7 harg7 arg8 harg8 arg9 harg9) K } := by
  refine ⟨?_, ?_, ?_, fun E K => ?run⟩
  case run =>
    simp only [cc0_mm_out_eq_skeleton]; unfold cc0_mm_out_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact H7

set_option maxHeartbeats 1000000 in
noncomputable def kernelRun0_B (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .bf16) (harg8 : arg8.IsWhole) (arg9 : Memref sig .tc .vmem S1024x128 .f32) (harg9 : arg9.IsWhole) (hc0 : ¬cond0_0 i) (hc1 : cond0_1 i)
    (x0 : Vec F S1024x2048 .bf16) (x1 : Vec F S1024x2048 .bf16) (x2 : Vec F S2048x512 .bf16) (x3 : Vec F S2048x512 .bf16) (x4 : Vec F S1024x512 .f32) (xo7 : Vec F S1024x128 .f32) :
    Σ' (L5 : List (View.Piece (Elt F) S1024x512 .f32)), Σ' (L6 : List (View.Piece (Elt F) S1024x512 .bf16)), { L7 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xo7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc0_mm_out i arg2 harg2 arg3 harg3 arg4 harg4 arg5 harg5 arg6 harg6 arg7 harg7 arg8 harg8 arg9 harg9) K } := by
  refine ⟨?_, ?_, ?_, fun E K => ?run⟩
  case run =>
    simp only [cc0_mm_out_eq_skeleton]; unfold cc0_mm_out_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hf7
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact H7

theorem cover0_A_5 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .bf16) (harg8 : arg8.IsWhole) (arg9 : Memref sig .tc .vmem S1024x128 .f32) (harg9 : arg9.IsWhole) (hc0 : cond0_0 i) (hc1 : ¬cond0_1 i)
    (x0 : Vec F S1024x2048 .bf16) (x1 : Vec F S1024x2048 .bf16) (x2 : Vec F S2048x512 .bf16) (x3 : Vec F S2048x512 .bf16) (x4 : Vec F S1024x512 .f32) (y : S1024x512.Idx) :
    ∃ pc ∈ (kernelRun0_A c i arg2 harg2 arg3 harg3 arg4 harg4 arg5 harg5 arg6 harg6 arg7 harg7 arg8 harg8 arg9 harg9 hc0 hc1 x0 x1 x2 x3 x4).1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4).1 S1024x512.size (by sl_kernel_rfl) y

def out0_A_5 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .bf16) (harg8 : arg8.IsWhole) (arg9 : Memref sig .tc .vmem S1024x128 .f32) (harg9 : arg9.IsWhole) (hc0 : cond0_0 i) (hc1 : ¬cond0_1 i)
    (x0 : Vec F S1024x2048 .bf16) (x1 : Vec F S1024x2048 .bf16) (x2 : Vec F S2048x512 .bf16) (x3 : Vec F S2048x512 .bf16) (x4 : Vec F S1024x512 .f32) : Vec F S1024x512 .f32 :=
  VO0_5.read (Elt F) (VO0_5.writes (Elt F) VO0_5.junk (kernelRun0_A c i arg2 harg2 arg3 harg3 arg4 harg4 arg5 harg5 arg6 harg6 arg7 harg7 arg8 harg8 arg9 harg9 hc0 hc1 x0 x1 x2 x3 x4).1)

theorem cover0_A_6 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .bf16) (harg8 : arg8.IsWhole) (arg9 : Memref sig .tc .vmem S1024x128 .f32) (harg9 : arg9.IsWhole) (hc0 : cond0_0 i) (hc1 : ¬cond0_1 i)
    (x0 : Vec F S1024x2048 .bf16) (x1 : Vec F S1024x2048 .bf16) (x2 : Vec F S2048x512 .bf16) (x3 : Vec F S2048x512 .bf16) (x4 : Vec F S1024x512 .f32) (y : S1024x512.Idx) :
    ∃ pc ∈ (kernelRun0_A c i arg2 harg2 arg3 harg3 arg4 harg4 arg5 harg5 arg6 harg6 arg7 harg7 arg8 harg8 arg9 harg9 hc0 hc1 x0 x1 x2 x3 x4).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4).2.1 S1024x512.size (by sl_kernel_rfl) y

def out0_A_6 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .bf16) (harg8 : arg8.IsWhole) (arg9 : Memref sig .tc .vmem S1024x128 .f32) (harg9 : arg9.IsWhole) (hc0 : cond0_0 i) (hc1 : ¬cond0_1 i)
    (x0 : Vec F S1024x2048 .bf16) (x1 : Vec F S1024x2048 .bf16) (x2 : Vec F S2048x512 .bf16) (x3 : Vec F S2048x512 .bf16) (x4 : Vec F S1024x512 .f32) : Vec F S1024x512 .bf16 :=
  VO0_6.read (Elt F) (VO0_6.writes (Elt F) VO0_6.junk (kernelRun0_A c i arg2 harg2 arg3 harg3 arg4 harg4 arg5 harg5 arg6 harg6 arg7 harg7 arg8 harg8 arg9 harg9 hc0 hc1 x0 x1 x2 x3 x4).2.1)

theorem cover0_A_7 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .bf16) (harg8 : arg8.IsWhole) (arg9 : Memref sig .tc .vmem S1024x128 .f32) (harg9 : arg9.IsWhole) (hc0 : cond0_0 i) (hc1 : ¬cond0_1 i)
    (x0 : Vec F S1024x2048 .bf16) (x1 : Vec F S1024x2048 .bf16) (x2 : Vec F S2048x512 .bf16) (x3 : Vec F S2048x512 .bf16) (x4 : Vec F S1024x512 .f32) (y : S1024x128.Idx) :
    ∃ pc ∈ (kernelRun0_A c i arg2 harg2 arg3 harg3 arg4 harg4 arg5 harg5 arg6 harg6 arg7 harg7 arg8 harg8 arg9 harg9 hc0 hc1 x0 x1 x2 x3 x4).2.2.1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4).2.2.1 S1024x128.size (by sl_kernel_rfl) y

def out0_A_7 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .bf16) (harg8 : arg8.IsWhole) (arg9 : Memref sig .tc .vmem S1024x128 .f32) (harg9 : arg9.IsWhole) (hc0 : cond0_0 i) (hc1 : ¬cond0_1 i)
    (x0 : Vec F S1024x2048 .bf16) (x1 : Vec F S1024x2048 .bf16) (x2 : Vec F S2048x512 .bf16) (x3 : Vec F S2048x512 .bf16) (x4 : Vec F S1024x512 .f32) : Vec F S1024x128 .f32 :=
  VO0_7.read (Elt F) (VO0_7.writes (Elt F) VO0_7.junk (kernelRun0_A c i arg2 harg2 arg3 harg3 arg4 harg4 arg5 harg5 arg6 harg6 arg7 harg7 arg8 harg8 arg9 harg9 hc0 hc1 x0 x1 x2 x3 x4).2.2.1)

theorem cover0_B_5 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .bf16) (harg8 : arg8.IsWhole) (arg9 : Memref sig .tc .vmem S1024x128 .f32) (harg9 : arg9.IsWhole) (hc0 : ¬cond0_0 i) (hc1 : cond0_1 i)
    (x0 : Vec F S1024x2048 .bf16) (x1 : Vec F S1024x2048 .bf16) (x2 : Vec F S2048x512 .bf16) (x3 : Vec F S2048x512 .bf16) (x4 : Vec F S1024x512 .f32) (xo7 : Vec F S1024x128 .f32) (y : S1024x512.Idx) :
    ∃ pc ∈ (kernelRun0_B c i arg2 harg2 arg3 harg3 arg4 harg4 arg5 harg5 arg6 harg6 arg7 harg7 arg8 harg8 arg9 harg9 hc0 hc1 x0 x1 x2 x3 x4 xo7).1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 xo7).1 S1024x512.size (by sl_kernel_rfl) y

def out0_B_5 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .bf16) (harg8 : arg8.IsWhole) (arg9 : Memref sig .tc .vmem S1024x128 .f32) (harg9 : arg9.IsWhole) (hc0 : ¬cond0_0 i) (hc1 : cond0_1 i)
    (x0 : Vec F S1024x2048 .bf16) (x1 : Vec F S1024x2048 .bf16) (x2 : Vec F S2048x512 .bf16) (x3 : Vec F S2048x512 .bf16) (x4 : Vec F S1024x512 .f32) (xo7 : Vec F S1024x128 .f32) : Vec F S1024x512 .f32 :=
  VO0_5.read (Elt F) (VO0_5.writes (Elt F) VO0_5.junk (kernelRun0_B c i arg2 harg2 arg3 harg3 arg4 harg4 arg5 harg5 arg6 harg6 arg7 harg7 arg8 harg8 arg9 harg9 hc0 hc1 x0 x1 x2 x3 x4 xo7).1)

theorem cover0_B_6 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .bf16) (harg8 : arg8.IsWhole) (arg9 : Memref sig .tc .vmem S1024x128 .f32) (harg9 : arg9.IsWhole) (hc0 : ¬cond0_0 i) (hc1 : cond0_1 i)
    (x0 : Vec F S1024x2048 .bf16) (x1 : Vec F S1024x2048 .bf16) (x2 : Vec F S2048x512 .bf16) (x3 : Vec F S2048x512 .bf16) (x4 : Vec F S1024x512 .f32) (xo7 : Vec F S1024x128 .f32) (y : S1024x512.Idx) :
    ∃ pc ∈ (kernelRun0_B c i arg2 harg2 arg3 harg3 arg4 harg4 arg5 harg5 arg6 harg6 arg7 harg7 arg8 harg8 arg9 harg9 hc0 hc1 x0 x1 x2 x3 x4 xo7).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 xo7).2.1 S1024x512.size (by sl_kernel_rfl) y

def out0_B_6 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .bf16) (harg8 : arg8.IsWhole) (arg9 : Memref sig .tc .vmem S1024x128 .f32) (harg9 : arg9.IsWhole) (hc0 : ¬cond0_0 i) (hc1 : cond0_1 i)
    (x0 : Vec F S1024x2048 .bf16) (x1 : Vec F S1024x2048 .bf16) (x2 : Vec F S2048x512 .bf16) (x3 : Vec F S2048x512 .bf16) (x4 : Vec F S1024x512 .f32) (xo7 : Vec F S1024x128 .f32) : Vec F S1024x512 .bf16 :=
  VO0_6.read (Elt F) (VO0_6.writes (Elt F) VO0_6.junk (kernelRun0_B c i arg2 harg2 arg3 harg3 arg4 harg4 arg5 harg5 arg6 harg6 arg7 harg7 arg8 harg8 arg9 harg9 hc0 hc1 x0 x1 x2 x3 x4 xo7).2.1)

theorem cover0_B_7 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .bf16) (harg8 : arg8.IsWhole) (arg9 : Memref sig .tc .vmem S1024x128 .f32) (harg9 : arg9.IsWhole) (hc0 : ¬cond0_0 i) (hc1 : cond0_1 i)
    (x0 : Vec F S1024x2048 .bf16) (x1 : Vec F S1024x2048 .bf16) (x2 : Vec F S2048x512 .bf16) (x3 : Vec F S2048x512 .bf16) (x4 : Vec F S1024x512 .f32) (xo7 : Vec F S1024x128 .f32) (y : S1024x128.Idx) :
    ∃ pc ∈ (kernelRun0_B c i arg2 harg2 arg3 harg3 arg4 harg4 arg5 harg5 arg6 harg6 arg7 harg7 arg8 harg8 arg9 harg9 hc0 hc1 x0 x1 x2 x3 x4 xo7).2.2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 xo7).2.2.1 S1024x128.size (by sl_kernel_rfl) y

def out0_B_7 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .bf16) (harg8 : arg8.IsWhole) (arg9 : Memref sig .tc .vmem S1024x128 .f32) (harg9 : arg9.IsWhole) (hc0 : ¬cond0_0 i) (hc1 : cond0_1 i)
    (x0 : Vec F S1024x2048 .bf16) (x1 : Vec F S1024x2048 .bf16) (x2 : Vec F S2048x512 .bf16) (x3 : Vec F S2048x512 .bf16) (x4 : Vec F S1024x512 .f32) (xo7 : Vec F S1024x128 .f32) : Vec F S1024x128 .f32 :=
  VO0_7.read (Elt F) (VO0_7.writes (Elt F) VO0_7.junk (kernelRun0_B c i arg2 harg2 arg3 harg3 arg4 harg4 arg5 harg5 arg6 harg6 arg7 harg7 arg8 harg8 arg9 harg9 hc0 hc1 x0 x1 x2 x3 x4 xo7).2.2.1)

def outsAt0 (c : Dev nD) : (n : ℕ) → n < cfg0.N → Vec F S1024x512 .f32 × Vec F S1024x512 .bf16 × Vec F S1024x128 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 8 = 0 then
      if h1 : 1 ≤ (n + 1) % 8 then
        False.elim (by have hN : n + 1 < 64 := lt_of_lt_of_eq hn (show cfg0.N = 64 from N_0); omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      if h1 : 1 ≤ (n + 1) % 8 then
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2.2)
      else
        False.elim (by have hN : n + 1 < 64 := lt_of_lt_of_eq hn (show cfg0.N = 64 from N_0); omega)

theorem outsAt0_A (c : Dev nD) (t : Fin cfg0.N) (h0 : t.val % 8 = 0) (h1 : ¬1 ≤ t.val % 8) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun h => h1 ((hcond0_1 t).mp h)) (iblk0 V c 0 t) (iblk0 V c 1 t) (iblk0 V c 2 t) (iblk0 V c 3 t) (iblk0 V c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun h => h1 ((hcond0_1 t).mp h)) (iblk0 V c 0 t) (iblk0 V c 1 t) (iblk0 V c 2 t) (iblk0 V c 3 t) (iblk0 V c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : 1 ≤ t.val % 8) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2.1
    | ⟨7, _⟩ => (outsAt0 V c t.val t.isLt).2.2
  Φ _ := Pipeline.ΦA spec0 c
  q w := Pipeline.shareOf spec0 w
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2.1 := by dsimp only [dat0]
theorem after0_7 (c : Dev nD) (t : Fin cfg0.N) : (dat0 V c).after 7 t = (outsAt0 V c t.val t.isLt).2.2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

theorem hcarry0_7 (c : Dev nD) : ∀ (t : Fin cfg0.N) (_ : t.val ≠ 0), cfg0.idle 7 (grid0.coords t) = true → cfg0.fresh 7 t.val = false →
    (dat0 V c).after 7 t = (dat0 V c).after 7 ⟨t.val - 1, by omega⟩ := by
  intro t _ hi _
  have hN : t.val < 64 := lt_of_lt_of_eq t.isLt (show cfg0.N = 64 from N_0)
  rw [after0_7, after0_7]
  by_cases h0 : t.val % 8 = 0
  · by_cases h1 : 1 ≤ t.val % 8
    · exfalso; omega
    · rw [liveAt0_7_A t ((hcond0_0 t).mpr h0) (fun h => h1 ((hcond0_1 t).mp h))] at hi
      exact absurd hi Bool.false_ne_true
  · by_cases h1 : 1 ≤ t.val % 8
    · rw [liveAt0_7_B t (fun h => h0 ((hcond0_0 t).mp h)) ((hcond0_1 t).mpr h1)] at hi
      exact absurd hi Bool.false_ne_true
    · exfalso; omega
theorem before0_7_B (c : Dev nD) (t : Fin cfg0.N) (h0 : ¬t.val % 8 = 0) (h1 : 1 ≤ t.val % 8) (d) :
    (dat0 V c).before 7 t d = (outsAt0 V c (t.val - 1) (Nat.lt_of_le_of_lt (Nat.sub_le _ _) t.isLt)).2.2 := by
  rw [Dat.before_out_traj _ 7 rfl (fun _ _ => rfl) (hcarry0_7 V c) t.val t rfl d,
    if_neg (by rw [notFresh0_7_B t (fun h => h0 ((hcond0_0 t).mp h)) ((hcond0_1 t).mpr h1)]; exact Bool.false_ne_true)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 1600000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl]
  have hN : t.val < 64 := lt_of_lt_of_eq t.isLt (show cfg0.N = 64 from N_0)
  by_cases h0 : t.val % 8 = 0
  · by_cases h1 : 1 ≤ t.val % 8
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5 t], after0_5]
      rw [show (dat0 V c).leavesExact 6 t = owns (c : Thread nD τ) (ms0_6 t) fullShare ((dat0 V c).after 6 t) from by
      unfold Dat.leavesExact; rw [liveAt0_6 t], after0_6]
      rw [show (dat0 V c).leavesExact 7 t = owns (c : Thread nD τ) (ms0_7 t) fullShare ((dat0 V c).after 7 t) from by
      unfold Dat.leavesExact; rw [liveAt0_7_A t ((hcond0_0 t).mpr h0) (fun h => h1 ((hcond0_1 t).mp h))], after0_7]
      rw [outsAt0_A V c t h0 h1]
      unfold out0_A_5 out0_A_6 out0_A_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      iintro ⟨H0, H1, H2, H3, H4, ⟨%e5, H5⟩, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _)
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _ _)
  · by_cases h1 : 1 ≤ t.val % 8
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5 t], after0_5]
      rw [show (dat0 V c).leavesExact 6 t = owns (c : Thread nD τ) (ms0_6 t) fullShare ((dat0 V c).after 6 t) from by
      unfold Dat.leavesExact; rw [liveAt0_6 t], after0_6]
      rw [show (dat0 V c).leavesExact 7 t = owns (c : Thread nD τ) (ms0_7 t) fullShare ((dat0 V c).after 7 t) from by
      unfold Dat.leavesExact; rw [liveAt0_7_B t (fun h => h0 ((hcond0_0 t).mp h)) ((hcond0_1 t).mpr h1)], after0_7]
      rw [outsAt0_B V c t h0 h1]
      simp only [before0_7_B V c t h0 h1]
      unfold out0_B_5 out0_B_6 out0_B_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      iintro ⟨H0, H1, H2, H3, H4, ⟨%e5, H5⟩, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _)
      unfold owns; iexists _; isplitr
      swap; · iexact H7
      ipureintro; exact View.read_writes_of_cover _ _ _ _ _ (cover0_B_7 c _ _ _ _ _ _ _ _ _ _ _ _ _ _ _ _ _ _ _ _ _ _ _ _ _)
    · exfalso; omega

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.Post

end
-- ==== Proof.T1.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

/-!
The gate and up products of the first 10752 columns: the body at every grid point.
-/

@[expose] public section

set_option maxRecDepth 16384

noncomputable section

namespace Cert.Post

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
def dflt1_2 : (cfg1.win 2).block.Idx → Elt F (cfg1.win 2).elt := fun _ => Classical.choice inferInstance
def X1_2 (c : Dev nD) (t : Fin cfg1.N) : (cfg1.win 2).block.Idx → Elt F (cfg1.win 2).elt :=
  (cfg1.win 2).fill (cfg1.grid.coords t) dflt1_2 (iblk1 V c 2 t)
theorem xsize1_2 : ∀ t : Fin cfg1.N, ∀ a, (cfg1.win 2).xsize (cfg1.grid.coords t) a = (cfg1.win 2).size a := by decide +kernel
theorem moved1_2 (t : Fin cfg1.N) (j : (cfg1.win 2).block.Idx) : (cfg1.win 2).moved (cfg1.grid.coords t) j = true :=
  ((cfg1.win 2).moved_iff _ j).mpr fun a => by rw [xsize1_2 t a]; exact (j a).isLt
theorem fill1_2 (t : Fin cfg1.N) (d d' : (cfg1.win 2).block.Idx → Elt F (cfg1.win 2).elt) (g) :
    (cfg1.win 2).fill (cfg1.grid.coords t) d g = (cfg1.win 2).fill (cfg1.grid.coords t) d' g := by
  funext j; unfold Pipeline.Window.fill; rw [dif_pos (moved1_2 t j), dif_pos (moved1_2 t j)]
theorem before1_2_of {c : Dev nD} (dat : Dat τ (Elt F) Unit ℕ (UR sig nD τ) ℕ cfg1 c) (hA : dat.A 2 = V c (Pipeline.arrRef spec1 2))
    (hafter : ∀ t, dat.after 2 t = X1_2 V c t) (t : Fin cfg1.N) (d) : dat.before 2 t d = X1_2 V c t :=
  (dat.before_in_eq_fetched 2 rfl (fun _ => rfl)
      (fun t t' h => funext fun a => congrArg (fun n => Pipeline.Clip.of n ((cfg1.win 2).size a) (S4096x11008.size a)) (congrFun h a))
      (fun t => by rw [hafter]; unfold X1_2; rw [Pipeline.Window.cut_fill]; unfold Dat.blockOf iblk1; rw [hA]; try rfl) t d).trans
    (by unfold Dat.fetched X1_2; rw [fill1_2 t d dflt1_2]; unfold Dat.blockOf iblk1; rw [hA]; try rfl)
def dflt1_3 : (cfg1.win 3).block.Idx → Elt F (cfg1.win 3).elt := fun _ => Classical.choice inferInstance
def X1_3 (c : Dev nD) (t : Fin cfg1.N) : (cfg1.win 3).block.Idx → Elt F (cfg1.win 3).elt :=
  (cfg1.win 3).fill (cfg1.grid.coords t) dflt1_3 (iblk1 V c 3 t)
theorem xsize1_3 : ∀ t : Fin cfg1.N, ∀ a, (cfg1.win 3).xsize (cfg1.grid.coords t) a = (cfg1.win 3).size a := by decide +kernel
theorem moved1_3 (t : Fin cfg1.N) (j : (cfg1.win 3).block.Idx) : (cfg1.win 3).moved (cfg1.grid.coords t) j = true :=
  ((cfg1.win 3).moved_iff _ j).mpr fun a => by rw [xsize1_3 t a]; exact (j a).isLt
theorem fill1_3 (t : Fin cfg1.N) (d d' : (cfg1.win 3).block.Idx → Elt F (cfg1.win 3).elt) (g) :
    (cfg1.win 3).fill (cfg1.grid.coords t) d g = (cfg1.win 3).fill (cfg1.grid.coords t) d' g := by
  funext j; unfold Pipeline.Window.fill; rw [dif_pos (moved1_3 t j), dif_pos (moved1_3 t j)]
theorem before1_3_of {c : Dev nD} (dat : Dat τ (Elt F) Unit ℕ (UR sig nD τ) ℕ cfg1 c) (hA : dat.A 3 = V c (Pipeline.arrRef spec1 3))
    (hafter : ∀ t, dat.after 3 t = X1_3 V c t) (t : Fin cfg1.N) (d) : dat.before 3 t d = X1_3 V c t :=
  (dat.before_in_eq_fetched 3 rfl (fun _ => rfl)
      (fun t t' h => funext fun a => congrArg (fun n => Pipeline.Clip.of n ((cfg1.win 3).size a) (S4096x11008.size a)) (congrFun h a))
      (fun t => by rw [hafter]; unfold X1_3; rw [Pipeline.Window.cut_fill]; unfold Dat.blockOf iblk1; rw [hA]; try rfl) t d).trans
    (by unfold Dat.fetched X1_3; rw [fill1_3 t d dflt1_3]; unfold Dat.blockOf iblk1; rw [hA]; try rfl)

abbrev VO1_4 : View sig .tc .vmem S1024x512 .bf16 := (Memref.whole cc1_stg4_0 : Memref sig .tc .vmem S1024x512 .bf16).view
abbrev ms1_0 (t : Fin cfg1.N) : Memref sig .tc .vmem S1024x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x512 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x512 .bf16 := win1_4.stage (cfg1.slots t 4)
abbrev hs1_4 (t : Fin cfg1.N) : (ms1_4 t).IsWhole := hstage1_4 ((cfg1.slots t 4).cast nbuf1_4)

set_option maxHeartbeats 1000000 in
noncomputable def kernelRun1_A (c : Dev nD) (i : grid1.Coords) (arg2 : Memref sig .tc .vmem S1024x4096 .bf16) (harg2 : arg2.IsWhole) (arg3 : Memref sig .tc .vmem S1024x128 .f32) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1024x512 .bf16) (harg6 : arg6.IsWhole)
    (x0 : Vec F S1024x4096 .bf16) (x1 : Vec F S1024x128 .f32) (x2 : Vec F S4096x512 .bf16) (x3 : Vec F S4096x512 .bf16) :
    { L4 : List (View.Piece (Elt F) S1024x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc1_mm_gateup i arg2 harg2 arg3 harg3 arg4 harg4 arg5 harg5 arg6 harg6) K } := by
  refine ⟨?_, fun E K => ?run⟩
  case run =>
    simp only [cc1_mm_gateup_eq_skeleton]; unfold cc1_mm_gateup_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

theorem cover1_A_4 (c : Dev nD) (i : grid1.Coords) (arg2 : Memref sig .tc .vmem S1024x4096 .bf16) (harg2 : arg2.IsWhole) (arg3 : Memref sig .tc .vmem S1024x128 .f32) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1024x512 .bf16) (harg6 : arg6.IsWhole)
    (x0 : Vec F S1024x4096 .bf16) (x1 : Vec F S1024x128 .f32) (x2 : Vec F S4096x512 .bf16) (x3 : Vec F S4096x512 .bf16) (y : S1024x512.Idx) :
    ∃ pc ∈ (kernelRun1_A c i arg2 harg2 arg3 harg3 arg4 harg4 arg5 harg5 arg6 harg6 x0 x1 x2 x3).1, y ∈ pc.1.set :=
  View.cover_of_tiledL (kernelRun1_A c i arg2 harg2 arg3 harg3 arg4 harg4 arg5 harg5 arg6 harg6 x0 x1 x2 x3).1 S1024x512.size (by sl_kernel_rfl) y

def out1_A_4 (c : Dev nD) (i : grid1.Coords) (arg2 : Memref sig .tc .vmem S1024x4096 .bf16) (harg2 : arg2.IsWhole) (arg3 : Memref sig .tc .vmem S1024x128 .f32) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1024x512 .bf16) (harg6 : arg6.IsWhole)
    (x0 : Vec F S1024x4096 .bf16) (x1 : Vec F S1024x128 .f32) (x2 : Vec F S4096x512 .bf16) (x3 : Vec F S4096x512 .bf16) : Vec F S1024x512 .bf16 :=
  VO1_4.read (Elt F) (VO1_4.writes (Elt F) VO1_4.junk (kernelRun1_A c i arg2 harg2 arg3 harg3 arg4 harg4 arg5 harg5 arg6 harg6 x0 x1 x2 x3).1)

def outsAt1 (c : Dev nD) (t : Fin cfg1.N) : Vec F S1024x512 .bf16 :=
  out1_A_4 c (grid1.coords t) (ms1_0 t) (hs1_0 t) (ms1_1 t) (hs1_1 t) (ms1_2 t) (hs1_2 t) (ms1_3 t) (hs1_3 t) (ms1_4 t) (hs1_4 t) (iblk1 V c 0 t) (iblk1 V c 1 t) (X1_2 V c t) (X1_3 V c t)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => X1_2 V c t
    | ⟨3, _⟩ => X1_3 V c t
    | ⟨4, _⟩ => (outsAt1 V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = X1_2 V c t := by dsimp only [dat1]
theorem after1_3 (c : Dev nD) (t : Fin cfg1.N) : (dat1 V c).after 3 t = X1_3 V c t := by dsimp only [dat1]
theorem after1_4 (c : Dev nD) (t : Fin cfg1.N) : (dat1 V c).after 4 t = (outsAt1 V c t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = X1_2 V c t :=
  before1_2_of V (dat1 V c) (A_eq1 V c 2) (after1_2 V c) t d
theorem before1_3 (c : Dev nD) (t : Fin cfg1.N) (d) : (dat1 V c).before 3 t d = X1_3 V c t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  unfold outsAt1
  unfold out1_A_4
  iintro ⟨HΦ, Ho, ⟨%d0, H0⟩, ⟨%d1, H1⟩, ⟨%d2, H2⟩, ⟨%d3, H3⟩, ⟨%d4, H4⟩⟩
  iapply ((kernelRun1_A c (grid1.coords t) _ _ _ _ _ _ _ _ _ _ (iblk1 V c 0 t) (iblk1 V c 1 t) (X1_2 V c t) (X1_3 V c t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover1_A_4 c _ _ _ _ _ _ _ _ _ _ _ _ _ _ _)

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.Post

end
-- ==== Proof.T2.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

/-!
The gate and up products of the last 256 columns: the body at every grid point.
-/

@[expose] public section

set_option maxRecDepth 16384

noncomputable section

namespace Cert.Post

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
abbrev VO2_4 : View sig .tc .vmem S1024x256 .bf16 := (Memref.whole cc2_stg4_0 : Memref sig .tc .vmem S1024x256 .bf16).view
abbrev ms2_0 (t : Fin cfg2.N) : Memref sig .tc .vmem S1024x4096 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4096x256 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S4096x256 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x256 .bf16 := win2_4.stage (cfg2.slots t 4)
abbrev hs2_4 (t : Fin cfg2.N) : (ms2_4 t).IsWhole := hstage2_4 ((cfg2.slots t 4).cast nbuf2_4)

set_option maxHeartbeats 1000000 in
noncomputable def kernelRun2_A (c : Dev nD) (i : grid2.Coords) (arg2 : Memref sig .tc .vmem S1024x4096 .bf16) (harg2 : arg2.IsWhole) (arg3 : Memref sig .tc .vmem S1024x128 .f32) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S1024x256 .bf16) (harg6 : arg6.IsWhole)
    (x0 : Vec F S1024x4096 .bf16) (x1 : Vec F S1024x128 .f32) (x2 : Vec F S4096x256 .bf16) (x3 : Vec F S4096x256 .bf16) :
    { L4 : List (View.Piece (Elt F) S1024x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc2_mm_gateup_tail i arg2 harg2 arg3 harg3 arg4 harg4 arg5 harg5 arg6 harg6) K } := by
  refine ⟨?_, fun E K => ?run⟩
  case run =>
    simp only [cc2_mm_gateup_tail_eq_skeleton]; unfold cc2_mm_gateup_tail_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

theorem cover2_A_4 (c : Dev nD) (i : grid2.Coords) (arg2 : Memref sig .tc .vmem S1024x4096 .bf16) (harg2 : arg2.IsWhole) (arg3 : Memref sig .tc .vmem S1024x128 .f32) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S1024x256 .bf16) (harg6 : arg6.IsWhole)
    (x0 : Vec F S1024x4096 .bf16) (x1 : Vec F S1024x128 .f32) (x2 : Vec F S4096x256 .bf16) (x3 : Vec F S4096x256 .bf16) (y : S1024x256.Idx) :
    ∃ pc ∈ (kernelRun2_A c i arg2 harg2 arg3 harg3 arg4 harg4 arg5 harg5 arg6 harg6 x0 x1 x2 x3).1, y ∈ pc.1.set :=
  View.cover_of_tiledL (kernelRun2_A c i arg2 harg2 arg3 harg3 arg4 harg4 arg5 harg5 arg6 harg6 x0 x1 x2 x3).1 S1024x256.size (by sl_kernel_rfl) y

def out2_A_4 (c : Dev nD) (i : grid2.Coords) (arg2 : Memref sig .tc .vmem S1024x4096 .bf16) (harg2 : arg2.IsWhole) (arg3 : Memref sig .tc .vmem S1024x128 .f32) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S1024x256 .bf16) (harg6 : arg6.IsWhole)
    (x0 : Vec F S1024x4096 .bf16) (x1 : Vec F S1024x128 .f32) (x2 : Vec F S4096x256 .bf16) (x3 : Vec F S4096x256 .bf16) : Vec F S1024x256 .bf16 :=
  VO2_4.read (Elt F) (VO2_4.writes (Elt F) VO2_4.junk (kernelRun2_A c i arg2 harg2 arg3 harg3 arg4 harg4 arg5 harg5 arg6 harg6 x0 x1 x2 x3).1)

def outsAt2 (c : Dev nD) (t : Fin cfg2.N) : Vec F S1024x256 .bf16 :=
  out2_A_4 c (grid2.coords t) (ms2_0 t) (hs2_0 t) (ms2_1 t) (hs2_1 t) (ms2_2 t) (hs2_2 t) (ms2_3 t) (hs2_3 t) (ms2_4 t) (hs2_4 t) (iblk2 V c 0 t) (iblk2 V c 1 t) (iblk2 V c 2 t) (iblk2 V c 3 t)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  unfold outsAt2
  unfold out2_A_4
  iintro ⟨HΦ, Ho, ⟨%d0, H0⟩, ⟨%d1, H1⟩, ⟨%d2, H2⟩, ⟨%d3, H3⟩, ⟨%d4, H4⟩⟩
  iapply ((kernelRun2_A c (grid2.coords t) _ _ _ _ _ _ _ _ _ _ (iblk2 V c 0 t) (iblk2 V c 1 t) (iblk2 V c 2 t) (iblk2 V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover2_A_4 c _ _ _ _ _ _ _ _ _ _ _ _ _ _ _)

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.Post

end
-- ==== Proof.T3.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

/-!
The down-projection and the residual: the body at every grid point.
-/

@[expose] public section

set_option maxRecDepth 16384

noncomputable section

namespace Cert.Post

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
def dflt3_2 : (cfg3.win 2).block.Idx → Elt F (cfg3.win 2).elt := fun _ => Classical.choice inferInstance
def X3_2 (c : Dev nD) (t : Fin cfg3.N) : (cfg3.win 2).block.Idx → Elt F (cfg3.win 2).elt :=
  (cfg3.win 2).fill (cfg3.grid.coords t) dflt3_2 (iblk3 V c 2 t)
theorem xsize3_2 : ∀ t : Fin cfg3.N, ∀ a, (cfg3.win 2).xsize (cfg3.grid.coords t) a = (cfg3.win 2).size a := by decide +kernel
theorem moved3_2 (t : Fin cfg3.N) (j : (cfg3.win 2).block.Idx) : (cfg3.win 2).moved (cfg3.grid.coords t) j = true :=
  ((cfg3.win 2).moved_iff _ j).mpr fun a => by rw [xsize3_2 t a]; exact (j a).isLt
theorem fill3_2 (t : Fin cfg3.N) (d d' : (cfg3.win 2).block.Idx → Elt F (cfg3.win 2).elt) (g) :
    (cfg3.win 2).fill (cfg3.grid.coords t) d g = (cfg3.win 2).fill (cfg3.grid.coords t) d' g := by
  funext j; unfold Pipeline.Window.fill; rw [dif_pos (moved3_2 t j), dif_pos (moved3_2 t j)]
theorem before3_2_of {c : Dev nD} (dat : Dat τ (Elt F) Unit ℕ (UR sig nD τ) ℕ cfg3 c) (hA : dat.A 2 = V c (Pipeline.arrRef spec3 2))
    (hafter : ∀ t, dat.after 2 t = X3_2 V c t) (t : Fin cfg3.N) (d) : dat.before 2 t d = X3_2 V c t :=
  (dat.before_in_eq_fetched 2 rfl (fun _ => rfl)
      (fun t t' h => funext fun a => congrArg (fun n => Pipeline.Clip.of n ((cfg3.win 2).size a) (S11008x4096.size a)) (congrFun h a))
      (fun t => by rw [hafter]; unfold X3_2; rw [Pipeline.Window.cut_fill]; unfold Dat.blockOf iblk3; rw [hA]; try rfl) t d).trans
    (by unfold Dat.fetched X3_2; rw [fill3_2 t d dflt3_2]; unfold Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

abbrev cond3_0 (i : grid3.Coords) : Prop := k3_cond1 i = 1#1
theorem hcond3_0 : ∀ t : Fin cfg3.N, cond3_0 (grid3.coords t) ↔ t.val % 8 = 0 :=
  (fun t => by
    have ht : t.val < 128 := Nat.lt_of_lt_of_eq t.isLt N_3
    have e0 : (grid3.coords t 0).val = t.val / 8 % 16 := Pipeline.Grid.coords_val t 0 (by decide) rfl
    have e1 : (grid3.coords t 1).val = t.val / 1 % 8 := Pipeline.Grid.coords_val t 1 (by decide) rfl
    simp only [cond3_0, k3_cond1, e0, e1]
    word_cmp
   : ∀ t : Fin grid3.N, cond3_0 (grid3.coords t) ↔ t.val % 8 = 0)

abbrev cond3_1 (i : grid3.Coords) : Prop := k3_cond2 i = 1#1
theorem hcond3_1 : ∀ t : Fin cfg3.N, cond3_1 (grid3.coords t) ↔ 1 ≤ t.val % 8 :=
  (by decide +kernel : ∀ t : Fin grid3.N, cond3_1 (grid3.coords t) ↔ 1 ≤ t.val % 8)

theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem liveAt3_3 : ∀ t : Fin cfg3.N, cfg3.idle 3 (grid3.coords t) = false := fun _ => rfl
theorem liveAt3_4 : ∀ t : Fin cfg3.N, cfg3.idle 4 (grid3.coords t) = false := fun _ => rfl
theorem liveAt3_5 : ∀ t : Fin cfg3.N, cfg3.idle 5 (grid3.coords t) = false := fun _ => rfl
theorem liveAt3_6 : ∀ t : Fin cfg3.N, cfg3.idle 6 (grid3.coords t) = false := fun _ => rfl
def freshTab3_7 : ℕ → Bool
  | 0 => true
  | n + 1 => (0x80808080808080808080808080808080 : ℕ).testBit n
theorem freshTab3_7_step : ∀ t : Fin cfg3.N,
    freshTab3_7 (t.val + 1) = ((cfg3.win 7).flush t || (cfg3.idle 7 (cfg3.grid.coords t) && freshTab3_7 t.val)) := by decide +kernel
theorem fresh3_7_eq (t : Fin cfg3.N) : cfg3.fresh 7 t.val = freshTab3_7 t.val :=
  Pipeline.Cfg.fresh_tab cfg3 7 freshTab3_7 rfl freshTab3_7_step t.val (Nat.le_of_lt t.isLt)
theorem liveAt3_7_A : ∀ t : Fin cfg3.N, cond3_0 (grid3.coords t) → ¬cond3_1 (grid3.coords t) → cfg3.idle 7 (grid3.coords t) = false := by decide +kernel
theorem liveAt3_7_B : ∀ t : Fin cfg3.N, ¬cond3_0 (grid3.coords t) → cond3_1 (grid3.coords t) → cfg3.idle 7 (grid3.coords t) = false := by decide +kernel
theorem notFresh3_7_B : ∀ t : Fin cfg3.N, ¬cond3_0 (grid3.coords t) → cond3_1 (grid3.coords t) → cfg3.fresh 7 t.val = false := by
  intro t; rw [fresh3_7_eq t]; revert t; decide +kernel

abbrev VO3_5 : View sig .tc .vmem S512x512 .f32 := (Memref.whole cc3_stg5_0 : Memref sig .tc .vmem S512x512 .f32).view
abbrev VO3_6 : View sig .tc .vmem S512x512 .bf16 := (Memref.whole cc3_stg6_0 : Memref sig .tc .vmem S512x512 .bf16).view
abbrev VO3_7 : View sig .tc .vmem S512x128 .f32 := (Memref.whole cc3_stg7_0 : Memref sig .tc .vmem S512x128 .f32).view
abbrev ms3_0 (t : Fin cfg3.N) : Memref sig .tc .vmem S512x10752 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S512x256 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S10752x512 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S256x512 .bf16 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S512x512 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S512x512 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S512x512 .bf16 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S512x128 .f32 := win3_7.stage (cfg3.slots t 7)
abbrev hs3_7 (t : Fin cfg3.N) : (ms3_7 t).IsWhole := hstage3_7 ((cfg3.slots t 7).cast nbuf3_7)

set_option maxHeartbeats 1000000 in
noncomputable def kernelRun3_A (c : Dev nD) (i : grid3.Coords) (arg2 : Memref sig .tc .vmem S512x10752 .bf16) (harg2 : arg2.IsWhole) (arg3 : Memref sig .tc .vmem S512x256 .bf16) (harg3 : arg3.IsWhole) (arg4 : Memref sig .tc .vmem S10752x512 .bf16) (harg4 : arg4.IsWhole) (arg5 : Memref sig .tc .vmem S256x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x128 .f32) (harg9 : arg9.IsWhole) (hc0 : cond3_0 i) (hc1 : ¬cond3_1 i)
    (x0 : Vec F S512x10752 .bf16) (x1 : Vec F S512x256 .bf16) (x2 : Vec F S10752x512 .bf16) (x3 : Vec F S256x512 .bf16) (x4 : Vec F S512x512 .f32) :
    Σ' (L5 : List (View.Piece (Elt F) S512x512 .f32)), Σ' (L6 : List (View.Piece (Elt F) S512x512 .bf16)), { L7 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc3_mm_down i arg2 harg2 arg3 harg3 arg4 harg4 arg5 harg5 arg6 harg6 arg7 harg7 arg8 harg8 arg9 harg9) K } := by
  refine ⟨?_, ?_, ?_, fun E K => ?run⟩
  case run =>
    simp only [cc3_mm_down_eq_skeleton]; unfold cc3_mm_down_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact H7

set_option maxHeartbeats 1000000 in
noncomputable def kernelRun3_B (c : Dev nD) (i : grid3.Coords) (arg2 : Memref sig .tc .vmem S512x10752 .bf16) (harg2 : arg2.IsWhole) (arg3 : Memref sig .tc .vmem S512x256 .bf16) (harg3 : arg3.IsWhole) (arg4 : Memref sig .tc .vmem S10752x512 .bf16) (harg4 : arg4.IsWhole) (arg5 : Memref sig .tc .vmem S256x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x128 .f32) (harg9 : arg9.IsWhole) (hc0 : ¬cond3_0 i) (hc1 : cond3_1 i)
    (x0 : Vec F S512x10752 .bf16) (x1 : Vec F S512x256 .bf16) (x2 : Vec F S10752x512 .bf16) (x3 : Vec F S256x512 .bf16) (x4 : Vec F S512x512 .f32) (xo7 : Vec F S512x128 .f32) :
    Σ' (L5 : List (View.Piece (Elt F) S512x512 .f32)), Σ' (L6 : List (View.Piece (Elt F) S512x512 .bf16)), { L7 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xo7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc3_mm_down i arg2 harg2 arg3 harg3 arg4 harg4 arg5 harg5 arg6 harg6 arg7 harg7 arg8 harg8 arg9 harg9) K } := by
  refine ⟨?_, ?_, ?_, fun E K => ?run⟩
  case run =>
    simp only [cc3_mm_down_eq_skeleton]; unfold cc3_mm_down_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hf7
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact H7

theorem cover3_A_5 (c : Dev nD) (i : grid3.Coords) (arg2 : Memref sig .tc .vmem S512x10752 .bf16) (harg2 : arg2.IsWhole) (arg3 : Memref sig .tc .vmem S512x256 .bf16) (harg3 : arg3.IsWhole) (arg4 : Memref sig .tc .vmem S10752x512 .bf16) (harg4 : arg4.IsWhole) (arg5 : Memref sig .tc .vmem S256x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x128 .f32) (harg9 : arg9.IsWhole) (hc0 : cond3_0 i) (hc1 : ¬cond3_1 i)
    (x0 : Vec F S512x10752 .bf16) (x1 : Vec F S512x256 .bf16) (x2 : Vec F S10752x512 .bf16) (x3 : Vec F S256x512 .bf16) (x4 : Vec F S512x512 .f32) (y : S512x512.Idx) :
    ∃ pc ∈ (kernelRun3_A c i arg2 harg2 arg3 harg3 arg4 harg4 arg5 harg5 arg6 harg6 arg7 harg7 arg8 harg8 arg9 harg9 hc0 hc1 x0 x1 x2 x3 x4).1, y ∈ pc.1.set :=
  View.cover_of_tiledL (kernelRun3_A c i arg2 harg2 arg3 harg3 arg4 harg4 arg5 harg5 arg6 harg6 arg7 harg7 arg8 harg8 arg9 harg9 hc0 hc1 x0 x1 x2 x3 x4).1 S512x512.size (by sl_kernel_rfl) y

def out3_A_5 (c : Dev nD) (i : grid3.Coords) (arg2 : Memref sig .tc .vmem S512x10752 .bf16) (harg2 : arg2.IsWhole) (arg3 : Memref sig .tc .vmem S512x256 .bf16) (harg3 : arg3.IsWhole) (arg4 : Memref sig .tc .vmem S10752x512 .bf16) (harg4 : arg4.IsWhole) (arg5 : Memref sig .tc .vmem S256x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x128 .f32) (harg9 : arg9.IsWhole) (hc0 : cond3_0 i) (hc1 : ¬cond3_1 i)
    (x0 : Vec F S512x10752 .bf16) (x1 : Vec F S512x256 .bf16) (x2 : Vec F S10752x512 .bf16) (x3 : Vec F S256x512 .bf16) (x4 : Vec F S512x512 .f32) : Vec F S512x512 .f32 :=
  VO3_5.read (Elt F) (VO3_5.writes (Elt F) VO3_5.junk (kernelRun3_A c i arg2 harg2 arg3 harg3 arg4 harg4 arg5 harg5 arg6 harg6 arg7 harg7 arg8 harg8 arg9 harg9 hc0 hc1 x0 x1 x2 x3 x4).1)

theorem cover3_A_6 (c : Dev nD) (i : grid3.Coords) (arg2 : Memref sig .tc .vmem S512x10752 .bf16) (harg2 : arg2.IsWhole) (arg3 : Memref sig .tc .vmem S512x256 .bf16) (harg3 : arg3.IsWhole) (arg4 : Memref sig .tc .vmem S10752x512 .bf16) (harg4 : arg4.IsWhole) (arg5 : Memref sig .tc .vmem S256x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x128 .f32) (harg9 : arg9.IsWhole) (hc0 : cond3_0 i) (hc1 : ¬cond3_1 i)
    (x0 : Vec F S512x10752 .bf16) (x1 : Vec F S512x256 .bf16) (x2 : Vec F S10752x512 .bf16) (x3 : Vec F S256x512 .bf16) (x4 : Vec F S512x512 .f32) (y : S512x512.Idx) :
    ∃ pc ∈ (kernelRun3_A c i arg2 harg2 arg3 harg3 arg4 harg4 arg5 harg5 arg6 harg6 arg7 harg7 arg8 harg8 arg9 harg9 hc0 hc1 x0 x1 x2 x3 x4).2.1, y ∈ pc.1.set :=
  View.cover_of_tiledL (kernelRun3_A c i arg2 harg2 arg3 harg3 arg4 harg4 arg5 harg5 arg6 harg6 arg7 harg7 arg8 harg8 arg9 harg9 hc0 hc1 x0 x1 x2 x3 x4).2.1 S512x512.size (by sl_kernel_rfl) y

def out3_A_6 (c : Dev nD) (i : grid3.Coords) (arg2 : Memref sig .tc .vmem S512x10752 .bf16) (harg2 : arg2.IsWhole) (arg3 : Memref sig .tc .vmem S512x256 .bf16) (harg3 : arg3.IsWhole) (arg4 : Memref sig .tc .vmem S10752x512 .bf16) (harg4 : arg4.IsWhole) (arg5 : Memref sig .tc .vmem S256x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x128 .f32) (harg9 : arg9.IsWhole) (hc0 : cond3_0 i) (hc1 : ¬cond3_1 i)
    (x0 : Vec F S512x10752 .bf16) (x1 : Vec F S512x256 .bf16) (x2 : Vec F S10752x512 .bf16) (x3 : Vec F S256x512 .bf16) (x4 : Vec F S512x512 .f32) : Vec F S512x512 .bf16 :=
  VO3_6.read (Elt F) (VO3_6.writes (Elt F) VO3_6.junk (kernelRun3_A c i arg2 harg2 arg3 harg3 arg4 harg4 arg5 harg5 arg6 harg6 arg7 harg7 arg8 harg8 arg9 harg9 hc0 hc1 x0 x1 x2 x3 x4).2.1)

theorem cover3_A_7 (c : Dev nD) (i : grid3.Coords) (arg2 : Memref sig .tc .vmem S512x10752 .bf16) (harg2 : arg2.IsWhole) (arg3 : Memref sig .tc .vmem S512x256 .bf16) (harg3 : arg3.IsWhole) (arg4 : Memref sig .tc .vmem S10752x512 .bf16) (harg4 : arg4.IsWhole) (arg5 : Memref sig .tc .vmem S256x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x128 .f32) (harg9 : arg9.IsWhole) (hc0 : cond3_0 i) (hc1 : ¬cond3_1 i)
    (x0 : Vec F S512x10752 .bf16) (x1 : Vec F S512x256 .bf16) (x2 : Vec F S10752x512 .bf16) (x3 : Vec F S256x512 .bf16) (x4 : Vec F S512x512 .f32) (y : S512x128.Idx) :
    ∃ pc ∈ (kernelRun3_A c i arg2 harg2 arg3 harg3 arg4 harg4 arg5 harg5 arg6 harg6 arg7 harg7 arg8 harg8 arg9 harg9 hc0 hc1 x0 x1 x2 x3 x4).2.2.1, y ∈ pc.1.set :=
  View.cover_of_tiledL (kernelRun3_A c i arg2 harg2 arg3 harg3 arg4 harg4 arg5 harg5 arg6 harg6 arg7 harg7 arg8 harg8 arg9 harg9 hc0 hc1 x0 x1 x2 x3 x4).2.2.1 S512x128.size (by sl_kernel_rfl) y

def out3_A_7 (c : Dev nD) (i : grid3.Coords) (arg2 : Memref sig .tc .vmem S512x10752 .bf16) (harg2 : arg2.IsWhole) (arg3 : Memref sig .tc .vmem S512x256 .bf16) (harg3 : arg3.IsWhole) (arg4 : Memref sig .tc .vmem S10752x512 .bf16) (harg4 : arg4.IsWhole) (arg5 : Memref sig .tc .vmem S256x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x128 .f32) (harg9 : arg9.IsWhole) (hc0 : cond3_0 i) (hc1 : ¬cond3_1 i)
    (x0 : Vec F S512x10752 .bf16) (x1 : Vec F S512x256 .bf16) (x2 : Vec F S10752x512 .bf16) (x3 : Vec F S256x512 .bf16) (x4 : Vec F S512x512 .f32) : Vec F S512x128 .f32 :=
  VO3_7.read (Elt F) (VO3_7.writes (Elt F) VO3_7.junk (kernelRun3_A c i arg2 harg2 arg3 harg3 arg4 harg4 arg5 harg5 arg6 harg6 arg7 harg7 arg8 harg8 arg9 harg9 hc0 hc1 x0 x1 x2 x3 x4).2.2.1)

theorem cover3_B_5 (c : Dev nD) (i : grid3.Coords) (arg2 : Memref sig .tc .vmem S512x10752 .bf16) (harg2 : arg2.IsWhole) (arg3 : Memref sig .tc .vmem S512x256 .bf16) (harg3 : arg3.IsWhole) (arg4 : Memref sig .tc .vmem S10752x512 .bf16) (harg4 : arg4.IsWhole) (arg5 : Memref sig .tc .vmem S256x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x128 .f32) (harg9 : arg9.IsWhole) (hc0 : ¬cond3_0 i) (hc1 : cond3_1 i)
    (x0 : Vec F S512x10752 .bf16) (x1 : Vec F S512x256 .bf16) (x2 : Vec F S10752x512 .bf16) (x3 : Vec F S256x512 .bf16) (x4 : Vec F S512x512 .f32) (xo7 : Vec F S512x128 .f32) (y : S512x512.Idx) :
    ∃ pc ∈ (kernelRun3_B c i arg2 harg2 arg3 harg3 arg4 harg4 arg5 harg5 arg6 harg6 arg7 harg7 arg8 harg8 arg9 harg9 hc0 hc1 x0 x1 x2 x3 x4 xo7).1, y ∈ pc.1.set :=
  View.cover_of_tiledL (kernelRun3_B c i arg2 harg2 arg3 harg3 arg4 harg4 arg5 harg5 arg6 harg6 arg7 harg7 arg8 harg8 arg9 harg9 hc0 hc1 x0 x1 x2 x3 x4 xo7).1 S512x512.size (by sl_kernel_rfl) y

def out3_B_5 (c : Dev nD) (i : grid3.Coords) (arg2 : Memref sig .tc .vmem S512x10752 .bf16) (harg2 : arg2.IsWhole) (arg3 : Memref sig .tc .vmem S512x256 .bf16) (harg3 : arg3.IsWhole) (arg4 : Memref sig .tc .vmem S10752x512 .bf16) (harg4 : arg4.IsWhole) (arg5 : Memref sig .tc .vmem S256x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x128 .f32) (harg9 : arg9.IsWhole) (hc0 : ¬cond3_0 i) (hc1 : cond3_1 i)
    (x0 : Vec F S512x10752 .bf16) (x1 : Vec F S512x256 .bf16) (x2 : Vec F S10752x512 .bf16) (x3 : Vec F S256x512 .bf16) (x4 : Vec F S512x512 .f32) (xo7 : Vec F S512x128 .f32) : Vec F S512x512 .f32 :=
  VO3_5.read (Elt F) (VO3_5.writes (Elt F) VO3_5.junk (kernelRun3_B c i arg2 harg2 arg3 harg3 arg4 harg4 arg5 harg5 arg6 harg6 arg7 harg7 arg8 harg8 arg9 harg9 hc0 hc1 x0 x1 x2 x3 x4 xo7).1)

theorem cover3_B_6 (c : Dev nD) (i : grid3.Coords) (arg2 : Memref sig .tc .vmem S512x10752 .bf16) (harg2 : arg2.IsWhole) (arg3 : Memref sig .tc .vmem S512x256 .bf16) (harg3 : arg3.IsWhole) (arg4 : Memref sig .tc .vmem S10752x512 .bf16) (harg4 : arg4.IsWhole) (arg5 : Memref sig .tc .vmem S256x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x128 .f32) (harg9 : arg9.IsWhole) (hc0 : ¬cond3_0 i) (hc1 : cond3_1 i)
    (x0 : Vec F S512x10752 .bf16) (x1 : Vec F S512x256 .bf16) (x2 : Vec F S10752x512 .bf16) (x3 : Vec F S256x512 .bf16) (x4 : Vec F S512x512 .f32) (xo7 : Vec F S512x128 .f32) (y : S512x512.Idx) :
    ∃ pc ∈ (kernelRun3_B c i arg2 harg2 arg3 harg3 arg4 harg4 arg5 harg5 arg6 harg6 arg7 harg7 arg8 harg8 arg9 harg9 hc0 hc1 x0 x1 x2 x3 x4 xo7).2.1, y ∈ pc.1.set :=
  View.cover_of_tiledL (kernelRun3_B c i arg2 harg2 arg3 harg3 arg4 harg4 arg5 harg5 arg6 harg6 arg7 harg7 arg8 harg8 arg9 harg9 hc0 hc1 x0 x1 x2 x3 x4 xo7).2.1 S512x512.size (by sl_kernel_rfl) y

def out3_B_6 (c : Dev nD) (i : grid3.Coords) (arg2 : Memref sig .tc .vmem S512x10752 .bf16) (harg2 : arg2.IsWhole) (arg3 : Memref sig .tc .vmem S512x256 .bf16) (harg3 : arg3.IsWhole) (arg4 : Memref sig .tc .vmem S10752x512 .bf16) (harg4 : arg4.IsWhole) (arg5 : Memref sig .tc .vmem S256x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x128 .f32) (harg9 : arg9.IsWhole) (hc0 : ¬cond3_0 i) (hc1 : cond3_1 i)
    (x0 : Vec F S512x10752 .bf16) (x1 : Vec F S512x256 .bf16) (x2 : Vec F S10752x512 .bf16) (x3 : Vec F S256x512 .bf16) (x4 : Vec F S512x512 .f32) (xo7 : Vec F S512x128 .f32) : Vec F S512x512 .bf16 :=
  VO3_6.read (Elt F) (VO3_6.writes (Elt F) VO3_6.junk (kernelRun3_B c i arg2 harg2 arg3 harg3 arg4 harg4 arg5 harg5 arg6 harg6 arg7 harg7 arg8 harg8 arg9 harg9 hc0 hc1 x0 x1 x2 x3 x4 xo7).2.1)

theorem cover3_B_7 (c : Dev nD) (i : grid3.Coords) (arg2 : Memref sig .tc .vmem S512x10752 .bf16) (harg2 : arg2.IsWhole) (arg3 : Memref sig .tc .vmem S512x256 .bf16) (harg3 : arg3.IsWhole) (arg4 : Memref sig .tc .vmem S10752x512 .bf16) (harg4 : arg4.IsWhole) (arg5 : Memref sig .tc .vmem S256x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x128 .f32) (harg9 : arg9.IsWhole) (hc0 : ¬cond3_0 i) (hc1 : cond3_1 i)
    (x0 : Vec F S512x10752 .bf16) (x1 : Vec F S512x256 .bf16) (x2 : Vec F S10752x512 .bf16) (x3 : Vec F S256x512 .bf16) (x4 : Vec F S512x512 .f32) (xo7 : Vec F S512x128 .f32) (y : S512x128.Idx) :
    ∃ pc ∈ (kernelRun3_B c i arg2 harg2 arg3 harg3 arg4 harg4 arg5 harg5 arg6 harg6 arg7 harg7 arg8 harg8 arg9 harg9 hc0 hc1 x0 x1 x2 x3 x4 xo7).2.2.1, y ∈ pc.1.set :=
  View.cover_of_tiledL (kernelRun3_B c i arg2 harg2 arg3 harg3 arg4 harg4 arg5 harg5 arg6 harg6 arg7 harg7 arg8 harg8 arg9 harg9 hc0 hc1 x0 x1 x2 x3 x4 xo7).2.2.1 S512x128.size (by sl_kernel_rfl) y

def out3_B_7 (c : Dev nD) (i : grid3.Coords) (arg2 : Memref sig .tc .vmem S512x10752 .bf16) (harg2 : arg2.IsWhole) (arg3 : Memref sig .tc .vmem S512x256 .bf16) (harg3 : arg3.IsWhole) (arg4 : Memref sig .tc .vmem S10752x512 .bf16) (harg4 : arg4.IsWhole) (arg5 : Memref sig .tc .vmem S256x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x128 .f32) (harg9 : arg9.IsWhole) (hc0 : ¬cond3_0 i) (hc1 : cond3_1 i)
    (x0 : Vec F S512x10752 .bf16) (x1 : Vec F S512x256 .bf16) (x2 : Vec F S10752x512 .bf16) (x3 : Vec F S256x512 .bf16) (x4 : Vec F S512x512 .f32) (xo7 : Vec F S512x128 .f32) : Vec F S512x128 .f32 :=
  VO3_7.read (Elt F) (VO3_7.writes (Elt F) VO3_7.junk (kernelRun3_B c i arg2 harg2 arg3 harg3 arg4 harg4 arg5 harg5 arg6 harg6 arg7 harg7 arg8 harg8 arg9 harg9 hc0 hc1 x0 x1 x2 x3 x4 xo7).2.2.1)

def outsAt3 (c : Dev nD) : (n : ℕ) → n < cfg3.N → Vec F S512x512 .f32 × Vec F S512x512 .bf16 × Vec F S512x128 .f32
  | 0, hn => (out3_A_5 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (X3_2 V c ⟨0, hn⟩) (iblk3 V c 3 ⟨0, hn⟩) (iblk3 V c 4 ⟨0, hn⟩), out3_A_6 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (X3_2 V c ⟨0, hn⟩) (iblk3 V c 3 ⟨0, hn⟩) (iblk3 V c 4 ⟨0, hn⟩), out3_A_7 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (X3_2 V c ⟨0, hn⟩) (iblk3 V c 3 ⟨0, hn⟩) (iblk3 V c 4 ⟨0, hn⟩))
  | n + 1, hn =>
    if h0 : (n + 1) % 8 = 0 then
      if h1 : 1 ≤ (n + 1) % 8 then
        False.elim (by have hN : n + 1 < 128 := lt_of_lt_of_eq hn (show cfg3.N = 128 from N_3); omega)
      else
        (out3_A_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) ((hcond3_0 ⟨n + 1, hn⟩).mpr h0) (fun h => h1 ((hcond3_1 ⟨n + 1, hn⟩).mp h)) (iblk3 V c 0 ⟨n + 1, hn⟩) (iblk3 V c 1 ⟨n + 1, hn⟩) (X3_2 V c ⟨n + 1, hn⟩) (iblk3 V c 3 ⟨n + 1, hn⟩) (iblk3 V c 4 ⟨n + 1, hn⟩), out3_A_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) ((hcond3_0 ⟨n + 1, hn⟩).mpr h0) (fun h => h1 ((hcond3_1 ⟨n + 1, hn⟩).mp h)) (iblk3 V c 0 ⟨n + 1, hn⟩) (iblk3 V c 1 ⟨n + 1, hn⟩) (X3_2 V c ⟨n + 1, hn⟩) (iblk3 V c 3 ⟨n + 1, hn⟩) (iblk3 V c 4 ⟨n + 1, hn⟩), out3_A_7 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) ((hcond3_0 ⟨n + 1, hn⟩).mpr h0) (fun h => h1 ((hcond3_1 ⟨n + 1, hn⟩).mp h)) (iblk3 V c 0 ⟨n + 1, hn⟩) (iblk3 V c 1 ⟨n + 1, hn⟩) (X3_2 V c ⟨n + 1, hn⟩) (iblk3 V c 3 ⟨n + 1, hn⟩) (iblk3 V c 4 ⟨n + 1, hn⟩))
    else
      if h1 : 1 ≤ (n + 1) % 8 then
        (out3_B_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (fun h => h0 ((hcond3_0 ⟨n + 1, hn⟩).mp h)) ((hcond3_1 ⟨n + 1, hn⟩).mpr h1) (iblk3 V c 0 ⟨n + 1, hn⟩) (iblk3 V c 1 ⟨n + 1, hn⟩) (X3_2 V c ⟨n + 1, hn⟩) (iblk3 V c 3 ⟨n + 1, hn⟩) (iblk3 V c 4 ⟨n + 1, hn⟩) (outsAt3 c n (Nat.lt_of_succ_lt hn)).2.2, out3_B_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (fun h => h0 ((hcond3_0 ⟨n + 1, hn⟩).mp h)) ((hcond3_1 ⟨n + 1, hn⟩).mpr h1) (iblk3 V c 0 ⟨n + 1, hn⟩) (iblk3 V c 1 ⟨n + 1, hn⟩) (X3_2 V c ⟨n + 1, hn⟩) (iblk3 V c 3 ⟨n + 1, hn⟩) (iblk3 V c 4 ⟨n + 1, hn⟩) (outsAt3 c n (Nat.lt_of_succ_lt hn)).2.2, out3_B_7 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (fun h => h0 ((hcond3_0 ⟨n + 1, hn⟩).mp h)) ((hcond3_1 ⟨n + 1, hn⟩).mpr h1) (iblk3 V c 0 ⟨n + 1, hn⟩) (iblk3 V c 1 ⟨n + 1, hn⟩) (X3_2 V c ⟨n + 1, hn⟩) (iblk3 V c 3 ⟨n + 1, hn⟩) (iblk3 V c 4 ⟨n + 1, hn⟩) (outsAt3 c n (Nat.lt_of_succ_lt hn)).2.2)
      else
        False.elim (by have hN : n + 1 < 128 := lt_of_lt_of_eq hn (show cfg3.N = 128 from N_3); omega)

theorem outsAt3_A (c : Dev nD) (t : Fin cfg3.N) (h0 : t.val % 8 = 0) (h1 : ¬1 ≤ t.val % 8) :
    outsAt3 V c t.val t.isLt = (out3_A_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) ((hcond3_0 t).mpr h0) (fun h => h1 ((hcond3_1 t).mp h)) (iblk3 V c 0 t) (iblk3 V c 1 t) (X3_2 V c t) (iblk3 V c 3 t) (iblk3 V c 4 t), out3_A_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) ((hcond3_0 t).mpr h0) (fun h => h1 ((hcond3_1 t).mp h)) (iblk3 V c 0 t) (iblk3 V c 1 t) (X3_2 V c t) (iblk3 V c 3 t) (iblk3 V c 4 t), out3_A_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) ((hcond3_0 t).mpr h0) (fun h => h1 ((hcond3_1 t).mp h)) (iblk3 V c 0 t) (iblk3 V c 1 t) (X3_2 V c t) (iblk3 V c 3 t) (iblk3 V c 4 t)) := by
  obtain ⟨n, hn⟩ := t
  cases n with
  | zero => exact rfl
  | succ n => exact (dif_pos h0).trans ((dif_neg h1).trans rfl)

theorem outsAt3_B (c : Dev nD) (t : Fin cfg3.N) (h0 : ¬t.val % 8 = 0) (h1 : 1 ≤ t.val % 8) :
    outsAt3 V c t.val t.isLt = (out3_B_5 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (fun h => h0 ((hcond3_0 t).mp h)) ((hcond3_1 t).mpr h1) (iblk3 V c 0 t) (iblk3 V c 1 t) (X3_2 V c t) (iblk3 V c 3 t) (iblk3 V c 4 t) (outsAt3 V c (t.val - 1) (Nat.lt_of_le_of_lt (Nat.sub_le _ _) t.isLt)).2.2, out3_B_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (fun h => h0 ((hcond3_0 t).mp h)) ((hcond3_1 t).mpr h1) (iblk3 V c 0 t) (iblk3 V c 1 t) (X3_2 V c t) (iblk3 V c 3 t) (iblk3 V c 4 t) (outsAt3 V c (t.val - 1) (Nat.lt_of_le_of_lt (Nat.sub_le _ _) t.isLt)).2.2, out3_B_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (fun h => h0 ((hcond3_0 t).mp h)) ((hcond3_1 t).mpr h1) (iblk3 V c 0 t) (iblk3 V c 1 t) (X3_2 V c t) (iblk3 V c 3 t) (iblk3 V c 4 t) (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => X3_2 V c t
    | ⟨3, _⟩ => iblk3 V c 3 t
    | ⟨4, _⟩ => iblk3 V c 4 t
    | ⟨5, _⟩ => (outsAt3 V c t.val t.isLt).1
    | ⟨6, _⟩ => (outsAt3 V c t.val t.isLt).2.1
    | ⟨7, _⟩ => (outsAt3 V c t.val t.isLt).2.2
  Φ _ := Pipeline.ΦA spec3 c
  q w := Pipeline.shareOf spec3 w
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = X3_2 V c t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = (outsAt3 V c t.val t.isLt).1 := by dsimp only [dat3]
theorem after3_6 (c : Dev nD) (t : Fin cfg3.N) : (dat3 V c).after 6 t = (outsAt3 V c t.val t.isLt).2.1 := by dsimp only [dat3]
theorem after3_7 (c : Dev nD) (t : Fin cfg3.N) : (dat3 V c).after 7 t = (outsAt3 V c t.val t.isLt).2.2 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = X3_2 V c t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

theorem hcarry3_7 (c : Dev nD) : ∀ (t : Fin cfg3.N) (_ : t.val ≠ 0), cfg3.idle 7 (grid3.coords t) = true → cfg3.fresh 7 t.val = false →
    (dat3 V c).after 7 t = (dat3 V c).after 7 ⟨t.val - 1, by omega⟩ := by
  intro t _ hi _
  have hN : t.val < 128 := lt_of_lt_of_eq t.isLt (show cfg3.N = 128 from N_3)
  rw [after3_7, after3_7]
  by_cases h0 : t.val % 8 = 0
  · by_cases h1 : 1 ≤ t.val % 8
    · exfalso; omega
    · rw [liveAt3_7_A t ((hcond3_0 t).mpr h0) (fun h => h1 ((hcond3_1 t).mp h))] at hi
      exact absurd hi Bool.false_ne_true
  · by_cases h1 : 1 ≤ t.val % 8
    · rw [liveAt3_7_B t (fun h => h0 ((hcond3_0 t).mp h)) ((hcond3_1 t).mpr h1)] at hi
      exact absurd hi Bool.false_ne_true
    · exfalso; omega
theorem before3_7_B (c : Dev nD) (t : Fin cfg3.N) (h0 : ¬t.val % 8 = 0) (h1 : 1 ≤ t.val % 8) (d) :
    (dat3 V c).before 7 t d = (outsAt3 V c (t.val - 1) (Nat.lt_of_le_of_lt (Nat.sub_le _ _) t.isLt)).2.2 := by
  rw [Dat.before_out_traj _ 7 rfl (fun _ _ => rfl) (hcarry3_7 V c) t.val t rfl d,
    if_neg (by rw [notFresh3_7_B t (fun h => h0 ((hcond3_0 t).mp h)) ((hcond3_1 t).mpr h1)]; exact Bool.false_ne_true)]
  dsimp only [dat3]

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t)

set_option maxHeartbeats 1600000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl]
  have hN : t.val < 128 := lt_of_lt_of_eq t.isLt (show cfg3.N = 128 from N_3)
  by_cases h0 : t.val % 8 = 0
  · by_cases h1 : 1 ≤ t.val % 8
    · exfalso; omega
    · rw [show (dat3 V c).leavesExact 0 t = owns (c : Thread nD τ) (ms3_0 t) fullShare ((dat3 V c).after 0 t) from by
      unfold Dat.leavesExact; rw [liveAt3_0 t], after3_0]
      rw [show (dat3 V c).leavesExact 1 t = owns (c : Thread nD τ) (ms3_1 t) fullShare ((dat3 V c).after 1 t) from by
      unfold Dat.leavesExact; rw [liveAt3_1 t], after3_1]
      rw [show (dat3 V c).leavesExact 2 t = owns (c : Thread nD τ) (ms3_2 t) fullShare ((dat3 V c).after 2 t) from by
      unfold Dat.leavesExact; rw [liveAt3_2 t], after3_2]
      rw [show (dat3 V c).leavesExact 3 t = owns (c : Thread nD τ) (ms3_3 t) fullShare ((dat3 V c).after 3 t) from by
      unfold Dat.leavesExact; rw [liveAt3_3 t], after3_3]
      rw [show (dat3 V c).leavesExact 4 t = owns (c : Thread nD τ) (ms3_4 t) fullShare ((dat3 V c).after 4 t) from by
      unfold Dat.leavesExact; rw [liveAt3_4 t], after3_4]
      rw [show (dat3 V c).leavesExact 5 t = owns (c : Thread nD τ) (ms3_5 t) fullShare ((dat3 V c).after 5 t) from by
      unfold Dat.leavesExact; rw [liveAt3_5 t], after3_5]
      rw [show (dat3 V c).leavesExact 6 t = owns (c : Thread nD τ) (ms3_6 t) fullShare ((dat3 V c).after 6 t) from by
      unfold Dat.leavesExact; rw [liveAt3_6 t], after3_6]
      rw [show (dat3 V c).leavesExact 7 t = owns (c : Thread nD τ) (ms3_7 t) fullShare ((dat3 V c).after 7 t) from by
      unfold Dat.leavesExact; rw [liveAt3_7_A t ((hcond3_0 t).mpr h0) (fun h => h1 ((hcond3_1 t).mp h))], after3_7]
      rw [outsAt3_A V c t h0 h1]
      unfold out3_A_5 out3_A_6 out3_A_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun3_A c (grid3.coords t) _ _ _ _ _ _ _ _ _ _ _ _ _ _ _ _ ((hcond3_0 t).mpr h0) (fun h => h1 ((hcond3_1 t).mp h)) (iblk3 V c 0 t) (iblk3 V c 1 t) (X3_2 V c t) (iblk3 V c 3 t) (iblk3 V c 4 t)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      iintro ⟨H0, H1, H2, H3, H4, ⟨%e5, H5⟩, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover3_A_5 c _ _ _ _ _ _ _ _ _ _ _ _ _ _ _ _ _ _ _ _ _ _ _ _)
      isplitl [H6]
      · unfold owns; iexists _; isplitr
        swap; · iexact H6
        ipureintro; exact View.read_writes_of_cover _ _ _ _ _ (cover3_A_6 c _ _ _ _ _ _ _ _ _ _ _ _ _ _ _ _ _ _ _ _ _ _ _ _)
      unfold owns; iexists _; isplitr
      swap; · iexact H7
      ipureintro; exact View.read_writes_of_cover _ _ _ _ _ (cover3_A_7 c _ _ _ _ _ _ _ _ _ _ _ _ _ _ _ _ _ _ _ _ _ _ _ _)
  · by_cases h1 : 1 ≤ t.val % 8
    · rw [show (dat3 V c).leavesExact 0 t = owns (c : Thread nD τ) (ms3_0 t) fullShare ((dat3 V c).after 0 t) from by
      unfold Dat.leavesExact; rw [liveAt3_0 t], after3_0]
      rw [show (dat3 V c).leavesExact 1 t = owns (c : Thread nD τ) (ms3_1 t) fullShare ((dat3 V c).after 1 t) from by
      unfold Dat.leavesExact; rw [liveAt3_1 t], after3_1]
      rw [show (dat3 V c).leavesExact 2 t = owns (c : Thread nD τ) (ms3_2 t) fullShare ((dat3 V c).after 2 t) from by
      unfold Dat.leavesExact; rw [liveAt3_2 t], after3_2]
      rw [show (dat3 V c).leavesExact 3 t = owns (c : Thread nD τ) (ms3_3 t) fullShare ((dat3 V c).after 3 t) from by
      unfold Dat.leavesExact; rw [liveAt3_3 t], after3_3]
      rw [show (dat3 V c).leavesExact 4 t = owns (c : Thread nD τ) (ms3_4 t) fullShare ((dat3 V c).after 4 t) from by
      unfold Dat.leavesExact; rw [liveAt3_4 t], after3_4]
      rw [show (dat3 V c).leavesExact 5 t = owns (c : Thread nD τ) (ms3_5 t) fullShare ((dat3 V c).after 5 t) from by
      unfold Dat.leavesExact; rw [liveAt3_5 t], after3_5]
      rw [show (dat3 V c).leavesExact 6 t = owns (c : Thread nD τ) (ms3_6 t) fullShare ((dat3 V c).after 6 t) from by
      unfold Dat.leavesExact; rw [liveAt3_6 t], after3_6]
      rw [show (dat3 V c).leavesExact 7 t = owns (c : Thread nD τ) (ms3_7 t) fullShare ((dat3 V c).after 7 t) from by
      unfold Dat.leavesExact; rw [liveAt3_7_B t (fun h => h0 ((hcond3_0 t).mp h)) ((hcond3_1 t).mpr h1)], after3_7]
      rw [outsAt3_B V c t h0 h1]
      simp only [before3_7_B V c t h0 h1]
      unfold out3_B_5 out3_B_6 out3_B_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun3_B c (grid3.coords t) _ _ _ _ _ _ _ _ _ _ _ _ _ _ _ _ (fun h => h0 ((hcond3_0 t).mp h)) ((hcond3_1 t).mpr h1) (iblk3 V c 0 t) (iblk3 V c 1 t) (X3_2 V c t) (iblk3 V c 3 t) (iblk3 V c 4 t) _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      iintro ⟨H0, H1, H2, H3, H4, ⟨%e5, H5⟩, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover3_B_5 c _ _ _ _ _ _ _ _ _ _ _ _ _ _ _ _ _ _ _ _ _ _ _ _ _)
      isplitl [H6]
      · unfold owns; iexists _; isplitr
        swap; · iexact H6
        ipureintro; exact View.read_writes_of_cover _ _ _ _ _ (cover3_B_6 c _ _ _ _ _ _ _ _ _ _ _ _ _ _ _ _ _ _ _ _ _ _ _ _ _)
      unfold owns; iexists _; isplitr
      swap; · iexact H7
      ipureintro; exact View.read_writes_of_cover _ _ _ _ _ (cover3_B_7 c _ _ _ _ _ _ _ _ _ _ _ _ _ _ _ _ _ _ _ _ _ _ _ _ _)
    · exfalso; omega

theorem defs₀_row3 (t : Fin cfg3.N) :
    defs₀ (F := F) .tc cfg3.body (cfg3.bodyArgs t (cfg3.slots t)) = bodyAt3 t := by
  unfold defs₀; rw [Defs.onTc_tc]

theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Cert.Post

end
-- ==== Proof.T4.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

/-!
The gated per-layer embedding: the body at every grid point.
-/

@[expose] public section

set_option maxRecDepth 16384

noncomputable section

namespace Cert.Post

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

abbrev cond4_0 (i : grid4.Coords) : Prop := k4_cond1 i = 1#1
theorem hcond4_0 : ∀ t : Fin cfg4.N, cond4_0 (grid4.coords t) ↔ t.val % 8 = 0 :=
  (fun t => by
    have ht : t.val < 64 := Nat.lt_of_lt_of_eq t.isLt N_4
    have e0 : (grid4.coords t 0).val = t.val / 8 % 8 := Pipeline.Grid.coords_val t 0 (by decide) rfl
    have e1 : (grid4.coords t 1).val = t.val / 1 % 8 := Pipeline.Grid.coords_val t 1 (by decide) rfl
    simp only [cond4_0, k4_cond1, e0, e1]
    word_cmp
   : ∀ t : Fin grid4.N, cond4_0 (grid4.coords t) ↔ t.val % 8 = 0)

abbrev cond4_1 (i : grid4.Coords) : Prop := k4_cond2 i = 1#1
theorem hcond4_1 : ∀ t : Fin cfg4.N, cond4_1 (grid4.coords t) ↔ 1 ≤ t.val % 8 :=
  (by decide +kernel : ∀ t : Fin grid4.N, cond4_1 (grid4.coords t) ↔ 1 ≤ t.val % 8)

theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl
theorem liveAt4_3 : ∀ t : Fin cfg4.N, cfg4.idle 3 (grid4.coords t) = false := fun _ => rfl
theorem liveAt4_4 : ∀ t : Fin cfg4.N, cfg4.idle 4 (grid4.coords t) = false := fun _ => rfl
theorem liveAt4_5 : ∀ t : Fin cfg4.N, cfg4.idle 5 (grid4.coords t) = false := fun _ => rfl
theorem liveAt4_6 : ∀ t : Fin cfg4.N, cfg4.idle 6 (grid4.coords t) = false := fun _ => rfl
theorem liveAt4_7 : ∀ t : Fin cfg4.N, cfg4.idle 7 (grid4.coords t) = false := fun _ => rfl
def freshTab4_8 : ℕ → Bool
  | 0 => true
  | n + 1 => (0x8080808080808080 : ℕ).testBit n
theorem freshTab4_8_step : ∀ t : Fin cfg4.N,
    freshTab4_8 (t.val + 1) = ((cfg4.win 8).flush t || (cfg4.idle 8 (cfg4.grid.coords t) && freshTab4_8 t.val)) := by decide +kernel
theorem fresh4_8_eq (t : Fin cfg4.N) : cfg4.fresh 8 t.val = freshTab4_8 t.val :=
  Pipeline.Cfg.fresh_tab cfg4 8 freshTab4_8 rfl freshTab4_8_step t.val (Nat.le_of_lt t.isLt)
theorem liveAt4_8_A : ∀ t : Fin cfg4.N, cond4_0 (grid4.coords t) → ¬cond4_1 (grid4.coords t) → cfg4.idle 8 (grid4.coords t) = false := by decide +kernel
theorem liveAt4_8_B : ∀ t : Fin cfg4.N, ¬cond4_0 (grid4.coords t) → cond4_1 (grid4.coords t) → cfg4.idle 8 (grid4.coords t) = false := by decide +kernel
theorem notFresh4_8_B : ∀ t : Fin cfg4.N, ¬cond4_0 (grid4.coords t) → cond4_1 (grid4.coords t) → cfg4.fresh 8 t.val = false := by
  intro t; rw [fresh4_8_eq t]; revert t; decide +kernel

abbrev VO4_6 : View sig .tc .vmem S1024x512 .f32 := (Memref.whole cc4_stg6_0 : Memref sig .tc .vmem S1024x512 .f32).view
abbrev VO4_7 : View sig .tc .vmem S1024x512 .bf16 := (Memref.whole cc4_stg7_0 : Memref sig .tc .vmem S1024x512 .bf16).view
abbrev VO4_8 : View sig .tc .vmem S1024x128 .f32 := (Memref.whole cc4_stg8_0 : Memref sig .tc .vmem S1024x128 .f32).view
abbrev ms4_0 (t : Fin cfg4.N) : Memref sig .tc .vmem S1024x4096 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S4096x512 .bf16 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1024x256 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S256x512 .bf16 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1024x512 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1024x512 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1024x512 .bf16 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S1024x128 .f32 := win4_8.stage (cfg4.slots t 8)
abbrev hs4_8 (t : Fin cfg4.N) : (ms4_8 t).IsWhole := hstage4_8 ((cfg4.slots t 8).cast nbuf4_8)

set_option maxHeartbeats 1000000 in
noncomputable def kernelRun4_A (c : Dev nD) (i : grid4.Coords) (arg2 : Memref sig .tc .vmem S1024x4096 .bf16) (harg2 : arg2.IsWhole) (arg3 : Memref sig .tc .vmem S1024x128 .f32) (harg3 : arg3.IsWhole) (arg4 : Memref sig .tc .vmem S4096x512 .bf16) (harg4 : arg4.IsWhole) (arg5 : Memref sig .tc .vmem S1024x256 .f32) (harg5 : arg5.IsWhole) (arg6 : Memref sig .tc .vmem S256x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x128 .f32) (harg10 : arg10.IsWhole) (hc0 : cond4_0 i) (hc1 : ¬cond4_1 i)
    (x0 : Vec F S1024x4096 .bf16) (x1 : Vec F S1024x128 .f32) (x2 : Vec F S4096x512 .bf16) (x3 : Vec F S1024x256 .f32) (x4 : Vec F S256x512 .bf16) (x5 : Vec F S1024x512 .f32) :
    Σ' (L6 : List (View.Piece (Elt F) S1024x512 .f32)), Σ' (L7 : List (View.Piece (Elt F) S1024x512 .bf16)), { L8 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8)) -∗ K ⟨⟩))
          ⊢ wp frame (wpE (defs₀ (F := F)) Variants.none c none) E (cc4_mm_ple i arg2 harg2 arg3 harg3 arg4 harg4 arg5 harg5 arg6 harg6 arg7 harg7 arg8 harg8 arg9 harg9 arg10 harg10) K } := by
  refine ⟨?_, ?_, ?_, fun E K => ?run⟩
  case run =>
    simp only [cc4_mm_ple_eq_skeleton]; unfold cc4_mm_ple_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact H8

set_option maxHeartbeats 1000000 in
noncomputable def kernelRun4_B (c : Dev nD) (i : grid4.Coords) (arg2 : Memref sig .tc .vmem S1024x4096 .bf16) (harg2 : arg2.IsWhole) (arg3 : Memref sig .tc .vmem S1024x128 .f32) (harg3 : arg3.IsWhole) (arg4 : Memref sig .tc .vmem S4096x512 .bf16) (harg4 : arg4.IsWhole) (arg5 : Memref sig .tc .vmem S1024x256 .f32) (harg5 : arg5.IsWhole) (arg6 : Memref sig .tc .vmem S256x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x128 .f32) (harg10 : arg10.IsWhole) (hc0 : ¬cond4_0 i) (hc1 : cond4_1 i)
    (x0 : Vec F S1024x4096 .bf16) (x1 : Vec F S1024x128 .f32) (x2 : Vec F S4096x512 .bf16) (x3 : Vec F S1024x256 .f32) (x4 : Vec F S256x512 .bf16) (x5 : Vec F S1024x512 .f32) (xo8 : Vec F S1024x128 .f32) :
    Σ' (L6 : List (View.Piece (Elt F) S1024x512 .f32)), Σ' (L7 : List (View.Piece (Elt F) S1024x512 .bf16)), { L8 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xo8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8)) -∗ K ⟨⟩))
          ⊢ wp frame (wpE (defs₀ (F := F)) Variants.none c none) E (cc4_mm_ple i arg2 harg2 arg3 harg3 arg4 harg4 arg5 harg5 arg6 harg6 arg7 harg7 arg8 harg8 arg9 harg9 arg10 harg10) K } := by
  refine ⟨?_, ?_, ?_, fun E K => ?run⟩
  case run =>
    simp only [cc4_mm_ple_eq_skeleton]; unfold cc4_mm_ple_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf8
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact H8

theorem cover4_A_6 (c : Dev nD) (i : grid4.Coords) (arg2 : Memref sig .tc .vmem S1024x4096 .bf16) (harg2 : arg2.IsWhole) (arg3 : Memref sig .tc .vmem S1024x128 .f32) (harg3 : arg3.IsWhole) (arg4 : Memref sig .tc .vmem S4096x512 .bf16) (harg4 : arg4.IsWhole) (arg5 : Memref sig .tc .vmem S1024x256 .f32) (harg5 : arg5.IsWhole) (arg6 : Memref sig .tc .vmem S256x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x128 .f32) (harg10 : arg10.IsWhole) (hc0 : cond4_0 i) (hc1 : ¬cond4_1 i)
    (x0 : Vec F S1024x4096 .bf16) (x1 : Vec F S1024x128 .f32) (x2 : Vec F S4096x512 .bf16) (x3 : Vec F S1024x256 .f32) (x4 : Vec F S256x512 .bf16) (x5 : Vec F S1024x512 .f32) (y : S1024x512.Idx) :
    ∃ pc ∈ (kernelRun4_A c i arg2 harg2 arg3 harg3 arg4 harg4 arg5 harg5 arg6 harg6 arg7 harg7 arg8 harg8 arg9 harg9 arg10 harg10 hc0 hc1 x0 x1 x2 x3 x4 x5).1, y ∈ pc.1.set :=
  View.cover_of_tiledL (kernelRun4_A c i arg2 harg2 arg3 harg3 arg4 harg4 arg5 harg5 arg6 harg6 arg7 harg7 arg8 harg8 arg9 harg9 arg10 harg10 hc0 hc1 x0 x1 x2 x3 x4 x5).1 S1024x512.size (by sl_kernel_rfl) y

def out4_A_6 (c : Dev nD) (i : grid4.Coords) (arg2 : Memref sig .tc .vmem S1024x4096 .bf16) (harg2 : arg2.IsWhole) (arg3 : Memref sig .tc .vmem S1024x128 .f32) (harg3 : arg3.IsWhole) (arg4 : Memref sig .tc .vmem S4096x512 .bf16) (harg4 : arg4.IsWhole) (arg5 : Memref sig .tc .vmem S1024x256 .f32) (harg5 : arg5.IsWhole) (arg6 : Memref sig .tc .vmem S256x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x128 .f32) (harg10 : arg10.IsWhole) (hc0 : cond4_0 i) (hc1 : ¬cond4_1 i)
    (x0 : Vec F S1024x4096 .bf16) (x1 : Vec F S1024x128 .f32) (x2 : Vec F S4096x512 .bf16) (x3 : Vec F S1024x256 .f32) (x4 : Vec F S256x512 .bf16) (x5 : Vec F S1024x512 .f32) : Vec F S1024x512 .f32 :=
  VO4_6.read (Elt F) (VO4_6.writes (Elt F) VO4_6.junk (kernelRun4_A c i arg2 harg2 arg3 harg3 arg4 harg4 arg5 harg5 arg6 harg6 arg7 harg7 arg8 harg8 arg9 harg9 arg10 harg10 hc0 hc1 x0 x1 x2 x3 x4 x5).1)

theorem cover4_A_7 (c : Dev nD) (i : grid4.Coords) (arg2 : Memref sig .tc .vmem S1024x4096 .bf16) (harg2 : arg2.IsWhole) (arg3 : Memref sig .tc .vmem S1024x128 .f32) (harg3 : arg3.IsWhole) (arg4 : Memref sig .tc .vmem S4096x512 .bf16) (harg4 : arg4.IsWhole) (arg5 : Memref sig .tc .vmem S1024x256 .f32) (harg5 : arg5.IsWhole) (arg6 : Memref sig .tc .vmem S256x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x128 .f32) (harg10 : arg10.IsWhole) (hc0 : cond4_0 i) (hc1 : ¬cond4_1 i)
    (x0 : Vec F S1024x4096 .bf16) (x1 : Vec F S1024x128 .f32) (x2 : Vec F S4096x512 .bf16) (x3 : Vec F S1024x256 .f32) (x4 : Vec F S256x512 .bf16) (x5 : Vec F S1024x512 .f32) (y : S1024x512.Idx) :
    ∃ pc ∈ (kernelRun4_A c i arg2 harg2 arg3 harg3 arg4 harg4 arg5 harg5 arg6 harg6 arg7 harg7 arg8 harg8 arg9 harg9 arg10 harg10 hc0 hc1 x0 x1 x2 x3 x4 x5).2.1, y ∈ pc.1.set :=
  View.cover_of_tiledL (kernelRun4_A c i arg2 harg2 arg3 harg3 arg4 harg4 arg5 harg5 arg6 harg6 arg7 harg7 arg8 harg8 arg9 harg9 arg10 harg10 hc0 hc1 x0 x1 x2 x3 x4 x5).2.1 S1024x512.size (by sl_kernel_rfl) y

def out4_A_7 (c : Dev nD) (i : grid4.Coords) (arg2 : Memref sig .tc .vmem S1024x4096 .bf16) (harg2 : arg2.IsWhole) (arg3 : Memref sig .tc .vmem S1024x128 .f32) (harg3 : arg3.IsWhole) (arg4 : Memref sig .tc .vmem S4096x512 .bf16) (harg4 : arg4.IsWhole) (arg5 : Memref sig .tc .vmem S1024x256 .f32) (harg5 : arg5.IsWhole) (arg6 : Memref sig .tc .vmem S256x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x128 .f32) (harg10 : arg10.IsWhole) (hc0 : cond4_0 i) (hc1 : ¬cond4_1 i)
    (x0 : Vec F S1024x4096 .bf16) (x1 : Vec F S1024x128 .f32) (x2 : Vec F S4096x512 .bf16) (x3 : Vec F S1024x256 .f32) (x4 : Vec F S256x512 .bf16) (x5 : Vec F S1024x512 .f32) : Vec F S1024x512 .bf16 :=
  VO4_7.read (Elt F) (VO4_7.writes (Elt F) VO4_7.junk (kernelRun4_A c i arg2 harg2 arg3 harg3 arg4 harg4 arg5 harg5 arg6 harg6 arg7 harg7 arg8 harg8 arg9 harg9 arg10 harg10 hc0 hc1 x0 x1 x2 x3 x4 x5).2.1)

theorem cover4_A_8 (c : Dev nD) (i : grid4.Coords) (arg2 : Memref sig .tc .vmem S1024x4096 .bf16) (harg2 : arg2.IsWhole) (arg3 : Memref sig .tc .vmem S1024x128 .f32) (harg3 : arg3.IsWhole) (arg4 : Memref sig .tc .vmem S4096x512 .bf16) (harg4 : arg4.IsWhole) (arg5 : Memref sig .tc .vmem S1024x256 .f32) (harg5 : arg5.IsWhole) (arg6 : Memref sig .tc .vmem S256x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x128 .f32) (harg10 : arg10.IsWhole) (hc0 : cond4_0 i) (hc1 : ¬cond4_1 i)
    (x0 : Vec F S1024x4096 .bf16) (x1 : Vec F S1024x128 .f32) (x2 : Vec F S4096x512 .bf16) (x3 : Vec F S1024x256 .f32) (x4 : Vec F S256x512 .bf16) (x5 : Vec F S1024x512 .f32) (y : S1024x128.Idx) :
    ∃ pc ∈ (kernelRun4_A c i arg2 harg2 arg3 harg3 arg4 harg4 arg5 harg5 arg6 harg6 arg7 harg7 arg8 harg8 arg9 harg9 arg10 harg10 hc0 hc1 x0 x1 x2 x3 x4 x5).2.2.1, y ∈ pc.1.set :=
  View.cover_of_tiledL (kernelRun4_A c i arg2 harg2 arg3 harg3 arg4 harg4 arg5 harg5 arg6 harg6 arg7 harg7 arg8 harg8 arg9 harg9 arg10 harg10 hc0 hc1 x0 x1 x2 x3 x4 x5).2.2.1 S1024x128.size (by sl_kernel_rfl) y

def out4_A_8 (c : Dev nD) (i : grid4.Coords) (arg2 : Memref sig .tc .vmem S1024x4096 .bf16) (harg2 : arg2.IsWhole) (arg3 : Memref sig .tc .vmem S1024x128 .f32) (harg3 : arg3.IsWhole) (arg4 : Memref sig .tc .vmem S4096x512 .bf16) (harg4 : arg4.IsWhole) (arg5 : Memref sig .tc .vmem S1024x256 .f32) (harg5 : arg5.IsWhole) (arg6 : Memref sig .tc .vmem S256x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x128 .f32) (harg10 : arg10.IsWhole) (hc0 : cond4_0 i) (hc1 : ¬cond4_1 i)
    (x0 : Vec F S1024x4096 .bf16) (x1 : Vec F S1024x128 .f32) (x2 : Vec F S4096x512 .bf16) (x3 : Vec F S1024x256 .f32) (x4 : Vec F S256x512 .bf16) (x5 : Vec F S1024x512 .f32) : Vec F S1024x128 .f32 :=
  VO4_8.read (Elt F) (VO4_8.writes (Elt F) VO4_8.junk (kernelRun4_A c i arg2 harg2 arg3 harg3 arg4 harg4 arg5 harg5 arg6 harg6 arg7 harg7 arg8 harg8 arg9 harg9 arg10 harg10 hc0 hc1 x0 x1 x2 x3 x4 x5).2.2.1)

theorem cover4_B_6 (c : Dev nD) (i : grid4.Coords) (arg2 : Memref sig .tc .vmem S1024x4096 .bf16) (harg2 : arg2.IsWhole) (arg3 : Memref sig .tc .vmem S1024x128 .f32) (harg3 : arg3.IsWhole) (arg4 : Memref sig .tc .vmem S4096x512 .bf16) (harg4 : arg4.IsWhole) (arg5 : Memref sig .tc .vmem S1024x256 .f32) (harg5 : arg5.IsWhole) (arg6 : Memref sig .tc .vmem S256x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x128 .f32) (harg10 : arg10.IsWhole) (hc0 : ¬cond4_0 i) (hc1 : cond4_1 i)
    (x0 : Vec F S1024x4096 .bf16) (x1 : Vec F S1024x128 .f32) (x2 : Vec F S4096x512 .bf16) (x3 : Vec F S1024x256 .f32) (x4 : Vec F S256x512 .bf16) (x5 : Vec F S1024x512 .f32) (xo8 : Vec F S1024x128 .f32) (y : S1024x512.Idx) :
    ∃ pc ∈ (kernelRun4_B c i arg2 harg2 arg3 harg3 arg4 harg4 arg5 harg5 arg6 harg6 arg7 harg7 arg8 harg8 arg9 harg9 arg10 harg10 hc0 hc1 x0 x1 x2 x3 x4 x5 xo8).1, y ∈ pc.1.set :=
  View.cover_of_tiledL (kernelRun4_B c i arg2 harg2 arg3 harg3 arg4 harg4 arg5 harg5 arg6 harg6 arg7 harg7 arg8 harg8 arg9 harg9 arg10 harg10 hc0 hc1 x0 x1 x2 x3 x4 x5 xo8).1 S1024x512.size (by sl_kernel_rfl) y

def out4_B_6 (c : Dev nD) (i : grid4.Coords) (arg2 : Memref sig .tc .vmem S1024x4096 .bf16) (harg2 : arg2.IsWhole) (arg3 : Memref sig .tc .vmem S1024x128 .f32) (harg3 : arg3.IsWhole) (arg4 : Memref sig .tc .vmem S4096x512 .bf16) (harg4 : arg4.IsWhole) (arg5 : Memref sig .tc .vmem S1024x256 .f32) (harg5 : arg5.IsWhole) (arg6 : Memref sig .tc .vmem S256x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x128 .f32) (harg10 : arg10.IsWhole) (hc0 : ¬cond4_0 i) (hc1 : cond4_1 i)
    (x0 : Vec F S1024x4096 .bf16) (x1 : Vec F S1024x128 .f32) (x2 : Vec F S4096x512 .bf16) (x3 : Vec F S1024x256 .f32) (x4 : Vec F S256x512 .bf16) (x5 : Vec F S1024x512 .f32) (xo8 : Vec F S1024x128 .f32) : Vec F S1024x512 .f32 :=
  VO4_6.read (Elt F) (VO4_6.writes (Elt F) VO4_6.junk (kernelRun4_B c i arg2 harg2 arg3 harg3 arg4 harg4 arg5 harg5 arg6 harg6 arg7 harg7 arg8 harg8 arg9 harg9 arg10 harg10 hc0 hc1 x0 x1 x2 x3 x4 x5 xo8).1)

theorem cover4_B_7 (c : Dev nD) (i : grid4.Coords) (arg2 : Memref sig .tc .vmem S1024x4096 .bf16) (harg2 : arg2.IsWhole) (arg3 : Memref sig .tc .vmem S1024x128 .f32) (harg3 : arg3.IsWhole) (arg4 : Memref sig .tc .vmem S4096x512 .bf16) (harg4 : arg4.IsWhole) (arg5 : Memref sig .tc .vmem S1024x256 .f32) (harg5 : arg5.IsWhole) (arg6 : Memref sig .tc .vmem S256x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x128 .f32) (harg10 : arg10.IsWhole) (hc0 : ¬cond4_0 i) (hc1 : cond4_1 i)
    (x0 : Vec F S1024x4096 .bf16) (x1 : Vec F S1024x128 .f32) (x2 : Vec F S4096x512 .bf16) (x3 : Vec F S1024x256 .f32) (x4 : Vec F S256x512 .bf16) (x5 : Vec F S1024x512 .f32) (xo8 : Vec F S1024x128 .f32) (y : S1024x512.Idx) :
    ∃ pc ∈ (kernelRun4_B c i arg2 harg2 arg3 harg3 arg4 harg4 arg5 harg5 arg6 harg6 arg7 harg7 arg8 harg8 arg9 harg9 arg10 harg10 hc0 hc1 x0 x1 x2 x3 x4 x5 xo8).2.1, y ∈ pc.1.set :=
  View.cover_of_tiledL (kernelRun4_B c i arg2 harg2 arg3 harg3 arg4 harg4 arg5 harg5 arg6 harg6 arg7 harg7 arg8 harg8 arg9 harg9 arg10 harg10 hc0 hc1 x0 x1 x2 x3 x4 x5 xo8).2.1 S1024x512.size (by sl_kernel_rfl) y

def out4_B_7 (c : Dev nD) (i : grid4.Coords) (arg2 : Memref sig .tc .vmem S1024x4096 .bf16) (harg2 : arg2.IsWhole) (arg3 : Memref sig .tc .vmem S1024x128 .f32) (harg3 : arg3.IsWhole) (arg4 : Memref sig .tc .vmem S4096x512 .bf16) (harg4 : arg4.IsWhole) (arg5 : Memref sig .tc .vmem S1024x256 .f32) (harg5 : arg5.IsWhole) (arg6 : Memref sig .tc .vmem S256x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x128 .f32) (harg10 : arg10.IsWhole) (hc0 : ¬cond4_0 i) (hc1 : cond4_1 i)
    (x0 : Vec F S1024x4096 .bf16) (x1 : Vec F S1024x128 .f32) (x2 : Vec F S4096x512 .bf16) (x3 : Vec F S1024x256 .f32) (x4 : Vec F S256x512 .bf16) (x5 : Vec F S1024x512 .f32) (xo8 : Vec F S1024x128 .f32) : Vec F S1024x512 .bf16 :=
  VO4_7.read (Elt F) (VO4_7.writes (Elt F) VO4_7.junk (kernelRun4_B c i arg2 harg2 arg3 harg3 arg4 harg4 arg5 harg5 arg6 harg6 arg7 harg7 arg8 harg8 arg9 harg9 arg10 harg10 hc0 hc1 x0 x1 x2 x3 x4 x5 xo8).2.1)

theorem cover4_B_8 (c : Dev nD) (i : grid4.Coords) (arg2 : Memref sig .tc .vmem S1024x4096 .bf16) (harg2 : arg2.IsWhole) (arg3 : Memref sig .tc .vmem S1024x128 .f32) (harg3 : arg3.IsWhole) (arg4 : Memref sig .tc .vmem S4096x512 .bf16) (harg4 : arg4.IsWhole) (arg5 : Memref sig .tc .vmem S1024x256 .f32) (harg5 : arg5.IsWhole) (arg6 : Memref sig .tc .vmem S256x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x128 .f32) (harg10 : arg10.IsWhole) (hc0 : ¬cond4_0 i) (hc1 : cond4_1 i)
    (x0 : Vec F S1024x4096 .bf16) (x1 : Vec F S1024x128 .f32) (x2 : Vec F S4096x512 .bf16) (x3 : Vec F S1024x256 .f32) (x4 : Vec F S256x512 .bf16) (x5 : Vec F S1024x512 .f32) (xo8 : Vec F S1024x128 .f32) (y : S1024x128.Idx) :
    ∃ pc ∈ (kernelRun4_B c i arg2 harg2 arg3 harg3 arg4 harg4 arg5 harg5 arg6 harg6 arg7 harg7 arg8 harg8 arg9 harg9 arg10 harg10 hc0 hc1 x0 x1 x2 x3 x4 x5 xo8).2.2.1, y ∈ pc.1.set :=
  View.cover_of_tiledL (kernelRun4_B c i arg2 harg2 arg3 harg3 arg4 harg4 arg5 harg5 arg6 harg6 arg7 harg7 arg8 harg8 arg9 harg9 arg10 harg10 hc0 hc1 x0 x1 x2 x3 x4 x5 xo8).2.2.1 S1024x128.size (by sl_kernel_rfl) y

def out4_B_8 (c : Dev nD) (i : grid4.Coords) (arg2 : Memref sig .tc .vmem S1024x4096 .bf16) (harg2 : arg2.IsWhole) (arg3 : Memref sig .tc .vmem S1024x128 .f32) (harg3 : arg3.IsWhole) (arg4 : Memref sig .tc .vmem S4096x512 .bf16) (harg4 : arg4.IsWhole) (arg5 : Memref sig .tc .vmem S1024x256 .f32) (harg5 : arg5.IsWhole) (arg6 : Memref sig .tc .vmem S256x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S1024x128 .f32) (harg10 : arg10.IsWhole) (hc0 : ¬cond4_0 i) (hc1 : cond4_1 i)
    (x0 : Vec F S1024x4096 .bf16) (x1 : Vec F S1024x128 .f32) (x2 : Vec F S4096x512 .bf16) (x3 : Vec F S1024x256 .f32) (x4 : Vec F S256x512 .bf16) (x5 : Vec F S1024x512 .f32) (xo8 : Vec F S1024x128 .f32) : Vec F S1024x128 .f32 :=
  VO4_8.read (Elt F) (VO4_8.writes (Elt F) VO4_8.junk (kernelRun4_B c i arg2 harg2 arg3 harg3 arg4 harg4 arg5 harg5 arg6 harg6 arg7 harg7 arg8 harg8 arg9 harg9 arg10 harg10 hc0 hc1 x0 x1 x2 x3 x4 x5 xo8).2.2.1)

def outsAt4 (c : Dev nD) : (n : ℕ) → n < cfg4.N → Vec F S1024x512 .f32 × Vec F S1024x512 .bf16 × Vec F S1024x128 .f32
  | 0, hn => (out4_A_6 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩), out4_A_7 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩), out4_A_8 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩))
  | n + 1, hn =>
    if h0 : (n + 1) % 8 = 0 then
      if h1 : 1 ≤ (n + 1) % 8 then
        False.elim (by have hN : n + 1 < 64 := lt_of_lt_of_eq hn (show cfg4.N = 64 from N_4); omega)
      else
        (out4_A_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩), out4_A_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩), out4_A_8 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩))
    else
      if h1 : 1 ≤ (n + 1) % 8 then
        (out4_B_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2, out4_B_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2, out4_B_8 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2)
      else
        False.elim (by have hN : n + 1 < 64 := lt_of_lt_of_eq hn (show cfg4.N = 64 from N_4); omega)

theorem outsAt4_A (c : Dev nD) (t : Fin cfg4.N) (h0 : t.val % 8 = 0) (h1 : ¬1 ≤ t.val % 8) :
    outsAt4 V c t.val t.isLt = (out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (fun h => h1 ((hcond4_1 t).mp h)) (iblk4 V c 0 t) (iblk4 V c 1 t) (iblk4 V c 2 t) (iblk4 V c 3 t) (iblk4 V c 4 t) (iblk4 V c 5 t), out4_A_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (fun h => h1 ((hcond4_1 t).mp h)) (iblk4 V c 0 t) (iblk4 V c 1 t) (iblk4 V c 2 t) (iblk4 V c 3 t) (iblk4 V c 4 t) (iblk4 V c 5 t), out4_A_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (fun h => h1 ((hcond4_1 t).mp h)) (iblk4 V c 0 t) (iblk4 V c 1 t) (iblk4 V c 2 t) (iblk4 V c 3 t) (iblk4 V c 4 t) (iblk4 V c 5 t)) := by
  obtain ⟨n, hn⟩ := t
  cases n with
  | zero => exact rfl
  | succ n => exact (dif_pos h0).trans ((dif_neg h1).trans rfl)

theorem outsAt4_B (c : Dev nD) (t : Fin cfg4.N) (h0 : ¬t.val % 8 = 0) (h1 : 1 ≤ t.val % 8) :
    outsAt4 V c t.val t.isLt = (out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2, out4_B_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2, out4_B_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (outsAt4 V c t.val t.isLt).1
    | ⟨7, _⟩ => (outsAt4 V c t.val t.isLt).2.1
    | ⟨8, _⟩ => (outsAt4 V c t.val t.isLt).2.2
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = (outsAt4 V c t.val t.isLt).1 := by dsimp only [dat4]
theorem after4_7 (c : Dev nD) (t : Fin cfg4.N) : (dat4 V c).after 7 t = (outsAt4 V c t.val t.isLt).2.1 := by dsimp only [dat4]
theorem after4_8 (c : Dev nD) (t : Fin cfg4.N) : (dat4 V c).after 8 t = (outsAt4 V c t.val t.isLt).2.2 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

theorem hcarry4_8 (c : Dev nD) : ∀ (t : Fin cfg4.N) (_ : t.val ≠ 0), cfg4.idle 8 (grid4.coords t) = true → cfg4.fresh 8 t.val = false →
    (dat4 V c).after 8 t = (dat4 V c).after 8 ⟨t.val - 1, by omega⟩ := by
  intro t _ hi _
  have hN : t.val < 64 := lt_of_lt_of_eq t.isLt (show cfg4.N = 64 from N_4)
  rw [after4_8, after4_8]
  by_cases h0 : t.val % 8 = 0
  · by_cases h1 : 1 ≤ t.val % 8
    · exfalso; omega
    · rw [liveAt4_8_A t ((hcond4_0 t).mpr h0) (fun h => h1 ((hcond4_1 t).mp h))] at hi
      exact absurd hi Bool.false_ne_true
  · by_cases h1 : 1 ≤ t.val % 8
    · rw [liveAt4_8_B t (fun h => h0 ((hcond4_0 t).mp h)) ((hcond4_1 t).mpr h1)] at hi
      exact absurd hi Bool.false_ne_true
    · exfalso; omega
theorem before4_8_B (c : Dev nD) (t : Fin cfg4.N) (h0 : ¬t.val % 8 = 0) (h1 : 1 ≤ t.val % 8) (d) :
    (dat4 V c).before 8 t d = (outsAt4 V c (t.val - 1) (Nat.lt_of_le_of_lt (Nat.sub_le _ _) t.isLt)).2.2 := by
  rw [Dat.before_out_traj _ 8 rfl (fun _ _ => rfl) (hcarry4_8 V c) t.val t rfl d,
    if_neg (by rw [notFresh4_8_B t (fun h => h0 ((hcond4_0 t).mp h)) ((hcond4_1 t).mpr h1)]; exact Bool.false_ne_true)]
  dsimp only [dat4]

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t
    ∗ (dat4 V c).leavesExact 8 t)

set_option maxHeartbeats 1600000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl]
  have hN : t.val < 64 := lt_of_lt_of_eq t.isLt (show cfg4.N = 64 from N_4)
  by_cases h0 : t.val % 8 = 0
  · by_cases h1 : 1 ≤ t.val % 8
    · exfalso; omega
    · rw [show (dat4 V c).leavesExact 0 t = owns (c : Thread nD τ) (ms4_0 t) fullShare ((dat4 V c).after 0 t) from by
      unfold Dat.leavesExact; rw [liveAt4_0 t], after4_0]
      rw [show (dat4 V c).leavesExact 1 t = owns (c : Thread nD τ) (ms4_1 t) fullShare ((dat4 V c).after 1 t) from by
      unfold Dat.leavesExact; rw [liveAt4_1 t], after4_1]
      rw [show (dat4 V c).leavesExact 2 t = owns (c : Thread nD τ) (ms4_2 t) fullShare ((dat4 V c).after 2 t) from by
      unfold Dat.leavesExact; rw [liveAt4_2 t], after4_2]
      rw [show (dat4 V c).leavesExact 3 t = owns (c : Thread nD τ) (ms4_3 t) fullShare ((dat4 V c).after 3 t) from by
      unfold Dat.leavesExact; rw [liveAt4_3 t], after4_3]
      rw [show (dat4 V c).leavesExact 4 t = owns (c : Thread nD τ) (ms4_4 t) fullShare ((dat4 V c).after 4 t) from by
      unfold Dat.leavesExact; rw [liveAt4_4 t], after4_4]
      rw [show (dat4 V c).leavesExact 5 t = owns (c : Thread nD τ) (ms4_5 t) fullShare ((dat4 V c).after 5 t) from by
      unfold Dat.leavesExact; rw [liveAt4_5 t], after4_5]
      rw [show (dat4 V c).leavesExact 6 t = owns (c : Thread nD τ) (ms4_6 t) fullShare ((dat4 V c).after 6 t) from by
      unfold Dat.leavesExact; rw [liveAt4_6 t], after4_6]
      rw [show (dat4 V c).leavesExact 7 t = owns (c : Thread nD τ) (ms4_7 t) fullShare ((dat4 V c).after 7 t) from by
      unfold Dat.leavesExact; rw [liveAt4_7 t], after4_7]
      rw [show (dat4 V c).leavesExact 8 t = owns (c : Thread nD τ) (ms4_8 t) fullShare ((dat4 V c).after 8 t) from by
      unfold Dat.leavesExact; rw [liveAt4_8_A t ((hcond4_0 t).mpr h0) (fun h => h1 ((hcond4_1 t).mp h))], after4_8]
      rw [outsAt4_A V c t h0 h1]
      unfold out4_A_6 out4_A_7 out4_A_8; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun4_A c (grid4.coords t) _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t) (iblk4 V c 5 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      iintro ⟨H0, H1, H2, H3, H4, H5, ⟨%e6, H6⟩, ⟨%e7, H7⟩, ⟨%e8, H8⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover4_A_6 c _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover4_A_7 c _ _ _ _ _ _ _ _ _ _ _ _ _ _ _ _ _ _ _ _ _ _ _ _ _ _ _)
      unfold owns; iexists _; isplitr
      swap; · iexact H8
      ipureintro; exact View.read_writes_of_cover _ _ _ _ _ (cover4_A_8 c _ _ _ _ _ _ _ _ _ _ _ _ _ _ _ _ _ _ _ _ _ _ _ _ _ _ _)
  · by_cases h1 : 1 ≤ t.val % 8
    · rw [show (dat4 V c).leavesExact 0 t = owns (c : Thread nD τ) (ms4_0 t) fullShare ((dat4 V c).after 0 t) from by
      unfold Dat.leavesExact; rw [liveAt4_0 t], after4_0]
      rw [show (dat4 V c).leavesExact 1 t = owns (c : Thread nD τ) (ms4_1 t) fullShare ((dat4 V c).after 1 t) from by
      unfold Dat.leavesExact; rw [liveAt4_1 t], after4_1]
      rw [show (dat4 V c).leavesExact 2 t = owns (c : Thread nD τ) (ms4_2 t) fullShare ((dat4 V c).after 2 t) from by
      unfold Dat.leavesExact; rw [liveAt4_2 t], after4_2]
      rw [show (dat4 V c).leavesExact 3 t = owns (c : Thread nD τ) (ms4_3 t) fullShare ((dat4 V c).after 3 t) from by
      unfold Dat.leavesExact; rw [liveAt4_3 t], after4_3]
      rw [show (dat4 V c).leavesExact 4 t = owns (c : Thread nD τ) (ms4_4 t) fullShare ((dat4 V c).after 4 t) from by
      unfold Dat.leavesExact; rw [liveAt4_4 t], after4_4]
      rw [show (dat4 V c).leavesExact 5 t = owns (c : Thread nD τ) (ms4_5 t) fullShare ((dat4 V c).after 5 t) from by
      unfold Dat.leavesExact; rw [liveAt4_5 t], after4_5]
      rw [show (dat4 V c).leavesExact 6 t = owns (c : Thread nD τ) (ms4_6 t) fullShare ((dat4 V c).after 6 t) from by
      unfold Dat.leavesExact; rw [liveAt4_6 t], after4_6]
      rw [show (dat4 V c).leavesExact 7 t = owns (c : Thread nD τ) (ms4_7 t) fullShare ((dat4 V c).after 7 t) from by
      unfold Dat.leavesExact; rw [liveAt4_7 t], after4_7]
      rw [show (dat4 V c).leavesExact 8 t = owns (c : Thread nD τ) (ms4_8 t) fullShare ((dat4 V c).after 8 t) from by
      unfold Dat.leavesExact; rw [liveAt4_8_B t (fun h => h0 ((hcond4_0 t).mp h)) ((hcond4_1 t).mpr h1)], after4_8]
      rw [outsAt4_B V c t h0 h1]
      simp only [before4_8_B V c t h0 h1]
      unfold out4_B_6 out4_B_7 out4_B_8; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun4_B c (grid4.coords t) _ _ _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) (iblk4 V c 5 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexact H8
      iintro ⟨H0, H1, H2, H3, H4, H5, ⟨%e6, H6⟩, ⟨%e7, H7⟩, ⟨%e8, H8⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover4_B_6 c _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover4_B_7 c _ _ _ _ _ _ _ _ _ _ _ _ _ _ _ _ _ _ _ _ _ _ _ _ _ _ _ _)
      unfold owns; iexists _; isplitr
      swap; · iexact H8
      ipureintro; exact View.read_writes_of_cover _ _ _ _ _ (cover4_B_8 c _ _ _ _ _ _ _ _ _ _ _ _ _ _ _ _ _ _ _ _ _ _ _ _ _ _ _ _)
    · exfalso; omega

theorem defs₀_row4 (t : Fin cfg4.N) :
    defs₀ (F := F) .tc cfg4.body (cfg4.bodyArgs t (cfg4.slots t)) = bodyAt4 t := by
  unfold defs₀; rw [Defs.onTc_tc]

theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

end Cert.Post

end
-- ==== Proof.PostRun.lean ====
module

public import proofs.«01_k».proof.Proof.Gen.Kernel2Ideal
public import proofs.«01_k».proof.Proof.Gen.Kernel2Ideal.Regions
public import proofs.«01_k».proof.Proof.T0
public import proofs.«01_k».proof.Proof.T1
public import proofs.«01_k».proof.Proof.T2
public import proofs.«01_k».proof.Proof.T3
public import proofs.«01_k».proof.Proof.T4
public import Idealize.ShloMosaic.Lib.Pipeline.FrameSuffix
public import Idealize.ShloMosaic.Lib.Pipeline.Regions
public import Idealize.ShloMosaic.Lib.Pipeline.RegionsLoop

/-!
The run of the layer's second half, from the out-projection to the gated embedding: the contents of every buffer between
the calls (`W1` when the first is entered, `W6` at the end), each call as a segment entered and left at them, and the run.
It is over any float values: the kernel's own frame is taken from it too.
-/

@[expose] public section

set_option maxRecDepth 16384

noncomputable section

namespace Cert.Post

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arguments of @main. -/
abbrev args : List (Ref sig .tc) := [main_arg0, main_arg1, main_arg2, main_arg3, main_arg4, main_arg5, main_arg6, main_arg7,
  main_arg8, main_arg9, main_arg10, main_arg11]

abbrev W0 : Dev nD → Valuation τ sig (Elt F) := fun c b => (s₀ m ρ).mem ((c : Dev nD), b)
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ args, W1 m ρ c (Proc.devRef .tc a) = m ((c : Thread nD τ).loc a) :=
  fun a ha => (W1_of m ρ c a ((ListAll.forall_mem_of_all_decide (by decide +kernel) : ∀ a ∈ args, a ∉ hostOps0_W) a ha)).trans rfl
abbrev E1 : (c : Dev nD) → (b : Ref sig .tc) → Buf (Elt F) ((c : Thread nD τ).loc b) := fun c b => W1 m ρ c b

/-- The contents after call 0. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.Dat.withArrays_arrAt (dat0 (E1 m ρ) c) sharedIn0 (W1 m ρ c) (A_eq0 (E1 m ρ) c) w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (E1 m ρ) c).arrAt_in w (h w rfl) _).trans (A_eq0 (E1 m ρ) c w))
  · exact W2_of_ne m ρ c r fun w e => hw ⟨w, e⟩
theorem argsIn0 : ∀ a ∈ args, ∀ w : Fin cfg0.W, Pipeline.arrRef spec0 w = a → (cfg0.win w).isOut = false :=
  ListAll.forall_mem_of_all_decide (by decide +kernel)
theorem W2_args (c : Dev nD) : ∀ a ∈ args, W2 m ρ c (Proc.devRef .tc a) = m ((c : Thread nD τ).loc a) :=
  fun a ha => (W2_of m ρ c a (argsIn0 a ha)).trans (W1_args m ρ c a ha)
abbrev E2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)

/-- The contents after call 1. -/
def W3 (c : Dev nD) : Valuation τ sig (Elt F) :=
  Pipeline.withArrays spec1 c (W2 m ρ c) fun w => (dat1 (E2 m ρ) c).arrAt w cfg1.N
theorem W3_arr (c : Dev nD) (w : Fin cfg1.W) :
    W3 m ρ c (Proc.devRef .tc (Pipeline.arrRef spec1 w)) = (dat1 (E2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (E2 m ρ) c).arrAt_in w (h w rfl) _).trans (A_eq1 (E2 m ρ) c w))
  · exact W3_of_ne m ρ c r fun w e => hw ⟨w, e⟩
theorem argsIn1 : ∀ a ∈ args, ∀ w : Fin cfg1.W, Pipeline.arrRef spec1 w = a → (cfg1.win w).isOut = false :=
  ListAll.forall_mem_of_all_decide (by decide +kernel)
theorem W3_args (c : Dev nD) : ∀ a ∈ args, W3 m ρ c (Proc.devRef .tc a) = m ((c : Thread nD τ).loc a) :=
  fun a ha => (W3_of m ρ c a (argsIn1 a ha)).trans (W2_args m ρ c a ha)
abbrev E3 : (c : Dev nD) → (b : Ref sig .tc) → Buf (Elt F) ((c : Thread nD τ).loc b) := fun c b => W3 m ρ c b
theorem hF1 (c : Dev nD) (w : Fin cfg1.W) : (dat1 (E2 m ρ) c).arrAt w cfg1.N = E3 m ρ c (Pipeline.arrRef spec1 w) :=
  (W3_arr m ρ c w).symm
theorem hrest1 (c : Dev nD) : ∀ b, b ∉ Finset.univ.image (Pipeline.arrRef spec1) → E3 m ρ c b = E2 m ρ c b :=
  fun b hb => W3_of_ne m ρ c b fun w e => hb (Finset.mem_image.mpr ⟨w, Finset.mem_univ _, e⟩)

/-- The contents after call 2. -/
def W4 (c : Dev nD) : Valuation τ sig (Elt F) :=
  Pipeline.withArrays spec2 c (W3 m ρ c) fun w => (dat2 (E3 m ρ) c).arrAt w cfg2.N
theorem W4_arr (c : Dev nD) (w : Fin cfg2.W) :
    W4 m ρ c (Proc.devRef .tc (Pipeline.arrRef spec2 w)) = (dat2 (E3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (E3 m ρ) c).arrAt_in w (h w rfl) _).trans (A_eq2 (E3 m ρ) c w))
  · exact W4_of_ne m ρ c r fun w e => hw ⟨w, e⟩
theorem argsIn2 : ∀ a ∈ args, ∀ w : Fin cfg2.W, Pipeline.arrRef spec2 w = a → (cfg2.win w).isOut = false :=
  ListAll.forall_mem_of_all_decide (by decide +kernel)
theorem W4_args (c : Dev nD) : ∀ a ∈ args, W4 m ρ c (Proc.devRef .tc a) = m ((c : Thread nD τ).loc a) :=
  fun a ha => (W4_of m ρ c a (argsIn2 a ha)).trans (W3_args m ρ c a ha)
abbrev E4 : (c : Dev nD) → (b : Ref sig .tc) → Buf (Elt F) ((c : Thread nD τ).loc b) := fun c b => W4 m ρ c b
theorem hF2 (c : Dev nD) (w : Fin cfg2.W) : (dat2 (E3 m ρ) c).arrAt w cfg2.N = E4 m ρ c (Pipeline.arrRef spec2 w) :=
  (W4_arr m ρ c w).symm
theorem hrest2 (c : Dev nD) : ∀ b, b ∉ Finset.univ.image (Pipeline.arrRef spec2) → E4 m ρ c b = E3 m ρ c b :=
  fun b hb => W4_of_ne m ρ c b fun w e => hb (Finset.mem_image.mpr ⟨w, Finset.mem_univ _, e⟩)

/-- The contents after call 3. -/
def W5 (c : Dev nD) : Valuation τ sig (Elt F) :=
  Pipeline.withArrays spec3 c (W4 m ρ c) fun w => (dat3 (E4 m ρ) c).arrAt w cfg3.N
theorem W5_arr (c : Dev nD) (w : Fin cfg3.W) :
    W5 m ρ c (Proc.devRef .tc (Pipeline.arrRef spec3 w)) = (dat3 (E4 m ρ) c).arrAt w cfg3.N := by
  unfold W5; exact Pipeline.Dat.withArrays_arrAt (dat3 (E4 m ρ) c) sharedIn3 (W4 m ρ c) (A_eq3 (E4 m ρ) c) w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
theorem W5_of (c : Dev nD) (r : Ref sig .tc) (h : ∀ w : Fin cfg3.W, Pipeline.arrRef spec3 w = r → (cfg3.win w).isOut = false) :
    W5 m ρ c (Proc.devRef .tc r) = W4 m ρ c (Proc.devRef .tc r) := by
  by_cases hw : ∃ w : Fin cfg3.W, Pipeline.arrRef spec3 w = r
  · obtain ⟨w, rfl⟩ := hw
    exact (W5_arr m ρ c w).trans (((dat3 (E4 m ρ) c).arrAt_in w (h w rfl) _).trans (A_eq3 (E4 m ρ) c w))
  · exact W5_of_ne m ρ c r fun w e => hw ⟨w, e⟩
theorem argsIn3 : ∀ a ∈ args, ∀ w : Fin cfg3.W, Pipeline.arrRef spec3 w = a → (cfg3.win w).isOut = false :=
  ListAll.forall_mem_of_all_decide (by decide +kernel)
theorem W5_args (c : Dev nD) : ∀ a ∈ args, W5 m ρ c (Proc.devRef .tc a) = m ((c : Thread nD τ).loc a) :=
  fun a ha => (W5_of m ρ c a (argsIn3 a ha)).trans (W4_args m ρ c a ha)
abbrev E5 : (c : Dev nD) → (b : Ref sig .tc) → Buf (Elt F) ((c : Thread nD τ).loc b) := fun c b => W5 m ρ c b
theorem hF3 (c : Dev nD) (w : Fin cfg3.W) : (dat3 (E4 m ρ) c).arrAt w cfg3.N = E5 m ρ c (Pipeline.arrRef spec3 w) :=
  (W5_arr m ρ c w).symm
theorem hrest3 (c : Dev nD) : ∀ b, b ∉ Finset.univ.image (Pipeline.arrRef spec3) → E5 m ρ c b = E4 m ρ c b :=
  fun b hb => W5_of_ne m ρ c b fun w e => hb (Finset.mem_image.mpr ⟨w, Finset.mem_univ _, e⟩)

/-- The contents after call 4. -/
def W6 (c : Dev nD) : Valuation τ sig (Elt F) :=
  Pipeline.withArrays spec4 c (W5 m ρ c) fun w => (dat4 (E5 m ρ) c).arrAt w cfg4.N
theorem W6_arr (c : Dev nD) (w : Fin cfg4.W) :
    W6 m ρ c (Proc.devRef .tc (Pipeline.arrRef spec4 w)) = (dat4 (E5 m ρ) c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 m ρ c (Proc.devRef .tc b) = W5 m ρ c (Proc.devRef .tc b) := by
  unfold W6; exact Pipeline.withArrays_of_ne spec4 c _ _ b hb
theorem W6_of (c : Dev nD) (r : Ref sig .tc) (h : ∀ w : Fin cfg4.W, Pipeline.arrRef spec4 w = r → (cfg4.win w).isOut = false) :
    W6 m ρ c (Proc.devRef .tc r) = W5 m ρ c (Proc.devRef .tc r) := by
  by_cases hw : ∃ w : Fin cfg4.W, Pipeline.arrRef spec4 w = r
  · obtain ⟨w, rfl⟩ := hw
    exact (W6_arr m ρ c w).trans (((dat4 (E5 m ρ) c).arrAt_in w (h w rfl) _).trans (A_eq4 (E5 m ρ) c w))
  · exact W6_of_ne m ρ c r fun w e => hw ⟨w, e⟩
theorem argsIn4 : ∀ a ∈ args, ∀ w : Fin cfg4.W, Pipeline.arrRef spec4 w = a → (cfg4.win w).isOut = false :=
  ListAll.forall_mem_of_all_decide (by decide +kernel)
theorem W6_args (c : Dev nD) : ∀ a ∈ args, W6 m ρ c (Proc.devRef .tc a) = m ((c : Thread nD τ).loc a) :=
  fun a ha => (W6_of m ρ c a (argsIn4 a ha)).trans (W5_args m ρ c a ha)
abbrev E6 : (c : Dev nD) → (b : Ref sig .tc) → Buf (Elt F) ((c : Thread nD τ).loc b) := fun c b => W6 m ρ c b
theorem hF4 (c : Dev nD) (w : Fin cfg4.W) : (dat4 (E5 m ρ) c).arrAt w cfg4.N = E6 m ρ c (Pipeline.arrRef spec4 w) :=
  (W6_arr m ρ c w).symm
theorem hrest4 (c : Dev nD) : ∀ b, b ∉ Finset.univ.image (Pipeline.arrRef spec4) → E6 m ρ c b = E5 m ρ c b :=
  fun b hb => W6_of_ne m ρ c b fun w e => hb (Finset.mem_image.mpr ⟨w, Finset.mem_univ _, e⟩)

abbrev adm : (p : Fin 5) → (pcfgs (F := F) p).Adm := fun p => (cfgs p).toPCfg_adm

/-- What the bodies compute at each point, call by call. -/
def pdats : (p : Fin 5) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E2 m ρ) c
  | ⟨2, _⟩ => fun c => dat2 (E3 m ρ) c
  | ⟨3, _⟩ => fun c => dat3 (E4 m ρ) c
  | ⟨4, _⟩ => fun c => dat4 (E5 m ρ) c
abbrev 𝒱₀ : Variants := Variants.none
abbrev L : GSem nD τ sig → Finset Unit := fun _ => ∅
abbrev lv : GSem nD τ sig → Unit → ℕ := fun _ _ => 0
/-- What a core holds beside its buffers: the generator's register and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What a core holds at the end. -/
abbrev Tₙ (c : Dev nD) : sProp 𝕄 := iprop(StableHlo.held (c : Thread nD τ) (Pipeline.ucRefs τ sig) (W6 m ρ c) ∗ ∃ r, prngReg c r)

set_option backward.isDefEq.respectTransparency.types false in
/-- Call 0, entered at `W1` and left at `W2`. -/
def reg0 : Pipeline.RegionSeg (pcfgs (F := F)) adm (pdats m ρ) () defs₀ 𝒱₀ L lv 0 where
  win := launch₀0.win
  block_pos := block_pos0
  stage_whole := stage_whole0
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs_shared (p := 0) (pcfgs (F := F)) adm (pdats m ρ) winFacts₀0 sharedIn0 arr_whole0 c
      (fun _ _ => rfl) (E1 m ρ c) (A_eq0 (E1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      winFacts₀0 sharedIn0 arr_whole0 c (pdats m ρ) (fun _ _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1, entered at `W2` and left at `W3`. -/
def reg1 : Pipeline.RegionSeg (pcfgs (F := F)) adm (pdats m ρ) () defs₀ 𝒱₀ L lv 1 where
  win := launch1.win.to₀
  block_pos := block_pos1
  stage_whole := stage_whole1
  K := PEmpty
  osem k := k.elim
  ho := Pipeline.OwnSemFacts.none _
  hbody c := (body_obligation1 (E2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) (A_eq1 (E2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2, entered at `W3` and left at `W4`. -/
def reg2 : Pipeline.RegionSeg (pcfgs (F := F)) adm (pdats m ρ) () defs₀ 𝒱₀ L lv 2 where
  win := launch2.win.to₀
  block_pos := block_pos2
  stage_whole := stage_whole2
  K := PEmpty
  osem k := k.elim
  ho := Pipeline.OwnSemFacts.none _
  hbody c := (body_obligation2 (E3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (E3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E3 m ρ c) (A_eq2 (E3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E3 m ρ c) (E4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3, entered at `W4` and left at `W5`. -/
def reg3 : Pipeline.RegionSeg (pcfgs (F := F)) adm (pdats m ρ) () defs₀ 𝒱₀ L lv 3 where
  win := launch₀3.win
  block_pos := block_pos3
  stage_whole := stage_whole3
  K := PEmpty
  osem k := k.elim
  ho := Pipeline.OwnSemFacts.none _
  hbody c := (body_obligation3 (E4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (E4 m ρ c)
  hentry c := by
    rw [Pipeline.ownSems0_none]
    have hsplit := Pipeline.arrays_of_unscopedBufs_shared (p := 3) (pcfgs (F := F)) adm (pdats m ρ) winFacts₀3 sharedIn3 arr_whole3 c
      (fun _ _ => rfl) (E4 m ρ c) (A_eq3 (E4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays_shared (p := 3) (pcfgs (F := F)) adm (Ix := Unit) (Name := ℕ) (U := UR sig nD τ) (Lvl := ℕ)
      winFacts₀3 sharedIn3 arr_whole3 c (pdats m ρ) (fun _ _ => rfl)
      (E4 m ρ c) (E5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 4, entered at `W5` and left at `W6`. -/
def reg4 : Pipeline.RegionSeg (pcfgs (F := F)) adm (pdats m ρ) () defs₀ 𝒱₀ L lv 4 where
  win := launch4.win.to₀
  block_pos := block_pos4
  stage_whole := stage_whole4
  K := PEmpty
  osem k := k.elim
  ho := Pipeline.OwnSemFacts.none _
  hbody c := (body_obligation4 (E5 m ρ) c).loose
  hwaits := Pipeline.hwaits_of_owed_zero _ _ _ _ L lv 4 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (E5 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (E5 m ρ c) (A_eq4 (E5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (E5 m ρ c) (E6 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [.host (hseg hostOps0 hostOps0_sub hostOps0_fresh (W0 m ρ)), .region (reg0 m ρ), .region (reg1 m ρ), .region (reg2 m ρ),
   .region (reg3 m ρ), .region (reg4 m ρ)]
theorem main_run (c : Dev nD) : main (F := F) c = Pipeline.Seg.run (segs m ρ) := (main_chain c).trans (by chain_rfl)
theorem no_unscoped : ∀ sm : SemLoc sig, sm.isScoped .tc = true := by decide

set_option backward.isDefEq.respectTransparency.types false in
/-- Every weakly fair execution ends, with every buffer at `W6` and every semaphore at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W6 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

/-- The result is what `W6` has there, and the arguments end as launched. -/
theorem run_result : θ_run defs (onTc (τ := τ) (main (F := F))) ⟨m, fun _ => 0, ρ⟩ (fun r => (∀ c : Dev nD,
      r.2.mem ((c.tc : Thread nD τ).loc main_v19_0) = W6 m ρ c (Proc.devRef .tc main_v19_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c => by
    have ha : ∀ a ∈ args, (¬ (Proc.devRef .tc a : DevRef τ sig).isScoped) →
        r.2.mem ((c.tc : Thread nD τ).loc a) = m ((c.tc : Thread nD τ).loc a) :=
      fun a hin hs => (h.1 c _ (mem_uc a hs)).trans (W6_args m ρ c a hin)
    exact ⟨h.1 c _ (mem_uc main_v19_0 (by decide)), ha _ (by decide) (by decide), ha _ (by decide) (by decide),
      ha _ (by decide) (by decide), ha _ (by decide) (by decide), ha _ (by decide) (by decide), ha _ (by decide) (by decide),
      ha _ (by decide) (by decide), ha _ (by decide) (by decide), ha _ (by decide) (by decide), ha _ (by decide) (by decide),
      ha _ (by decide) (by decide), ha _ (by decide) (by decide)⟩, h.2⟩) (run m ρ)

end Cert.Post

end
-- ==== Proof.PostA.lean ====
module

public import proofs.«01_k».proof.Proof.PostRun
public import proofs.«01_k».proof.Proof.Norm
public import Idealize.ShloMosaic.Lib.Pipeline.ValueKit
public import Idealize.ShloMosaic.Lib.Pointwise

/-! The out-projection's call: the arrays it leaves. -/

@[expose] public section

set_option maxRecDepth 16384
set_option maxHeartbeats 4000000

noncomputable section

namespace Cert.Post

open Cert.Kernel2Ideal Cert.Kernel2Ideal.Gen
open Idealize.ShloMosaic Idealize.ShloMosaic.TcCoe Idealize.ShloMosaic.Tactic
open Idealize.ShloMosaic.Pointwise
open Idealize.ShloMosaic.Pipeline (Dat Cfg Window)

/-- The square of a row's entry at a position, zero past the row's end. -/
def sq (x : S8192x4096.Idx → EReal) (i : Fin 8192) (k : ℕ) : EReal :=
  if h : k < 4096 then x (ix2 i ⟨k, h⟩) * x (ix2 i ⟨k, h⟩) else 0

theorem sq_of (x : S8192x4096.Idx → EReal) (i : Fin 8192) (k : Fin 4096) : sq x i k.val = x (ix2 i k) * x (ix2 i k) := by
  unfold sq; rw [dif_pos k.isLt]

/-- The squares of a lane: every 128th entry of a row. -/
def laneSq (x : S8192x4096.Idx → EReal) : S8192x128.Idx → EReal := fun y =>
  ∑ q ∈ Finset.range 32, sq x (y 0) (q * 128 + (y 1).val)

theorem laneSq_sum (x : S8192x4096.Idx → EReal) (i : Fin 8192) : ∑ l, laneSq x (ix2 i l) = Cert.In.ssq fun k => x (ix2 i k) := by
  have h := Cert.In.lanes 32 128 fun k => sq x i k.val
  refine (Finset.sum_congr rfl fun l _ => ?_).trans (h.trans (Finset.sum_congr rfl fun k _ => sq_of x i k))
  exact Finset.sum_range fun q => sq x i (q * 128 + l.val)

/-- The layer's rows after the out-projection, from the two heads' outputs, the rows before and the weights. -/
def rows1 (r a : S8192x2048.Idx → EReal) (x : S8192x4096.Idx → EReal) (w : S4096x4096.Idx → EReal) : S8192x4096.Idx → EReal := fun y =>
  x y + ((∑ k : Fin 2048, r (ix2 (y 0) k) * w (ix2 ⟨k.val, by omega⟩ (y 1)))
    + ∑ k : Fin 2048, a (ix2 (y 0) k) * w (ix2 ⟨2048 + k.val, by omega⟩ (y 1)))

theorem pay0_1 (r a : S1024x2048.Idx → EReal) (u v : S2048x512.Idx → EReal) (x : S1024x512.Idx → EReal) (i : Fin 1024) (j : Fin 512) :
    k0_pay1 (F := Ideal) r u a v x (ix2 i j)
      = x (ix2 i j) + ((∑ k, r (ix2 i k) * u (ix2 k j)) + ∑ k, a (ix2 i k) * v (ix2 k j)) := by
  pointwise [k0_pay1]

theorem pay0_3 (r a : S1024x2048.Idx → EReal) (u v : S2048x512.Idx → EReal) (x : S1024x512.Idx → EReal) (i : Fin 1024) (l : Fin 128)
    (P : ℕ → EReal) (hP : ∀ j : Fin 512, k0_pay1 (F := Ideal) r u a v x (ix2 i j) * k0_pay1 (F := Ideal) r u a v x (ix2 i j) = P j.val) :
    k0_pay3 (F := Ideal) r u a v x (ix2 i l) = P l.val + P (128 + l.val) + P (256 + l.val) + P (384 + l.val) := by
  pointwise [k0_pay3]
  have h0 := hP ⟨l.val, by omega⟩
  have h1 := hP ⟨128 + l.val, by omega⟩
  have h2 := hP ⟨256 + l.val, by omega⟩
  have h3 := hP ⟨384 + l.val, by omega⟩
  rw [← h0, ← h1, ← h2, ← h3]

theorem idx0 : ∀ t : Fin cfg0.N, win0_0.index t = ![t.val / 8, 0] ∧ win0_1.index t = ![t.val / 8, 0]
    ∧ win0_2.index t = ![0, t.val % 8] ∧ win0_3.index t = ![1, t.val % 8] ∧ win0_4.index t = ![t.val / 8, t.val % 8]
    ∧ win0_5.index t = ![t.val / 8, t.val % 8] ∧ win0_6.index t = ![t.val / 8, t.val % 8]
    ∧ win0_7.index t = ![t.val / 8, 0] := by decide +kernel

section region0

variable (V : (c : Dev nD) → (b : Ref sig .tc) → Buf (Elt Ideal) ((c : Thread nD τ).loc b)) (c : Dev nD)

abbrev R0 : S8192x4096.Idx → EReal := rows1 (V c main_arg0) (V c main_arg1) (V c main_arg2) (V c main_v0)

/-- What a point's body computes of the rows. -/
theorem at0 (t : Fin cfg0.N) (i : Fin 1024) (j : Fin 512) (p : Fin 8192) (q : Fin 4096) (hp : p.val = t.val / 8 * 1024 + i.val)
    (hq : q.val = t.val % 8 * 512 + j.val) :
    k0_pay1 (F := Ideal) (iblk0 V c 0 t) (iblk0 V c 2 t) (iblk0 V c 1 t) (iblk0 V c 3 t) (iblk0 V c 4 t) (ix2 i j) = R0 V c (ix2 p q) := by
  have b0 : ∀ k, iblk0 V c 0 t (ix2 i k) = (V c main_arg0 : S8192x2048.Idx → EReal) (ix2 p k) := fun k => by blk_ext [iblk0, idx0 t]
  have b1 : ∀ k, iblk0 V c 1 t (ix2 i k) = (V c main_arg1 : S8192x2048.Idx → EReal) (ix2 p k) := fun k => by blk_ext [iblk0, idx0 t]
  have b2 : ∀ k : Fin 2048, iblk0 V c 2 t (ix2 k j) = (V c main_v0 : S4096x4096.Idx → EReal) (ix2 ⟨k.val, by omega⟩ q) :=
    fun k => by blk_ext [iblk0, idx0 t]
  have b3 : ∀ k : Fin 2048, iblk0 V c 3 t (ix2 k j) = (V c main_v0 : S4096x4096.Idx → EReal) (ix2 ⟨2048 + k.val, by omega⟩ q) :=
    fun k => by blk_ext [iblk0, idx0 t]
  have b4 : iblk0 V c 4 t (ix2 i j) = (V c main_arg2 : S8192x4096.Idx → EReal) (ix2 p q) := by blk_ext [iblk0, idx0 t]
  refine (pay0_1 _ _ _ _ _ i j).trans ?_
  simp only [b0, b1, b2, b3, b4]
  rfl

/-- The lane sums a point's body adds. -/
theorem lane0 (t : Fin cfg0.N) (i : Fin 1024) (l : Fin 128) (p : Fin 8192) (hp : p.val = t.val / 8 * 1024 + i.val) :
    k0_pay3 (F := Ideal) (iblk0 V c 0 t) (iblk0 V c 2 t) (iblk0 V c 1 t) (iblk0 V c 3 t) (iblk0 V c 4 t) (ix2 i l)
      = sq (R0 V c) p ((4 * (t.val % 8)) * 128 + l.val) + sq (R0 V c) p ((4 * (t.val % 8) + 1) * 128 + l.val)
        + sq (R0 V c) p ((4 * (t.val % 8) + 2) * 128 + l.val) + sq (R0 V c) p ((4 * (t.val % 8) + 3) * 128 + l.val) := by
  refine (pay0_3 _ _ _ _ _ i l (fun j => sq (R0 V c) p (t.val % 8 * 512 + j)) fun j => ?_).trans ?_
  · rw [at0 V c t i j p ⟨t.val % 8 * 512 + j.val, by omega⟩ hp rfl]
    exact (sq_of _ _ ⟨t.val % 8 * 512 + j.val, by omega⟩).symm
  · rw [show (4 * (t.val % 8)) * 128 + l.val = t.val % 8 * 512 + l.val by omega,
      show (4 * (t.val % 8) + 1) * 128 + l.val = t.val % 8 * 512 + (128 + l.val) by omega,
      show (4 * (t.val % 8) + 2) * 128 + l.val = t.val % 8 * 512 + (256 + l.val) by omega,
      show (4 * (t.val % 8) + 3) * 128 + l.val = t.val % 8 * 512 + (384 + l.val) by omega]

theorem range4 (f : ℕ → EReal) (n : ℕ) : ∑ q ∈ Finset.range (4 * (n + 1)), f q
    = (∑ q ∈ Finset.range (4 * n), f q) + (f (4 * n) + f (4 * n + 1) + f (4 * n + 2) + f (4 * n + 3)) := by
  rw [show 4 * (n + 1) = 4 * n + 1 + 1 + 1 + 1 by ring]
  rw [Finset.sum_range_succ, Finset.sum_range_succ, Finset.sum_range_succ, Finset.sum_range_succ]
  simp only [add_assoc, Nat.reduceAdd]

/-- The lane sums after a point: of the columns up to its own. -/
theorem acc0 (n : ℕ) : ∀ (hn : n < cfg0.N) (i : Fin 1024) (l : Fin 128) (p : Fin 8192), p.val = n / 8 * 1024 + i.val →
    (outsAt0 V c n hn).2.2 (ix2 i l) = ∑ q ∈ Finset.range (4 * (n % 8 + 1)), sq (R0 V c) p (q * 128 + l.val) := by
  induction n with
  | zero =>
    intro hn i l p hp
    rw [outsAt0_A V c ⟨0, hn⟩ rfl (by show ¬1 ≤ 0; omega)]
    frame_out
    refine (lane0 V c ⟨0, hn⟩ i l p hp).trans ?_
    rw [range4 _ 0]
    simp
  | succ n ih =>
    intro hn i l p hp
    by_cases h0 : (n + 1) % 8 = 0
    · rw [outsAt0_A V c ⟨n + 1, hn⟩ h0 (by dsimp only; omega)]
      frame_out
      refine (lane0 V c ⟨n + 1, hn⟩ i l p hp).trans ?_
      dsimp only
      rw [range4 (fun q => sq (R0 V c) p (q * 128 + l.val)) ((n + 1) % 8), h0]
      simp
    · rw [outsAt0_B V c ⟨n + 1, hn⟩ h0 (by dsimp only; omega)]
      frame_out
      pointwise [k0_pay4]
      rw [range4 (fun q => sq (R0 V c) p (q * 128 + l.val)) ((n + 1) % 8), lane0 V c ⟨n + 1, hn⟩ i l p hp]
      refine congrArg (· + _) ?_
      refine (ih (by omega) i l p (by omega)).trans ?_
      rw [show n % 8 + 1 = (n + 1) % 8 by omega]

/-- The rows, as the call leaves them. -/
theorem x0_eq : (dat0 V c).arrAt 5 cfg0.N = R0 V c := by
  refine (dat0 V c).arrAt_eq_of_covers 5 _ (by decide +kernel) fun t hf y => ?_
  have ht : t.val < 64 := t.isLt.trans_eq N_0
  obtain ⟨i, j, rfl⟩ : ∃ (i : Fin 1024) (j : Fin 512), y = ix2 i j := ⟨y 0, y 1, eq_ix2 y⟩
  blk_simp
  rw [after0_5]
  refine Eq.trans ?_ ((at0 V c t i j ⟨t.val / 8 * 1024 + i.val, by omega⟩ ⟨t.val % 8 * 512 + j.val, by omega⟩ rfl rfl).trans ?_)
  · by_cases h0 : t.val % 8 = 0
    · rw [outsAt0_A V c t h0 (by omega)]
      frame_out
    · rw [outsAt0_B V c t h0 (by omega)]
      frame_out
  · blk_ext [idx0 t]

/-- The same rows, narrowed. -/
theorem xb0_eq : (dat0 V c).arrAt 6 cfg0.N = R0 V c := by
  refine (dat0 V c).arrAt_eq_of_covers 6 _ (by decide +kernel) fun t hf y => ?_
  have ht : t.val < 64 := t.isLt.trans_eq N_0
  obtain ⟨i, j, rfl⟩ : ∃ (i : Fin 1024) (j : Fin 512), y = ix2 i j := ⟨y 0, y 1, eq_ix2 y⟩
  blk_simp
  rw [after0_6]
  refine Eq.trans ?_ ((at0 V c t i j ⟨t.val / 8 * 1024 + i.val, by omega⟩ ⟨t.val % 8 * 512 + j.val, by omega⟩ rfl rfl).trans ?_)
  · by_cases h0 : t.val % 8 = 0
    · rw [outsAt0_A V c t h0 (by omega)]
      frame_out
      pointwise [k0_pay2]
    · rw [outsAt0_B V c t h0 (by omega)]
      frame_out
      pointwise [k0_pay2]
  · blk_ext [idx0 t]

/-- The lane sums of the rows. -/
theorem ssq0_eq : (dat0 V c).arrAt 7 cfg0.N = laneSq (R0 V c) := by
  refine (dat0 V c).arrAt_eq_of_covers 7 _ (by decide +kernel) fun t hf y => ?_
  have ht : t.val < 64 := t.isLt.trans_eq N_0
  have h7 : t.val % 8 = 7 := (flush0_7 t).mp hf
  obtain ⟨i, l, rfl⟩ : ∃ (i : Fin 1024) (l : Fin 128), y = ix2 i l := ⟨y 0, y 1, eq_ix2 y⟩
  blk_simp
  rw [after0_7]
  refine (acc0 V c t.val t.isLt i l ⟨t.val / 8 * 1024 + i.val, by omega⟩ rfl).trans ?_
  rw [h7]
  show laneSq (R0 V c) (ix2 ⟨t.val / 8 * 1024 + i.val, by omega⟩ l) = _
  blk_ext [idx0 t]

end region0

end Cert.Post

end
-- ==== Proof.PostB.lean ====
module

public import proofs.«01_k».proof.Proof.PostA

/-! The gate and up calls: the hidden rows they leave. -/

@[expose] public section

set_option maxRecDepth 16384
set_option maxHeartbeats 4000000

noncomputable section

namespace Cert.Post

open Cert.Kernel2Ideal Cert.Kernel2Ideal.Gen
open Idealize.ShloMosaic Idealize.ShloMosaic.TcCoe Idealize.ShloMosaic.Tactic
open Idealize.ShloMosaic.Pointwise
open Idealize.ShloMosaic.Pipeline (Dat Cfg Window)

/-- One half. -/
abbrev half : EReal := Ideal.ofBits .f32 1056964608#32

/-- A row's product with a column, scaled by the row's factor. -/
def scaled {n : ℕ} (x : S8192x4096.Idx → EReal) (w : (⟨2, ![4096, n]⟩ : Shape).Idx → EReal) (i : Fin 8192) (j : Fin n) : EReal :=
  (∑ k, x (ix2 i k) * w (ix2 k j)) * Cert.In.rs (Cert.In.ssq fun k => x (ix2 i k))

/-- A gate and what it multiplies. -/
def gated (g u : EReal) : EReal := g * (half * Ideal.tanh (half * g) + half) * u

/-- The hidden rows. -/
def hidden (x : S8192x4096.Idx → EReal) (w u : S4096x11008.Idx → EReal) : (⟨2, ![8192, 11008]⟩ : Shape).Idx → EReal := fun y =>
  gated (scaled x w (y 0) (y 1)) (scaled x u (y 0) (y 1))

theorem pay1_1 (s : S1024x128.Idx → EReal) (x : S1024x4096.Idx → EReal) (w u : S4096x512.Idx → EReal) (i : Fin 1024) (j : Fin 512) :
    k1_pay1 (F := Ideal) s x w u (ix2 i j)
      = gated ((∑ k, x (ix2 i k) * w (ix2 k j)) * Cert.In.rs (∑ l, s (ix2 i l)))
          ((∑ k, x (ix2 i k) * u (ix2 k j)) * Cert.In.rs (∑ l, s (ix2 i l))) := by
  pointwise [k1_pay1]
  rfl

theorem pay2_1 (s : S1024x128.Idx → EReal) (x : S1024x4096.Idx → EReal) (w u : S4096x256.Idx → EReal) (i : Fin 1024) (j : Fin 256) :
    k2_pay1 (F := Ideal) s x w u (ix2 i j)
      = gated ((∑ k, x (ix2 i k) * w (ix2 k j)) * Cert.In.rs (∑ l, s (ix2 i l)))
          ((∑ k, x (ix2 i k) * u (ix2 k j)) * Cert.In.rs (∑ l, s (ix2 i l))) := by
  pointwise [k2_pay1]
  rfl

theorem idx1 : ∀ t : Fin cfg1.N, win1_0.index t = ![t.val / 21, 0] ∧ win1_1.index t = ![t.val / 21, 0]
    ∧ win1_2.index t = ![0, t.val % 21] ∧ win1_3.index t = ![0, t.val % 21] ∧ win1_4.index t = ![t.val / 21, t.val % 21] := by decide +kernel

theorem idx2 : ∀ t : Fin cfg2.N, win2_0.index t = ![t.val, 0] ∧ win2_1.index t = ![t.val, 0]
    ∧ win2_2.index t = ![0, 42] ∧ win2_3.index t = ![0, 42] ∧ win2_4.index t = ![t.val, 0] := by decide +kernel

section regions12

variable (V : (c : Dev nD) → (b : Ref sig .tc) → Buf (Elt Ideal) ((c : Thread nD τ).loc b)) (c : Dev nD)
  (x : S8192x4096.Idx → EReal) (hx : V c main_v15_1 = x) (hs : V c main_v15_2 = laneSq x)

include hx hs

/-- The hidden rows' first 10752 columns. -/
theorem hid1_eq : (dat1 V c).arrAt 4 cfg1.N
    = fun y : S8192x10752.Idx => hidden x (V c main_v4) (V c main_v8)
        (ix2 (y 0) ⟨(y 1).val, by have : (y 1).val < 10752 := (y 1).isLt; omega⟩) := by
  refine (dat1 V c).arrAt_eq_of_covers 4 _ (by decide +kernel) fun t hf y => ?_
  have ht : t.val < 168 := t.isLt.trans_eq N_1
  obtain ⟨i, j, rfl⟩ : ∃ (i : Fin 1024) (j : Fin 512), y = ix2 i j := ⟨y 0, y 1, eq_ix2 y⟩
  blk_simp
  rw [after1_4]
  unfold outsAt1
  frame_out
  have b0 : ∀ k, iblk1 V c 0 t (ix2 i k) = x (ix2 ⟨t.val / 21 * 1024 + i.val, by omega⟩ k) := fun k => by blk_ext [iblk1, hx, idx1 t]
  have b1 : ∀ l, iblk1 V c 1 t (ix2 i l) = laneSq x (ix2 ⟨t.val / 21 * 1024 + i.val, by omega⟩ l) := fun l => by blk_ext [iblk1, hs, idx1 t]
  have b2 : ∀ k, X1_2 V c t (ix2 k j) = (V c main_v4 : S4096x11008.Idx → EReal) (ix2 k ⟨t.val % 21 * 512 + j.val, by omega⟩) :=
    fun k => by
      unfold X1_2 Pipeline.Window.fill
      rw [dif_pos (moved1_2 t _)]
      blk_ext [iblk1, idx1 t]
  have b3 : ∀ k, X1_3 V c t (ix2 k j) = (V c main_v8 : S4096x11008.Idx → EReal) (ix2 k ⟨t.val % 21 * 512 + j.val, by omega⟩) :=
    fun k => by
      unfold X1_3 Pipeline.Window.fill
      rw [dif_pos (moved1_3 t _)]
      blk_ext [iblk1, idx1 t]
  refine (pay1_1 _ _ _ _ i j).trans ?_
  simp only [b0, b1, b2, b3, laneSq_sum]
  show hidden x (V c main_v4) (V c main_v8) (ix2 ⟨t.val / 21 * 1024 + i.val, by omega⟩ ⟨t.val % 21 * 512 + j.val, by omega⟩) = _
  blk_ext [idx1 t]

/-- The hidden rows' last 256 columns. -/
theorem hid2_eq : (dat2 V c).arrAt 4 cfg2.N
    = fun y : S8192x256.Idx => hidden x (V c main_v4) (V c main_v8)
        (ix2 (y 0) ⟨10752 + (y 1).val, by have : (y 1).val < 256 := (y 1).isLt; omega⟩) := by
  refine (dat2 V c).arrAt_eq_of_covers 4 _ (by decide +kernel) fun t hf y => ?_
  have ht : t.val < 8 := t.isLt.trans_eq N_2
  obtain ⟨i, j, rfl⟩ : ∃ (i : Fin 1024) (j : Fin 256), y = ix2 i j := ⟨y 0, y 1, eq_ix2 y⟩
  blk_simp
  rw [after2_4]
  unfold outsAt2
  frame_out
  have b0 : ∀ k, iblk2 V c 0 t (ix2 i k) = x (ix2 ⟨t.val * 1024 + i.val, by omega⟩ k) := fun k => by blk_ext [iblk2, hx, idx2 t]
  have b1 : ∀ l, iblk2 V c 1 t (ix2 i l) = laneSq x (ix2 ⟨t.val * 1024 + i.val, by omega⟩ l) := fun l => by blk_ext [iblk2, hs, idx2 t]
  have b2 : ∀ k, iblk2 V c 2 t (ix2 k j) = (V c main_v4 : S4096x11008.Idx → EReal) (ix2 k ⟨10752 + j.val, by omega⟩) :=
    fun k => by blk_ext [iblk2, idx2 t]
  have b3 : ∀ k, iblk2 V c 3 t (ix2 k j) = (V c main_v8 : S4096x11008.Idx → EReal) (ix2 k ⟨10752 + j.val, by omega⟩) :=
    fun k => by blk_ext [iblk2, idx2 t]
  refine (pay2_1 _ _ _ _ i j).trans ?_
  simp only [b0, b1, b2, b3, laneSq_sum]
  show hidden x (V c main_v4) (V c main_v8) (ix2 ⟨t.val * 1024 + i.val, by omega⟩ ⟨10752 + j.val, by omega⟩) = _
  blk_ext [idx2 t]

end regions12

end Cert.Post

end
-- ==== Proof.PostC.lean ====
module

public import proofs.«01_k».proof.Proof.PostB

/-! The down-projection's call: the arrays it leaves. -/

@[expose] public section

set_option maxRecDepth 16384
set_option maxHeartbeats 4000000

noncomputable section

namespace Cert.Post

open Cert.Kernel2Ideal Cert.Kernel2Ideal.Gen
open Idealize.ShloMosaic Idealize.ShloMosaic.TcCoe Idealize.ShloMosaic.Tactic
open Idealize.ShloMosaic.Pointwise
open Idealize.ShloMosaic.Pipeline (Dat Cfg Window)

/-- The rows after the down-projection, from the hidden rows in their two parts. -/
def rows2 (h : S8192x10752.Idx → EReal) (g : S8192x256.Idx → EReal) (x : S8192x4096.Idx → EReal) (w : S11008x4096.Idx → EReal) :
    S8192x4096.Idx → EReal := fun y =>
  x y + ((∑ k : Fin 10752, h (ix2 (y 0) k) * w (ix2 ⟨k.val, by omega⟩ (y 1)))
    + ∑ k : Fin 256, g (ix2 (y 0) k) * w (ix2 ⟨10752 + k.val, by omega⟩ (y 1)))

theorem pay3_1 (h : S512x10752.Idx → EReal) (u : S10752x512.Idx → EReal) (g : S512x256.Idx → EReal) (v : S256x512.Idx → EReal)
    (x : S512x512.Idx → EReal) (i : Fin 512) (j : Fin 512) :
    k3_pay1 (F := Ideal) h u g v x (ix2 i j)
      = x (ix2 i j) + ((∑ k, h (ix2 i k) * u (ix2 k j)) + ∑ k, g (ix2 i k) * v (ix2 k j)) := by
  pointwise [k3_pay1]

theorem pay3_3 (h : S512x10752.Idx → EReal) (u : S10752x512.Idx → EReal) (g : S512x256.Idx → EReal) (v : S256x512.Idx → EReal)
    (x : S512x512.Idx → EReal) (i : Fin 512) (l : Fin 128)
    (P : ℕ → EReal) (hP : ∀ j : Fin 512, k3_pay1 (F := Ideal) h u g v x (ix2 i j) * k3_pay1 (F := Ideal) h u g v x (ix2 i j) = P j.val) :
    k3_pay3 (F := Ideal) h u g v x (ix2 i l) = P l.val + P (128 + l.val) + P (256 + l.val) + P (384 + l.val) := by
  pointwise [k3_pay3]
  have h0 := hP ⟨l.val, by omega⟩
  have h1 := hP ⟨128 + l.val, by omega⟩
  have h2 := hP ⟨256 + l.val, by omega⟩
  have h3 := hP ⟨384 + l.val, by omega⟩
  rw [← h0, ← h1, ← h2, ← h3]

theorem idx3 : ∀ t : Fin cfg3.N, win3_0.index t = ![t.val / 8, 0] ∧ win3_1.index t = ![t.val / 8, 0]
    ∧ win3_2.index t = ![0, t.val % 8] ∧ win3_3.index t = ![42, t.val % 8] ∧ win3_4.index t = ![t.val / 8, t.val % 8]
    ∧ win3_5.index t = ![t.val / 8, t.val % 8] ∧ win3_6.index t = ![t.val / 8, t.val % 8]
    ∧ win3_7.index t = ![t.val / 8, 0] := by decide +kernel

section region3

variable (V : (c : Dev nD) → (b : Ref sig .tc) → Buf (Elt Ideal) ((c : Thread nD τ).loc b)) (c : Dev nD)

abbrev R3 : S8192x4096.Idx → EReal := rows2 (V c main_v16) (V c main_v17) (V c main_v15_0) (V c main_v9)

/-- What a point's body computes of the rows. -/
theorem at3 (t : Fin cfg3.N) (i : Fin 512) (j : Fin 512) (p : Fin 8192) (q : Fin 4096) (hp : p.val = t.val / 8 * 512 + i.val)
    (hq : q.val = t.val % 8 * 512 + j.val) :
    k3_pay1 (F := Ideal) (iblk3 V c 0 t) (X3_2 V c t) (iblk3 V c 1 t) (iblk3 V c 3 t) (iblk3 V c 4 t) (ix2 i j) = R3 V c (ix2 p q) := by
  have b0 : ∀ k, iblk3 V c 0 t (ix2 i k) = (V c main_v16 : S8192x10752.Idx → EReal) (ix2 p k) := fun k => by blk_ext [iblk3, idx3 t]
  have b1 : ∀ k, iblk3 V c 1 t (ix2 i k) = (V c main_v17 : S8192x256.Idx → EReal) (ix2 p k) := fun k => by blk_ext [iblk3, idx3 t]
  have b2 : ∀ k : Fin 10752, X3_2 V c t (ix2 k j) = (V c main_v9 : S11008x4096.Idx → EReal) (ix2 ⟨k.val, by omega⟩ q) :=
    fun k => by
      unfold X3_2 Pipeline.Window.fill
      rw [dif_pos (moved3_2 t _)]
      blk_ext [iblk3, idx3 t]
  have b3 : ∀ k : Fin 256, iblk3 V c 3 t (ix2 k j) = (V c main_v9 : S11008x4096.Idx → EReal) (ix2 ⟨10752 + k.val, by omega⟩ q) :=
    fun k => by blk_ext [iblk3, idx3 t]
  have b4 : iblk3 V c 4 t (ix2 i j) = (V c main_v15_0 : S8192x4096.Idx → EReal) (ix2 p q) := by blk_ext [iblk3, idx3 t]
  refine (pay3_1 _ _ _ _ _ i j).trans ?_
  simp only [b0, b1, b2, b3, b4]
  rfl

/-- The lane sums a point's body adds. -/
theorem lane3 (t : Fin cfg3.N) (i : Fin 512) (l : Fin 128) (p : Fin 8192) (hp : p.val = t.val / 8 * 512 + i.val) :
    k3_pay3 (F := Ideal) (iblk3 V c 0 t) (X3_2 V c t) (iblk3 V c 1 t) (iblk3 V c 3 t) (iblk3 V c 4 t) (ix2 i l)
      = sq (R3 V c) p ((4 * (t.val % 8)) * 128 + l.val) + sq (R3 V c) p ((4 * (t.val % 8) + 1) * 128 + l.val)
        + sq (R3 V c) p ((4 * (t.val % 8) + 2) * 128 + l.val) + sq (R3 V c) p ((4 * (t.val % 8) + 3) * 128 + l.val) := by
  refine (pay3_3 _ _ _ _ _ i l (fun j => sq (R3 V c) p (t.val % 8 * 512 + j)) fun j => ?_).trans ?_
  · rw [at3 V c t i j p ⟨t.val % 8 * 512 + j.val, by omega⟩ hp rfl]
    exact (sq_of _ _ ⟨t.val % 8 * 512 + j.val, by omega⟩).symm
  · rw [show (4 * (t.val % 8)) * 128 + l.val = t.val % 8 * 512 + l.val by omega,
      show (4 * (t.val % 8) + 1) * 128 + l.val = t.val % 8 * 512 + (128 + l.val) by omega,
      show (4 * (t.val % 8) + 2) * 128 + l.val = t.val % 8 * 512 + (256 + l.val) by omega,
      show (4 * (t.val % 8) + 3) * 128 + l.val = t.val % 8 * 512 + (384 + l.val) by omega]

/-- The lane sums after a point: of the columns up to its own. -/
theorem acc3 (n : ℕ) : ∀ (hn : n < cfg3.N) (i : Fin 512) (l : Fin 128) (p : Fin 8192), p.val = n / 8 * 512 + i.val →
    (outsAt3 V c n hn).2.2 (ix2 i l) = ∑ q ∈ Finset.range (4 * (n % 8 + 1)), sq (R3 V c) p (q * 128 + l.val) := by
  induction n with
  | zero =>
    intro hn i l p hp
    rw [outsAt3_A V c ⟨0, hn⟩ rfl (by show ¬1 ≤ 0; omega)]
    frame_out
    refine (lane3 V c ⟨0, hn⟩ i l p hp).trans ?_
    rw [range4 _ 0]
    simp
  | succ n ih =>
    intro hn i l p hp
    by_cases h0 : (n + 1) % 8 = 0
    · rw [outsAt3_A V c ⟨n + 1, hn⟩ h0 (by dsimp only; omega)]
      frame_out
      refine (lane3 V c ⟨n + 1, hn⟩ i l p hp).trans ?_
      dsimp only
      rw [range4 (fun q => sq (R3 V c) p (q * 128 + l.val)) ((n + 1) % 8), h0]
      simp
    · rw [outsAt3_B V c ⟨n + 1, hn⟩ h0 (by dsimp only; omega)]
      frame_out
      pointwise [k3_pay4]
      rw [range4 (fun q => sq (R3 V c) p (q * 128 + l.val)) ((n + 1) % 8), lane3 V c ⟨n + 1, hn⟩ i l p hp]
      refine congrArg (· + _) ?_
      refine (ih (by omega) i l p (by omega)).trans ?_
      rw [show n % 8 + 1 = (n + 1) % 8 by omega]

/-- The rows, as the call leaves them. -/
theorem x3_eq : (dat3 V c).arrAt 5 cfg3.N = R3 V c := by
  refine (dat3 V c).arrAt_eq_of_covers 5 _ (by decide +kernel) fun t hf y => ?_
  have ht : t.val < 128 := t.isLt.trans_eq N_3
  obtain ⟨i, j, rfl⟩ : ∃ (i : Fin 512) (j : Fin 512), y = ix2 i j := ⟨y 0, y 1, eq_ix2 y⟩
  blk_simp
  rw [after3_5]
  refine Eq.trans ?_ ((at3 V c t i j ⟨t.val / 8 * 512 + i.val, by omega⟩ ⟨t.val % 8 * 512 + j.val, by omega⟩ rfl rfl).trans ?_)
  · by_cases h0 : t.val % 8 = 0
    · rw [outsAt3_A V c t h0 (by omega)]
      frame_out
    · rw [outsAt3_B V c t h0 (by omega)]
      frame_out
  · blk_ext [idx3 t]

/-- The same rows, narrowed. -/
theorem xb3_eq : (dat3 V c).arrAt 6 cfg3.N = R3 V c := by
  refine (dat3 V c).arrAt_eq_of_covers 6 _ (by decide +kernel) fun t hf y => ?_
  have ht : t.val < 128 := t.isLt.trans_eq N_3
  obtain ⟨i, j, rfl⟩ : ∃ (i : Fin 512) (j : Fin 512), y = ix2 i j := ⟨y 0, y 1, eq_ix2 y⟩
  blk_simp
  rw [after3_6]
  refine Eq.trans ?_ ((at3 V c t i j ⟨t.val / 8 * 512 + i.val, by omega⟩ ⟨t.val % 8 * 512 + j.val, by omega⟩ rfl rfl).trans ?_)
  · by_cases h0 : t.val % 8 = 0
    · rw [outsAt3_A V c t h0 (by omega)]
      frame_out
      pointwise [k3_pay2]
    · rw [outsAt3_B V c t h0 (by omega)]
      frame_out
      pointwise [k3_pay2]
  · blk_ext [idx3 t]

/-- The lane sums of the rows. -/
theorem ssq3_eq : (dat3 V c).arrAt 7 cfg3.N = laneSq (R3 V c) := by
  refine (dat3 V c).arrAt_eq_of_covers 7 _ (by decide +kernel) fun t hf y => ?_
  have ht : t.val < 128 := t.isLt.trans_eq N_3
  have h7 : t.val % 8 = 7 := (flush3_7 t).mp hf
  obtain ⟨i, l, rfl⟩ : ∃ (i : Fin 512) (l : Fin 128), y = ix2 i l := ⟨y 0, y 1, eq_ix2 y⟩
  blk_simp
  rw [after3_7]
  refine (acc3 V c t.val t.isLt i l ⟨t.val / 8 * 512 + i.val, by omega⟩ rfl).trans ?_
  rw [h7]
  show laneSq (R3 V c) (ix2 ⟨t.val / 8 * 512 + i.val, by omega⟩ l) = _
  blk_ext [idx3 t]

end region3

end Cert.Post

end
-- ==== Proof.PostD.lean ====
module

public import proofs.«01_k».proof.Proof.PostB

/-! The last call: the layer's rows. -/

@[expose] public section

set_option maxRecDepth 16384
set_option maxHeartbeats 4000000

noncomputable section

namespace Cert.Post

open Cert.Kernel2Ideal Cert.Kernel2Ideal.Gen
open Idealize.ShloMosaic Idealize.ShloMosaic.TcCoe Idealize.ShloMosaic.Tactic
open Idealize.ShloMosaic.Pointwise
open Idealize.ShloMosaic.Pipeline (Dat Cfg Window)

/-- The rows after the gated embedding. -/
def rows3 (x : S8192x4096.Idx → EReal) (w : S4096x4096.Idx → EReal) (p : S8192x256.Idx → EReal) (u : S256x4096.Idx → EReal) :
    S8192x4096.Idx → EReal := fun y =>
  x y + (half * Ideal.tanh (half * scaled x w (y 0) (y 1)) + half) * ∑ k, p (ix2 (y 0) k) * u (ix2 k (y 1))

theorem pay4_3 (x : S1024x4096.Idx → EReal) (w : S4096x512.Idx → EReal) (s : S1024x128.Idx → EReal) (p : S1024x256.Idx → EReal)
    (u : S256x512.Idx → EReal) (z : S1024x512.Idx → EReal) (i : Fin 1024) (j : Fin 512) :
    k4_pay3 (F := Ideal) x w s p u z (ix2 i j)
      = z (ix2 i j) + (half * Ideal.tanh (half * ((∑ k, x (ix2 i k) * w (ix2 k j)) * Cert.In.rs (∑ l, s (ix2 i l)))) + half)
          * ∑ k, p (ix2 i k) * u (ix2 k j) := by
  pointwise [k4_pay3]
  rfl

theorem idx4 : ∀ t : Fin cfg4.N, win4_0.index t = ![t.val / 8, 0] ∧ win4_1.index t = ![t.val / 8, 0]
    ∧ win4_2.index t = ![0, t.val % 8] ∧ win4_3.index t = ![t.val / 8, 0] ∧ win4_4.index t = ![0, t.val % 8]
    ∧ win4_5.index t = ![t.val / 8, t.val % 8] ∧ win4_6.index t = ![t.val / 8, t.val % 8] := by decide +kernel

section region4

variable (V : (c : Dev nD) → (b : Ref sig .tc) → Buf (Elt Ideal) ((c : Thread nD τ).loc b)) (c : Dev nD)
  (x : S8192x4096.Idx → EReal) (hz : V c main_v18_0 = x) (hx : V c main_v18_1 = x) (hs : V c main_v18_2 = laneSq x)

include hz hx hs

/-- The layer's rows, as the last call leaves them. -/
theorem x4_eq : (dat4 V c).arrAt 6 cfg4.N = rows3 x (V c main_v13) (V c main_arg3) (V c main_v14) := by
  refine (dat4 V c).arrAt_eq_of_covers 6 _ (by decide +kernel) fun t hf y => ?_
  have ht : t.val < 64 := t.isLt.trans_eq N_4
  obtain ⟨i, j, rfl⟩ : ∃ (i : Fin 1024) (j : Fin 512), y = ix2 i j := ⟨y 0, y 1, eq_ix2 y⟩
  have b0 : ∀ k, iblk4 V c 0 t (ix2 i k) = x (ix2 ⟨t.val / 8 * 1024 + i.val, by omega⟩ k) := fun k => by blk_ext [iblk4, hx, idx4 t]
  have b1 : ∀ l, iblk4 V c 1 t (ix2 i l) = laneSq x (ix2 ⟨t.val / 8 * 1024 + i.val, by omega⟩ l) := fun l => by blk_ext [iblk4, hs, idx4 t]
  have b2 : ∀ k, iblk4 V c 2 t (ix2 k j) = (V c main_v13 : S4096x4096.Idx → EReal) (ix2 k ⟨t.val % 8 * 512 + j.val, by omega⟩) :=
    fun k => by blk_ext [iblk4, idx4 t]
  have b3 : ∀ k, iblk4 V c 3 t (ix2 i k) = (V c main_arg3 : S8192x256.Idx → EReal) (ix2 ⟨t.val / 8 * 1024 + i.val, by omega⟩ k) :=
    fun k => by blk_ext [iblk4, idx4 t]
  have b4 : ∀ k, iblk4 V c 4 t (ix2 k j) = (V c main_v14 : S256x4096.Idx → EReal) (ix2 k ⟨t.val % 8 * 512 + j.val, by omega⟩) :=
    fun k => by blk_ext [iblk4, idx4 t]
  have b5 : iblk4 V c 5 t (ix2 i j) = x (ix2 ⟨t.val / 8 * 1024 + i.val, by omega⟩ ⟨t.val % 8 * 512 + j.val, by omega⟩) := by
    blk_ext [iblk4, hz, idx4 t]
  have e : k4_pay3 (F := Ideal) (iblk4 V c 0 t) (iblk4 V c 2 t) (iblk4 V c 1 t) (iblk4 V c 3 t) (iblk4 V c 4 t) (iblk4 V c 5 t) (ix2 i j)
      = rows3 x (V c main_v13) (V c main_arg3) (V c main_v14)
          (ix2 ⟨t.val / 8 * 1024 + i.val, by omega⟩ ⟨t.val % 8 * 512 + j.val, by omega⟩) := by
    refine (pay4_3 _ _ _ _ _ _ i j).trans ?_
    simp only [b0, b1, b2, b3, b4, b5, laneSq_sum]
    rfl
  blk_simp
  rw [after4_6]
  refine Eq.trans ?_ (e.trans ?_)
  · by_cases h0 : t.val % 8 = 0
    · rw [outsAt4_A V c t h0 (by omega)]
      frame_out
    · rw [outsAt4_B V c t h0 (by omega)]
      frame_out
  · blk_ext [idx4 t]

end region4

end Cert.Post

end
-- ==== Proof.PostRef.lean ====
module

public import proofs.«01_k».proof.Proof.PostC
public import proofs.«01_k».proof.Proof.PostD
public import proofs.«01_k».proof.Proof.Math
public import proofs.«01_k».proof.Proof.Gen.Reference2Ideal.Read

/-! The reference's stages, in the form of the calls' results. -/

@[expose] public section

set_option maxRecDepth 16384
set_option maxHeartbeats 4000000

noncomputable section

namespace Cert.Post

open Cert.Kernel2Ideal Cert.Kernel2Ideal.Gen
open Idealize.ShloMosaic Idealize.ShloMosaic.TcCoe Idealize.ShloMosaic.Tactic
open Idealize.ShloMosaic.Pointwise
open Idealize.ShloMosaic.Pipeline (Dat Cfg Window)

open Cert.Reference2Ideal.Read

variable (r a : S8192x2048.Idx → EReal) (x : S8192x4096.Idx → EReal) (p : S8192x256.Idx → EReal) (w : S4096x4096.Idx → EReal)
  (g : S4096.Idx → EReal) (wg wu : S4096x11008.Idx → EReal) (wd : S11008x4096.Idx → EReal) (g' : S4096.Idx → EReal)
  (pg : S4096x4096.Idx → EReal) (pp : S256x4096.Idx → EReal)

/-- A gain multiplied into the rows of a weight matrix. -/
def gain {n : ℕ} (g : S4096.Idx → EReal) (w : (⟨2, ![4096, n]⟩ : Shape).Idx → EReal) : (⟨2, ![4096, n]⟩ : Shape).Idx → EReal :=
  fun y => g (ix1 (y 0)) * w y

theorem cat_left (i : Fin 8192) (k : Fin 2048) : val_main_v2 (F := Ideal) r a (ix2 i ⟨k.val, by omega⟩) = r (ix2 i k) := by
  unfold val_main_v2
  refine (concatenate_pair_apply_left (t := Cert.Reference2Ideal.S8192x4096) (s₁ := Cert.Reference2Ideal.S8192x2048) (s₂ := Cert.Reference2Ideal.S8192x2048) 1 (val_main_v0 (F := Ideal) r) (val_main_v1 (F := Ideal) a) _ _ rfl (ix2 i k) fun b => ?_).trans (show val_main_v0 (F := Ideal) r (ix2 i k) = r (ix2 i k) by pointwise [val_main_v0])
  match b with
  | ⟨0, _⟩ => rfl
  | ⟨1, _⟩ => rfl

theorem cat_right (i : Fin 8192) (k : Fin 2048) : val_main_v2 (F := Ideal) r a (ix2 i ⟨2048 + k.val, by omega⟩) = a (ix2 i k) := by
  unfold val_main_v2
  refine (concatenate_pair_apply_right (t := Cert.Reference2Ideal.S8192x4096) (s₁ := Cert.Reference2Ideal.S8192x2048) (s₂ := Cert.Reference2Ideal.S8192x2048) 1 (val_main_v0 (F := Ideal) r) (val_main_v1 (F := Ideal) a) _ _ rfl rfl (ix2 i k) (fun b hb => ?_) ?_).trans (show val_main_v1 (F := Ideal) a (ix2 i k) = a (ix2 i k) by pointwise [val_main_v1])
  · match b with
    | ⟨0, _⟩ => rfl
    | ⟨1, _⟩ => exact absurd rfl hb
  · show k.val + 2048 = 2048 + k.val
    omega

/-- The out-projection's rows are the reference's. -/
theorem ref_rows1 : val_main_v4 (F := Ideal) r a x w = rows1 r a x w := by
  funext y
  obtain ⟨i, j, rfl⟩ : ∃ (i : Fin 8192) (j : Fin 4096), y = ix2 i j := ⟨y 0, y 1, eq_ix2 y⟩
  pointwise [val_main_v4, val_main_v3]
  show x (ix2 i j) + _ = x (ix2 i j) + _
  congr 1
  refine (Fin.sum_univ_add (a := 2048) (b := 2048) fun k => val_main_v2 (F := Ideal) r a (ix2 i k) * w (ix2 k j)).trans ?_
  exact congrArg₂ (· + ·) (Finset.sum_congr rfl fun k _ => congrArg (· * _) (cat_left r a i k))
    (Finset.sum_congr rfl fun k _ => congrArg (· * _) (cat_right r a i k))

/-- A product of the normalised rows: the gain goes into the weights, the rows' factor comes last. -/
theorem ref_gate (i : Fin 8192) (j : Fin 11008) : val_main_v18 (F := Ideal) r a x w g wg (ix2 i j)
    = scaled (val_main_v4 (F := Ideal) r a x w) (gain g wg) i j := by
  pointwise [val_main_v18, val_main_v5, val_main_v6, val_main_v7, val_main_v8, val_main_v9, val_main_v10, val_main_v11, val_main_v12, val_main_v13, val_main_v14, val_main_v15, val_main_v16, val_main_v17, val_main_cst, val_main_cst_0, val_main_cst_1]
  unfold scaled
  refine Eq.trans ?_ (Cert.In.norm_dot (Cert.In.ssq_nonneg _) (fun k => val_main_v4 (F := Ideal) r a x w (ix2 i k)) (fun k => g (ix1 k))
    fun k => wg (ix2 k j))
  refine Finset.sum_congr rfl fun k _ => ?_
  rw [show Ideal.ofBits FTy.f32 1166016512#32 = Cert.In.wlen from rfl, Cert.In.div_wlen]
  rfl

theorem ref_up (i : Fin 8192) (j : Fin 11008) : val_main_v20 (F := Ideal) r a x w g wu (ix2 i j)
    = scaled (val_main_v4 (F := Ideal) r a x w) (gain g wu) i j := by
  pointwise [val_main_v20, val_main_v5, val_main_v6, val_main_v7, val_main_v8, val_main_v9, val_main_v10, val_main_v11, val_main_v12, val_main_v13, val_main_v14, val_main_v15, val_main_v16, val_main_v17, val_main_cst, val_main_cst_0, val_main_cst_1]
  unfold scaled
  refine Eq.trans ?_ (Cert.In.norm_dot (Cert.In.ssq_nonneg _) (fun k => val_main_v4 (F := Ideal) r a x w (ix2 i k)) (fun k => g (ix1 k))
    fun k => wu (ix2 k j))
  refine Finset.sum_congr rfl fun k _ => ?_
  rw [show Ideal.ofBits FTy.f32 1166016512#32 = Cert.In.wlen from rfl, Cert.In.div_wlen]
  rfl

/-- The hidden rows are the reference's. -/
theorem ref_hidden : val_main_v21 (F := Ideal) r a x w g wg wu = hidden (val_main_v4 (F := Ideal) r a x w) (gain g wg) (gain g wu) := by
  funext y
  obtain ⟨i, j, rfl⟩ : ∃ (i : Fin 8192) (j : Fin 11008), y = ix2 i j := ⟨y 0, y 1, eq_ix2 y⟩
  pointwise [val_main_v21, val_main_v19, val_main_call0_v5, val_main_call0_v4, val_main_call0_cst_0, val_main_call0_v3,
    val_main_call0_v2, val_main_call0_cst, val_main_call0_v1, val_main_call0_v0]
  rw [ref_gate, ref_up]
  show _ = gated (scaled _ (gain g wg) i j) (scaled _ (gain g wu) i j)
  unfold gated
  rw [Cert.Ret.gate_eq]

/-- The down-projection's rows are the reference's. -/
theorem ref_rows2 : val_main_v23 (F := Ideal) r a x w g wg wu wd
    = rows2 (fun y => val_main_v21 (F := Ideal) r a x w g wg wu (ix2 (y 0) ⟨(y 1).val, by have : (y 1).val < 10752 := (y 1).isLt; omega⟩))
        (fun y => val_main_v21 (F := Ideal) r a x w g wg wu (ix2 (y 0) ⟨10752 + (y 1).val, by have : (y 1).val < 256 := (y 1).isLt; omega⟩))
        (val_main_v4 (F := Ideal) r a x w) wd := by
  funext y
  obtain ⟨i, j, rfl⟩ : ∃ (i : Fin 8192) (j : Fin 4096), y = ix2 i j := ⟨y 0, y 1, eq_ix2 y⟩
  pointwise [val_main_v23, val_main_v22]
  show val_main_v4 (F := Ideal) r a x w (ix2 i j) + _ = val_main_v4 (F := Ideal) r a x w (ix2 i j) + _
  congr 1
  exact Fin.sum_univ_add (a := 10752) (b := 256) fun k => val_main_v21 (F := Ideal) r a x w g wg wu (ix2 i k) * wd (ix2 k j)

theorem ref_ple (i : Fin 8192) (j : Fin 4096) : val_main_v37 (F := Ideal) r a x w g wg wu wd g' pg (ix2 i j)
    = scaled (val_main_v23 (F := Ideal) r a x w g wg wu wd) (gain g' pg) i j := by
  pointwise [val_main_v37, val_main_v24, val_main_v25, val_main_v26, val_main_v27, val_main_v28, val_main_v29, val_main_v30, val_main_v31, val_main_v32, val_main_v33, val_main_v34, val_main_v35, val_main_v36, val_main_cst_2, val_main_cst_3, val_main_cst_4]
  unfold scaled
  refine Eq.trans ?_ (Cert.In.norm_dot (Cert.In.ssq_nonneg _) (fun k => val_main_v23 (F := Ideal) r a x w g wg wu wd (ix2 i k))
    (fun k => g' (ix1 k)) fun k => pg (ix2 k j))
  refine Finset.sum_congr rfl fun k _ => ?_
  rw [show Ideal.ofBits FTy.f32 1166016512#32 = Cert.In.wlen from rfl, Cert.In.div_wlen]
  rfl

/-- The result is the reference's. -/
theorem ref_rows3 : val_main_v46 (F := Ideal) r a x p w g wg wu wd g' pg pp
    = rows3 (val_main_v23 (F := Ideal) r a x w g wg wu wd) (gain g' pg) p pp := by
  funext y
  obtain ⟨i, j, rfl⟩ : ∃ (i : Fin 8192) (j : Fin 4096), y = ix2 i j := ⟨y 0, y 1, eq_ix2 y⟩
  pointwise [val_main_v46, val_main_v45, val_main_v44, val_main_v43, val_main_v42, val_main_v41, val_main_v40, val_main_v39,
    val_main_v38, val_main_cst_5, val_main_cst_6]
  rw [ref_ple]
  show _ = val_main_v23 (F := Ideal) r a x w g wg wu wd (ix2 i j)
    + (half * Ideal.tanh (half * scaled _ (gain g' pg) i j) + half) * _
  rw [Cert.Ret.logistic_eq]
  rfl

end Cert.Post

end
-- ==== Proof.PostV.lean ====
module

public import proofs.«01_k».proof.Proof.PostRef

/-! The layer's second half: the last array is the reference's result. -/

@[expose] public section

set_option maxRecDepth 16384
set_option maxHeartbeats 4000000

noncomputable section

namespace Cert.Post

open Cert.Kernel2Ideal Cert.Kernel2Ideal.Gen
open Idealize.ShloMosaic Idealize.ShloMosaic.TcCoe Idealize.ShloMosaic.Tactic
open Idealize.ShloMosaic.Pointwise
open Idealize.ShloMosaic.Pipeline (Dat Cfg Window)

open Cert.Reference2Ideal.Read

variable (m : (ℓ : Loc nD τ sig) → Buf (Elt Ideal) ℓ) (ρ : Dev nD → PrngReg) (c : Dev nD)

/-- The arguments. -/
abbrev p0 : S8192x2048.Idx → EReal := m ((c.tc : Thread nD τ).loc main_arg0)
abbrev p1 : S8192x2048.Idx → EReal := m ((c.tc : Thread nD τ).loc main_arg1)
abbrev p2 : S8192x4096.Idx → EReal := m ((c.tc : Thread nD τ).loc main_arg2)
abbrev p3 : S8192x256.Idx → EReal := m ((c.tc : Thread nD τ).loc main_arg3)
abbrev p4 : S4096x4096.Idx → EReal := m ((c.tc : Thread nD τ).loc main_arg4)
abbrev p5 : S4096.Idx → EReal := m ((c.tc : Thread nD τ).loc main_arg5)
abbrev p6 : S4096x11008.Idx → EReal := m ((c.tc : Thread nD τ).loc main_arg6)
abbrev p7 : S4096x11008.Idx → EReal := m ((c.tc : Thread nD τ).loc main_arg7)
abbrev p8 : S11008x4096.Idx → EReal := m ((c.tc : Thread nD τ).loc main_arg8)
abbrev p9 : S4096.Idx → EReal := m ((c.tc : Thread nD τ).loc main_arg9)
abbrev p10 : S4096x4096.Idx → EReal := m ((c.tc : Thread nD τ).loc main_arg10)
abbrev p11 : S256x4096.Idx → EReal := m ((c.tc : Thread nD τ).loc main_arg11)

/-- The weights the calls read. -/
theorem w_out : (E1 (F := Ideal) m ρ c main_v0 : S4096x4096.Idx → EReal) = p4 m c := by
  funext y
  obtain ⟨k, j, rfl⟩ : ∃ (k : Fin 4096) (j : Fin 4096), y = ix2 k j := ⟨y 0, y 1, eq_ix2 y⟩
  show (StableHlo.after hostOps0 (W0 (F := Ideal) m ρ c) (Proc.devRef .tc main_v0) : S4096x4096.Idx → EReal) (ix2 k j) = _
  entry_read
  pointwise

theorem w_gate : (E1 (F := Ideal) m ρ c main_v4 : S4096x11008.Idx → EReal) = gain (p5 m c) (p6 m c) := by
  funext y
  obtain ⟨k, j, rfl⟩ : ∃ (k : Fin 4096) (j : Fin 11008), y = ix2 k j := ⟨y 0, y 1, eq_ix2 y⟩
  show (StableHlo.after hostOps0 (W0 (F := Ideal) m ρ c) (Proc.devRef .tc main_v4) : S4096x11008.Idx → EReal) (ix2 k j)
    = p5 m c (ix1 k) * p6 m c (ix2 k j)
  entry_read
  pointwise

theorem w_up : (E1 (F := Ideal) m ρ c main_v8 : S4096x11008.Idx → EReal) = gain (p5 m c) (p7 m c) := by
  funext y
  obtain ⟨k, j, rfl⟩ : ∃ (k : Fin 4096) (j : Fin 11008), y = ix2 k j := ⟨y 0, y 1, eq_ix2 y⟩
  show (StableHlo.after hostOps0 (W0 (F := Ideal) m ρ c) (Proc.devRef .tc main_v8) : S4096x11008.Idx → EReal) (ix2 k j)
    = p5 m c (ix1 k) * p7 m c (ix2 k j)
  entry_read
  pointwise

theorem w_down : (E1 (F := Ideal) m ρ c main_v9 : S11008x4096.Idx → EReal) = p8 m c := by
  funext y
  obtain ⟨k, j, rfl⟩ : ∃ (k : Fin 11008) (j : Fin 4096), y = ix2 k j := ⟨y 0, y 1, eq_ix2 y⟩
  show (StableHlo.after hostOps0 (W0 (F := Ideal) m ρ c) (Proc.devRef .tc main_v9) : S11008x4096.Idx → EReal) (ix2 k j) = _
  entry_read
  pointwise

theorem w_ple_gate : (E1 (F := Ideal) m ρ c main_v13 : S4096x4096.Idx → EReal) = gain (p9 m c) (p10 m c) := by
  funext y
  obtain ⟨k, j, rfl⟩ : ∃ (k : Fin 4096) (j : Fin 4096), y = ix2 k j := ⟨y 0, y 1, eq_ix2 y⟩
  show (StableHlo.after hostOps0 (W0 (F := Ideal) m ρ c) (Proc.devRef .tc main_v13) : S4096x4096.Idx → EReal) (ix2 k j)
    = p9 m c (ix1 k) * p10 m c (ix2 k j)
  entry_read
  pointwise

theorem w_ple_proj : (E1 (F := Ideal) m ρ c main_v14 : S256x4096.Idx → EReal) = p11 m c := by
  funext y
  obtain ⟨k, j, rfl⟩ : ∃ (k : Fin 256) (j : Fin 4096), y = ix2 k j := ⟨y 0, y 1, eq_ix2 y⟩
  show (StableHlo.after hostOps0 (W0 (F := Ideal) m ρ c) (Proc.devRef .tc main_v14) : S256x4096.Idx → EReal) (ix2 k j) = _
  entry_read
  pointwise

/-- The rows after the out-projection, and after the down-projection. -/
abbrev X1 : S8192x4096.Idx → EReal := val_main_v4 (F := Ideal) (p0 m c) (p1 m c) (p2 m c) (p4 m c)
abbrev X2 : S8192x4096.Idx → EReal :=
  val_main_v23 (F := Ideal) (p0 m c) (p1 m c) (p2 m c) (p4 m c) (p5 m c) (p6 m c) (p7 m c) (p8 m c)

theorem rows_at1 : R0 (E1 (F := Ideal) m ρ) c = X1 m c := by
  unfold R0
  rw [w_out m ρ c, show E1 (F := Ideal) m ρ c main_arg0 = p0 m c from W1_args m ρ c main_arg0 (by decide),
    show E1 (F := Ideal) m ρ c main_arg1 = p1 m c from W1_args m ρ c main_arg1 (by decide),
    show E1 (F := Ideal) m ρ c main_arg2 = p2 m c from W1_args m ρ c main_arg2 (by decide)]
  exact (ref_rows1 _ _ _ _).symm

theorem x_2 : E2 (F := Ideal) m ρ c main_v15_0 = X1 m c := (W2_arr m ρ c 5).trans ((x0_eq _ c).trans (rows_at1 m ρ c))
theorem xb_2 : E2 (F := Ideal) m ρ c main_v15_1 = X1 m c := (W2_arr m ρ c 6).trans ((xb0_eq _ c).trans (rows_at1 m ρ c))
theorem ssq_2 : E2 (F := Ideal) m ρ c main_v15_2 = laneSq (X1 m c) :=
  (W2_arr m ρ c 7).trans ((ssq0_eq _ c).trans (congrArg laneSq (rows_at1 m ρ c)))
theorem gate_2 : E2 (F := Ideal) m ρ c main_v4 = gain (p5 m c) (p6 m c) := (W2_of m ρ c main_v4 (by decide)).trans (w_gate m ρ c)
theorem up_2 : E2 (F := Ideal) m ρ c main_v8 = gain (p5 m c) (p7 m c) := (W2_of m ρ c main_v8 (by decide)).trans (w_up m ρ c)

/-- The reference's hidden rows. -/
abbrev Hd : (⟨2, ![8192, 11008]⟩ : Shape).Idx → EReal :=
  val_main_v21 (F := Ideal) (p0 m c) (p1 m c) (p2 m c) (p4 m c) (p5 m c) (p6 m c) (p7 m c)

theorem hid_3 : E3 (F := Ideal) m ρ c main_v16 = fun y : S8192x10752.Idx => Hd m c
    (ix2 (y 0) ⟨(y 1).val, by have : (y 1).val < 10752 := (y 1).isLt; omega⟩) := by
  refine (W3_arr m ρ c 4).trans ((hid1_eq _ c _ (xb_2 m ρ c) (ssq_2 m ρ c)).trans ?_)
  rw [gate_2 m ρ c, up_2 m ρ c, ← ref_hidden]

theorem hid_4 : E4 (F := Ideal) m ρ c main_v17 = fun y : S8192x256.Idx => Hd m c
    (ix2 (y 0) ⟨10752 + (y 1).val, by have : (y 1).val < 256 := (y 1).isLt; omega⟩) := by
  refine (W4_arr m ρ c 4).trans ((hid2_eq _ c (X1 m c) ((W3_of m ρ c main_v15_1 (by decide)).trans (xb_2 m ρ c))
    ((W3_of m ρ c main_v15_2 (by decide)).trans (ssq_2 m ρ c))).trans ?_)
  rw [show E3 (F := Ideal) m ρ c main_v4 = _ from (W3_of m ρ c main_v4 (by decide)).trans (gate_2 m ρ c),
    show E3 (F := Ideal) m ρ c main_v8 = _ from (W3_of m ρ c main_v8 (by decide)).trans (up_2 m ρ c), ← ref_hidden]

theorem rows_at4 : R3 (E4 (F := Ideal) m ρ) c = X2 m c := by
  unfold R3
  rw [hid_4 m ρ c, show E4 (F := Ideal) m ρ c main_v16 = _ from (W4_of m ρ c main_v16 (by decide)).trans (hid_3 m ρ c),
    show E4 (F := Ideal) m ρ c main_v15_0 = X1 m c from
      (W4_of m ρ c main_v15_0 (by decide)).trans ((W3_of m ρ c main_v15_0 (by decide)).trans (x_2 m ρ c)),
    show E4 (F := Ideal) m ρ c main_v9 = p8 m c from (W4_of m ρ c main_v9 (by decide)).trans
      ((W3_of m ρ c main_v9 (by decide)).trans ((W2_of m ρ c main_v9 (by decide)).trans (w_down m ρ c)))]
  exact (ref_rows2 _ _ _ _ _ _ _ _).symm

theorem x_5 : E5 (F := Ideal) m ρ c main_v18_0 = X2 m c := (W5_arr m ρ c 5).trans ((x3_eq _ c).trans (rows_at4 m ρ c))
theorem xb_5 : E5 (F := Ideal) m ρ c main_v18_1 = X2 m c := (W5_arr m ρ c 6).trans ((xb3_eq _ c).trans (rows_at4 m ρ c))
theorem ssq_5 : E5 (F := Ideal) m ρ c main_v18_2 = laneSq (X2 m c) :=
  (W5_arr m ρ c 7).trans ((ssq3_eq _ c).trans (congrArg laneSq (rows_at4 m ρ c)))

theorem kept_5 (b : Ref sig .tc) (h0 : ∀ w : Fin cfg0.W, Pipeline.arrRef spec0 w = b → (cfg0.win w).isOut = false)
    (h1 : ∀ w : Fin cfg1.W, Pipeline.arrRef spec1 w = b → (cfg1.win w).isOut = false)
    (h2 : ∀ w : Fin cfg2.W, Pipeline.arrRef spec2 w = b → (cfg2.win w).isOut = false)
    (h3 : ∀ w : Fin cfg3.W, Pipeline.arrRef spec3 w = b → (cfg3.win w).isOut = false) :
    E5 (F := Ideal) m ρ c b = E1 (F := Ideal) m ρ c b :=
  (W5_of m ρ c b h3).trans ((W4_of m ρ c b h2).trans ((W3_of m ρ c b h1).trans (W2_of m ρ c b h0)))

/-- The result: the reference's, of the same arguments. -/
theorem result : W6 (F := Ideal) m ρ c (Proc.devRef .tc main_v19_0)
    = val_main_v46 (F := Ideal) (p0 m c) (p1 m c) (p2 m c) (p3 m c) (p4 m c) (p5 m c) (p6 m c) (p7 m c) (p8 m c) (p9 m c)
        (p10 m c) (p11 m c) := by
  refine (W6_arr m ρ c 6).trans ((x4_eq _ c (X2 m c) (x_5 m ρ c) (xb_5 m ρ c) (ssq_5 m ρ c)).trans ?_)
  rw [show E5 (F := Ideal) m ρ c main_v13 = gain (p9 m c) (p10 m c) from
      (kept_5 m ρ c main_v13 (by decide) (by decide) (by decide) (by decide)).trans (w_ple_gate m ρ c),
    show E5 (F := Ideal) m ρ c main_v14 = p11 m c from
      (kept_5 m ρ c main_v14 (by decide) (by decide) (by decide) (by decide)).trans (w_ple_proj m ρ c),
    show E5 (F := Ideal) m ρ c main_arg3 = p3 m c from W5_args m ρ c main_arg3 (by decide)]
  exact (ref_rows3 _ _ _ _ _ _ _ _ _ _ _ _).symm

end Cert.Post

end
-- ==== Proof.PostSame.lean ====
/- The layer's second half and its idealisation are one text: their bodies and their definitions agree at any float values. -/
module

public import proofs.«01_k».proof.Defs
public import proofs.«01_k».proof.Proof.Gen.Kernel2
public import proofs.«01_k».proof.Proof.Gen.Kernel2Ideal

@[expose] public section

set_option maxRecDepth 16384
set_option maxHeartbeats 2000000

noncomputable section

namespace Cert.Post

open Idealize.ShloMosaic Idealize.SL.Sem

variable {F : FTy → Type} [FloatOps F]

theorem body0_same : @Cert.Kernel2.cc0_mm_out F _ Cert.Kernel2.Gen.facts = @Cert.Kernel2Ideal.cc0_mm_out F _ Cert.Kernel2Ideal.Gen.facts := rfl
theorem body1_same : @Cert.Kernel2.cc1_mm_gateup F _ Cert.Kernel2.Gen.facts = @Cert.Kernel2Ideal.cc1_mm_gateup F _ Cert.Kernel2Ideal.Gen.facts := rfl
theorem body2_same : @Cert.Kernel2.cc2_mm_gateup_tail F _ Cert.Kernel2.Gen.facts = @Cert.Kernel2Ideal.cc2_mm_gateup_tail F _ Cert.Kernel2Ideal.Gen.facts := rfl
theorem body3_same : @Cert.Kernel2.cc3_mm_down F _ Cert.Kernel2.Gen.facts = @Cert.Kernel2Ideal.cc3_mm_down F _ Cert.Kernel2Ideal.Gen.facts := rfl
theorem body4_same : @Cert.Kernel2.cc4_mm_ple F _ Cert.Kernel2.Gen.facts = @Cert.Kernel2Ideal.cc4_mm_ple F _ Cert.Kernel2Ideal.Gen.facts := rfl

theorem defs₀_same : @Cert.Kernel2.defs₀ F _ Cert.Kernel2.Gen.facts = @Cert.Kernel2Ideal.defs₀ F _ Cert.Kernel2Ideal.Gen.facts := by
  unfold Cert.Kernel2.defs₀ Cert.Kernel2Ideal.defs₀
  refine congrArg Defs.onTc (funext fun l => funext fun a => ?_)
  match l, a with
  | ⟨0, _⟩, (t, s) => rfl
  | ⟨1, _⟩, (t, s) => rfl
  | ⟨2, _⟩, (t, s) => rfl
  | ⟨3, _⟩, (t, s) => rfl
  | ⟨4, _⟩, (t, s) => rfl

theorem defs_same : @Cert.Kernel2.defs F _ Cert.Kernel2.Gen.facts = @Cert.Kernel2Ideal.defs F _ Cert.Kernel2Ideal.Gen.facts :=
  congrArg (Pipeline.defs _) defs₀_same

end Cert.Post

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Value
public import proofs.«01_k».proof.Proof.Same
public import proofs.«01_k».proof.Proof.In
public import proofs.«01_k».proof.Proof.Gen.Kernel2
public import proofs.«01_k».proof.Proof.Gen.Kernel2Ideal.Regions
public import proofs.«01_k».proof.Proof.PostV
public import proofs.«01_k».proof.Proof.PostSame
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import Idealize.ShloMosaic.Adequacy
public import Idealize.ShloMosaic.Init

@[expose] public section

set_option maxRecDepth 16384
set_option maxHeartbeats 4000000

noncomputable section

namespace Cert.Proof

open Idealize.ShloMosaic Idealize.SL.Sem

theorem frame_kernel : Cert.quiescent_Kernel := fun m ρ _ => by
  rw [Cert.Ret.defs_same]
  exact (θ_run Cert.KernelIdeal.defs _ _).mono (fun _ h => h) (Cert.Ret.quiescent (F := Bits) m ρ)

theorem frame_kernel_ideal : Cert.quiescent_KernelIdeal := fun m ρ _ => Cert.Ret.quiescent (F := Ideal) m ρ

theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run m ρ)

theorem value : Cert.algebraic_KernelIdeal_ReferenceIdeal := by
  intro m g m' g' _ hagree
  refine ⟨fun c => (Cert.Ret.dats (F := Ideal) m 0 c).arrAt 6 Cert.KernelIdeal.cfg0.N, Cert.Ret.value m g, ?_⟩
  refine (θ_run Cert.ReferenceIdeal.defs _ _).mono (fun r h c => ⟨?_, (h c).2⟩) (Cert.ReferenceIdeal.Value.run m' g')
  refine (h c).1.trans ?_
  obtain ⟨h0, h1, h2⟩ := hagree c
  refine (Cert.ReferenceIdeal.Read.val_main_v565_eq _).trans (Eq.trans ?_ (Cert.Ret.out_eq m c).symm)
  show Cert.ReferenceIdeal.Read.val_main_v565 (F := Ideal) (m' ((c.tc).loc Cert.ReferenceIdeal.main_arg0))
    (m' ((c.tc).loc Cert.ReferenceIdeal.main_arg1)) (m' ((c.tc).loc Cert.ReferenceIdeal.main_arg2)) = _
  rw [h0, h1, h2]

/-- The layer's second half, at any float values: it ends with its arguments as launched and every semaphore at zero. -/
theorem frame_post : Cert.quiescent_Kernel2 := fun m ρ _ => by
  rw [Cert.Post.defs_same]
  exact (θ_run Cert.Kernel2Ideal.defs _ _).mono (fun _ h => ⟨fun c => (h.1 c).2, h.2⟩) (Cert.Post.run_result (F := Bits) m ρ)

theorem frame_post_ideal : Cert.quiescent_Kernel2Ideal := fun m ρ _ =>
  (θ_run Cert.Kernel2Ideal.defs _ _).mono (fun _ h => ⟨fun c => (h.1 c).2, h.2⟩) (Cert.Post.run_result (F := Ideal) m ρ)

theorem frame_post_reference : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run m ρ)

theorem value_post : Cert.algebraic_Kernel2Ideal_Reference2Ideal := by
  intro m g m' g' _ hagree
  refine ⟨fun c => Cert.Post.W6 (F := Ideal) m g c (Proc.devRef .tc Cert.Kernel2Ideal.main_v19_0),
    (θ_run Cert.Kernel2Ideal.defs _ _).mono (fun _ h => h.1) (Cert.Post.run_result (F := Ideal) m g), ?_⟩
  refine (θ_run Cert.Reference2Ideal.defs _ _).mono (fun r h c => ⟨?_, (h c).2⟩) (Cert.Reference2Ideal.Value.run m' g')
  refine (h c).1.trans ?_
  obtain ⟨h0, h1, h2, h3, h4, h5, h6, h7, h8, h9, h10, h11⟩ := hagree c
  refine (Cert.Reference2Ideal.Read.val_main_v46_eq _ _).trans (Eq.trans ?_ (Cert.Post.result m g c).symm)
  rw [h0, h1, h2, h3, h4, h5, h6, h7, h8, h9, h10, h11]

theorem frame_in : Cert.quiescent_Kernel3 := fun m ρ _ => Cert.Kernel3.Gen.frame m ρ

theorem frame_in_ideal : Cert.quiescent_Kernel3Ideal := fun m ρ _ => Cert.Kernel3Ideal.Gen.frame m ρ

theorem frame_in_reference : Cert.quiescent_Reference3Ideal := fun m ρ _ =>
  (θ_run Cert.Reference3Ideal.defs _ _).mono
    (fun r h => ⟨fun c => (h c).2.2, Idealize.ShloMosaic.sem_eq_zero_of_no_sems (by decide) r.2⟩)
    (Cert.Reference3Ideal.Value.run m ρ)

theorem value_in : Cert.algebraic_Kernel3Ideal_Reference3Ideal := by
  intro m g m' g' _ hagree
  refine ⟨_, _, Cert.In.run_in m g, ?_⟩
  refine (θ_run Cert.Reference3Ideal.defs _ _).mono (fun r h c => ⟨?_, ?_, (h c).2.2⟩) (Cert.Reference3Ideal.Value.run m' g')
  · refine (h c).1.trans ?_
    obtain ⟨h0, h1, h2⟩ := hagree c
    refine (Cert.Reference3Ideal.Read.val_main_v16_eq _ _ _).trans ?_
    show Cert.Reference3Ideal.Read.val_main_v16 (F := Ideal) (m' ((c.tc).loc Cert.Reference3Ideal.main_arg0))
      (m' ((c.tc).loc Cert.Reference3Ideal.main_arg1)) (m' ((c.tc).loc Cert.Reference3Ideal.main_arg2)) = _
    rw [h0, h1, h2]
  · refine (h c).2.1.trans ?_
    obtain ⟨h0, h1, h2⟩ := hagree c
    refine (Cert.Reference3Ideal.Read.val_main_v15_eq _ _ _).trans ?_
    show Cert.Reference3Ideal.Read.val_main_v15 (F := Ideal) (m' ((c.tc).loc Cert.Reference3Ideal.main_arg0))
      (m' ((c.tc).loc Cert.Reference3Ideal.main_arg1)) (m' ((c.tc).loc Cert.Reference3Ideal.main_arg2)) = _
    rw [h0, h1, h2]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  frame_kernel, frame_kernel_ideal, frame_reference, frame_post, frame_post_ideal, frame_post_reference,
  frame_in, frame_in_ideal, frame_in_reference, trivial, value, trivial, value_post, trivial, value_in⟩

end Cert.Proof

end
